-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v117_0)) (v1 : (c : Dev Cert.KernelIdeal.nD) → Buf (Elt Ideal) ((c.tc : Thread Cert.KernelIdeal.nD Cert.KernelIdeal.τ).loc Cert.KernelIdeal.main_v117_1)) (v2 : (c : Dev Cert.KernelIdeal.nD) → Buf (Elt Ideal) ((c.tc : Thread Cert.KernelIdeal.nD Cert.KernelIdeal.τ).loc Cert.KernelIdeal.main_v117_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_v117_1) = v1 c
          ∧ r.2.mem ((c.tc : Thread Cert.KernelIdeal.nD Cert.KernelIdeal.τ).loc Cert.KernelIdeal.main_v117_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v46) = v2 c
          ∧ r.2.mem ((c.tc : Thread Cert.Reference12Ideal.nD Cert.Reference12Ideal.τ).loc Cert.Reference12Ideal.main_v47) = v3 c
          ∧ r.2.mem ((c.tc : Thread Cert.Reference12Ideal.nD Cert.Reference12Ideal.τ).loc Cert.Reference12Ideal.main_v48) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_v23) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v39) = v0 c
          ∧ r.2.mem ((c.tc : Thread Cert.Reference19Ideal.nD Cert.Reference19Ideal.τ).loc Cert.Reference19Ideal.main_v22) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_3)) (v3 : (c : Dev Cert.Kernel20Ideal.nD) → Buf (Elt Ideal) ((c.tc : Thread Cert.Kernel20Ideal.nD Cert.Kernel20Ideal.τ).loc Cert.Kernel20Ideal.main_v0_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_3) = v2 c
          ∧ r.2.mem ((c.tc : Thread Cert.Kernel20Ideal.nD Cert.Kernel20Ideal.τ).loc Cert.Kernel20Ideal.main_v0_4) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v32) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v27) = v2 c
          ∧ r.2.mem ((c.tc : Thread Cert.Reference20Ideal.nD Cert.Reference20Ideal.τ).loc Cert.Reference20Ideal.main_v31) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_tame : Cert.Pre_tame.Facts) (hPre_finite2 : Cert.Pre_finite2.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .bf16) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S4096x2816 .f32 := (extf .f32 · bitsLt_bf16_f32) main_arg3
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v9 main_v14
  main_v15
-- ==== Pre_tame.lean ====
abbrev S4096x6144 : Shape := ⟨2, ![4096, 6144]⟩
abbrev S4096x512 : Shape := ⟨2, ![4096, 512]⟩
abbrev S2x512 : Shape := ⟨2, ![2, 512]⟩
abbrev S1x128 : Shape := ⟨2, ![1, 128]⟩
abbrev S4096x2048 : Shape := ⟨2, ![4096, 2048]⟩
abbrev S_ : Shape := ⟨0, ![]⟩
abbrev S1x512 : Shape := ⟨2, ![1, 512]⟩
abbrev S512 : Shape := ⟨1, ![512]⟩

class Facts : Prop where
  slices_S4096x6144_S4096x2048_0_0 : S4096x6144.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S2x512 : S_.BroadcastsInDim S2x512 (![] : Fin 0 → Fin S2x512.rank)
  reducesTo_S2x512_S_d0_1 : S2x512.ReducesTo [0, 1] S_
  bcast_S_S1x128 : S_.BroadcastsInDim S1x128 (![] : Fin 0 → Fin S1x128.rank)
  reducesTo_S1x128_S_d0_1 : S1x128.ReducesTo [0, 1] S_
  slices_S2x512_S1x512_1_0 : S2x512.Slices ![1, 0] S1x512
  shapeCasts_S1x512_S512 : S1x512.ShapeCasts S512
  slices_S2x512_S1x512_0_0 : S2x512.Slices ![0, 0] S1x512
  bcast_S_S512 : S_.BroadcastsInDim S512 (![] : Fin 0 → Fin S512.rank)
  reducesTo_S512_S_d0 : S512.ReducesTo [0] S_

variable [Facts]

def fn_part1 {F : FTy → Type} [FloatOps F] (main_arg2 : FVec F S2x512 .f32) (main_v9 : IVec S_ 1) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : IVec S_ 1 := andi main_v9 main_v18
  let main_v20 : FVec F S1x512 .f32 := (extractStridedSlice S1x512 ![1, 0] · slices_S2x512_S1x512_1_0) main_arg2
  let main_v21 : FVec F S512 .f32 := shapeCast S512 main_v20 shapeCasts_S1x512_S512
  let main_v22 : FVec F S1x512 .f32 := (extractStridedSlice S1x512 ![0, 0] · slices_S2x512_S1x512_0_0) main_arg2
  let main_v23 : FVec F S512 .f32 := shapeCast S512 main_v22 shapeCasts_S1x512_S512
  let main_v24 : FVec F S512 .f32 := subf main_v21 main_v23
  let main_cst_6 : FVec F S_ .f32 := constant S_ .f32 0x41100000#32
  let main_v25 : FVec F S512 .f32 := broadcastInDim S512 ![] bcast_S_S512 main_cst_6
  let main_v26 : IVec S512 1 := cmpf .ole main_v24 main_v25
  let main_c_7 : IVec S_ 1 := constantI S_ 1 1#1
  let main_v27 : IVec S_ 1 := (fun x v => Host.reduce IntOp.andi x v reducesTo_S512_S_d0 h_S_) main_v26 main_c_7
  let main_v28 : IVec S_ 1 := andi main_v19 main_v27
  main_v28

def fn {F : FTy → Type} [FloatOps F] (main_arg0 : FVec F S4096x6144 .f32) (main_arg1 : FVec F S4096x512 .f32) (main_arg2 : FVec F S2x512 .f32) (main_arg3 : FVec F S1x128 .f32) (main_arg4 : FVec F S4096x6144 .bf16) : IVec S_ 1 :=
  let main_v0 : FVec F S4096x2048 .f32 := (extractStridedSlice S4096x2048 ![0, 0] · slices_S4096x6144_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v4 main_v8
  let main_v10 : FVec F S2x512 .f32 := Host.absf main_arg2
  let main_cst_2 : FVec F S_ .f32 := constant S_ .f32 0x7F800000#32
  let main_v11 : FVec F S2x512 .f32 := broadcastInDim S2x512 ![] bcast_S_S2x512 main_cst_2
  let main_v12 : IVec S2x512 1 := cmpf .olt main_v10 main_v11
  let main_c_3 : IVec S_ 1 := constantI S_ 1 1#1
  let main_v13 : IVec S_ 1 := (fun x v => Host.reduce IntOp.andi x v reducesTo_S2x512_S_d0_1 h_S_) main_v12 main_c_3
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg2 main_v9 main_v13 main_v16
-- ==== Kernel.lean ====
abbrev S4096x6144 : Shape := ⟨2, ![4096, 6144]⟩
abbrev S4096x512 : Shape := ⟨2, ![4096, 512]⟩
abbrev S2x512 : Shape := ⟨2, ![2, 512]⟩
abbrev S1x128 : Shape := ⟨2, ![1, 128]⟩
abbrev S_ : Shape := ⟨0, ![]⟩
abbrev S4096x4x128 : Shape := ⟨3, ![4096, 4, 128]⟩
abbrev S512 : Shape := ⟨1, ![512]⟩
abbrev S1x512 : Shape := ⟨2, ![1, 512]⟩
abbrev S4096x4096x1x1 : Shape := ⟨4, ![4096, 4096, 1, 1]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x4 : Shape := ⟨3, ![4096, 4096, 4]⟩
abbrev S4x128x4096 : Shape := ⟨3, ![4, 128, 4096]⟩
abbrev S64x4096 : Shape := ⟨2, ![64, 4096]⟩
abbrev S64x4096x1x1 : Shape := ⟨4, ![64, 4096, 1, 1]⟩
abbrev S64x4096x4x128 : Shape := ⟨4, ![64, 4096, 4, 128]⟩
abbrev S64x4x128 : Shape := ⟨3, ![64, 4, 128]⟩
abbrev S64x1x4x128 : Shape := ⟨4, ![64, 1, 4, 128]⟩
abbrev S4x64x128x128 : Shape := ⟨4, ![4, 64, 128, 128]⟩
abbrev S64x4x128x128 : Shape := ⟨4, ![64, 4, 128, 128]⟩
abbrev S32768x128 : Shape := ⟨2, ![32768, 128]⟩
abbrev S512x2048 : Shape := ⟨2, ![512, 2048]⟩
abbrev S512x512 : Shape := ⟨2, ![512, 512]⟩
abbrev S4096x128 : Shape := ⟨2, ![4096, 128]⟩
abbrev S4x128x128 : Shape := ⟨3, ![4, 128, 128]⟩
abbrev S64x64 : Shape := ⟨2, ![64, 64]⟩
abbrev S64x128 : Shape := ⟨2, ![64, 128]⟩
abbrev S64x512 : Shape := ⟨2, ![64, 512]⟩
abbrev S16x512 : Shape := ⟨2, ![16, 512]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩
abbrev S128 : Shape := ⟨1, ![128]⟩
abbrev S16x128 : Shape := ⟨2, ![16, 128]⟩
abbrev S16x64 : Shape := ⟨2, ![16, 64]⟩

abbrev nBuf : Space → Nat
  | .hbm => 171
  | .vmem => 16
  | .smem => 0
  | _ => 0

abbrev hbmTy0_0 (i : Nat) : BufTy := match i % 128 with
  | 0 => ⟨S4096x6144, .f32⟩
  | 1 => ⟨S4096x512, .f32⟩
  | 2 => ⟨S2x512, .f32⟩
  | 3 => ⟨S1x128, .f32⟩
  | 4 => ⟨S4096x6144, .bf16⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S4096x4x128, .f32⟩
  | 18 => ⟨S_, .f32⟩
  | 19 => ⟨S512, .f32⟩
  | 20 => ⟨S_, .f32⟩
  | 21 => ⟨S512, .f32⟩
  | 22 => ⟨S512, .f32⟩
  | 23 => ⟨S1x512, .f32⟩
  | 24 => ⟨S2x512, .f32⟩
  | 25 => ⟨S2x512, .f32⟩
  | 26 => ⟨S2x512, .f32⟩
  | 27 => ⟨S_, .f32⟩
  | 28 => ⟨S512, .f32⟩
  | 29 => ⟨S1x512, .f32⟩
  | 30 => ⟨S2x512, .f32⟩
  | 31 => ⟨S2x512, .f32⟩
  | 32 => ⟨S_, .f32⟩
  | 33 => ⟨S_, .f32⟩
  | 34 => ⟨S2x512, .f32⟩
  | 35 => ⟨S1x512, .f32⟩
  | 36 => ⟨S512, .f32⟩
  | 37 => ⟨S_, .f32⟩
  | 38 => ⟨S512, .f32⟩
  | 39 => ⟨S512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S1x512, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S4096x4x128, .f32⟩
  | 55 => ⟨S4096x512, .f32⟩
  | 56 => ⟨S4096x4x128, .f32⟩
  | 57 => ⟨S_, .f32⟩
  | 58 => ⟨S4096x4x128, .f32⟩
  | 59 => ⟨S4096x4x128, .f32⟩
  | 60 => ⟨S4096x4x128, .f32⟩
  | 61 => ⟨S_, .f32⟩
  | 62 => ⟨S_, .f32⟩
  | 63 => ⟨S4096x4x128, .f32⟩
  | 64 => ⟨S4096x4096x1x1, .i32⟩
  | 65 => ⟨S4096x4096x1x1, .i32⟩
  | 66 => ⟨S4096x4096x1x1, .i1⟩
  | 67 => ⟨S4096x1x4x128, .f32⟩
  | 68 => ⟨S1x4096x4x128, .f32⟩
  | 69 => ⟨S4096x4096x4x128, .f32⟩
  | 70 => ⟨S4096x4096x4x128, .f32⟩
  | 71 => ⟨S4096x4096x4x128, .f32⟩
  | 72 => ⟨S_, .f32⟩
  | 73 => ⟨S_, .f32⟩
  | 74 => ⟨S4096x4096x4x128, .i1⟩
  | 75 => ⟨S4096x4096x4x128, .f32⟩
  | 76 => ⟨S4096x4096x4x128, .f32⟩
  | 77 => ⟨S4096x4096x4x128, .f32⟩
  | 78 => ⟨S4096x1x4x128, .f32⟩
  | 79 => ⟨S1x4096x4x128, .f32⟩
  | 80 => ⟨S4096x4096x4x128, .f32⟩
  | 81 => ⟨S4096x4096x4x128, .f32⟩
  | 82 => ⟨S4096x4096x4x128, .f32⟩
  | 83 => ⟨S4096x4096x4x128, .f32⟩
  | 84 => ⟨S_, .f32⟩
  | 85 => ⟨S4096x4096x4, .f32⟩
  | 86 => ⟨S4x128x4096, .f32⟩
  | 87 => ⟨S4096x4x128, .f32⟩
  | 88 => ⟨S4096x512, .f32⟩
  | 89 => ⟨S_, .f32⟩
  | 90 => ⟨S512, .f32⟩
  | 91 => ⟨S_, .f32⟩
  | 92 => ⟨S512, .f32⟩
  | 93 => ⟨S512, .f32⟩
  | 94 => ⟨S1x512, .f32⟩
  | 95 => ⟨S2x512, .f32⟩
  | 96 => ⟨S2x512, .f32⟩
  | 97 => ⟨S2x512, .f32⟩
  | 98 => ⟨S_, .f32⟩
  | 99 => ⟨S512, .f32⟩
  | 100 => ⟨S1x512, .f32⟩
  | 101 => ⟨S2x512, .f32⟩
  | 102 => ⟨S2x512, .f32⟩
  | 103 => ⟨S_, .f32⟩
  | 104 => ⟨S_, .f32⟩
  | 105 => ⟨S2x512, .f32⟩
  | 106 => ⟨S1x512, .f32⟩
  | 107 => ⟨S512, .f32⟩
  | 108 => ⟨S_, .f32⟩
  | 109 => ⟨S512, .f32⟩
  | 110 => ⟨S512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S1x512, .f32⟩
  | 120 => ⟨S4096x512, .f32⟩
  | 121 => ⟨S4096x512, .f32⟩
  | 122 => ⟨S1x512, .f32⟩
  | 123 => ⟨S4096x512, .f32⟩
  | 124 => ⟨S4096x512, .f32⟩
  | 125 => ⟨S4096x4x128, .f32⟩
  | 126 => ⟨S4096x512, .f32⟩
  | 127 => ⟨S4096x4x128, .f32⟩
  | _ => ⟨S4096x6144, .f32⟩

abbrev hbmTy0_1 (i : Nat) : BufTy := match i % 128 with
  | 0 => ⟨S_, .f32⟩
  | 1 => ⟨S4096x4x128, .f32⟩
  | 2 => ⟨S4096x4x128, .f32⟩
  | 3 => ⟨S4096x4x128, .f32⟩
  | 4 => ⟨S_, .f32⟩
  | 5 => ⟨S_, .f32⟩
  | 6 => ⟨S4096x4x128, .f32⟩
  | 7 => ⟨S64x4096, .i32⟩
  | 8 => ⟨S64x4096, .i32⟩
  | 9 => ⟨S_, .i32⟩
  | 10 => ⟨S64x4096, .i32⟩
  | 11 => ⟨S64x4096, .i32⟩
  | 12 => ⟨S64x4096, .i1⟩
  | 13 => ⟨S64x4096x1x1, .i1⟩
  | 14 => ⟨S1x4096x4x128, .f32⟩
  | 15 => ⟨S_, .f32⟩
  | 16 => ⟨S_, .f32⟩
  | 17 => ⟨S64x4096x4x128, .i1⟩
  | 18 => ⟨S64x4096x4x128, .f32⟩
  | 19 => ⟨S64x4096x4x128, .f32⟩
  | 20 => ⟨S64x4096x4x128, .f32⟩
  | 21 => ⟨S_, .f32⟩
  | 22 => ⟨S64x4x128, .f32⟩
  | 23 => ⟨S64x1x4x128, .f32⟩
  | 24 => ⟨S1x4096x4x128, .f32⟩
  | 25 => ⟨S64x4096x4x128, .f32⟩
  | 26 => ⟨S64x4096x4x128, .f32⟩
  | 27 => ⟨S64x4096x4x128, .f32⟩
  | 28 => ⟨S_, .f32⟩
  | 29 => ⟨S_, .f32⟩
  | 30 => ⟨S64x4096x4x128, .i1⟩
  | 31 => ⟨S64x4096x4x128, .f32⟩
  | 32 => ⟨S64x4096x4x128, .f32⟩
  | 33 => ⟨S64x4096x4x128, .f32⟩
  | 34 => ⟨S1x4096x4x128, .f32⟩
  | 35 => ⟨S64x4096x4x128, .f32⟩
  | 36 => ⟨S64x4096x4x128, .f32⟩
  | 37 => ⟨S4x64x128x128, .f32⟩
  | 38 => ⟨S64x4x128x128, .f32⟩
  | 39 => ⟨S32768x128, .f32⟩
  | 40 => ⟨S4096x6144, .bf16⟩
  | 41 => ⟨S2x512, .f32⟩
  | 42 => ⟨S1x128, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4096x128, .f32⟩
  | .local _ .vmem, ⟨7, _⟩ => ⟨S4096x128, .f32⟩
  | .local _ .vmem, ⟨8, _⟩ => ⟨S2x512, .f32⟩
  | .local _ .vmem, ⟨9, _⟩ => ⟨S1x128, .f32⟩
  | .local _ .vmem, ⟨10, _⟩ => ⟨S512x2048, .bf16⟩
  | .local _ .vmem, ⟨11, _⟩ => ⟨S512x2048, .bf16⟩
  | .local _ .vmem, ⟨12, _⟩ => ⟨S2x512, .f32⟩
  | .local _ .vmem, ⟨13, _⟩ => ⟨S1x128, .f32⟩
  | .local _ .vmem, ⟨14, _⟩ => ⟨S4x128x128, .f32⟩
  | .local _ .vmem, ⟨15, _⟩ => ⟨S1x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_call0_cst : Ref sig .tc := ⟨.hbm, 32, rfl⟩
abbrev main_call1_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_call0_cst : Ref sig .tc := ⟨.hbm, 61, rfl⟩
abbrev main_call2_call0_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call4_call0_cst : Ref sig .tc := ⟨.hbm, 103, rfl⟩
abbrev main_call4_call0_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_14 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call5_call0_cst : Ref sig .tc := ⟨.hbm, 132, rfl⟩
abbrev main_call5_call0_v0 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_15 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_17 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117_0 : Ref sig .tc := ⟨.hbm, 168, rfl⟩
abbrev main_v117_1 : Ref sig .tc := ⟨.hbm, 169, rfl⟩
abbrev main_v117_2 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_5 : BitVec 32 := 0#32
  let c8_i32 : BitVec 32 := 8#32
  let v20 : BitVec 32 := Scalar.addi c0_i32_5 c8_i32
  let c1_i32 : BitVec 32 := 1#32
  ⟨c0_i32_5, v20, c1_i32⟩
def k0_mult1 (k0_t1 : Fin k0_t1_loop.trips) : BitVec 32 :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  v25
def k0_off1 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v27 : Index := Scalar.indexCast v26
  let c0_9 : Index := 0#32
  ![v27.toNat, 0]
def k0_off2 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v29 : Index := Scalar.indexCast v26
  let c1536 : Index := 1536#32
  ![v29.toNat, 1536]
def k0_off3 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v31 : Index := Scalar.indexCast v26
  let c512 : Index := 512#32
  ![v31.toNat, 512]
def k0_off4 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v97 : Index := Scalar.indexCast v26
  let c1024 : Index := 1024#32
  ![v97.toNat, 1024]
def k0_off5 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v107 : Index := Scalar.indexCast v26
  let c0_25 : Index := 0#32
  ![v107.toNat, 0]
def k0_mult2 (k0_t1 : Fin k0_t1_loop.trips) : BitVec 32 :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c4_i32 : BitVec 32 := 4#32
  let v121 : BitVec 32 := Scalar.muli v24 c4_i32
  let c0_i32_26 : BitVec 32 := 0#32
  let v122 : BitVec 32 := Scalar.addi v121 c0_i32_26
  let c128_i32 : BitVec 32 := 128#32
  let v123 : BitVec 32 := Scalar.muli v122 c128_i32
  v123
def k0_off6 (k0_t1 : Fin k0_t1_loop.trips) (c0_i32_26 : BitVec 32) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c4_i32 : BitVec 32 := 4#32
  let v121 : BitVec 32 := Scalar.muli v24 c4_i32
  let v122 : BitVec 32 := Scalar.addi v121 c0_i32_26
  let c128_i32 : BitVec 32 := 128#32
  let v123 : BitVec 32 := Scalar.muli v122 c128_i32
  let v124 : BitVec 32 := v123
  let v125 : Index := Scalar.indexCast v124
  let c0_27 : Index := 0#32
  ![v125.toNat, 0]
def k0_off7 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v130 : Index := Scalar.indexCast v26
  let c0_31 : Index := 0#32
  ![v130.toNat, 0]
def k0_mult3 (k0_t1 : Fin k0_t1_loop.trips) : BitVec 32 :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c4_i32_79 : BitVec 32 := 4#32
  let v319 : BitVec 32 := Scalar.muli v24 c4_i32_79
  let c1_i32_80 : BitVec 32 := 1#32
  let v320 : BitVec 32 := Scalar.addi v319 c1_i32_80
  let c128_i32_81 : BitVec 32 := 128#32
  let v321 : BitVec 32 := Scalar.muli v320 c128_i32_81
  v321
def k0_off8 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v328 : Index := Scalar.indexCast v26
  let c128 : Index := 128#32
  ![v328.toNat, 128]
def k0_mult4 (k0_t1 : Fin k0_t1_loop.trips) : BitVec 32 :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c4_i32_136 : BitVec 32 := 4#32
  let v517 : BitVec 32 := Scalar.muli v24 c4_i32_136
  let c2_i32 : BitVec 32 := 2#32
  let v518 : BitVec 32 := Scalar.addi v517 c2_i32
  let c128_i32_137 : BitVec 32 := 128#32
  let v519 : BitVec 32 := Scalar.muli v518 c128_i32_137
  v519
def k0_off9 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v526 : Index := Scalar.indexCast v26
  let c256 : Index := 256#32
  ![v526.toNat, 256]
def k0_mult5 (k0_t1 : Fin k0_t1_loop.trips) : BitVec 32 :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c4_i32_192 : BitVec 32 := 4#32
  let v715 : BitVec 32 := Scalar.muli v24 c4_i32_192
  let c3_i32 : BitVec 32 := 3#32
  let v716 : BitVec 32 := Scalar.addi v715 c3_i32
  let c128_i32_193 : BitVec 32 := 128#32
  let v717 : BitVec 32 := Scalar.muli v716 c128_i32_193
  v717
def k0_off10 (k0_t1 : Fin k0_t1_loop.trips) : Fin 2 → Nat :=
  let c7_i32_8 : BitVec 32 := 7#32
  let c0_i32_5 : BitVec 32 := 0#32
  let c1_i32 : BitVec 32 := 1#32
  let arg13 : BitVec 32 := Scf.iv c0_i32_5 c1_i32 k0_t1
  let v24 : BitVec 32 := Scalar.subi c7_i32_8 arg13
  let c64_i32 : BitVec 32 := 64#32
  let v25 : BitVec 32 := Scalar.muli v24 c64_i32
  let v26 : BitVec 32 := v25
  let v724 : Index := Scalar.indexCast v26
  let c384 : Index := 384#32
  ![v724.toNat, 384]
def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x6144 : Shape := ⟨2, ![4096, 6144]⟩
abbrev S4096x512 : Shape := ⟨2, ![4096, 512]⟩
abbrev S2x512 : Shape := ⟨2, ![2, 512]⟩
abbrev S1x128 : Shape := ⟨2, ![1, 128]⟩
abbrev S_ : Shape := ⟨0, ![]⟩
abbrev S4096x4x128 : Shape := ⟨3, ![4096, 4, 128]⟩
abbrev S512 : Shape := ⟨1, ![512]⟩
abbrev S1x512 : Shape := ⟨2, ![1, 512]⟩
abbrev S4096x4096x1x1 : Shape := ⟨4, ![4096, 4096, 1, 1]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x4 : Shape := ⟨3, ![4096, 4096, 4]⟩
abbrev S4x128x4096 : Shape := ⟨3, ![4, 128, 4096]⟩
abbrev S4096x4 : Shape := ⟨2, ![4096, 4]⟩
abbrev S4096x4x1 : Shape := ⟨3, ![4096, 4, 1]⟩
abbrev S1x1x128 : Shape := ⟨3, ![1, 1, 128]⟩
abbrev S128 : Shape := ⟨1, ![128]⟩
abbrev S4x4096x4096 : Shape := ⟨3, ![4, 4096, 4096]⟩
abbrev S4096x2048 : Shape := ⟨2, ![4096, 2048]⟩
abbrev S4096x4096 : Shape := ⟨2, ![4096, 4096]⟩

abbrev nBuf : Space → Nat
  | .hbm => 283
  | .vmem => 0
  | .smem => 0
  | _ => 0

abbrev hbmTy0_0 (i : Nat) : BufTy := match i % 128 with
  | 0 => ⟨S4096x6144, .f32⟩
  | 1 => ⟨S4096x512, .f32⟩
  | 2 => ⟨S2x512, .f32⟩
  | 3 => ⟨S1x128, .f32⟩
  | 4 => ⟨S4096x6144, .bf16⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S4096x4x128, .f32⟩
  | 23 => ⟨S_, .f32⟩
  | 24 => ⟨S512, .f32⟩
  | 25 => ⟨S1x512, .f32⟩
  | 26 => ⟨S2x512, .f32⟩
  | 27 => ⟨S2x512, .i1⟩
  | 28 => ⟨S2x512, .f32⟩
  | 29 => ⟨S_, .f32⟩
  | 30 => ⟨S512, .f32⟩
  | 31 => ⟨S_, .f32⟩
  | 32 => ⟨S512, .f32⟩
  | 33 => ⟨S512, .f32⟩
  | 34 => ⟨S_, .f32⟩
  | 35 => ⟨S512, .f32⟩
  | 36 => ⟨S512, .i1⟩
  | 37 => ⟨S_, .f32⟩
  | 38 => ⟨S512, .f32⟩
  | 39 => ⟨S512, .i1⟩
  | 40 => ⟨S_, .f32⟩
  | 41 => ⟨S512, .f32⟩
  | 42 => ⟨S_, .f32⟩
  | 43 => ⟨S512, .f32⟩
  | 44 => ⟨S_, .f32⟩
  | 45 => ⟨S512, .f32⟩
  | 46 => ⟨S512, .f32⟩
  | 47 => ⟨S512, .f32⟩
  | 48 => ⟨S1x512, .f32⟩
  | 49 => ⟨S2x512, .f32⟩
  | 50 => ⟨S2x512, .f32⟩
  | 51 => ⟨S2x512, .f32⟩
  | 52 => ⟨S_, .f32⟩
  | 53 => ⟨S512, .f32⟩
  | 54 => ⟨S1x512, .f32⟩
  | 55 => ⟨S2x512, .f32⟩
  | 56 => ⟨S2x512, .f32⟩
  | 57 => ⟨S1x512, .f32⟩
  | 58 => ⟨S_, .f32⟩
  | 59 => ⟨S1x512, .f32⟩
  | 60 => ⟨S1x512, .f32⟩
  | 61 => ⟨S_, .f32⟩
  | 62 => ⟨S_, .f32⟩
  | 63 => ⟨S2x512, .f32⟩
  | 64 => ⟨S1x512, .f32⟩
  | 65 => ⟨S512, .f32⟩
  | 66 => ⟨S_, .f32⟩
  | 67 => ⟨S512, .f32⟩
  | 68 => ⟨S512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S1x512, .f32⟩
  | 82 => ⟨S4096x512, .f32⟩
  | 83 => ⟨S4096x512, .f32⟩
  | 84 => ⟨S1x512, .f32⟩
  | 85 => ⟨S4096x512, .f32⟩
  | 86 => ⟨S4096x512, .f32⟩
  | 87 => ⟨S4096x4x128, .f32⟩
  | 88 => ⟨S4096x512, .f32⟩
  | 89 => ⟨S4096x4x128, .f32⟩
  | 90 => ⟨S_, .f32⟩
  | 91 => ⟨S4096x4x128, .f32⟩
  | 92 => ⟨S4096x4x128, .f32⟩
  | 93 => ⟨S4096x4x128, .f32⟩
  | 94 => ⟨S_, .f32⟩
  | 95 => ⟨S_, .f32⟩
  | 96 => ⟨S4096x4x128, .f32⟩
  | 97 => ⟨S4096x4096x1x1, .i32⟩
  | 98 => ⟨S4096x4096x1x1, .i32⟩
  | 99 => ⟨S4096x4096x1x1, .i1⟩
  | 100 => ⟨S4096x1x4x128, .f32⟩
  | 101 => ⟨S1x4096x4x128, .f32⟩
  | 102 => ⟨S4096x4096x4x128, .f32⟩
  | 103 => ⟨S4096x4096x4x128, .f32⟩
  | 104 => ⟨S4096x4096x4x128, .f32⟩
  | 105 => ⟨S_, .f32⟩
  | 106 => ⟨S_, .f32⟩
  | 107 => ⟨S4096x4096x4x128, .i1⟩
  | 108 => ⟨S4096x4096x4x128, .f32⟩
  | 109 => ⟨S4096x4096x4x128, .f32⟩
  | 110 => ⟨S_, .f32⟩
  | 111 => ⟨S4096x4096x4x128, .f32⟩
  | 112 => ⟨S4096x4096x4x128, .f32⟩
  | 113 => ⟨S4096x1x4x128, .f32⟩
  | 114 => ⟨S1x4096x4x128, .f32⟩
  | 115 => ⟨S4096x4096x4x128, .f32⟩
  | 116 => ⟨S4096x4096x4x128, .f32⟩
  | 117 => ⟨S4096x4096x4x128, .f32⟩
  | 118 => ⟨S4096x4096x4x128, .f32⟩
  | 119 => ⟨S_, .f32⟩
  | 120 => ⟨S4096x4096x4, .f32⟩
  | 121 => ⟨S4x128x4096, .f32⟩
  | 122 => ⟨S4096x4x128, .f32⟩
  | 123 => ⟨S4096x4x128, .f32⟩
  | 124 => ⟨S_, .f32⟩
  | 125 => ⟨S4096x4, .f32⟩
  | 126 => ⟨S4096x4x1, .f32⟩
  | 127 => ⟨S_, .f32⟩
  | _ => ⟨S4096x6144, .f32⟩

abbrev hbmTy0_1 (i : Nat) : BufTy := match i % 128 with
  | 0 => ⟨S4096x4x1, .f32⟩
  | 1 => ⟨S4096x4x1, .f32⟩
  | 2 => ⟨S_, .f32⟩
  | 3 => ⟨S4096x4x1, .f32⟩
  | 4 => ⟨S4096x4x1, .f32⟩
  | 5 => ⟨S4096x4x1, .f32⟩
  | 6 => ⟨S4096x4x1, .f32⟩
  | 7 => ⟨S_, .f32⟩
  | 8 => ⟨S4096x4x1, .f32⟩
  | 9 => ⟨S4096x4x1, .f32⟩
  | 10 => ⟨S4096x4x128, .f32⟩
  | 11 => ⟨S4096x4x128, .f32⟩
  | 12 => ⟨S1x1x128, .f32⟩
  | 13 => ⟨S4096x4x128, .f32⟩
  | 14 => ⟨S4096x4x128, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x4x128, .f32⟩
  | 37 => ⟨S4096x4x128, .f32⟩
  | 38 => ⟨S_, .f32⟩
  | 39 => ⟨S128, .f32⟩
  | 40 => ⟨S1x1x128, .f32⟩
  | 41 => ⟨S4096x4x128, .f32⟩
  | 42 => ⟨S4096x4x128, .f32⟩
  | 43 => ⟨S_, .f32⟩
  | 44 => ⟨S128, .f32⟩
  | 45 => ⟨S1x128, .f32⟩
  | 46 => ⟨S4096x4x128, .f32⟩
  | 47 => ⟨S_, .f32⟩
  | 48 => ⟨S4096x4, .f32⟩
  | 49 => ⟨S4096x4x1, .f32⟩
  | 50 => ⟨S4096x4x128, .f32⟩
  | 51 => ⟨S4096x4x128, .f32⟩
  | 52 => ⟨S4096x4x1, .f32⟩
  | 53 => ⟨S_, .f32⟩
  | 54 => ⟨S4096x4x1, .f32⟩
  | 55 => ⟨S4096x4x1, .f32⟩
  | 56 => ⟨S_, .f32⟩
  | 57 => ⟨S4096x4, .f32⟩
  | 58 => ⟨S4096x4x128, .f32⟩
  | 59 => ⟨S4096x4x128, .f32⟩
  | 60 => ⟨S4096x4x128, .f32⟩
  | 61 => ⟨S4096x4x128, .f32⟩
  | 62 => ⟨S4096x4x128, .f32⟩
  | 63 => ⟨S4x128x4096, .f32⟩
  | 64 => ⟨S4x4096x4096, .f32⟩
  | 65 => ⟨S4096x4096x4, .f32⟩
  | 66 => ⟨S4x128x4096, .f32⟩
  | 67 => ⟨S4096x4x128, .f32⟩
  | 68 => ⟨S4096x4096x4x128, .f32⟩
  | 69 => ⟨S4096x4096x4x128, .f32⟩
  | 70 => ⟨S4096x4096x4x128, .f32⟩
  | 71 => ⟨S4096x4096x4x128, .f32⟩
  | 72 => ⟨S_, .f32⟩
  | 73 => ⟨S4096x4x128, .f32⟩
  | 74 => ⟨S4096x1x4x128, .f32⟩
  | 75 => ⟨S4096x4096x4x128, .f32⟩
  | 76 => ⟨S4096x4096x4x128, .f32⟩
  | 77 => ⟨S4096x4096x4x128, .f32⟩
  | 78 => ⟨S_, .f32⟩
  | 79 => ⟨S4096x4x128, .f32⟩
  | 80 => ⟨S1x4096x4x128, .f32⟩
  | 81 => ⟨S_, .f32⟩
  | 82 => ⟨S4096x4x128, .f32⟩
  | 83 => ⟨S_, .f32⟩
  | 84 => ⟨S4096x4x128, .f32⟩
  | 85 => ⟨S4096x4096x4x128, .f32⟩
  | 86 => ⟨S_, .f32⟩
  | 87 => ⟨S4096x4096x4x128, .f32⟩
  | 88 => ⟨S4096x4096x4x128, .f32⟩
  | 89 => ⟨S_, .f32⟩
  | 90 => ⟨S4096x4x128, .f32⟩
  | 91 => ⟨S4096x1x4x128, .f32⟩
  | 92 => ⟨S4096x4096x4x128, .f32⟩
  | 93 => ⟨S_, .f32⟩
  | 94 => ⟨S4096x4x128, .f32⟩
  | 95 => ⟨S1x4096x4x128, .f32⟩
  | 96 => ⟨S_, .f32⟩
  | 97 => ⟨S4096x4x128, .f32⟩
  | 98 => ⟨S_, .f32⟩
  | 99 => ⟨S4096x4x128, .f32⟩
  | 100 => ⟨S4096x4x128, .f32⟩
  | 101 => ⟨S_, .f32⟩
  | 102 => ⟨S_, .f32⟩
  | 103 => ⟨S4096x4x128, .f32⟩
  | 104 => ⟨S4096x512, .f32⟩
  | 105 => ⟨S4096x4x128, .f32⟩
  | 106 => ⟨S4096x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S4096x512, .f32⟩
  | 116 => ⟨S4096x512, .f32⟩
  | 117 => ⟨S4096x512, .f32⟩
  | 118 => ⟨S_, .f32⟩
  | 119 => ⟨S512, .f32⟩
  | 120 => ⟨S1x512, .f32⟩
  | 121 => ⟨S_, .f32⟩
  | 122 => ⟨S512, .f32⟩
  | 123 => ⟨S4096x512, .f32⟩
  | 124 => ⟨S512, .f32⟩
  | 125 => ⟨S512, .f32⟩
  | 126 => ⟨S1x512, .f32⟩
  | 127 => ⟨S_, .f32⟩
  | _ => ⟨S4096x6144, .f32⟩

abbrev hbmTy0_2 (i : Nat) : BufTy := match i % 128 with
  | 0 => ⟨S2x512, .f32⟩
  | 1 => ⟨S_, .f32⟩
  | 2 => ⟨S_, .f32⟩
  | 3 => ⟨S2x512, .f32⟩
  | 4 => ⟨S2x512, .f32⟩
  | 5 => ⟨S2x512, .f32⟩
  | 6 => ⟨S2x512, .f32⟩
  | 7 => ⟨S_, .f32⟩
  | 8 => ⟨S512, .f32⟩
  | 9 => ⟨S1x512, .f32⟩
  | 10 => ⟨S1x512, .f32⟩
  | 11 => ⟨S2x512, .f32⟩
  | 12 => ⟨S2x512, .f32⟩
  | 13 => ⟨S_, .f32⟩
  | 14 => ⟨S512, .f32⟩
  | 15 => ⟨S2x512, .f32⟩
  | 16 => ⟨S2x512, .f32⟩
  | 17 => ⟨S2x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S4096x2048, .f32⟩
  | 24 => ⟨S4096x2048, .bf16⟩
  | 25 => ⟨S4096x4096, .bf16⟩
  | 26 => ⟨S4096x6144, .bf16⟩
  | _ => ⟨S4096x6144, .f32⟩

abbrev hbmTy (i : Nat) : BufTy := match i / 128 with
  | 0 => hbmTy0_0 i
  | 1 => hbmTy0_1 i
  | 2 => hbmTy0_2 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_call1_call0_cst : Ref sig .tc := ⟨.hbm, 61, rfl⟩
abbrev main_call1_call0_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call2_call0_cst : Ref sig .tc := ⟨.hbm, 94, rfl⟩
abbrev main_call2_call0_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_call3_v0 : Ref sig .tc := ⟨.hbm, 106, rfl⟩
abbrev main_v69_1 : Ref sig .tc := ⟨.hbm, 107, rfl⟩
abbrev main_call3_v2 : Ref sig .tc := ⟨.hbm, 108, rfl⟩
abbrev main_v69_0 : Ref sig .tc := ⟨.hbm, 109, rfl⟩
abbrev main_call3_cst : Ref sig .tc := ⟨.hbm, 110, rfl⟩
abbrev main_v69_2 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_15 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_16 : Ref sig .tc := ⟨.hbm, 124, rfl⟩
abbrev main_v81 : Ref sig .tc := ⟨.hbm, 125, rfl⟩
abbrev main_v82 : Ref sig .tc := ⟨.hbm, 126, rfl⟩
abbrev main_cst_17 : Ref sig .tc := ⟨.hbm, 127, rfl⟩
abbrev main_v83 : Ref sig .tc := ⟨.hbm, 128, rfl⟩
abbrev main_v84 : Ref sig .tc := ⟨.hbm, 129, rfl⟩
abbrev main_cst_18 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_19 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_v97_2 : Ref sig .tc := ⟨.hbm, 151, rfl⟩
abbrev main_call4_cst_1 : Ref sig .tc := ⟨.hbm, 152, rfl⟩
abbrev main_call4_v6 : Ref sig .tc := ⟨.hbm, 153, rfl⟩
abbrev main_call4_v7 : Ref sig .tc := ⟨.hbm, 154, rfl⟩
abbrev main_v97_1 : Ref sig .tc := ⟨.hbm, 155, rfl⟩
abbrev main_v97_0 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_20 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_21 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_22 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_23 : Ref sig .tc := ⟨.hbm, 181, rfl⟩
abbrev main_v116 : Ref sig .tc := ⟨.hbm, 182, rfl⟩
abbrev main_v117 : Ref sig .tc := ⟨.hbm, 183, rfl⟩
abbrev main_cst_24 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_25 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_26 : Ref sig .tc := ⟨.hbm, 206, rfl⟩
abbrev main_v138 : Ref sig .tc := ⟨.hbm, 207, rfl⟩
abbrev main_v139 : Ref sig .tc := ⟨.hbm, 208, rfl⟩
abbrev main_cst_27 : Ref sig .tc := ⟨.hbm, 209, rfl⟩
abbrev main_v140 : Ref sig .tc := ⟨.hbm, 210, rfl⟩
abbrev main_cst_28 : Ref sig .tc := ⟨.hbm, 211, rfl⟩
abbrev main_v141 : Ref sig .tc := ⟨.hbm, 212, rfl⟩
abbrev main_v142 : Ref sig .tc := ⟨.hbm, 213, rfl⟩
abbrev main_call6_cst : Ref sig .tc := ⟨.hbm, 214, rfl⟩
abbrev main_call6_v0 : Ref sig .tc := ⟨.hbm, 215, rfl⟩
abbrev main_v143 : Ref sig .tc := ⟨.hbm, 216, rfl⟩
abbrev main_cst_29 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_30 : Ref sig .tc := ⟨.hbm, 221, rfl⟩
abbrev main_v147 : Ref sig .tc := ⟨.hbm, 222, rfl⟩
abbrev main_v148 : Ref sig .tc := ⟨.hbm, 223, rfl⟩
abbrev main_cst_31 : Ref sig .tc := ⟨.hbm, 224, rfl⟩
abbrev main_v149 : Ref sig .tc := ⟨.hbm, 225, rfl⟩
abbrev main_cst_32 : Ref sig .tc := ⟨.hbm, 226, rfl⟩
abbrev main_v150 : Ref sig .tc := ⟨.hbm, 227, rfl⟩
abbrev main_v151 : Ref sig .tc := ⟨.hbm, 228, rfl⟩
abbrev main_call7_call0_cst : Ref sig .tc := ⟨.hbm, 229, rfl⟩
abbrev main_call7_call0_v0 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_33 : Ref sig .tc := ⟨.hbm, 238, rfl⟩
abbrev main_v159 : Ref sig .tc := ⟨.hbm, 239, rfl⟩
abbrev main_v160 : Ref sig .tc := ⟨.hbm, 240, rfl⟩
abbrev main_cst_34 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_cst_35 : Ref sig .tc := ⟨.hbm, 246, rfl⟩
abbrev main_v165 : Ref sig .tc := ⟨.hbm, 247, rfl⟩
abbrev main_v166 : Ref sig .tc := ⟨.hbm, 248, rfl⟩
abbrev main_cst_36 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_cst_37 : Ref sig .tc := ⟨.hbm, 255, rfl⟩
abbrev main_v172 : Ref sig .tc := ⟨.hbm, 256, rfl⟩
abbrev main_call8_call0_cst : Ref sig .tc := ⟨.hbm, 257, rfl⟩
abbrev main_call8_call0_v0 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_cst_38 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_cst_39 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_call9_v0 : Ref sig .tc := ⟨.hbm, 275, rfl⟩
abbrev main_call9_v1 : Ref sig .tc := ⟨.hbm, 276, rfl⟩
abbrev main_call9_v2 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .bf16⟩
  | .hbm, ⟨11, _⟩ => ⟨S4096x2816, .bf16⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x6144 : Shape := ⟨2, ![4096, 6144]⟩
abbrev S4096x1024 : Shape := ⟨2, ![4096, 1024]⟩
abbrev S6144x1024 : Shape := ⟨2, ![6144, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S6144x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x6144 : Shape := ⟨2, ![4096, 6144]⟩
abbrev S4096x1024 : Shape := ⟨2, ![4096, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S_, .f32⟩
  | .hbm, ⟨3, _⟩ => ⟨S6144x1024, .f32⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S4096x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S_, .f32⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32_12 : BitVec 32 := 0#32
  let v22 : BitVec 1 := Scalar.cmpi .sgt arg0 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S2816x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32_10 : BitVec 32 := 0#32
  let v20 : BitVec 1 := Scalar.cmpi .sgt arg0 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel12.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference12Ideal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S256x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S4096x1024, .bf16⟩
  | .hbm, ⟨67, _⟩ => ⟨S4096x1024, .bf16⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel13.lean ====
abbrev S4096x512 : Shape := ⟨2, ![4096, 512]⟩
abbrev S512x1024 : Shape := ⟨2, ![512, 1024]⟩
abbrev S4096x6144 : Shape := ⟨2, ![4096, 6144]⟩
abbrev S4096x1024 : Shape := ⟨2, ![4096, 1024]⟩
abbrev S512x512 : Shape := ⟨2, ![512, 512]⟩
abbrev S512x2048 : Shape := ⟨2, ![512, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .bf16⟩
  | .hbm, ⟨3, _⟩ => ⟨S512x1024, .bf16⟩
  | .hbm, ⟨4, _⟩ => ⟨S4096x6144, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4096x512 : Shape := ⟨2, ![4096, 512]⟩
abbrev S512x1024 : Shape := ⟨2, ![512, 1024]⟩
abbrev S4096x6144 : Shape := ⟨2, ![4096, 6144]⟩
abbrev S4096x1024 : Shape := ⟨2, ![4096, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .bf16⟩
  | .hbm, ⟨3, _⟩ => ⟨S512x1024, .bf16⟩
  | .hbm, ⟨4, _⟩ => ⟨S4096x6144, .f32⟩
  | .hbm, ⟨5, _⟩ => ⟨S512x1024, .f32⟩
  | .hbm, ⟨6, _⟩ => ⟨S4096x1024, .f32⟩
  | .hbm, ⟨7, _⟩ => ⟨S512x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | .hbm, ⟨32, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x1024 : Shape := ⟨2, ![4096, 1024]⟩
abbrev S6144x1024 : Shape := ⟨2, ![6144, 1024]⟩
abbrev S4096x6144 : Shape := ⟨2, ![4096, 6144]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S6144x1024, .bf16⟩
  | .hbm, ⟨2, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S6144x1024 : Shape := ⟨2, ![6144, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6144x1024, .bf16⟩
  | .hbm, ⟨2, _⟩ => ⟨S4096x1024, .f32⟩
  | .hbm, ⟨3, _⟩ => ⟨S6144x1024, .f32⟩
  | .hbm, ⟨4, _⟩ => ⟨S1024x6144, .f32⟩
  | .hbm, ⟨5, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x6144 : Shape := ⟨2, ![4096, 6144]⟩
abbrev S6144x1024 : Shape := ⟨2, ![6144, 1024]⟩
abbrev S4096x1024 : Shape := ⟨2, ![4096, 1024]⟩
abbrev S1x1024 : Shape := ⟨2, ![1, 1024]⟩
abbrev S512x3072 : Shape := ⟨2, ![512, 3072]⟩
abbrev S3072x1024 : Shape := ⟨2, ![3072, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S6144x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S3072x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let c1_i32 : BitVec 32 := 1#32
  let v7 : BitVec 1 := Scalar.cmpi .slt arg2 c1_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_16 : BitVec 32 := 0#32
  let v31 : BitVec 1 := Scalar.cmpi .eq arg0 c0_i32_16
  let v32 : BitVec 32 := Scalar.extui v31
  let c0_i32_17 : BitVec 32 := 0#32
  let v33 : BitVec 1 := Scalar.cmpi .ne v32 c0_i32_17
  v33

def k0_cond5 (i : grid0.Coords) : BitVec 1 :=
  let arg0 : BitVec 32 := BitVec.ofNat 32 (i 0).val
  let c0_i32_18 : BitVec 32 := 0#32
  let v34 : BitVec 1 := Scalar.cmpi .sgt arg0 c0_i32_18
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference19Ideal.lean ====
abbrev S4096x6144 : Shape := ⟨2, ![4096, 6144]⟩
abbrev S6144x1024 : Shape := ⟨2, ![6144, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x6144 : Shape := ⟨2, ![1024, 6144]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S6144x1024, .f32⟩
  | .hbm, ⟨25, _⟩ => ⟨S1024x6144, .f32⟩
  | .hbm, ⟨26, _⟩ => ⟨S4096x6144, .f32⟩
  | .hbm, ⟨27, _⟩ => ⟨S4096x6144, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S512x1024 : Shape := ⟨2, ![512, 1024]⟩
abbrev S4096x6144 : Shape := ⟨2, ![4096, 6144]⟩
abbrev S4096x512 : Shape := ⟨2, ![4096, 512]⟩
abbrev S512x2048 : Shape := ⟨2, ![512, 2048]⟩
abbrev S512x512 : Shape := ⟨2, ![512, 512]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4096x1024, .bf16⟩
  | .hbm, ⟨5, _⟩ => ⟨S4096x1024, .bf16⟩
  | .hbm, ⟨6, _⟩ => ⟨S4096x6144, .f32⟩
  | .hbm, ⟨7, _⟩ => ⟨S4096x1024, .bf16⟩
  | .hbm, ⟨8, _⟩ => ⟨S4096x1024, .bf16⟩
  | .hbm, ⟨9, _⟩ => ⟨S4096x6144, .bf16⟩
  | .hbm, ⟨10, _⟩ => ⟨S4096x512, .f32⟩
  | .hbm, ⟨11, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .f32⟩
  | .local _ .vmem, ⟨10, _⟩ => ⟨S512x2048, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference20Ideal.lean ====
abbrev S4096x1024 : Shape := ⟨2, ![4096, 1024]⟩
abbrev S1024x1024 : Shape := ⟨2, ![1024, 1024]⟩
abbrev S512x1024 : Shape := ⟨2, ![512, 1024]⟩
abbrev S4096x6144 : Shape := ⟨2, ![4096, 6144]⟩
abbrev S_ : Shape := ⟨0, ![]⟩
abbrev S4096x512 : Shape := ⟨2, ![4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S512x1024, .bf16⟩
  | .hbm, ⟨3, _⟩ => ⟨S512x1024, .bf16⟩
  | .hbm, ⟨4, _⟩ => ⟨S4096x1024, .bf16⟩
  | .hbm, ⟨5, _⟩ => ⟨S4096x1024, .bf16⟩
  | .hbm, ⟨6, _⟩ => ⟨S4096x6144, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x512, .f32⟩
  | .hbm, ⟨37, _⟩ => ⟨S512x1024, .f32⟩
  | .hbm, ⟨38, _⟩ => ⟨S4096x1024, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S512x1024, .f32⟩
  | .hbm, ⟨43, _⟩ => ⟨S4096x1024, .f32⟩
  | .hbm, ⟨44, _⟩ => ⟨S4096x512, .f32⟩
  | .hbm, ⟨45, _⟩ => ⟨S4096x1024, .bf16⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Chunk.lean ====
/- One chunk of 64 rows of the backward recurrence, as a function of arrays: what one head gives, and what the four heads together write. -/
module

public import proofs.«01_k».proof.Proof.Gen.KernelIdeal.Loops
public import Idealize.ShloMosaic.Lib.VecWindow

@[expose] public section

set_option maxRecDepth 8192

noncomputable section

namespace Cert.KernelIdeal.Chunk

open Idealize.ShloMosaic Idealize.ShloMosaic.TcCoe Idealize.SL.Sem Cert.KernelIdeal.Gen

variable {F : FTy → Type} [FloatOps F]

/-- The row numbers of a chunk. -/
abbrev rows : IVec S64x128 32 := iota .tc S64x128 32 [0] iota_S64x128_d0_w32

/-- The 128 columns of one head. -/
def hd {φ : EltTy} (x : Vec F S64x512 φ) (h : Fin 4) : Vec F S64x128 φ :=
  match h with
  | 0 => extractStridedSlice S64x128 ![0, 0] x slices_S64x512_o0_0_S64x128
  | 1 => extractStridedSlice S64x128 ![0, 128] x slices_S64x512_o0_128_S64x128
  | 2 => extractStridedSlice S64x128 ![0, 256] x slices_S64x512_o0_256_S64x128
  | 3 => extractStridedSlice S64x128 ![0, 384] x slices_S64x512_o0_384_S64x128

/-- The 128 columns of one head, of one row. -/
def hdR (x : FVec F S1x512 .f32) (h : Fin 4) : FVec F S1x128 .f32 :=
  match h with
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

/-- What a chunk reads: the two small parameters, the four projections, the cotangent, and each head's mixed value and saved state. -/
structure In (F : FTy → Type) where
  l : Vec F S2x512 .f32
  gain : Vec F S1x128 .f32
  q : Vec F S64x512 .f32
  f : Vec F S64x512 .f32
  v : Vec F S64x512 .f32
  g : Vec F S64x512 .f32
  dy : Vec F S64x512 .f32
  o : Fin 4 → Vec F S64x128 .f32
  st : Fin 4 → Vec F S128x128 .f32

namespace In

variable (C : In F)

abbrev lb : FVec F S1x512 .f32 := k0_pay4 C.l
abbrev s1 : FVec F S64x512 .f32 := k0_pay19 C.lb k0_pay6 C.f
abbrev s2 : FVec F S64x512 .f32 := k0_pay20 C.lb k0_pay6 C.f

/-- The running sum of the logarithms of the forget gates. -/
def B : FVec F S64x512 .f32 := k0_pay21 C.s1 C.s2
def K : FVec F S64x512 .f32 := k0_pay16 C.lb C.f
def EW : FVec F S64x512 .f32 := k0_pay22 C.s1 C.s2
def EB : FVec F S64x512 .f32 := k0_pay23 C.s1 C.s2
def EBL : FVec F S1x512 .f32 := k0_pay25 C.s1 C.s2
def EKD : FVec F S64x512 .f32 := k0_pay26 C.s1 C.s2
def qs : FVec F S64x512 .bf16 := k0_pay27 (k0_pay13 C.q) C.s1 C.s2
def qd : FVec F S64x512 .bf16 := k0_pay28 (k0_pay13 C.q) C.s1 C.s2
def kd : FVec F S64x512 .bf16 := k0_pay29 C.K C.s1 C.s2
def vb : FVec F S64x512 .bf16 := k0_pay30 C.v
/-- The cotangent times the gate. -/
def dyg : FVec F S64x512 .f32 := k0_pay32 C.g C.dy

end In

/-- What one head of a chunk works on. -/
structure Head (F : FTy → Type) where
  gain : Vec F S1x128 .f32
  K : FVec F S64x128 .f32
  B : FVec F S64x128 .f32
  EW : FVec F S64x128 .f32
  EB : FVec F S64x128 .f32
  EBL : FVec F S1x128 .f32
  EKD : FVec F S64x128 .f32
  qs : FVec F S64x128 .bf16
  qd : FVec F S64x128 .bf16
  kd : FVec F S64x128 .bf16
  vb : FVec F S64x128 .bf16
  dyg : FVec F S64x128 .f32
  o : Vec F S64x128 .f32
  st : FVec F S128x128 .f32
  ds : FVec F S128x128 .f32

/-- Head `h` of a chunk, the cotangent of the state it leaves being `ds`. -/
def In.head (C : In F) (ds : Vec F S1x128x128 .f32) (h : Fin 4) : Head F where
  gain := C.gain
  K := hd (φ := .f32) C.K h
  B := hd (φ := .f32) C.B h
  EW := hd (φ := .f32) C.EW h
  EB := hd (φ := .f32) C.EB h
  EBL := hdR C.EBL h
  EKD := hd (φ := .f32) C.EKD h
  qs := hd (φ := .bf16) C.qs h
  qd := hd (φ := .bf16) C.qd h
  kd := hd (φ := .bf16) C.kd h
  vb := hd (φ := .bf16) C.vb h
  dyg := hd (φ := .f32) C.dyg h
  o := C.o h
  st := k0_pay43 (C.st h)
  ds := k0_pay44 ds

namespace Head

variable (H : Head F)

/-- The mixed value over its root mean square. -/
def n : FVec F S64x128 .f32 := k0_pay47 H.o
/-- The cotangent of the normalised value. -/
def dn : FVec F S64x128 .f32 := mulf H.dyg (broadcastTo S64x128 H.gain broadcasts_S1x128_S64x128)
/-- The mean over a row of the cotangent times the normalised value. -/
def mean : FVec F S64x1 .f32 :=
  divf (shapeCast S64x1 (multiReduction .add [1] S64 (mulf H.dn H.n) 0x00000000#32 reduces_S64x128_S64 (.inl rfl) rfl) shapeCasts_S64_S64x1)
    (broadcast S64x1 (Scalar.ofBits .f32 0x43000000#32))
/-- The cotangent of the mixed value. -/
def dO : FVec F S64x128 .bf16 :=
  truncf .bf16 (mulf (broadcastTo S64x128 (k0_pay46 H.o) broadcasts_S64x1_S64x128)
    (subf H.dn (mulf H.n (broadcastTo S64x128 H.mean broadcasts_S64x1_S64x128)))) bitsLt_bf16_f32
/-- The running gradient of the norm's gain, with this head's rows added. -/
def dgain (acc : Vec F S1x128 .f32) : FVec F S1x128 .f32 :=
  addf (shapeCast S1x128 acc shapeCasts_S1x128_S1x128)
    (shapeCast S1x128 (multiReduction .add [0] S128 (mulf H.dyg H.n) 0x00000000#32 reduces_S64x128_S128 (.inl rfl) rfl) shapeCasts_S128_S1x128)

abbrev cap : F .f32 := FloatOps.ofBits FTy.f32 1117782016#32
abbrev zero : F .f32 := FloatOps.ofBits FTy.f32 0#32
abbrev one : F .f32 := FloatOps.ofBits FTy.f32 1065353216#32

def e0 : FVec F S64x128 .f32 := k0_pay53 rows H.B
def e1 : FVec F S64x128 .f32 := k0_pay56 rows H.B
def e2 : FVec F S64x128 .f32 := k0_pay59 rows H.B
def e3 : FVec F S64x128 .f32 := k0_pay63 rows (k0_pay62 H.B) cap
def kk0 : FVec F S64x128 .bf16 := k0_pay54 rows H.K H.B
def kk1 : FVec F S64x128 .bf16 := k0_pay57 rows H.K H.B
def kk2 : FVec F S64x128 .bf16 := k0_pay60 rows H.K H.B
def kk3 : FVec F S64x128 .bf16 := k0_pay64 rows H.K (k0_pay62 H.B) cap
def dv : FVec F S64x128 .f32 :=
  k0_pay67 k0_pay5 rows H.K H.qs H.kd H.ds H.dO (k0_pay55 rows H.K H.B H.qs) (k0_pay58 rows H.K H.B H.qs) (k0_pay61 rows H.K H.B H.qs) (k0_pay62 H.B) cap
def dkd : FVec F S64x128 .f32 := k0_pay68 H.vb H.ds
def dsNew : FVec F S1x128x128 .f32 := k0_pay69 H.EBL H.qd H.ds H.dO
def dbl : FVec F S1x128 .f32 := k0_pay71 H.EBL H.kd H.vb H.st H.ds
def da : FVec F S64x64 .bf16 := k0_pay72 k0_pay5 H.vb H.dO
def dkin : FVec F S64x128 .f32 := k0_pay81 H.qs H.e0 H.e1 H.e2 H.e3 H.da zero
def dqs : FVec F S64x128 .f32 := k0_pay82 H.kk0 H.kk1 H.kk2 H.kk3 H.da
def dqd : FVec F S64x128 .f32 := k0_pay66 H.st H.dO
def db0 : FVec F S64x128 .f32 := k0_pay83 H.qs H.qd H.kk0 H.kk1 H.kk2 H.kk3 H.dqd (k0_pay70 H.kd H.vb H.ds) H.da
def dbt : FVec F S64x128 .f32 := k0_pay255 rows H.dbl
def dq : FVec F S64x128 .f32 := k0_pay87 H.EW H.EB H.dqd H.dqs
def dk : FVec F S64x128 .f32 := k0_pay88 H.EKD H.dkd H.dkin
def db : FVec F S64x128 .f32 := addf H.db0 H.dbt

end Head

/-- The four heads' cotangents of the state. -/
abbrev DS (F : FTy → Type) := Fin 4 → Vec F S1x128x128 .f32

namespace In

variable (C : In F) (D : DS F)

abbrev H (h : Fin 4) : Head F := C.head (D h) h

def outQ : FVec F S64x512 .bf16 :=
  k0_pay260 C.q (k0_pay12 C.q) (C.H D 0).dq (C.H D 1).dq (C.H D 2).dq (C.H D 3).EW (C.H D 3).EB (C.H D 3).dqd (C.H D 3).dqs
def outF : FVec F S64x512 .bf16 :=
  k0_pay7 (k0_pay14 C.f)
    (k0_pay261 C.lb k0_pay6 (k0_pay14 C.f) (k0_pay15 C.lb C.f) (C.H D 0).db (C.H D 0).dk (C.H D 1).db (C.H D 1).dk (C.H D 2).db (C.H D 2).dk
      (C.H D 3).EKD (C.H D 3).dkd (C.H D 3).dkin (C.H D 3).db0 (C.H D 3).dbt) Head.one
def outV : FVec F S64x512 .bf16 := k0_pay8 (C.H D 0).dv (C.H D 1).dv (C.H D 2).dv (C.H D 3).dv
def outG : FVec F S64x512 .bf16 :=
  k0_pay9 C.g (k0_pay31 C.g) (k0_pay258 (C.H D 0).n (C.H D 1).n (C.H D 2).n (C.H D 3).n) (k0_pay259 C.gain) C.dy
def outGain (acc : Vec F S1x128 .f32) : FVec F S1x128 .f32 :=
  (C.H D 3).dgain ((C.H D 2).dgain ((C.H D 1).dgain ((C.H D 0).dgain acc)))
def outLb (acc : Vec F S1x512 .f32) : FVec F S1x512 .f32 :=
  k0_pay257 k0_pay6 (k0_pay14 C.f) (k0_pay15 C.lb C.f) (C.H D 0).db (C.H D 0).dk (C.H D 1).db (C.H D 1).dk (C.H D 2).db (C.H D 2).dk
    (C.H D 3).EKD (C.H D 3).dkd (C.H D 3).dkin (C.H D 3).db0 (C.H D 3).dbt acc

end In

/-- What chunk `k` of a block of 512 rows reads: the chunks are taken from the last to the first. -/
def at_ (l : Vec F S2x512 .f32) (gain : Vec F S1x128 .f32) (x1 : Vec F S512x2048 .f32) (x2 : Vec F S512x512 .f32) (x3 : Vec F S512x512 .f32)
    (x4 : Vec F S4096x128 .f32) (k : Fin k0_t1_loop.trips) : In F where
  l := l
  gain := gain
  q := View.ld x1 (Rect.unit (s := S512x2048) (k0_off1 k) S64x512.size (k0_off1_inb k))
  f := View.ld x1 (Rect.unit (s := S512x2048) (k0_off3 k) S64x512.size (k0_off3_inb k))
  v := View.ld x1 (Rect.unit (s := S512x2048) (k0_off4 k) S64x512.size (k0_off4_inb k))
  g := View.ld x1 (Rect.unit (s := S512x2048) (k0_off2 k) S64x512.size (k0_off2_inb k))
  dy := View.ld x3 (Rect.unit (s := S512x512) (k0_off5 k) S64x512.size (k0_off5_inb k))
  o := fun h => match h with
    | 0 => View.ld x2 (Rect.unit (s := S512x512) (k0_off7 k) S64x128.size (k0_off7_inb k))
    | 1 => View.ld x2 (Rect.unit (s := S512x512) (k0_off8 k) S64x128.size (k0_off8_inb k))
    | 2 => View.ld x2 (Rect.unit (s := S512x512) (k0_off9 k) S64x128.size (k0_off9_inb k))
    | 3 => View.ld x2 (Rect.unit (s := S512x512) (k0_off10 k) S64x128.size (k0_off10_inb k))
  st := fun h => match h with
    | 0 => View.ld x4 (Rect.unit (s := S4096x128) (k0_off6 k 0#32) S128x128.size (k0_off6_inb k 0))
    | 1 => View.ld x4 (Rect.unit (s := S4096x128) (k0_off6 k 1#32) S128x128.size (k0_off6_inb k 1))
    | 2 => View.ld x4 (Rect.unit (s := S4096x128) (k0_off6 k 2#32) S128x128.size (k0_off6_inb k 2))
    | 3 => View.ld x4 (Rect.unit (s := S4096x128) (k0_off6 k 3#32) S128x128.size (k0_off6_inb k 3))

/-- The four heads' cotangents of the state, out of the array holding them. -/
def dsOf (x : Vec F S4x128x128 .f32) : DS F := fun h => match h with
  | 0 => View.ld x (Rect.unit (s := S4x128x128) ![0, 0, 0] S1x128x128.size inb_S4x128x128_S1x128x128_0_0_0)
  | 1 => View.ld x (Rect.unit (s := S4x128x128) ![1, 0, 0] S1x128x128.size inb_S4x128x128_S1x128x128_1_0_0)
  | 2 => View.ld x (Rect.unit (s := S4x128x128) ![2, 0, 0] S1x128x128.size inb_S4x128x128_S1x128x128_2_0_0)
  | 3 => View.ld x (Rect.unit (s := S4x128x128) ![3, 0, 0] S1x128x128.size inb_S4x128x128_S1x128x128_3_0_0)

end Cert.KernelIdeal.Chunk
-- ==== Proof.Heads.lean ====
/- What one trip of the loop over the chunks writes, in terms of the arrays it finds. -/
module

public import proofs.«01_k».proof.Proof.Chunk

@[expose] public section

set_option maxRecDepth 8192

noncomputable section

namespace Cert.KernelIdeal.Chunk

open Idealize.ShloMosaic Idealize.ShloMosaic.TcCoe Idealize.SL.Sem Cert.KernelIdeal.Gen

variable {F : FTy → Type} [FloatOps F]

variable (𝒱 : Variants) (c : Dev nD) (bd : Option 𝒱.V) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg7 : Memref sig .tc .hbm S4096x6144 .bf16) (harg7 : arg7.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (v3 : Vec F S2x512 .f32) (v12 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
  (k : Fin k0_t1_loop.trips) (f8 : BufTy.Contents (Elt F) arg8.view.ty) (f10 : BufTy.Contents (Elt F) arg10.view.ty) (f11 : BufTy.Contents (Elt F) arg11.view.ty) (f12 : BufTy.Contents (Elt F) arg12.view.ty)

theorem head0 :
    (trip_k0_t1.sl.r_49 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 0).dv ∧
    (trip_k0_t1.sl.r_58 (F := F) arg1 arg2 arg3 arg4 arg11 v3 v12 rows X_arg1 X_arg2 X_arg3 X_arg4 k f11) = ((at_ v3 v12 (arg1.view.read (Elt F) X_arg1) (arg2.view.read (Elt F) X_arg2) (arg3.view.read (Elt F) X_arg3) (arg4.view.read (Elt F) X_arg4) k).H (dsOf (arg11.view.read (Elt F) f11)) 0).db ∧
    (trip_k0_t1.sl.r_59 (F := F) arg1 arg2 arg3 arg4 v3 v12 rows X_arg1 X_arg2 X_arg3 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 0).dq ∧
    (trip_k0_t1.sl.r_60 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 0).dk ∧
    (k0_pay69 (trip_k0_t1.sl.r_24 (F := F) arg1 v3 X_arg1 k) (trip_k0_t1.sl.r_27 (F := F) arg1 v3 X_arg1 k) (trip_k0_t1.sl.r_31 (F := F) arg11 f11) (trip_k0_t1.sl.r_35 (F := F) arg1 arg2 arg3 v12 X_arg1 X_arg2 X_arg3 k)) = ((at_ v3 v12 (arg1.view.read (Elt F) X_arg1) (arg2.view.read (Elt F) X_arg2) (arg3.view.read (Elt F) X_arg3) (arg4.view.read (Elt F) X_arg4) k).H (dsOf (arg11.view.read (Elt F) f11)) 0).dsNew ∧
    (trip_k0_t1.sl.r_32 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 0).n := by
  have e20 : (trip_k0_t1.sl.r_20 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).K := rfl
  have e21 : (trip_k0_t1.sl.r_21 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).B := rfl
  have e22 : (trip_k0_t1.sl.r_22 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).EW := rfl
  have e23 : (trip_k0_t1.sl.r_23 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).EB := rfl
  have e24 : (trip_k0_t1.sl.r_24 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).EBL := rfl
  have e25 : (trip_k0_t1.sl.r_25 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).EKD := rfl
  have e26 : (trip_k0_t1.sl.r_26 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).qs := rfl
  have e27 : (trip_k0_t1.sl.r_27 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).qd := rfl
  have e28 : (trip_k0_t1.sl.r_28 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).kd := rfl
  have e29 : (trip_k0_t1.sl.r_29 (F := F) arg1 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 0).vb := rfl
  have e30 : (trip_k0_t1.sl.r_30 (F := F) arg4 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 0).st := rfl
  have e31 : (trip_k0_t1.sl.r_31 (F := F) arg11 f11) = ((at_ v3 v12 (arg1.view.read (Elt F) X_arg1) (arg2.view.read (Elt F) X_arg2) (arg3.view.read (Elt F) X_arg3) (arg4.view.read (Elt F) X_arg4) k).H (dsOf (arg11.view.read (Elt F) f11)) 0).ds := rfl
  have e35 : (trip_k0_t1.sl.r_35 (F := F) arg1 arg2 arg3 v12 X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 0).dO := rfl
  have e32 : (trip_k0_t1.sl.r_32 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 0).n := rfl
  simp only [trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, e20, e21, e22, e23, e24, e25, e26, e27, e28, e29, e30, e31, e35, e32]
  generalize ((at_ v3 v12 (arg1.view.read (Elt F) X_arg1) (arg2.view.read (Elt F) X_arg2) (arg3.view.read (Elt F) X_arg3) (arg4.view.read (Elt F) X_arg4) k).H (dsOf (arg11.view.read (Elt F) f11)) 0) = H
  and_intros <;> first | exact True.intro | rfl

theorem head1 :
    (trip_k0_t1.sl.r_92 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 1).dv ∧
    (trip_k0_t1.sl.r_105 (F := F) arg1 arg2 arg3 arg4 arg11 v3 v12 rows X_arg1 X_arg2 X_arg3 X_arg4 k f11) = ((at_ v3 v12 (arg1.view.read (Elt F) X_arg1) (arg2.view.read (Elt F) X_arg2) (arg3.view.read (Elt F) X_arg3) (arg4.view.read (Elt F) X_arg4) k).H (dsOf (arg11.view.read (Elt F) f11)) 1).db ∧
    (trip_k0_t1.sl.r_106 (F := F) arg1 arg2 arg3 arg4 v3 v12 rows X_arg1 X_arg2 X_arg3 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 1).dq ∧
    (trip_k0_t1.sl.r_107 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 1).dk ∧
    (k0_pay126 (trip_k0_t1.sl.r_94 (F := F) arg1 arg2 arg3 arg11 v3 v12 X_arg1 X_arg2 X_arg3 k f11)) = ((at_ v3 v12 (arg1.view.read (Elt F) X_arg1) (arg2.view.read (Elt F) X_arg2) (arg3.view.read (Elt F) X_arg3) (arg4.view.read (Elt F) X_arg4) k).H (dsOf (arg11.view.read (Elt F) f11)) 1).dsNew ∧
    (trip_k0_t1.sl.r_74 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 1).n := by
  have e61 : (trip_k0_t1.sl.r_61 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).K := rfl
  have e62 : (trip_k0_t1.sl.r_62 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).B := rfl
  have e63 : (trip_k0_t1.sl.r_63 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).EW := rfl
  have e64 : (trip_k0_t1.sl.r_64 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).EB := rfl
  have e65 : (trip_k0_t1.sl.r_65 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).EBL := rfl
  have e66 : (trip_k0_t1.sl.r_66 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).EKD := rfl
  have e67 : (trip_k0_t1.sl.r_67 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).qs := rfl
  have e68 : (trip_k0_t1.sl.r_68 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).qd := rfl
  have e69 : (trip_k0_t1.sl.r_69 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).kd := rfl
  have e70 : (trip_k0_t1.sl.r_70 (F := F) arg1 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 1).vb := rfl
  have e71 : (trip_k0_t1.sl.r_71 (F := F) arg4 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 1).st := rfl
  have e72 : (trip_k0_t1.sl.r_72 (F := F) arg11 f11) = ((at_ v3 v12 (arg1.view.read (Elt F) X_arg1) (arg2.view.read (Elt F) X_arg2) (arg3.view.read (Elt F) X_arg3) (arg4.view.read (Elt F) X_arg4) k).H (dsOf (arg11.view.read (Elt F) f11)) 1).ds := rfl
  have e78 : (trip_k0_t1.sl.r_78 (F := F) arg1 arg2 arg3 v12 X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 1).dO := rfl
  have e74 : (trip_k0_t1.sl.r_74 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 1).n := rfl
  simp only [trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, e61, e62, e63, e64, e65, e66, e67, e68, e69, e70, e71, e72, e78, e74]
  generalize ((at_ v3 v12 (arg1.view.read (Elt F) X_arg1) (arg2.view.read (Elt F) X_arg2) (arg3.view.read (Elt F) X_arg3) (arg4.view.read (Elt F) X_arg4) k).H (dsOf (arg11.view.read (Elt F) f11)) 1) = H
  and_intros <;> first | exact True.intro | rfl

theorem head2 :
    (trip_k0_t1.sl.r_137 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 2).dv ∧
    (trip_k0_t1.sl.r_147 (F := F) arg1 arg2 arg3 arg4 arg11 v3 v12 rows X_arg1 X_arg2 X_arg3 X_arg4 k f11) = ((at_ v3 v12 (arg1.view.read (Elt F) X_arg1) (arg2.view.read (Elt F) X_arg2) (arg3.view.read (Elt F) X_arg3) (arg4.view.read (Elt F) X_arg4) k).H (dsOf (arg11.view.read (Elt F) f11)) 2).db ∧
    (trip_k0_t1.sl.r_148 (F := F) arg1 arg2 arg3 arg4 v3 v12 rows X_arg1 X_arg2 X_arg3 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 2).dq ∧
    (trip_k0_t1.sl.r_149 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 2).dk ∧
    (k0_pay183 (trip_k0_t1.sl.r_112 (F := F) arg1 v3 X_arg1 k) (trip_k0_t1.sl.r_115 (F := F) arg1 v3 X_arg1 k) (trip_k0_t1.sl.r_119 (F := F) arg11 f11) (trip_k0_t1.sl.r_123 (F := F) arg1 arg2 arg3 v12 X_arg1 X_arg2 X_arg3 k)) = ((at_ v3 v12 (arg1.view.read (Elt F) X_arg1) (arg2.view.read (Elt F) X_arg2) (arg3.view.read (Elt F) X_arg3) (arg4.view.read (Elt F) X_arg4) k).H (dsOf (arg11.view.read (Elt F) f11)) 2).dsNew ∧
    (trip_k0_t1.sl.r_122 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 2).n := by
  have e108 : (trip_k0_t1.sl.r_108 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).K := rfl
  have e109 : (trip_k0_t1.sl.r_109 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).B := rfl
  have e110 : (trip_k0_t1.sl.r_110 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).EW := rfl
  have e111 : (trip_k0_t1.sl.r_111 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).EB := rfl
  have e112 : (trip_k0_t1.sl.r_112 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).EBL := rfl
  have e113 : (trip_k0_t1.sl.r_113 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).EKD := rfl
  have e114 : (trip_k0_t1.sl.r_114 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).qs := rfl
  have e115 : (trip_k0_t1.sl.r_115 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).qd := rfl
  have e116 : (trip_k0_t1.sl.r_116 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).kd := rfl
  have e117 : (trip_k0_t1.sl.r_117 (F := F) arg1 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 2).vb := rfl
  have e118 : (trip_k0_t1.sl.r_118 (F := F) arg4 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 2).st := rfl
  have e119 : (trip_k0_t1.sl.r_119 (F := F) arg11 f11) = ((at_ v3 v12 (arg1.view.read (Elt F) X_arg1) (arg2.view.read (Elt F) X_arg2) (arg3.view.read (Elt F) X_arg3) (arg4.view.read (Elt F) X_arg4) k).H (dsOf (arg11.view.read (Elt F) f11)) 2).ds := rfl
  have e123 : (trip_k0_t1.sl.r_123 (F := F) arg1 arg2 arg3 v12 X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 2).dO := rfl
  have e122 : (trip_k0_t1.sl.r_122 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 2).n := rfl
  simp only [trip_k0_t1.sl.r_124, trip_k0_t1.sl.r_125, trip_k0_t1.sl.r_126, trip_k0_t1.sl.r_127, trip_k0_t1.sl.r_128, trip_k0_t1.sl.r_129, trip_k0_t1.sl.r_130, trip_k0_t1.sl.r_131, trip_k0_t1.sl.r_132, trip_k0_t1.sl.r_133, trip_k0_t1.sl.r_134, trip_k0_t1.sl.r_135, trip_k0_t1.sl.r_136, trip_k0_t1.sl.r_137, trip_k0_t1.sl.r_138, trip_k0_t1.sl.r_139, trip_k0_t1.sl.r_140, trip_k0_t1.sl.r_141, trip_k0_t1.sl.r_142, trip_k0_t1.sl.r_143, trip_k0_t1.sl.r_144, trip_k0_t1.sl.r_145, trip_k0_t1.sl.r_146, trip_k0_t1.sl.r_147, trip_k0_t1.sl.r_148, trip_k0_t1.sl.r_149, e108, e109, e110, e111, e112, e113, e114, e115, e116, e117, e118, e119, e123, e122]
  generalize ((at_ v3 v12 (arg1.view.read (Elt F) X_arg1) (arg2.view.read (Elt F) X_arg2) (arg3.view.read (Elt F) X_arg3) (arg4.view.read (Elt F) X_arg4) k).H (dsOf (arg11.view.read (Elt F) f11)) 2) = H
  and_intros <;> first | exact True.intro | rfl

theorem head3 :
    (trip_k0_t1.sl.r_178 (F := F) arg1 arg2 arg3 arg11 v3 v12 rows X_arg1 X_arg2 X_arg3 k f11) = ((at_ v3 v12 (arg1.view.read (Elt F) X_arg1) (arg2.view.read (Elt F) X_arg2) (arg3.view.read (Elt F) X_arg3) (arg4.view.read (Elt F) X_arg4) k).H (dsOf (arg11.view.read (Elt F) f11)) 3).dv ∧
    (trip_k0_t1.sl.r_177 (F := F) arg1 arg2 arg3 arg4 v12 X_arg1 X_arg2 X_arg3 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 3).dqd ∧
    (trip_k0_t1.sl.r_179 (F := F) arg1 arg11 X_arg1 k f11) = ((at_ v3 v12 (arg1.view.read (Elt F) X_arg1) (arg2.view.read (Elt F) X_arg2) (arg3.view.read (Elt F) X_arg3) (arg4.view.read (Elt F) X_arg4) k).H (dsOf (arg11.view.read (Elt F) f11)) 3).dkd ∧
    (trip_k0_t1.sl.r_183 (F := F) arg1 arg2 arg3 v3 v12 rows X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 3).dkin ∧
    (trip_k0_t1.sl.r_184 (F := F) arg1 arg2 arg3 v3 v12 rows X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 3).dqs ∧
    (trip_k0_t1.sl.r_185 (F := F) arg1 arg2 arg3 arg4 arg11 v3 v12 rows X_arg1 X_arg2 X_arg3 X_arg4 k f11) = ((at_ v3 v12 (arg1.view.read (Elt F) X_arg1) (arg2.view.read (Elt F) X_arg2) (arg3.view.read (Elt F) X_arg3) (arg4.view.read (Elt F) X_arg4) k).H (dsOf (arg11.view.read (Elt F) f11)) 3).db0 ∧
    (trip_k0_t1.sl.r_186 (F := F) arg1 arg4 arg11 v3 rows X_arg1 X_arg4 k f11) = ((at_ v3 v12 (arg1.view.read (Elt F) X_arg1) (arg2.view.read (Elt F) X_arg2) (arg3.view.read (Elt F) X_arg3) (arg4.view.read (Elt F) X_arg4) k).H (dsOf (arg11.view.read (Elt F) f11)) 3).dbt ∧
    (k0_pay238 (trip_k0_t1.sl.r_154 (F := F) arg1 v3 X_arg1 k) (trip_k0_t1.sl.r_157 (F := F) arg1 v3 X_arg1 k) (trip_k0_t1.sl.r_161 (F := F) arg11 f11) (trip_k0_t1.sl.r_163 (F := F) arg1 arg2 arg3 v12 X_arg1 X_arg2 X_arg3 k)) = ((at_ v3 v12 (arg1.view.read (Elt F) X_arg1) (arg2.view.read (Elt F) X_arg2) (arg3.view.read (Elt F) X_arg3) (arg4.view.read (Elt F) X_arg4) k).H (dsOf (arg11.view.read (Elt F) f11)) 3).dsNew ∧
    (trip_k0_t1.sl.r_152 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EW ∧
    (trip_k0_t1.sl.r_153 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EB ∧
    (trip_k0_t1.sl.r_155 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EKD ∧
    (trip_k0_t1.sl.r_162 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 3).n := by
  have e150 : (trip_k0_t1.sl.r_150 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).K := rfl
  have e151 : (trip_k0_t1.sl.r_151 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).B := rfl
  have e152 : (trip_k0_t1.sl.r_152 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EW := rfl
  have e153 : (trip_k0_t1.sl.r_153 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EB := rfl
  have e154 : (trip_k0_t1.sl.r_154 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EBL := rfl
  have e155 : (trip_k0_t1.sl.r_155 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).EKD := rfl
  have e156 : (trip_k0_t1.sl.r_156 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).qs := rfl
  have e157 : (trip_k0_t1.sl.r_157 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).qd := rfl
  have e158 : (trip_k0_t1.sl.r_158 (F := F) arg1 v3 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).kd := rfl
  have e159 : (trip_k0_t1.sl.r_159 (F := F) arg1 X_arg1 k) = ((at_ v3 v12 (arg1.view.read (Elt F) X_arg1) (arg2.view.read (Elt F) X_arg2) (arg3.view.read (Elt F) X_arg3) (arg4.view.read (Elt F) X_arg4) k).H (dsOf (arg11.view.read (Elt F) f11)) 3).vb := rfl
  have e160 : (trip_k0_t1.sl.r_160 (F := F) arg4 X_arg4 k) = ((at_ v3 v12 (arg1.view.read (Elt F) X_arg1) (arg2.view.read (Elt F) X_arg2) (arg3.view.read (Elt F) X_arg3) (arg4.view.read (Elt F) X_arg4) k).H (dsOf (arg11.view.read (Elt F) f11)) 3).st := rfl
  have e161 : (trip_k0_t1.sl.r_161 (F := F) arg11 f11) = ((at_ v3 v12 (arg1.view.read (Elt F) X_arg1) (arg2.view.read (Elt F) X_arg2) (arg3.view.read (Elt F) X_arg3) (arg4.view.read (Elt F) X_arg4) k).H (dsOf (arg11.view.read (Elt F) f11)) 3).ds := rfl
  have e163 : (trip_k0_t1.sl.r_163 (F := F) arg1 arg2 arg3 v12 X_arg1 X_arg2 X_arg3 k) = ((at_ v3 v12 (arg1.view.read (Elt F) X_arg1) (arg2.view.read (Elt F) X_arg2) (arg3.view.read (Elt F) X_arg3) (arg4.view.read (Elt F) X_arg4) k).H (dsOf (arg11.view.read (Elt F) f11)) 3).dO := rfl
  have e162 : (trip_k0_t1.sl.r_162 (F := F) arg2 X_arg2 k) = ((at_ v3 v12 (arg1.view.read (Elt F) X_arg1) (arg2.view.read (Elt F) X_arg2) (arg3.view.read (Elt F) X_arg3) (arg4.view.read (Elt F) X_arg4) k).H (dsOf (arg11.view.read (Elt F) f11)) 3).n := rfl
  simp only [trip_k0_t1.sl.r_164, trip_k0_t1.sl.r_165, trip_k0_t1.sl.r_166, trip_k0_t1.sl.r_167, trip_k0_t1.sl.r_168, trip_k0_t1.sl.r_169, trip_k0_t1.sl.r_170, trip_k0_t1.sl.r_171, trip_k0_t1.sl.r_172, trip_k0_t1.sl.r_173, trip_k0_t1.sl.r_174, trip_k0_t1.sl.r_175, trip_k0_t1.sl.r_176, trip_k0_t1.sl.r_177, trip_k0_t1.sl.r_178, trip_k0_t1.sl.r_179, trip_k0_t1.sl.r_180, trip_k0_t1.sl.r_181, trip_k0_t1.sl.r_182, trip_k0_t1.sl.r_183, trip_k0_t1.sl.r_184, trip_k0_t1.sl.r_185, trip_k0_t1.sl.r_186, e150, e151, e152, e153, e154, e155, e156, e157, e158, e159, e160, e161, e163, e162]
  generalize ((at_ v3 v12 (arg1.view.read (Elt F) X_arg1) (arg2.view.read (Elt F) X_arg2) (arg3.view.read (Elt F) X_arg3) (arg4.view.read (Elt F) X_arg4) k).H (dsOf (arg11.view.read (Elt F) f11)) 3) = H
  and_intros <;> first | exact True.intro | rfl

end Cert.KernelIdeal.Chunk
-- ==== Proof.Trip.lean ====
/- What one trip of the loop over the chunks writes, in terms of the arrays it finds. -/
module

public import proofs.«01_k».proof.Proof.Heads

@[expose] public section

set_option maxRecDepth 8192

noncomputable section

namespace Cert.KernelIdeal.Chunk

open Idealize.ShloMosaic Idealize.ShloMosaic.TcCoe Idealize.SL.Sem Cert.KernelIdeal.Gen

variable {F : FTy → Type} [FloatOps F]

variable (𝒱 : Variants) (c : Dev nD) (bd : Option 𝒱.V) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg7 : Memref sig .tc .hbm S4096x6144 .bf16) (harg7 : arg7.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (v3 : Vec F S2x512 .f32) (v12 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
  (k : Fin k0_t1_loop.trips) (f8 : BufTy.Contents (Elt F) arg8.view.ty) (f10 : BufTy.Contents (Elt F) arg10.view.ty) (f11 : BufTy.Contents (Elt F) arg11.view.ty) (f12 : BufTy.Contents (Elt F) arg12.view.ty)

theorem trip8 : (trip_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 k).1 f8 f10 f11 f12 =
    [⟨Rect.unit (s := S512x2048) (k0_off2 k) S64x512.size (k0_off2_inb k), (at_ v3 v12 (arg1.view.read (Elt F) X_arg1) (arg2.view.read (Elt F) X_arg2) (arg3.view.read (Elt F) X_arg3) (arg4.view.read (Elt F) X_arg4) k).outG (dsOf (arg11.view.read (Elt F) f11))⟩, ⟨Rect.unit (s := S512x2048) (k0_off4 k) S64x512.size (k0_off4_inb k), (at_ v3 v12 (arg1.view.read (Elt F) X_arg1) (arg2.view.read (Elt F) X_arg2) (arg3.view.read (Elt F) X_arg3) (arg4.view.read (Elt F) X_arg4) k).outV (dsOf (arg11.view.read (Elt F) f11))⟩, ⟨Rect.unit (s := S512x2048) (k0_off3 k) S64x512.size (k0_off3_inb k), (at_ v3 v12 (arg1.view.read (Elt F) X_arg1) (arg2.view.read (Elt F) X_arg2) (arg3.view.read (Elt F) X_arg3) (arg4.view.read (Elt F) X_arg4) k).outF (dsOf (arg11.view.read (Elt F) f11))⟩, ⟨Rect.unit (s := S512x2048) (k0_off1 k) S64x512.size (k0_off1_inb k), (at_ v3 v12 (arg1.view.read (Elt F) X_arg1) (arg2.view.read (Elt F) X_arg2) (arg3.view.read (Elt F) X_arg3) (arg4.view.read (Elt F) X_arg4) k).outQ (dsOf (arg11.view.read (Elt F) f11))⟩] := by
  obtain ⟨a1, a2, a3, a4, a5, a6⟩ := head0 arg1 arg2 arg3 arg4 arg11 v3 v12 X_arg1 X_arg2 X_arg3 X_arg4 k f11
  obtain ⟨b1, b2, b3, b4, b5, b6⟩ := head1 arg1 arg2 arg3 arg4 arg11 v3 v12 X_arg1 X_arg2 X_arg3 X_arg4 k f11
  obtain ⟨c1, c2, c3, c4, c5, c6⟩ := head2 arg1 arg2 arg3 arg4 arg11 v3 v12 X_arg1 X_arg2 X_arg3 X_arg4 k f11
  obtain ⟨d1, d2, d3, d4, d5, d6, d7, d8, d9, d10, d11, d12⟩ := head3 arg1 arg2 arg3 arg4 arg11 v3 v12 X_arg1 X_arg2 X_arg3 X_arg4 k f11
  unfold trip_k0_t1
  dsimp only
  simp only [trip_k0_t1.sl.r_188, trip_k0_t1.sl.r_187, a1, a2, a3, a4, a5, a6, b1, b2, b3, b4, b5, b6, c1, c2, c3, c4, c5, c6, d1, d2, d3, d4, d5, d6, d7, d8, d9, d10, d11, d12]
  rfl

theorem trip11 : (trip_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 k).2.2.1 f8 f10 f11 f12 =
    [⟨Rect.unit (s := S4x128x128) ![3, 0, 0] S1x128x128.size inb_S4x128x128_S1x128x128_3_0_0, ((at_ v3 v12 (arg1.view.read (Elt F) X_arg1) (arg2.view.read (Elt F) X_arg2) (arg3.view.read (Elt F) X_arg3) (arg4.view.read (Elt F) X_arg4) k).H (dsOf (arg11.view.read (Elt F) f11)) 3).dsNew⟩, ⟨Rect.unit (s := S4x128x128) ![2, 0, 0] S1x128x128.size inb_S4x128x128_S1x128x128_2_0_0, ((at_ v3 v12 (arg1.view.read (Elt F) X_arg1) (arg2.view.read (Elt F) X_arg2) (arg3.view.read (Elt F) X_arg3) (arg4.view.read (Elt F) X_arg4) k).H (dsOf (arg11.view.read (Elt F) f11)) 2).dsNew⟩, ⟨Rect.unit (s := S4x128x128) ![1, 0, 0] S1x128x128.size inb_S4x128x128_S1x128x128_1_0_0, ((at_ v3 v12 (arg1.view.read (Elt F) X_arg1) (arg2.view.read (Elt F) X_arg2) (arg3.view.read (Elt F) X_arg3) (arg4.view.read (Elt F) X_arg4) k).H (dsOf (arg11.view.read (Elt F) f11)) 1).dsNew⟩, ⟨Rect.unit (s := S4x128x128) ![0, 0, 0] S1x128x128.size inb_S4x128x128_S1x128x128_0_0_0, ((at_ v3 v12 (arg1.view.read (Elt F) X_arg1) (arg2.view.read (Elt F) X_arg2) (arg3.view.read (Elt F) X_arg3) (arg4.view.read (Elt F) X_arg4) k).H (dsOf (arg11.view.read (Elt F) f11)) 0).dsNew⟩] := by
  obtain ⟨a1, a2, a3, a4, a5, a6⟩ := head0 arg1 arg2 arg3 arg4 arg11 v3 v12 X_arg1 X_arg2 X_arg3 X_arg4 k f11
  obtain ⟨b1, b2, b3, b4, b5, b6⟩ := head1 arg1 arg2 arg3 arg4 arg11 v3 v12 X_arg1 X_arg2 X_arg3 X_arg4 k f11
  obtain ⟨c1, c2, c3, c4, c5, c6⟩ := head2 arg1 arg2 arg3 arg4 arg11 v3 v12 X_arg1 X_arg2 X_arg3 X_arg4 k f11
  obtain ⟨d1, d2, d3, d4, d5, d6, d7, d8, d9, d10, d11, d12⟩ := head3 arg1 arg2 arg3 arg4 arg11 v3 v12 X_arg1 X_arg2 X_arg3 X_arg4 k f11
  unfold trip_k0_t1
  dsimp only
  simp only [trip_k0_t1.sl.r_188, trip_k0_t1.sl.r_187, a1, a2, a3, a4, a5, a6, b1, b2, b3, b4, b5, b6, c1, c2, c3, c4, c5, c6, d1, d2, d3, d4, d5, d6, d7, d8, d9, d10, d11, d12]

theorem trip12 : (trip_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 k).2.2.2.1 f8 f10 f11 f12 =
    [⟨Rect.unit (s := S1x512) ![0, 0] S1x512.size inb_S1x512_S1x512_0_0, (at_ v3 v12 (arg1.view.read (Elt F) X_arg1) (arg2.view.read (Elt F) X_arg2) (arg3.view.read (Elt F) X_arg3) (arg4.view.read (Elt F) X_arg4) k).outLb (dsOf (arg11.view.read (Elt F) f11)) (View.ld (arg12.view.read (Elt F) f12) (Rect.unit (s := S1x512) ![0, 0] S1x512.size inb_S1x512_S1x512_0_0))⟩] := by
  obtain ⟨a1, a2, a3, a4, a5, a6⟩ := head0 arg1 arg2 arg3 arg4 arg11 v3 v12 X_arg1 X_arg2 X_arg3 X_arg4 k f11
  obtain ⟨b1, b2, b3, b4, b5, b6⟩ := head1 arg1 arg2 arg3 arg4 arg11 v3 v12 X_arg1 X_arg2 X_arg3 X_arg4 k f11
  obtain ⟨c1, c2, c3, c4, c5, c6⟩ := head2 arg1 arg2 arg3 arg4 arg11 v3 v12 X_arg1 X_arg2 X_arg3 X_arg4 k f11
  obtain ⟨d1, d2, d3, d4, d5, d6, d7, d8, d9, d10, d11, d12⟩ := head3 arg1 arg2 arg3 arg4 arg11 v3 v12 X_arg1 X_arg2 X_arg3 X_arg4 k f11
  unfold trip_k0_t1
  dsimp only
  simp only [trip_k0_t1.sl.r_188, trip_k0_t1.sl.r_187, a1, a2, a3, a4, a5, a6, b1, b2, b3, b4, b5, b6, c1, c2, c3, c4, c5, c6, d1, d2, d3, d4, d5, d6, d7, d8, d9, d10, d11, d12]
  rfl

theorem trip10 : (trip_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 k).2.1 f8 f10 f11 f12 =
    ⟨Rect.unit (s := S1x128) ![0, 0] S1x128.size inb_S1x128_S1x128_0_0, (at_ v3 v12 (arg1.view.read (Elt F) X_arg1) (arg2.view.read (Elt F) X_arg2) (arg3.view.read (Elt F) X_arg3) (arg4.view.read (Elt F) X_arg4) k).outGain (dsOf (arg11.view.read (Elt F) f11)) (View.ld (arg10.view.read (Elt F) f10) (Rect.unit (s := S1x128) ![0, 0] S1x128.size inb_S1x128_S1x128_0_0))⟩ :: (trip_k0_t1.sl.HW_arg10_3 (F := F) arg1 arg2 arg3 arg10 X_arg1 X_arg2 X_arg3 k f10) := by
  have e : k0_pay219 (trip_k0_t1.sl.r_19 (F := F) arg1 arg3 X_arg1 X_arg3 k) (View.readAt (Elt F) arg2.view (Rect.unit (s := S512x512) (k0_off10 k) S64x128.size (k0_off10_inb k)).toLoadRect X_arg2)
      (trip_k0_t1.sl.v738 (F := F) arg1 arg2 arg3 arg10 X_arg1 X_arg2 X_arg3 k f10) =
      (at_ v3 v12 (arg1.view.read (Elt F) X_arg1) (arg2.view.read (Elt F) X_arg2) (arg3.view.read (Elt F) X_arg3) (arg4.view.read (Elt F) X_arg4) k).outGain (dsOf (arg11.view.read (Elt F) f11)) (View.ld (arg10.view.read (Elt F) f10) (Rect.unit (s := S1x128) ![0, 0] S1x128.size inb_S1x128_S1x128_0_0)) := by
    have q1 : trip_k0_t1.sl.v342 (F := F) arg1 arg2 arg3 arg10 X_arg1 X_arg2 X_arg3 k f10 = k0_pay49 (trip_k0_t1.sl.r_19 (F := F) arg1 arg3 X_arg1 X_arg3 k) (View.readAt (Elt F) arg2.view (Rect.unit (s := S512x512) (k0_off7 k) S64x128.size (k0_off7_inb k)).toLoadRect X_arg2) (View.readAt (Elt F) arg10.view (Rect.unit (s := S1x128) ![0, 0] S1x128.size inb_S1x128_S1x128_0_0).toLoadRect f10) :=
      View.readCov_full arg10.view _ _ _ _
    have q2 : trip_k0_t1.sl.v540 (F := F) arg1 arg2 arg3 arg10 X_arg1 X_arg2 X_arg3 k f10 = k0_pay107 (trip_k0_t1.sl.r_76 (F := F) arg1 arg2 arg3 arg10 X_arg1 X_arg2 X_arg3 k f10) (trip_k0_t1.sl.r_77 (F := F) arg1 arg2 arg3 X_arg1 X_arg2 X_arg3 k) := View.readCov_full arg10.view _ _ _ _
    have q3 : trip_k0_t1.sl.v738 (F := F) arg1 arg2 arg3 arg10 X_arg1 X_arg2 X_arg3 k f10 = k0_pay166 (trip_k0_t1.sl.r_19 (F := F) arg1 arg3 X_arg1 X_arg3 k) (trip_k0_t1.sl.r_120 (F := F) arg2 X_arg2 k) (trip_k0_t1.sl.r_121 (F := F) arg2 X_arg2 k) (trip_k0_t1.sl.v540 (F := F) arg1 arg2 arg3 arg10 X_arg1 X_arg2 X_arg3 k f10) := View.readCov_full arg10.view _ _ _ _
    rw [q3, q2, trip_k0_t1.sl.r_76, q1]
    rfl
  unfold trip_k0_t1
  dsimp only
  rw [e]

end Cert.KernelIdeal.Chunk
-- ==== Proof.Loop.lean ====
/- What the loop over the chunks leaves in its arrays. -/
module

public import proofs.«01_k».proof.Proof.Trip

@[expose] public section

set_option maxRecDepth 8192

noncomputable section

namespace Cert.KernelIdeal.Chunk

open Idealize.ShloMosaic Idealize.ShloMosaic.TcCoe Idealize.SL.Sem Cert.KernelIdeal.Gen

variable {F : FTy → Type} [FloatOps F]

/-- What a block of 512 rows reads. -/
structure Blk (F : FTy → Type) where
  l : Vec F S2x512 .f32
  gain : Vec F S1x128 .f32
  x1 : Vec F S512x2048 .f32
  x2 : Vec F S512x512 .f32
  x3 : Vec F S512x512 .f32
  x4 : Vec F S4096x128 .f32

namespace Blk

variable (b : Blk F)

/-- What trip `k` reads. -/
abbrev chunk (k : Fin k0_t1_loop.trips) : In F := at_ b.l b.gain b.x1 b.x2 b.x3 b.x4 k

/-- The cotangents of the four states after trip `k`. -/
def dsStep (k : Fin k0_t1_loop.trips) (d : Vec F S4x128x128 .f32) : Vec F S4x128x128 .f32 :=
  VecWindow.put (VecWindow.put (VecWindow.put (VecWindow.put d
    ![0, 0, 0] S1x128x128.size ((b.chunk k).H (dsOf d) 0).dsNew)
    ![1, 0, 0] S1x128x128.size ((b.chunk k).H (dsOf d) 1).dsNew)
    ![2, 0, 0] S1x128x128.size ((b.chunk k).H (dsOf d) 2).dsNew)
    ![3, 0, 0] S1x128x128.size ((b.chunk k).H (dsOf d) 3).dsNew

/-- The cotangents of the four states before trip `k`. -/
def ds (d : Vec F S4x128x128 .f32) : ℕ → Vec F S4x128x128 .f32
  | 0 => d
  | k + 1 => if h : k < k0_t1_loop.trips then b.dsStep ⟨k, h⟩ (ds d k) else ds d k

/-- The gradient of the norm's gain before trip `k`. -/
def dg (d : Vec F S4x128x128 .f32) (g : Vec F S1x128 .f32) : ℕ → Vec F S1x128 .f32
  | 0 => g
  | k + 1 => if h : k < k0_t1_loop.trips then (b.chunk ⟨k, h⟩).outGain (dsOf (b.ds d k)) (dg d g k) else dg d g k

/-- The gradient of the lower bound before trip `k`. -/
def dlb (d : Vec F S4x128x128 .f32) (g : Vec F S1x512 .f32) : ℕ → Vec F S1x512 .f32
  | 0 => g
  | k + 1 => if h : k < k0_t1_loop.trips then (b.chunk ⟨k, h⟩).outLb (dsOf (b.ds d k)) (dlb d g k) else dlb d g k

/-- The four windows a trip writes of the gradient of the projections. -/
def outStep (k : Fin k0_t1_loop.trips) (D : DS F) (x : Vec F S512x2048 .bf16) : Vec F S512x2048 .bf16 :=
  VecWindow.put (VecWindow.put (VecWindow.put (VecWindow.put x
    ![448 - 64 * k.val, 0] S64x512.size ((b.chunk k).outQ D))
    ![448 - 64 * k.val, 512] S64x512.size ((b.chunk k).outF D))
    ![448 - 64 * k.val, 1024] S64x512.size ((b.chunk k).outV D))
    ![448 - 64 * k.val, 1536] S64x512.size ((b.chunk k).outG D)

/-- The gradient of the projections before trip `k`. -/
def out (d : Vec F S4x128x128 .f32) (x : Vec F S512x2048 .bf16) : ℕ → Vec F S512x2048 .bf16
  | 0 => x
  | k + 1 => if h : k < k0_t1_loop.trips then b.outStep ⟨k, h⟩ (dsOf (b.ds d k)) (out d x k) else out d x k

end Blk

variable (𝒱 : Variants) (c : Dev nD) (bd : Option 𝒱.V) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg7 : Memref sig .tc .hbm S4096x6144 .bf16) (harg7 : arg7.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (v3 : Vec F S2x512 .f32) (v12 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
  (G8 : BufTy.Contents (Elt F) arg8.view.ty) (G10 : BufTy.Contents (Elt F) arg10.view.ty) (G11 : BufTy.Contents (Elt F) arg11.view.ty) (G12 : BufTy.Contents (Elt F) arg12.view.ty)

/-- Before trip `k` the four arrays hold what the trips before it leave. -/
theorem loop_read (k : ℕ) (hk : k ≤ k0_t1_loop.trips) :
    arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 k).1) = Blk.out (Blk.mk v3 v12 (arg1.view.read (Elt F) X_arg1) (arg2.view.read (Elt F) X_arg2) (arg3.view.read (Elt F) X_arg3) (arg4.view.read (Elt F) X_arg4)) (arg11.view.read (Elt F) G11) (arg8.view.read (Elt F) G8) k ∧
    arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 k).2.1) = Blk.dg (Blk.mk v3 v12 (arg1.view.read (Elt F) X_arg1) (arg2.view.read (Elt F) X_arg2) (arg3.view.read (Elt F) X_arg3) (arg4.view.read (Elt F) X_arg4)) (arg11.view.read (Elt F) G11) (arg10.view.read (Elt F) G10) k ∧
    arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 k).2.2.1) = Blk.ds (Blk.mk v3 v12 (arg1.view.read (Elt F) X_arg1) (arg2.view.read (Elt F) X_arg2) (arg3.view.read (Elt F) X_arg3) (arg4.view.read (Elt F) X_arg4)) (arg11.view.read (Elt F) G11) k ∧
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 k).2.2.2) = Blk.dlb (Blk.mk v3 v12 (arg1.view.read (Elt F) X_arg1) (arg2.view.read (Elt F) X_arg2) (arg3.view.read (Elt F) X_arg3) (arg4.view.read (Elt F) X_arg4)) (arg11.view.read (Elt F) G11) (arg12.view.read (Elt F) G12) k := by
  induction k with
  | zero => exact ⟨rfl, rfl, rfl, rfl⟩
  | succ n ih =>
    have hn : n < k0_t1_loop.trips := hk
    obtain ⟨h8, h10, h11, h12⟩ := ih (by omega)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 ⟨n, hn⟩
    generalize hP : (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 n) = P at e h8 h10 h11 h12
    change (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 rows X_arg1 X_arg2 X_arg3 X_arg4 G8 G10 G11 G12 (n + 1)) = _ at e
    rw [e]
    have t8 := trip8 𝒱 c bd i arg1 harg1 arg2 harg2 arg3 harg3 arg4 harg4 arg5 harg5 arg6 harg6 arg7 harg7 arg8 harg8 arg9 harg9 arg10 harg10 arg11 harg11 arg12 harg12 v3 v12 X_arg1 X_arg2 X_arg3 X_arg4 ⟨n, hn⟩ (arg8.view.writes (Elt F) G8 P.1) (arg10.view.writes (Elt F) G10 P.2.1) (arg11.view.writes (Elt F) G11 P.2.2.1) (arg12.view.writes (Elt F) G12 P.2.2.2)
    have t10 := trip10 𝒱 c bd i arg1 harg1 arg2 harg2 arg3 harg3 arg4 harg4 arg5 harg5 arg6 harg6 arg7 harg7 arg8 harg8 arg9 harg9 arg10 harg10 arg11 harg11 arg12 harg12 v3 v12 X_arg1 X_arg2 X_arg3 X_arg4 ⟨n, hn⟩ (arg8.view.writes (Elt F) G8 P.1) (arg10.view.writes (Elt F) G10 P.2.1) (arg11.view.writes (Elt F) G11 P.2.2.1) (arg12.view.writes (Elt F) G12 P.2.2.2)
    have t11 := trip11 𝒱 c bd i arg1 harg1 arg2 harg2 arg3 harg3 arg4 harg4 arg5 harg5 arg6 harg6 arg7 harg7 arg8 harg8 arg9 harg9 arg10 harg10 arg11 harg11 arg12 harg12 v3 v12 X_arg1 X_arg2 X_arg3 X_arg4 ⟨n, hn⟩ (arg8.view.writes (Elt F) G8 P.1) (arg10.view.writes (Elt F) G10 P.2.1) (arg11.view.writes (Elt F) G11 P.2.2.1) (arg12.view.writes (Elt F) G12 P.2.2.2)
    have t12 := trip12 𝒱 c bd i arg1 harg1 arg2 harg2 arg3 harg3 arg4 harg4 arg5 harg5 arg6 harg6 arg7 harg7 arg8 harg8 arg9 harg9 arg10 harg10 arg11 harg11 arg12 harg12 v3 v12 X_arg1 X_arg2 X_arg3 X_arg4 ⟨n, hn⟩ (arg8.view.writes (Elt F) G8 P.1) (arg10.view.writes (Elt F) G10 P.2.1) (arg11.view.writes (Elt F) G11 P.2.2.1) (arg12.view.writes (Elt F) G12 P.2.2.2)
    dsimp only [tripL_k0_t1]
    rw [t8, t10, t11, t12, h11]
    simp only [Blk.out, Blk.dg, Blk.ds, Blk.dlb, dif_pos hn]
    refine ⟨?_, ?_, ?_, ?_⟩
    · rw [List.cons_append, View.read_writes_cons_put _ _ _ _ _ (k0_off2_eq ⟨n, hn⟩), List.cons_append, View.read_writes_cons_put _ _ _ _ _ (k0_off4_eq ⟨n, hn⟩),
        List.cons_append, View.read_writes_cons_put _ _ _ _ _ (k0_off3_eq ⟨n, hn⟩), List.cons_append, View.read_writes_cons_put _ _ _ _ _ (k0_off1_eq ⟨n, hn⟩),
        List.nil_append, h8]
      rfl
    · rw [List.cons_append]
      refine (View.read_writes_full _ _ _ _ _).trans ?_
      exact congrArg (fun a => In.outGain _ _ a) ((View.readAt_full _ _ _).trans h10)
    · rw [List.cons_append, View.read_writes_cons_put _ _ _ _ _ rfl, List.cons_append, View.read_writes_cons_put _ _ _ _ _ rfl,
        List.cons_append, View.read_writes_cons_put _ _ _ _ _ rfl, List.cons_append, View.read_writes_cons_put _ _ _ _ _ rfl,
        List.nil_append, h11]
      rfl
    · rw [List.cons_append]
      refine (View.read_writes_full _ _ _ _ _).trans ?_
      exact congrArg (fun a => In.outLb _ _ a) ((View.readAt_full _ _ _).trans h12)

end Cert.KernelIdeal.Chunk
-- ==== Proof.Out.lean ====
/- After the eight trips every element of the block of gradients has been written, so nothing of what it held before is left. -/
module

public import proofs.«01_k».proof.Proof.Loop

@[expose] public section

set_option maxRecDepth 8192

noncomputable section

namespace Cert.KernelIdeal.Chunk

open Idealize.ShloMosaic Idealize.ShloMosaic.TcCoe Idealize.SL.Sem Cert.KernelIdeal.Gen

variable {F : FTy → Type} [FloatOps F]

theorem trips_eq : k0_t1_loop.trips = 8 := by decide +kernel

theorem put_hit {s : Shape} {α : Type} (x : s.Idx → α) (off size : Fin s.rank → ℕ) (w : ((a : Fin s.rank) → Fin (size a)) → α) (y : s.Idx)
    (h : ∀ a, off a ≤ (y a).val ∧ (y a).val < off a + size a) :
    VecWindow.put x off size w y = w (Rect.unitLocal (s := s) (off := off) (size := size) y h) := dif_pos h

theorem put_miss {s : Shape} {α : Type} (x : s.Idx → α) (off size : Fin s.rank → ℕ) (w : ((a : Fin s.rank) → Fin (size a)) → α) (y : s.Idx)
    (h : ¬ ∀ a, off a ≤ (y a).val ∧ (y a).val < off a + size a) :
    VecWindow.put x off size w y = x y := dif_neg h

/-- An element lies in a window of 64 rows and 512 columns. -/
theorem hit2 (y : S512x2048.Idx) (r c : ℕ) (h0 : r ≤ (y 0).val) (h0' : (y 0).val < r + 64) (h1 : c ≤ (y 1).val) (h1' : (y 1).val < c + 512) :
    ∀ a : Fin S512x2048.rank, (![r, c] : Fin 2 → ℕ) a ≤ (y a).val ∧ (y a).val < (![r, c] : Fin 2 → ℕ) a + S64x512.size a := by
  intro a
  match a with
  | ⟨0, _⟩ => exact ⟨h0, h0'⟩
  | ⟨1, _⟩ => exact ⟨h1, h1'⟩

theorem miss_row (y : S512x2048.Idx) (r c : ℕ) (h : ¬ (r ≤ (y 0).val ∧ (y 0).val < r + 64)) :
    ¬ ∀ a : Fin S512x2048.rank, (![r, c] : Fin 2 → ℕ) a ≤ (y a).val ∧ (y a).val < (![r, c] : Fin 2 → ℕ) a + S64x512.size a :=
  fun hh => h (hh (0 : Fin 2))

theorem miss_col (y : S512x2048.Idx) (r c : ℕ) (h : ¬ (c ≤ (y 1).val ∧ (y 1).val < c + 512)) :
    ¬ ∀ a : Fin S512x2048.rank, (![r, c] : Fin 2 → ℕ) a ≤ (y a).val ∧ (y a).val < (![r, c] : Fin 2 → ℕ) a + S64x512.size a :=
  fun hh => h (hh (1 : Fin 2))

namespace Blk

variable (b : Blk F)

theorem outStep_miss (k : Fin k0_t1_loop.trips) (D : DS F) (x : Vec F S512x2048 .bf16) (y : S512x2048.Idx)
    (h : ¬ (448 - 64 * k.val ≤ (y 0).val ∧ (y 0).val < 448 - 64 * k.val + 64)) : b.outStep k D x y = x y := by
  unfold outStep
  rw [put_miss _ _ _ _ _ (miss_row y _ _ h), put_miss _ _ _ _ _ (miss_row y _ _ h), put_miss _ _ _ _ _ (miss_row y _ _ h),
    put_miss _ _ _ _ _ (miss_row y _ _ h)]

theorem outStep_G (k : Fin k0_t1_loop.trips) (D : DS F) (x : Vec F S512x2048 .bf16) (y : S512x2048.Idx)
    (h : 448 - 64 * k.val ≤ (y 0).val ∧ (y 0).val < 448 - 64 * k.val + 64) (h1 : 1536 ≤ (y 1).val) (h1' : (y 1).val < 1536 + 512) :
    b.outStep k D x y = (b.chunk k).outG D (Rect.unitLocal (s := S512x2048) (size := S64x512.size) y (hit2 y _ 1536 h.1 h.2 h1 h1')) := by
  unfold outStep
  exact put_hit _ _ _ _ _ _

theorem outStep_V (k : Fin k0_t1_loop.trips) (D : DS F) (x : Vec F S512x2048 .bf16) (y : S512x2048.Idx)
    (h : 448 - 64 * k.val ≤ (y 0).val ∧ (y 0).val < 448 - 64 * k.val + 64) (h1 : 1024 ≤ (y 1).val) (h1' : (y 1).val < 1024 + 512) :
    b.outStep k D x y = (b.chunk k).outV D (Rect.unitLocal (s := S512x2048) (size := S64x512.size) y (hit2 y _ 1024 h.1 h.2 h1 h1')) := by
  unfold outStep
  rw [put_miss _ _ _ _ _ (miss_col y _ 1536 (by omega))]
  exact put_hit _ _ _ _ _ _

theorem outStep_F (k : Fin k0_t1_loop.trips) (D : DS F) (x : Vec F S512x2048 .bf16) (y : S512x2048.Idx)
    (h : 448 - 64 * k.val ≤ (y 0).val ∧ (y 0).val < 448 - 64 * k.val + 64) (h1 : 512 ≤ (y 1).val) (h1' : (y 1).val < 512 + 512) :
    b.outStep k D x y = (b.chunk k).outF D (Rect.unitLocal (s := S512x2048) (size := S64x512.size) y (hit2 y _ 512 h.1 h.2 h1 h1')) := by
  unfold outStep
  rw [put_miss _ _ _ _ _ (miss_col y _ 1536 (by omega)), put_miss _ _ _ _ _ (miss_col y _ 1024 (by omega))]
  exact put_hit _ _ _ _ _ _

theorem outStep_Q (k : Fin k0_t1_loop.trips) (D : DS F) (x : Vec F S512x2048 .bf16) (y : S512x2048.Idx)
    (h : 448 - 64 * k.val ≤ (y 0).val ∧ (y 0).val < 448 - 64 * k.val + 64) (h1 : 0 ≤ (y 1).val) (h1' : (y 1).val < 0 + 512) :
    b.outStep k D x y = (b.chunk k).outQ D (Rect.unitLocal (s := S512x2048) (size := S64x512.size) y (hit2 y _ 0 h.1 h.2 h1 h1')) := by
  unfold outStep
  rw [put_miss _ _ _ _ _ (miss_col y _ 1536 (by omega)), put_miss _ _ _ _ _ (miss_col y _ 1024 (by omega)),
    put_miss _ _ _ _ _ (miss_col y _ 512 (by omega))]
  exact put_hit _ _ _ _ _ _

theorem outStep_hit (k : Fin k0_t1_loop.trips) (D : DS F) (x x' : Vec F S512x2048 .bf16) (y : S512x2048.Idx)
    (h : 448 - 64 * k.val ≤ (y 0).val ∧ (y 0).val < 448 - 64 * k.val + 64) : b.outStep k D x y = b.outStep k D x' y := by
  have hy : (y 1).val < 2048 := (y 1).isLt
  by_cases h3 : 1536 ≤ (y 1).val
  · exact (b.outStep_G k D x y h h3 (by omega)).trans (b.outStep_G k D x' y h h3 (by omega)).symm
  by_cases h2 : 1024 ≤ (y 1).val
  · exact (b.outStep_V k D x y h h2 (by omega)).trans (b.outStep_V k D x' y h h2 (by omega)).symm
  by_cases h1 : 512 ≤ (y 1).val
  · exact (b.outStep_F k D x y h h1 (by omega)).trans (b.outStep_F k D x' y h h1 (by omega)).symm
  exact (b.outStep_Q k D x y h (by omega) (by omega)).trans (b.outStep_Q k D x' y h (by omega) (by omega)).symm

/-- An element of the chunk of trip `k` holds what trip `k` wrote, from then on. -/
theorem out_chunk (d : Vec F S4x128x128 .f32) (x x' : Vec F S512x2048 .bf16) (y : S512x2048.Idx) (k : Fin k0_t1_loop.trips)
    (h : 448 - 64 * k.val ≤ (y 0).val ∧ (y 0).val < 448 - 64 * k.val + 64) (n : ℕ) (hk : k.val < n) (hn : n ≤ k0_t1_loop.trips) :
    b.out d x n y = b.outStep k (dsOf (b.ds d k.val)) x' y := by
  have ht := trips_eq
  have hk8 := k.isLt
  induction n with
  | zero => omega
  | succ n ih =>
    have hn' : n < k0_t1_loop.trips := hn
    rw [out, dif_pos hn']
    by_cases e : n = k.val
    · subst e
      exact b.outStep_hit _ _ _ _ _ h
    · rw [outStep_miss _ _ _ _ _ (by simp only; omega)]
      exact ih (by omega) (by omega)

/-- The trip that writes row `y`. -/
def tripOf (y : S512x2048.Idx) : Fin k0_t1_loop.trips := ⟨7 - (y 0).val / 64, by rw [trips_eq]; omega⟩

/-- The block of gradients after the loop. -/
def outAll (d : Vec F S4x128x128 .f32) : Vec F S512x2048 .bf16 := fun y =>
  b.outStep (tripOf y) (dsOf (b.ds d (tripOf y).val)) (fun _ => FloatOps.ofBits FTy.bf16 0#16) y

theorem out_all (d : Vec F S4x128x128 .f32) (x : Vec F S512x2048 .bf16) : b.out d x k0_t1_loop.trips = b.outAll d := by
  funext y
  have hy : (y 0).val < 512 := (y 0).isLt
  refine b.out_chunk d x _ y (tripOf y) ?_ _ (tripOf y).isLt le_rfl
  show 448 - 64 * (7 - (y 0).val / 64) ≤ (y 0).val ∧ (y 0).val < 448 - 64 * (7 - (y 0).val / 64) + 64
  omega

end Blk

end Cert.KernelIdeal.Chunk
-- ==== Proof.Body.lean ====
/- One point of the grid: what the body leaves in its arrays. -/
module

public import proofs.«01_k».proof.Proof.Gen.KernelIdeal.Frame.Runs
public import proofs.«01_k».proof.Proof.Out
public import Idealize.ShloMosaic.Lib.Pointwise

@[expose] public section

set_option maxRecDepth 16384

noncomputable section

namespace Cert.KernelIdeal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The gradient of the two rows of logits: the second row is the negative of the first. -/
def lastRows (l : Vec F S2x512 .f32) (g : Vec F S1x512 .f32) : Vec F S2x512 .f32 := fun y =>
  if (y 0).val = 0 then k0_pay10 l g (ix2 (0 : Fin 1) (y 1)) else k0_pay11 l g (ix2 (0 : Fin 1) (y 1))

/-- Two rows written one after the other are read back. -/
theorem last_read {v : View sig .tc .vmem S2x512 .f32} (f : v.ty.Contents (Elt F)) {l l' : Vec F S2x512 .f32} {g g' : Vec F S1x512 .f32}
    (i0 : ∀ a, (![0, 0] : Fin 2 → ℕ) a + S1x512.size a ≤ S2x512.size a) (hl : l = l') (hg : g = g') {i1 : ∀ a, (![1, 0] : Fin 2 → ℕ) a + S1x512.size a ≤ S2x512.size a} :
    v.read (Elt F) (v.writes (Elt F) f [⟨Rect.unit ![1, 0] S1x512.size i1, k0_pay11 l g⟩, ⟨Rect.unit ![0, 0] S1x512.size i0, k0_pay10 l g⟩]) = lastRows l' g' := by
  subst hl hg
  rw [View.read_writes_cons_put _ _ _ _ _ rfl, View.read_writes_cons_put _ _ _ _ _ rfl]
  funext y
  have hy : (y 1).val < 512 := (y 1).isLt
  have hy0 : (y 0).val < 2 := (y 0).isLt
  by_cases h : (y 0).val = 0
  · rw [put_miss _ _ _ _ _ (fun hh => by have := (hh (0 : Fin 2)).1; simp at this; omega)]
    rw [put_hit _ _ _ _ _ (fun a => by
      match a with
      | ⟨0, _⟩ => exact ⟨Nat.zero_le _, show (y 0).val < 0 + 1 by omega⟩
      | ⟨1, _⟩ => exact ⟨Nat.zero_le _, show (y 1).val < 0 + 512 by omega⟩)]
    unfold lastRows
    rw [if_pos h]
    congr 1
    funext a
    match a with
    | ⟨0, _⟩ => exact Fin.ext (show (y 0).val - 0 = 0 by omega)
    | ⟨1, _⟩ => exact Fin.ext (show (y 1).val - 0 = (y 1).val by omega)
  · rw [put_hit _ _ _ _ _ (fun a => by
      match a with
      | ⟨0, _⟩ => exact ⟨show 1 ≤ (y 0).val by omega, show (y 0).val < 1 + 1 by omega⟩
      | ⟨1, _⟩ => exact ⟨Nat.zero_le _, show (y 1).val < 0 + 512 by omega⟩)]
    unfold lastRows
    rw [if_neg h]
    congr 1
    funext a
    match a with
    | ⟨0, _⟩ => exact Fin.ext (show (y 0).val - 1 = 0 by omega)
    | ⟨1, _⟩ => exact Fin.ext (show (y 1).val - 0 = (y 1).val by omega)

/-- After the eight trips, over arrays whose contents are known. -/
theorem loop_end (𝒱 : Variants) (c : Dev nD) (bd : Option 𝒱.V) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg7 : Memref sig .tc .hbm S4096x6144 .bf16) (harg7 : arg7.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (v3 : Vec F S2x512 .f32) (v12 : Vec F S1x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G8 : BufTy.Contents (Elt F) arg8.view.ty) (G10 : BufTy.Contents (Elt F) arg10.view.ty) (G11 : BufTy.Contents (Elt F) arg11.view.ty) (G12 : BufTy.Contents (Elt F) arg12.view.ty) (v19 : IVec S64x128 32)
    {x0 : Vec F S512x2048 .f32} {x1 x2 : Vec F S512x512 .f32} {x3 : Vec F S4096x128 .f32} {x4 : Vec F S2x512 .f32} {x5 : Vec F S1x128 .f32}
    {g : Vec F S1x128 .f32} {d : Vec F S4x128x128 .f32} {lb : Vec F S1x512 .f32}
    (h1 : arg1.view.read (Elt F) X_arg1 = x0) (h2 : arg2.view.read (Elt F) X_arg2 = x1) (h3 : arg3.view.read (Elt F) X_arg3 = x2)
    (h4 : arg4.view.read (Elt F) X_arg4 = x3) (h5 : v3 = x4) (h6 : v12 = x5) (h19 : v19 = rows)
    (h10 : arg10.view.read (Elt F) G10 = g) (h11 : arg11.view.read (Elt F) G11 = d) (h12 : arg12.view.read (Elt F) G12 = lb) :
    arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 v19 X_arg1 X_arg2 X_arg3 X_arg4 G8 G10 G11 G12 k0_t1_loop.trips).1) = (Blk.mk x4 x5 x0 x1 x2 x3).outAll d ∧
    arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 v19 X_arg1 X_arg2 X_arg3 X_arg4 G8 G10 G11 G12 k0_t1_loop.trips).2.1) = (Blk.mk x4 x5 x0 x1 x2 x3).dg d g k0_t1_loop.trips ∧
    arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 v19 X_arg1 X_arg2 X_arg3 X_arg4 G8 G10 G11 G12 k0_t1_loop.trips).2.2.1) = (Blk.mk x4 x5 x0 x1 x2 x3).ds d k0_t1_loop.trips ∧
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 v3 v12 v19 X_arg1 X_arg2 X_arg3 X_arg4 G8 G10 G11 G12 k0_t1_loop.trips).2.2.2) = (Blk.mk x4 x5 x0 x1 x2 x3).dlb d lb k0_t1_loop.trips := by
  subst h19 h5 h6
  obtain ⟨a, b, e, f⟩ := loop_read 𝒱 c bd i arg1 harg1 arg2 harg2 arg3 harg3 arg4 harg4 arg5 harg5 arg6 harg6 arg7 harg7 arg8 harg8 arg9 harg9 arg10 harg10 arg11 harg11 arg12 harg12 v3 v12 X_arg1 X_arg2 X_arg3 X_arg4 G8 G10 G11 G12 k0_t1_loop.trips le_rfl
  rw [h1, h2, h3, h4, h11] at a b e f
  rw [h10] at b
  rw [h12] at f
  exact ⟨a.trans (Blk.out_all _ _ _), b, e, f⟩

/-- The body at the first point: the carried arrays start from zero. -/
theorem body_first (c : Dev nD) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (hc0 : cond0_0 i) (hc1 : ¬cond0_1 i)
    (x0 : Vec F S512x2048 .f32) (x1 : Vec F S512x512 .f32) (x2 : Vec F S512x512 .f32) (x3 : Vec F S4096x128 .f32) (x4 : Vec F S2x512 .f32) (x5 : Vec F S1x128 .f32) (x7 : Vec F S2x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare ((Blk.mk x4 x5 x0 x1 x2 x3).outAll (k0_pay1 (F := F))) ∗ owns (c : Thread nD τ) arg9 fullShare x7 ∗ owns (c : Thread nD τ) arg10 fullShare ((Blk.mk x4 x5 x0 x1 x2 x3).dg (k0_pay1 (F := F)) (k0_pay3 (F := F)) k0_t1_loop.trips) ∗ owns (c : Thread nD τ) arg11 fullShare ((Blk.mk x4 x5 x0 x1 x2 x3).ds (k0_pay1 (F := F)) k0_t1_loop.trips) ∗ owns (c : Thread nD τ) arg12 fullShare ((Blk.mk x4 x5 x0 x1 x2 x3).dlb (k0_pay1 (F := F)) (k0_pay2 (F := F)) k0_t1_loop.trips)) -∗ K ⟨⟩))
      ⊢ wp frame (wpE (defs₀ (F := F)) Variants.none c none) E (cc0_hgrn_bwd i arg1 harg1 arg2 harg2 arg3 harg3 arg4 harg4 arg5 harg5 arg6 harg6 (Memref.whole main_arg4) (Memref.isWhole_whole _) arg8 harg8 arg9 harg9 arg10 harg10 arg11 harg11 arg12 harg12) K := by
  simp only [cc0_hgrn_bwd_eq_skeleton]; unfold cc0_hgrn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%ds0, %fs0, -, HS0⟩, ⟨%ds1, %fs1, -, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl (View.read_writes_full _ _ _ _ _) (View.read_writes_full _ _ _ _ _) (View.read_writes_full _ _ _ _ _)).1
  isplitl [H7]
  · iexists _; isplitr; swap; · iexact H7
    ipureintro
    exact hf7
  isplitl [H8]
  · iexists _; isplitr; swap; · iexact H8
    ipureintro
    rw [View.writes_append]; exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl (View.read_writes_full _ _ _ _ _) (View.read_writes_full _ _ _ _ _) (View.read_writes_full _ _ _ _ _)).2.1
  isplitl [HS0]
  · iexists _; isplitr; swap; · iexact HS0
    ipureintro
    rw [View.writes_append]; exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl (View.read_writes_full _ _ _ _ _) (View.read_writes_full _ _ _ _ _) (View.read_writes_full _ _ _ _ _)).2.2.1
  iexists _; isplitr; swap; · iexact HS1
  ipureintro
  rw [View.writes_append]; exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl (View.read_writes_full _ _ _ _ _) (View.read_writes_full _ _ _ _ _) (View.read_writes_full _ _ _ _ _)).2.2.2

/-- The body at a point between the first and the last. -/
theorem body_mid (c : Dev nD) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (hc0 : ¬cond0_0 i) (hc1 : ¬cond0_1 i)
    (x0 : Vec F S512x2048 .f32) (x1 : Vec F S512x512 .f32) (x2 : Vec F S512x512 .f32) (x3 : Vec F S4096x128 .f32) (x4 : Vec F S2x512 .f32) (x5 : Vec F S1x128 .f32) (x7 : Vec F S2x512 .f32) (g : Vec F S1x128 .f32) (d : Vec F S4x128x128 .f32) (lb : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ owns (c : Thread nD τ) arg9 fullShare x7 ∗ owns (c : Thread nD τ) arg10 fullShare g ∗ owns (c : Thread nD τ) arg11 fullShare d ∗ owns (c : Thread nD τ) arg12 fullShare lb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare ((Blk.mk x4 x5 x0 x1 x2 x3).outAll d) ∗ owns (c : Thread nD τ) arg9 fullShare x7 ∗ owns (c : Thread nD τ) arg10 fullShare ((Blk.mk x4 x5 x0 x1 x2 x3).dg d g k0_t1_loop.trips) ∗ owns (c : Thread nD τ) arg11 fullShare ((Blk.mk x4 x5 x0 x1 x2 x3).ds d k0_t1_loop.trips) ∗ owns (c : Thread nD τ) arg12 fullShare ((Blk.mk x4 x5 x0 x1 x2 x3).dlb d lb k0_t1_loop.trips)) -∗ K ⟨⟩))
      ⊢ wp frame (wpE (defs₀ (F := F)) Variants.none c none) E (cc0_hgrn_bwd i arg1 harg1 arg2 harg2 arg3 harg3 arg4 harg4 arg5 harg5 arg6 harg6 (Memref.whole main_arg4) (Memref.isWhole_whole _) arg8 harg8 arg9 harg9 arg10 harg10 arg11 harg11 arg12 harg12) K := by
  simp only [cc0_hgrn_bwd_eq_skeleton]; unfold cc0_hgrn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hs0, HS0⟩, ⟨%fs1, %hs1, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).1
  isplitl [H7]
  · iexists _; isplitr; swap; · iexact H7
    ipureintro
    exact hf7
  isplitl [H8]
  · iexists _; isplitr; swap; · iexact H8
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.1
  isplitl [HS0]
  · iexists _; isplitr; swap; · iexact HS0
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.2.1
  iexists _; isplitr; swap; · iexact HS1
  ipureintro
  exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.2.2

/-- The body at the last point: it also leaves the gradient of the logits. -/
theorem body_last (c : Dev nD) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S4096x128 .f32) (harg4 : arg4.IsWhole) (arg5 : Memref sig .tc .vmem S2x512 .f32) (harg5 : arg5.IsWhole) (arg6 : Memref sig .tc .vmem S1x128 .f32) (harg6 : arg6.IsWhole) (arg8 : Memref sig .tc .vmem S512x2048 .bf16) (harg8 : arg8.IsWhole) (arg9 : Memref sig .tc .vmem S2x512 .f32) (harg9 : arg9.IsWhole) (arg10 : Memref sig .tc .vmem S1x128 .f32) (harg10 : arg10.IsWhole) (arg11 : Memref sig .tc .vmem S4x128x128 .f32) (harg11 : arg11.IsWhole) (arg12 : Memref sig .tc .vmem S1x512 .f32) (harg12 : arg12.IsWhole) (hc0 : ¬cond0_0 i) (hc1 : cond0_1 i)
    (x0 : Vec F S512x2048 .f32) (x1 : Vec F S512x512 .f32) (x2 : Vec F S512x512 .f32) (x3 : Vec F S4096x128 .f32) (x4 : Vec F S2x512 .f32) (x5 : Vec F S1x128 .f32) (g : Vec F S1x128 .f32) (d : Vec F S4x128x128 .f32) (lb : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ owns (c : Thread nD τ) arg10 fullShare g ∗ owns (c : Thread nD τ) arg11 fullShare d ∗ owns (c : Thread nD τ) arg12 fullShare lb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg8 fullShare ((Blk.mk x4 x5 x0 x1 x2 x3).outAll d) ∗ owns (c : Thread nD τ) arg9 fullShare (lastRows x4 ((Blk.mk x4 x5 x0 x1 x2 x3).dlb d lb k0_t1_loop.trips)) ∗ owns (c : Thread nD τ) arg10 fullShare ((Blk.mk x4 x5 x0 x1 x2 x3).dg d g k0_t1_loop.trips) ∗ owns (c : Thread nD τ) arg11 fullShare ((Blk.mk x4 x5 x0 x1 x2 x3).ds d k0_t1_loop.trips) ∗ owns (c : Thread nD τ) arg12 fullShare ((Blk.mk x4 x5 x0 x1 x2 x3).dlb d lb k0_t1_loop.trips)) -∗ K ⟨⟩))
      ⊢ wp frame (wpE (defs₀ (F := F)) Variants.none c none) E (cc0_hgrn_bwd i arg1 harg1 arg2 harg2 arg3 harg3 arg4 harg4 arg5 harg5 arg6 harg6 (Memref.whole main_arg4) (Memref.isWhole_whole _) arg8 harg8 arg9 harg9 arg10 harg10 arg11 harg11 arg12 harg12) K := by
  simp only [cc0_hgrn_bwd_eq_skeleton]; unfold cc0_hgrn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hs0, HS0⟩, ⟨%fs1, %hs1, HS1⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).1
  isplitl [H7]
  · iexists _; isplitr; swap; · iexact H7
    ipureintro
    exact last_read _ _ ((View.readAt_full _ _ _).trans hf4) ((View.readAt_full _ _ _).trans (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.2.2)
  isplitl [H8]
  · iexists _; isplitr; swap; · iexact H8
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.1
  isplitl [HS0]
  · iexists _; isplitr; swap; · iexact HS0
    ipureintro
    exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.2.1
  iexists _; isplitr; swap; · iexact HS1
  ipureintro
  exact (loop_end _ _ _ _ _ _ _ _ _ _ _ _ _ _ _ _ _ _ _ _ _ _ _ _ _ _ _ _ _ _ _ _ _ _ _ _ _ _ _ hf0 hf1 hf2 hf3 ((View.readAt_full _ _ _).trans hf4) ((View.readAt_full _ _ _).trans hf5) rfl hf8 hs0 hs1).2.2.2

end Cert.KernelIdeal.Chunk
-- ==== Proof.Run.lean ====
/- The whole run: eight blocks of 512 rows, the last block first. -/
module

public import proofs.«01_k».proof.Proof.Body
public import Idealize.ShloMosaic.Lib.Claim

@[expose] public section

set_option maxRecDepth 16384

noncomputable section

namespace Cert.KernelIdeal.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body reads at point `t`. -/
def blkAt (c : Dev nD) (t : Fin cfg0.N) : Blk F :=
  Blk.mk (iblk m c 4 t) (iblk m c 5 t) (iblk m c 0 t) (iblk m c 1 t) (iblk m c 2 t) (iblk m c 3 t)

/-- The cotangents of the four states before point `n`. -/
def dsA (c : Dev nD) : ℕ → Vec F S4x128x128 .f32
  | 0 => k0_pay1
  | n + 1 => if h : n < cfg0.N then (blkAt m c ⟨n, h⟩).ds (dsA c n) k0_t1_loop.trips else dsA c n

/-- The gradient of the norm's gain before point `n`. -/
def dgA (c : Dev nD) : ℕ → Vec F S1x128 .f32
  | 0 => k0_pay3
  | n + 1 => if h : n < cfg0.N then (blkAt m c ⟨n, h⟩).dg (dsA m c n) (dgA c n) k0_t1_loop.trips else dgA c n

/-- The gradient of the lower bound before point `n`. -/
def dlbA (c : Dev nD) : ℕ → Vec F S1x512 .f32
  | 0 => k0_pay2
  | n + 1 => if h : n < cfg0.N then (blkAt m c ⟨n, h⟩).dlb (dsA m c n) (dlbA c n) k0_t1_loop.trips else dlbA c n

theorem dsA_succ (c : Dev nD) (t : Fin cfg0.N) : dsA m c (t.val + 1) = (blkAt m c t).ds (dsA m c t.val) k0_t1_loop.trips := dif_pos t.isLt
theorem dgA_succ (c : Dev nD) (t : Fin cfg0.N) : dgA m c (t.val + 1) = (blkAt m c t).dg (dsA m c t.val) (dgA m c t.val) k0_t1_loop.trips := dif_pos t.isLt
theorem dlbA_succ (c : Dev nD) (t : Fin cfg0.N) : dlbA m c (t.val + 1) = (blkAt m c t).dlb (dsA m c t.val) (dlbA m c t.val) k0_t1_loop.trips := dif_pos t.isLt
theorem dsA_zero (c : Dev nD) (n : ℕ) (h : n = 0) : dsA m c n = k0_pay1 := by subst h; rfl
theorem dgA_zero (c : Dev nD) (n : ℕ) (h : n = 0) : dgA m c n = k0_pay3 := by subst h; rfl
theorem dlbA_zero (c : Dev nD) (n : ℕ) (h : n = 0) : dlbA m c n = k0_pay2 := by subst h; rfl

/-- Before point `n`: the two carried arrays, at anything before the first. -/
def PhiS (c : Dev nD) : (n : ℕ) → n ≤ cfg0.N → sProp 𝕄
  | 0, _ => Pipeline.ΦA spec0 c
  | n + 1, _ => iprop(iprop(owns (c : Thread nD τ) scM0_0 fullShare (dsA m c (n + 1)) ∗ owns (c : Thread nD τ) scM0_1 fullShare (dlbA m c (n + 1))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (dsA m c (n + 1)) ∗ owns (c : Thread nD τ) scM0_1 fullShare (dlbA m c (n + 1))) ∗ (∃ r, prngReg c r)) := rfl

theorem PhiS_pos (c : Dev nD) (n : ℕ) (h : n ≤ cfg0.N) (hz : n ≠ 0) :
    PhiS m c n h = iprop(iprop(owns (c : Thread nD τ) scM0_0 fullShare (dsA m c n) ∗ owns (c : Thread nD τ) scM0_1 fullShare (dlbA m c n)) ∗ (∃ r, prngReg c r)) := by
  cases n with
  | zero => exact absurd rfl hz
  | succ n => rfl

/-- The arrays as the run finds them and what each point leaves in its blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (blkAt m c t).outAll (dsA m c t.val)
    | ⟨7, _⟩ => lastRows (iblk m c 4 t) (dlbA m c (t.val + 1))
    | ⟨8, _⟩ => dgA m c (t.val + 1)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (blkAt m c t).outAll (dsA m c t.val) := by dsimp only [dats]
theorem after0_7 (c : Dev nD) (t : Fin cfg0.N) : (dats m 0 c).after 7 t = lastRows (iblk m c 4 t) (dlbA m c (t.val + 1)) := by dsimp only [dats]
theorem after0_8 (c : Dev nD) (t : Fin cfg0.N) : (dats m 0 c).after 8 t = dgA m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- After the first point the gain's gradient is what the point before left. -/
theorem before0_8 (c : Dev nD) (t : Fin cfg0.N) (hz : t.val ≠ 0) (d) : (dats m 0 c).before 8 t d = dgA m c t.val := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]
  congr 1
  omega

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: first, last, or between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · have h1 : ¬ t.val % 8 = 7 := by omega
    have hz : t.val = 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [show (dats m 0 c).leavesExact 8 t = owns (c : Thread nD τ) (ms0_8 t) fullShare ((dats m 0 c).after 8 t) from by
      unfold Dat.leavesExact; rw [liveAt0_8 t], after0_8]
    rw [PhiS_castSucc m c t, PhiS_zero m c _ _ hz, PhiA0_eq, dsA_succ m c t, dgA_succ m c t, dlbA_succ m c t, dsA_zero m c _ hz, dgA_zero m c _ hz, dlbA_zero m c _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexact H8
  have hz : t.val ≠ 0 := fun h => h0 (by omega)
  by_cases h1 : t.val % 8 = 7
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
    rw [show (dats m 0 c).leavesExact 8 t = owns (c : Thread nD τ) (ms0_8 t) fullShare ((dats m 0 c).after 8 t) from by
      unfold Dat.leavesExact; rw [liveAt0_8 t], after0_8]
    rw [PhiS_castSucc m c t, PhiS_pos m c _ _ hz, dsA_succ m c t, dgA_succ m c t, dlbA_succ m c t]
    simp only [before0_8 m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_last c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
    rw [show (dats m 0 c).leavesExact 8 t = owns (c : Thread nD τ) (ms0_8 t) fullShare ((dats m 0 c).after 8 t) from by
      unfold Dat.leavesExact; rw [liveAt0_8 t], after0_8]
    rw [PhiS_castSucc m c t, PhiS_pos m c _ _ hz, dsA_succ m c t, dgA_succ m c t, dlbA_succ m c t]
    simp only [before0_8 m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_mid c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Chunk
-- ==== Proof.Frames.lean ====
/- The programs end, with their arguments unchanged. -/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tame

@[expose] public section

namespace Cert

open Idealize.ShloMosaic Idealize.ShloMosaic.TcCoe Idealize.SL.Sem

theorem frame_ideal : @quiescent_KernelIdeal Cert.KernelIdeal.Gen.facts := fun m ρ _ => Cert.KernelIdeal.Chunk.frame (F := Ideal) m ρ

theorem frame_ideal_tame : @quiescent_KernelIdeal_pre_tame Cert.KernelIdeal.Gen.facts Cert.Pre_tame.Gen.facts :=
  fun m ρ _ => Cert.KernelIdeal.Chunk.frame (F := Ideal) m ρ

attribute [local instance] Cert.Kernel.Gen.facts Cert.KernelIdeal.Gen.facts

/-- The two programs have the same bodies. -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [bodies_same]
  rfl

set_option maxHeartbeats 1600000 in
theorem main_same : Cert.Kernel.main (F := Bits) = Cert.KernelIdeal.main (F := Bits) := rfl

set_option maxHeartbeats 400000 in
theorem frame_kernel : @quiescent_Kernel Cert.Kernel.Gen.facts := fun m ρ _ => by
  rw [defs_same, main_same]
  exact Cert.KernelIdeal.Chunk.frame (F := Bits) m ρ

end Cert
-- ==== Proof.RefFrame.lean ====
/- The reference ends, with its arguments unchanged. -/
module

public import proofs.«01_k».proof.Defs
public import proofs.«01_k».proof.Proof.Gen.ReferenceIdeal
public import proofs.«01_k».proof.Proof.Gen.ReferenceIdeal.Run
public import proofs.«01_k».proof.Proof.Gen.Pre_tame
public import Idealize.ShloMosaic.Lib.Quiescent

@[expose] public section

namespace Cert

open Idealize.ShloMosaic Idealize.ShloMosaic.TcCoe Idealize.SL.Sem

theorem frame_reference : @quiescent_ReferenceIdeal Cert.ReferenceIdeal.Gen.facts := fun m ρ _ =>
  (θ_run (Cert.ReferenceIdeal.defs (F := Ideal)) _ _).mono
    (fun r h => ⟨fun c => ⟨(h c).2.2.2.1, (h c).2.2.2.2.1, (h c).2.2.2.2.2.1, (h c).2.2.2.2.2.2.1, (h c).2.2.2.2.2.2.2⟩,
      sem_eq_zero_of_no_sems rfl r.2⟩)
    (Cert.ReferenceIdeal.Value.run (F := Ideal) m ρ)

theorem frame_reference_tame : @quiescent_ReferenceIdeal_pre_tame Cert.ReferenceIdeal.Gen.facts Cert.Pre_tame.Gen.facts := fun m ρ _ =>
  frame_reference m ρ trivial

end Cert
-- ==== Proof.Flat.lean ====
/- The chunks numbered over the whole sequence: chunk `n` is rows `64 n … 64 n + 63`, and the kernel takes the chunks from the last to the first. -/
module

public import proofs.«01_k».proof.Proof.Run
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Chunk

open Idealize.ShloMosaic Idealize.ShloMosaic.TcCoe Idealize.SL.Sem
open Idealize.ShloMosaic.Pipeline (Dat Cfg Window)
open Cert.KernelIdeal.Gen

variable {F : FTy → Type} [FloatOps F]

/-- The arrays the kernel reads. -/
structure Arr (F : FTy → Type) where
  z : Vec F S4096x6144 .f32
  o : Vec F S4096x512 .f32
  dy : Vec F S4096x512 .f32
  st : Vec F S32768x128 .f32
  l : Vec F S2x512 .f32
  gain : Vec F S1x128 .f32

namespace Arr

variable (A : Arr F)

/-- Row `s` of chunk `n`. -/
abbrev row (n : Fin 64) (s : Fin 64) : Fin 4096 := ⟨64 * n.val + s.val, by omega⟩
/-- Column `v` of head `h`. -/
abbrev col (h : Fin 4) (v : Fin 128) : Fin 512 := ⟨128 * h.val + v.val, by omega⟩

/-- What chunk `n` reads. -/
def chunk (n : Fin 64) : In F where
  l := A.l
  gain := A.gain
  q := fun y : S64x512.Idx => A.z (ix2 (row n (y 0)) (⟨(y 1).val, by have : (y 1).val < 512 := (y 1).isLt; omega⟩ : Fin 6144))
  f := fun y : S64x512.Idx => A.z (ix2 (row n (y 0)) (⟨512 + (y 1).val, by have : (y 1).val < 512 := (y 1).isLt; omega⟩ : Fin 6144))
  v := fun y : S64x512.Idx => A.z (ix2 (row n (y 0)) (⟨1024 + (y 1).val, by have : (y 1).val < 512 := (y 1).isLt; omega⟩ : Fin 6144))
  g := fun y : S64x512.Idx => A.z (ix2 (row n (y 0)) (⟨1536 + (y 1).val, by have : (y 1).val < 512 := (y 1).isLt; omega⟩ : Fin 6144))
  dy := fun y : S64x512.Idx => A.dy (ix2 (row n (y 0)) (y 1 : Fin 512))
  o := fun h => fun y : S64x128.Idx => A.o (ix2 (row n (y 0)) (col h (y 1)))
  st := fun h => fun y : S128x128.Idx => A.st (ix2 (⟨512 * n.val + 128 * h.val + (y 0).val, by have : (y 0).val < 128 := (y 0).isLt; omega⟩ : Fin 32768) (y 1 : Fin 128))

/-- The chunk taken `j`th. -/
abbrev nth (j : ℕ) : Fin 64 := ⟨63 - j, by omega⟩

/-- The cotangents of the four states before the chunk taken `j`th. -/
def S : ℕ → DS F
  | 0 => dsOf k0_pay1
  | j + 1 => fun h => ((A.chunk (nth j)).H (S j) h).dsNew

/-- The gradient of the norm's gain before the chunk taken `j`th. -/
def G : ℕ → Vec F S1x128 .f32
  | 0 => k0_pay3
  | j + 1 => (A.chunk (nth j)).outGain (A.S j) (G j)

/-- The gradient of the lower bound before the chunk taken `j`th. -/
def L : ℕ → Vec F S1x512 .f32
  | 0 => k0_pay2
  | j + 1 => (A.chunk (nth j)).outLb (A.S j) (L j)

end Arr

variable (m : (ℓ : Loc nD τ sig) → Buf (Elt F) ℓ) (c : Dev nD)

/-- The arrays of the run. -/
def arrs : Arr F where
  z := m ((c : Thread nD τ).loc main_arg0)
  o := V m c main_v59
  dy := m ((c : Thread nD τ).loc main_arg1)
  st := V m c main_v116
  l := m ((c : Thread nD τ).loc main_arg2)
  gain := m ((c : Thread nD τ).loc main_arg3)

theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![0, 0] ∧ win0_5.index t = ![0, 0] ∧ win0_6.index t = ![7 - t.val, 0]
    ∧ win0_7.index t = ![0, 0] ∧ win0_8.index t = ![0, 0] :=
  (by decide +kernel : ∀ t : Fin grid0.N, _)

theorem ltN (t : Fin cfg0.N) : t.val < 8 := lt_of_lt_of_eq t.isLt (show cfg0.N = 8 from N_0)

theorem z_read (t : Fin cfg0.N) (y : S512x2048.Idx) :
    (iblk m c 0 t : Vec F S512x2048 .f32) y = m ((c : Thread nD τ).loc main_arg0) (ix2 (⟨512 * (7 - t.val) + (y 0).val, by have := ltN t; have : (y 0).val < 512 := (y 0).isLt; omega⟩ : Fin 4096) (⟨(y 1).val, by have : (y 1).val < 2048 := (y 1).isLt; omega⟩ : Fin 6144)) := by
  blk_ext [iblk, V, idx t]

theorem o_read (t : Fin cfg0.N) (y : S512x512.Idx) :
    (iblk m c 1 t : Vec F S512x512 .f32) y = V m c main_v59 (ix2 (⟨512 * (7 - t.val) + (y 0).val, by have := ltN t; have : (y 0).val < 512 := (y 0).isLt; omega⟩ : Fin 4096) (y 1 : Fin 512)) := by
  blk_ext [iblk, idx t]

theorem dy_read (t : Fin cfg0.N) (y : S512x512.Idx) :
    (iblk m c 2 t : Vec F S512x512 .f32) y = m ((c : Thread nD τ).loc main_arg1) (ix2 (⟨512 * (7 - t.val) + (y 0).val, by have := ltN t; have : (y 0).val < 512 := (y 0).isLt; omega⟩ : Fin 4096) (y 1 : Fin 512)) := by
  blk_ext [iblk, V, idx t]

theorem st_read (t : Fin cfg0.N) (y : S4096x128.Idx) :
    (iblk m c 3 t : Vec F S4096x128 .f32) y = V m c main_v116 (ix2 (⟨4096 * (7 - t.val) + (y 0).val, by have := ltN t; have : (y 0).val < 4096 := (y 0).isLt; omega⟩ : Fin 32768) (y 1 : Fin 128)) := by
  blk_ext [iblk, idx t]

theorem l_read (t : Fin cfg0.N) : (iblk m c 4 t : Vec F S2x512 .f32) = m ((c : Thread nD τ).loc main_arg2) := by
  funext y; blk_ext [iblk, V, idx t]

theorem gain_read (t : Fin cfg0.N) : (iblk m c 5 t : Vec F S1x128 .f32) = m ((c : Thread nD τ).loc main_arg3) := by
  funext y; blk_ext [iblk, V, idx t]

end Cert.KernelIdeal.Chunk
-- ==== Proof.Final.lean ====
/- What the three result arrays hold after the run, chunk by chunk. -/
module

public import proofs.«01_k».proof.Proof.Flat

@[expose] public section

set_option maxRecDepth 16384

noncomputable section

namespace Cert.KernelIdeal.Chunk

open Idealize.ShloMosaic Idealize.ShloMosaic.TcCoe Idealize.SL.Sem
open Idealize.ShloMosaic.Pipeline (Dat Cfg Window)
open Cert.KernelIdeal.Gen

variable {F : FTy → Type} [FloatOps F]
variable (m : (ℓ : Loc nD τ sig) → Buf (Elt F) ℓ) (c : Dev nD)

theorem ltT (k : Fin k0_t1_loop.trips) : k.val < 8 := lt_of_lt_of_eq k.isLt trips_eq

theorem ld2 {e : EltTy} (n0 n1 : ℕ) (x : Vec F ⟨2, ![n0, n1]⟩ e) (off size : Fin 2 → ℕ) (inb : ∀ a, off a + size a ≤ (⟨2, ![n0, n1]⟩ : Shape).size a)
    (a b : ℕ) (ho : off = ![a, b]) (y : (Rect.unit (s := ⟨2, ![n0, n1]⟩) off size inb).shape.Idx) (i : Fin n0) (j : Fin n1)
    (hi : i.val = a + (y 0).val) (hj : j.val = b + (y 1).val) :
    View.ld x (Rect.unit (s := ⟨2, ![n0, n1]⟩) off size inb) y = x (ix2 i j) := by
  subst ho
  refine congrArg x ?_
  funext d; apply Fin.ext; revert d
  refine Fin.forall_fin_two.mpr ⟨?_, ?_⟩
  · show a + 1 * (y 0).val = i.val
    omega
  · show b + 1 * (y 1).val = j.val
    omega

theorem at_ext (l : Vec F S2x512 .f32) (gain : Vec F S1x128 .f32) (x1 : Vec F S512x2048 .f32) (x2 x3 : Vec F S512x512 .f32)
    (x4 : Vec F S4096x128 .f32) (k : Fin k0_t1_loop.trips) (C : In F) (hl : l = C.l) (hg : gain = C.gain)
    (hq : ∀ y : S64x512.Idx, x1 (ix2 (⟨448 - 64 * k.val + (y 0).val, by have := ltT k; have : (y 0).val < 64 := (y 0).isLt; omega⟩ : Fin 512) (⟨(y 1).val, by have : (y 1).val < 512 := (y 1).isLt; omega⟩ : Fin 2048)) = C.q y)
    (hf : ∀ y : S64x512.Idx, x1 (ix2 (⟨448 - 64 * k.val + (y 0).val, by have := ltT k; have : (y 0).val < 64 := (y 0).isLt; omega⟩ : Fin 512) (⟨512 + (y 1).val, by have : (y 1).val < 512 := (y 1).isLt; omega⟩ : Fin 2048)) = C.f y)
    (hv : ∀ y : S64x512.Idx, x1 (ix2 (⟨448 - 64 * k.val + (y 0).val, by have := ltT k; have : (y 0).val < 64 := (y 0).isLt; omega⟩ : Fin 512) (⟨1024 + (y 1).val, by have : (y 1).val < 512 := (y 1).isLt; omega⟩ : Fin 2048)) = C.v y)
    (hgg : ∀ y : S64x512.Idx, x1 (ix2 (⟨448 - 64 * k.val + (y 0).val, by have := ltT k; have : (y 0).val < 64 := (y 0).isLt; omega⟩ : Fin 512) (⟨1536 + (y 1).val, by have : (y 1).val < 512 := (y 1).isLt; omega⟩ : Fin 2048)) = C.g y)
    (hdy : ∀ y : S64x512.Idx, x3 (ix2 (⟨448 - 64 * k.val + (y 0).val, by have := ltT k; have : (y 0).val < 64 := (y 0).isLt; omega⟩ : Fin 512) (y 1 : Fin 512)) = C.dy y)
    (ho : ∀ (h : Fin 4) (y : S64x128.Idx), x2 (ix2 (⟨448 - 64 * k.val + (y 0).val, by have := ltT k; have : (y 0).val < 64 := (y 0).isLt; omega⟩ : Fin 512) (⟨128 * h.val + (y 1).val, by have : (y 1).val < 128 := (y 1).isLt; omega⟩ : Fin 512)) = C.o h y)
    (hs : ∀ (h : Fin 4) (y : S128x128.Idx), x4 (ix2 (⟨128 * h.val + 3584 - 512 * k.val + (y 0).val, by have := ltT k; have : (y 0).val < 128 := (y 0).isLt; omega⟩ : Fin 4096) (y 1 : Fin 128)) = C.st h y) :
    at_ l gain x1 x2 x3 x4 k = C := by
  obtain ⟨Cl, Cg, Cq, Cf, Cv, Cgg, Cdy, Co, Cs⟩ := C
  dsimp only at hl hg hq hf hv hgg hdy ho hs
  subst hl hg
  unfold at_
  congr 1
  · funext y; exact (ld2 512 2048 x1 _ _ _ _ _ (k0_off1_eq k) y _ _ rfl (Nat.zero_add _).symm).trans (hq y)
  · funext y; exact (ld2 512 2048 x1 _ _ _ _ _ (k0_off3_eq k) y _ _ rfl rfl).trans (hf y)
  · funext y; exact (ld2 512 2048 x1 _ _ _ _ _ (k0_off4_eq k) y _ _ rfl rfl).trans (hv y)
  · funext y; exact (ld2 512 2048 x1 _ _ _ _ _ (k0_off2_eq k) y _ _ rfl rfl).trans (hgg y)
  · funext y; exact (ld2 512 512 x3 _ _ _ _ _ (k0_off5_eq k) y _ _ rfl (Nat.zero_add _).symm).trans (hdy y)
  · funext h; fin_cases h
    · funext y; exact (ld2 512 512 x2 _ _ _ _ _ (k0_off7_eq k) y _ _ rfl (by show 128 * 0 + _ = 0 + _; rfl)).trans (ho 0 y)
    · funext y; exact (ld2 512 512 x2 _ _ _ _ _ (k0_off8_eq k) y _ _ rfl rfl).trans (ho 1 y)
    · funext y; exact (ld2 512 512 x2 _ _ _ _ _ (k0_off9_eq k) y _ _ rfl rfl).trans (ho 2 y)
    · funext y; exact (ld2 512 512 x2 _ _ _ _ _ (k0_off10_eq k) y _ _ rfl rfl).trans (ho 3 y)
  · funext h; fin_cases h
    · funext y; exact (ld2 4096 128 x4 _ _ _ _ _ (k0_off6_eq k 0) y _ _ rfl (Nat.zero_add _).symm).trans (hs 0 y)
    · funext y; exact (ld2 4096 128 x4 _ _ _ _ _ (k0_off6_eq k 1) y _ _ rfl (Nat.zero_add _).symm).trans (hs 1 y)
    · funext y; exact (ld2 4096 128 x4 _ _ _ _ _ (k0_off6_eq k 2) y _ _ rfl (Nat.zero_add _).symm).trans (hs 2 y)
    · funext y; exact (ld2 4096 128 x4 _ _ _ _ _ (k0_off6_eq k 3) y _ _ rfl (Nat.zero_add _).symm).trans (hs 3 y)

theorem row_eq (t k y : ℕ) (ht : t < 8) (hk : k < 8) : 512 * (7 - t) + (448 - 64 * k + y) = 64 * (63 - (8 * t + k)) + y := by omega
theorem st_row_eq (t k h y : ℕ) (ht : t < 8) (hk : k < 8) (hh : h < 4) :
    4096 * (7 - t) + (128 * h + 3584 - 512 * k + y) = 512 * (63 - (8 * t + k)) + 128 * h + y := by omega

theorem z_at (A : Vec F S4096x6144 .f32) (i i' : Fin 4096) (j j' : Fin 6144) (hi : i.val = i'.val) (hj : j.val = j'.val) : A (ix2 i j) = A (ix2 i' j') := by
  rw [Fin.ext hi, Fin.ext hj]
theorem y_at (A : Vec F S4096x512 .f32) (i i' : Fin 4096) (j j' : Fin 512) (hi : i.val = i'.val) (hj : j.val = j'.val) : A (ix2 i j) = A (ix2 i' j') := by
  rw [Fin.ext hi, Fin.ext hj]
theorem s_at (A : Vec F S32768x128 .f32) (i i' : Fin 32768) (j j' : Fin 128) (hi : i.val = i'.val) (hj : j.val = j'.val) : A (ix2 i j) = A (ix2 i' j') := by
  rw [Fin.ext hi, Fin.ext hj]

theorem at_eq (A : Arr F) (t : ℕ) (ht : t < 8) (l : Vec F S2x512 .f32) (gain : Vec F S1x128 .f32) (x1 : Vec F S512x2048 .f32) (x2 x3 : Vec F S512x512 .f32)
    (x4 : Vec F S4096x128 .f32) (k : Fin k0_t1_loop.trips) (hl : l = A.l) (hg : gain = A.gain)
    (hz : ∀ y : S512x2048.Idx, x1 y = A.z (ix2 (⟨512 * (7 - t) + (y 0).val, by have : (y 0).val < 512 := (y 0).isLt; omega⟩ : Fin 4096) (⟨(y 1).val, by have : (y 1).val < 2048 := (y 1).isLt; omega⟩ : Fin 6144)))
    (ho : ∀ y : S512x512.Idx, x2 y = A.o (ix2 (⟨512 * (7 - t) + (y 0).val, by have : (y 0).val < 512 := (y 0).isLt; omega⟩ : Fin 4096) (y 1 : Fin 512)))
    (hy : ∀ y : S512x512.Idx, x3 y = A.dy (ix2 (⟨512 * (7 - t) + (y 0).val, by have : (y 0).val < 512 := (y 0).isLt; omega⟩ : Fin 4096) (y 1 : Fin 512)))
    (hs : ∀ y : S4096x128.Idx, x4 y = A.st (ix2 (⟨4096 * (7 - t) + (y 0).val, by have : (y 0).val < 4096 := (y 0).isLt; omega⟩ : Fin 32768) (y 1 : Fin 128))) :
    at_ l gain x1 x2 x3 x4 k = A.chunk (Arr.nth (8 * t + k.val)) := by
  have hk := ltT k
  refine at_ext _ _ _ _ _ _ k _ hl hg (fun y => ?_) (fun y => ?_) (fun y => ?_) (fun y => ?_) (fun y => ?_) (fun h y => ?_) (fun h y => ?_)
  · exact (hz _).trans (z_at _ _ _ _ _ (row_eq _ _ _ ht hk) rfl)
  · exact (hz _).trans (z_at _ _ _ _ _ (row_eq _ _ _ ht hk) rfl)
  · exact (hz _).trans (z_at _ _ _ _ _ (row_eq _ _ _ ht hk) rfl)
  · exact (hz _).trans (z_at _ _ _ _ _ (row_eq _ _ _ ht hk) rfl)
  · exact (hy _).trans (y_at _ _ _ _ _ (row_eq _ _ _ ht hk) rfl)
  · exact (ho _).trans (y_at _ _ _ _ _ (row_eq _ _ _ ht hk) rfl)
  · exact (hs _).trans (s_at _ _ _ _ _ (st_row_eq _ _ _ _ ht hk h.isLt) rfl)

theorem chunk_eq (t : Fin cfg0.N) (k : Fin k0_t1_loop.trips) :
    (blkAt m c t).chunk k = (arrs m c).chunk (Arr.nth (8 * t.val + k.val)) := by
  unfold blkAt
  refine at_eq (arrs m c) t.val (ltN t) _ _ _ _ _ _ k ?_ ?_ ?_ ?_ ?_ ?_
  · dsimp only [arrs]; exact l_read m c t
  · dsimp only [arrs]; exact gain_read m c t
  · dsimp only [arrs]; exact z_read m c t
  · dsimp only [arrs]; exact o_read m c t
  · dsimp only [arrs]; exact dy_read m c t
  · dsimp only [arrs]; exact st_read m c t

theorem dsOf_step (b : Blk F) (k : Fin k0_t1_loop.trips) (d : Vec F S4x128x128 .f32) :
    dsOf (b.dsStep k d) = fun h => ((b.chunk k).H (dsOf d) h).dsNew := by
  have key : ∀ (r : ℕ) (x : Vec F S4x128x128 .f32) (w : Vec F S1x128x128 .f32) (inb : ∀ a, (![r, 0, 0] : Fin 3 → ℕ) a + S1x128x128.size a ≤ S4x128x128.size a),
      View.ld (VecWindow.put x ![r, 0, 0] S1x128x128.size w) (Rect.unit (s := S4x128x128) ![r, 0, 0] S1x128x128.size inb) = w :=
    fun r x w inb => VecWindow.window_put_same (s := S4x128x128) x _ _ inb w
  have other : ∀ (r r' : ℕ) (x : Vec F S4x128x128 .f32) (w : Vec F S1x128x128 .f32) (inb : ∀ a, (![r, 0, 0] : Fin 3 → ℕ) a + S1x128x128.size a ≤ S4x128x128.size a), r ≠ r' →
      View.ld (VecWindow.put x ![r', 0, 0] S1x128x128.size w) (Rect.unit (s := S4x128x128) ![r, 0, 0] S1x128x128.size inb) = View.ld x (Rect.unit (s := S4x128x128) ![r, 0, 0] S1x128x128.size inb) :=
    fun r r' x w inb hr => VecWindow.window_put_of_disjoint (s := S4x128x128) x _ _ _ _ inb w (0 : Fin 3) (by show r + 1 ≤ r' ∨ r' + 1 ≤ r; omega)
  funext h
  unfold Blk.dsStep
  match h with
  | 0 => exact (other 0 3 _ _ _ (by decide)).trans ((other 0 2 _ _ _ (by decide)).trans ((other 0 1 _ _ _ (by decide)).trans (key 0 _ _ _)))
  | 1 => exact (other 1 3 _ _ _ (by decide)).trans ((other 1 2 _ _ _ (by decide)).trans (key 1 _ _ _))
  | 2 => exact (other 2 3 _ _ _ (by decide)).trans (key 2 _ _ _)
  | 3 => exact key 3 _ _ _

theorem S_eq (t : Fin cfg0.N) (hS : dsOf (dsA m c t.val) = (arrs m c).S (8 * t.val)) (k : ℕ) (hk : k ≤ k0_t1_loop.trips) :
    dsOf ((blkAt m c t).ds (dsA m c t.val) k) = (arrs m c).S (8 * t.val + k) := by
  induction k with
  | zero => exact hS
  | succ k ih =>
    have hk' : k < k0_t1_loop.trips := hk
    simp only [Blk.ds, dif_pos hk']
    rw [dsOf_step, ih (by omega), chunk_eq m c t ⟨k, hk'⟩]
    rfl

theorem S_point (n : ℕ) (hn : n ≤ 8) : dsOf (dsA m c n) = (arrs m c).S (8 * n) := by
  induction n with
  | zero => rfl
  | succ n ih =>
    have hN : n < cfg0.N := lt_of_lt_of_eq (by omega) (show cfg0.N = 8 from N_0).symm
    rw [dsA_succ m c ⟨n, hN⟩, S_eq m c ⟨n, hN⟩ (ih (by omega)) _ le_rfl, trips_eq]
    rfl

theorem S_at (t : Fin cfg0.N) (k : Fin k0_t1_loop.trips) :
    dsOf ((blkAt m c t).ds (dsA m c t.val) k.val) = (arrs m c).S (8 * t.val + k.val) :=
  S_eq m c t (S_point m c t.val (ltN t).le) _ k.isLt.le

theorem G_eq (t : Fin cfg0.N) (hG : dgA m c t.val = (arrs m c).G (8 * t.val)) (k : ℕ) (hk : k ≤ k0_t1_loop.trips) :
    (blkAt m c t).dg (dsA m c t.val) (dgA m c t.val) k = (arrs m c).G (8 * t.val + k) := by
  induction k with
  | zero => exact hG
  | succ k ih =>
    have hk' : k < k0_t1_loop.trips := hk
    simp only [Blk.dg, dif_pos hk']
    rw [ih (by omega), S_at m c t ⟨k, hk'⟩, chunk_eq m c t ⟨k, hk'⟩]
    rfl

theorem G_point (n : ℕ) (hn : n ≤ 8) : dgA m c n = (arrs m c).G (8 * n) := by
  induction n with
  | zero => rfl
  | succ n ih =>
    have hN : n < cfg0.N := lt_of_lt_of_eq (by omega) (show cfg0.N = 8 from N_0).symm
    rw [dgA_succ m c ⟨n, hN⟩, G_eq m c ⟨n, hN⟩ (ih (by omega)) _ le_rfl, trips_eq]
    rfl

theorem L_eq (t : Fin cfg0.N) (hL : dlbA m c t.val = (arrs m c).L (8 * t.val)) (k : ℕ) (hk : k ≤ k0_t1_loop.trips) :
    (blkAt m c t).dlb (dsA m c t.val) (dlbA m c t.val) k = (arrs m c).L (8 * t.val + k) := by
  induction k with
  | zero => exact hL
  | succ k ih =>
    have hk' : k < k0_t1_loop.trips := hk
    simp only [Blk.dlb, dif_pos hk']
    rw [ih (by omega), S_at m c t ⟨k, hk'⟩, chunk_eq m c t ⟨k, hk'⟩]
    rfl

theorem L_point (n : ℕ) (hn : n ≤ 8) : dlbA m c n = (arrs m c).L (8 * n) := by
  induction n with
  | zero => rfl
  | succ n ih =>
    have hN : n < cfg0.N := lt_of_lt_of_eq (by omega) (show cfg0.N = 8 from N_0).symm
    rw [dlbA_succ m c ⟨n, hN⟩, L_eq m c ⟨n, hN⟩ (ih (by omega)) _ le_rfl, trips_eq]
    rfl

end Cert.KernelIdeal.Chunk
-- ==== Proof.Results.lean ====
/- The three result arrays of the run, element by element, in terms of the chunks. -/
module

public import proofs.«01_k».proof.Proof.Final

@[expose] public section

set_option maxRecDepth 16384

noncomputable section

namespace Cert.KernelIdeal.Chunk

open Idealize.ShloMosaic Idealize.ShloMosaic.TcCoe Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg) (c : Dev nD)

/-- The first result. -/
def out6 : Vec F S4096x6144 .bf16 := fun i =>
  if h : (i 1).val < 2048 then
    (blkAt m c (⟨7 - (i 0).val / 512, lt_of_lt_of_eq (by omega) (show cfg0.N = 8 from N_0).symm⟩ : Fin cfg0.N)).outAll (dsA m c (7 - (i 0).val / 512))
      (ix2 (⟨(i 0).val % 512, by omega⟩ : Fin 512) (⟨(i 1).val, h⟩ : Fin 2048))
  else V m c main_v117_0 i

theorem last_point : (7 : ℕ) < cfg0.N := lt_of_lt_of_eq (by omega) (show cfg0.N = 8 from N_0).symm

theorem out6_block (t : Fin cfg0.N) (y : S512x2048.Idx) (i : S4096x6144.Idx) (h0 : (i 0).val = (7 - t.val) * 512 + (y 0).val) (h1 : (i 1).val = (y 1).val) :
    (blkAt m c t).outAll (dsA m c t.val) y = out6 m c i := by
  have ht := ltN t
  have hy0 : (y 0).val < 512 := (y 0).isLt
  have hy1 : (y 1).val < 2048 := (y 1).isLt
  unfold out6
  rw [dif_pos (by omega)]
  have e : (⟨7 - (i 0).val / 512, lt_of_lt_of_eq (by omega) (show cfg0.N = 8 from N_0).symm⟩ : Fin cfg0.N) = t := Fin.ext (by show 7 - (i 0).val / 512 = t.val; omega)
  have e' : 7 - (i 0).val / 512 = t.val := congrArg Fin.val e
  rw [e, e']
  congr 1
  funext a
  match a with
  | ⟨0, _⟩ => exact Fin.ext (by show (y 0).val = (i 0).val % 512; omega)
  | ⟨1, _⟩ => exact Fin.ext h1.symm

theorem final6 : (dats m 0 c).arrAt 6 cfg0.N = out6 m c := by
  refine (dats m 0 c).arrAt_eq_of_coversWhere_of_agree 6 _ (fun β => β (1 : Fin 2) = 0) (by decide +kernel) (fun t hf y => ?_) (fun j hj => ?_)
  · blk_simp; rw [after0_6]
    refine out6_block m c t y _ ?_ ?_
    · blk_simp [idx t]
    · blk_simp [idx t]
  · blk_simp [Pipeline.Window.cell_apply] at hj
    rw [A_eq]
    blk_simp
    unfold out6
    rw [dif_neg (by omega)]

theorem final7 : (dats m 0 c).arrAt 7 cfg0.N = lastRows (m ((c : Thread nD τ).loc main_arg2)) (dlbA m c 8) := by
  refine (dats m 0 c).arrAt_eq_of_after_last 7 t0_7 (by decide +kernel) _ fun j => ?_
  blk_simp
  rw [after0_7, l_read, show t0_7.val + 1 = 8 from rfl]

theorem final8 : (dats m 0 c).arrAt 8 cfg0.N = dgA m c 8 := by
  refine (dats m 0 c).arrAt_eq_of_after_last 8 t0_7 (by decide +kernel) _ fun j => ?_
  blk_simp
  rw [after0_8, show t0_7.val + 1 = 8 from rfl]

theorem point_of (n : Fin 64) : ∃ (t : Fin cfg0.N) (k : Fin k0_t1_loop.trips), 8 * (7 - t.val) + (7 - k.val) = n.val ∧ 8 * t.val + k.val = 63 - n.val :=
  ⟨⟨7 - n.val / 8, lt_of_lt_of_eq (by omega) (show cfg0.N = 8 from N_0).symm⟩, ⟨7 - n.val % 8, lt_of_lt_of_eq (by omega) trips_eq.symm⟩,
    by show 8 * (7 - (7 - n.val / 8)) + (7 - (7 - n.val % 8)) = n.val; omega, by show 8 * (7 - n.val / 8) + (7 - n.val % 8) = 63 - n.val; omega⟩

theorem local_eq (k : Fin k0_t1_loop.trips) (s : Fin 64) (j' : Fin 2048) (j : Fin 512) (base : ℕ) (hj : j'.val = base + j.val)
    (h : ∀ a, (![448 - 64 * k.val, base] : Fin 2 → ℕ) a ≤ ((ix2 (⟨448 - 64 * k.val + s.val, by have := ltT k; omega⟩ : Fin 512) j' : S512x2048.Idx) a).val
      ∧ ((ix2 (⟨448 - 64 * k.val + s.val, by have := ltT k; omega⟩ : Fin 512) j' : S512x2048.Idx) a).val < (![448 - 64 * k.val, base] : Fin 2 → ℕ) a + S64x512.size a) :
    Rect.unitLocal (s := S512x2048) (off := ![448 - 64 * k.val, base]) (size := S64x512.size) (ix2 (⟨448 - 64 * k.val + s.val, by have := ltT k; omega⟩ : Fin 512) j') h = ix2 s j := by
  funext a
  apply Fin.ext
  rw [Rect.unitLocal_val]
  match a with
  | ⟨0, _⟩ => show 448 - 64 * k.val + s.val - (448 - 64 * k.val) = s.val; omega
  | ⟨1, _⟩ => show j'.val - base = j.val; omega

theorem out6_Q (n : Fin 64) (s : Fin 64) (j : Fin 512) :
    out6 m c (ix2 (Arr.row n s) (⟨0 + j.val, by omega⟩ : Fin 6144)) = ((arrs m c).chunk n).outQ ((arrs m c).S (63 - n.val)) (ix2 s j) := by
  have hn := n.isLt
  have hs := s.isLt
  have hj := j.isLt
  obtain ⟨t, k, ht, hk⟩ := point_of n
  rw [← out6_block m c t (ix2 (⟨448 - 64 * k.val + s.val, by have := ltT k; omega⟩ : Fin 512) (⟨0 + j.val, by omega⟩ : Fin 2048)) _
    (by show 64 * n.val + s.val = (7 - t.val) * 512 + (448 - 64 * k.val + s.val); have := ltT k; have := ltN t; omega) rfl]
  have hk8 := ltT k
  unfold Blk.outAll
  have e : Blk.tripOf (ix2 (⟨448 - 64 * k.val + s.val, by omega⟩ : Fin 512) (⟨0 + j.val, by omega⟩ : Fin 2048)) = k :=
    Fin.ext (by show 7 - (448 - 64 * k.val + s.val) / 64 = k.val; omega)
  rw [e, Blk.outStep_Q _ _ _ _ _ ⟨by show 448 - 64 * k.val ≤ 448 - 64 * k.val + s.val; omega, by show 448 - 64 * k.val + s.val < 448 - 64 * k.val + 64; omega⟩
    (by show 0 ≤ 0 + j.val; omega) (by show 0 + j.val < 0 + 512; omega), S_at, chunk_eq]
  rw [show Arr.nth (8 * t.val + k.val) = n from Fin.ext (by show 63 - (8 * t.val + k.val) = n.val; omega), show 8 * t.val + k.val = 63 - n.val by omega]
  congr 1
  exact local_eq k s (⟨0 + j.val, by omega⟩) j 0 rfl _

theorem out6_F (n : Fin 64) (s : Fin 64) (j : Fin 512) :
    out6 m c (ix2 (Arr.row n s) (⟨512 + j.val, by omega⟩ : Fin 6144)) = ((arrs m c).chunk n).outF ((arrs m c).S (63 - n.val)) (ix2 s j) := by
  have hn := n.isLt
  have hs := s.isLt
  have hj := j.isLt
  obtain ⟨t, k, ht, hk⟩ := point_of n
  rw [← out6_block m c t (ix2 (⟨448 - 64 * k.val + s.val, by have := ltT k; omega⟩ : Fin 512) (⟨512 + j.val, by omega⟩ : Fin 2048)) _
    (by show 64 * n.val + s.val = (7 - t.val) * 512 + (448 - 64 * k.val + s.val); have := ltT k; have := ltN t; omega) rfl]
  have hk8 := ltT k
  unfold Blk.outAll
  have e : Blk.tripOf (ix2 (⟨448 - 64 * k.val + s.val, by omega⟩ : Fin 512) (⟨512 + j.val, by omega⟩ : Fin 2048)) = k :=
    Fin.ext (by show 7 - (448 - 64 * k.val + s.val) / 64 = k.val; omega)
  rw [e, Blk.outStep_F _ _ _ _ _ ⟨by show 448 - 64 * k.val ≤ 448 - 64 * k.val + s.val; omega, by show 448 - 64 * k.val + s.val < 448 - 64 * k.val + 64; omega⟩
    (by show 512 ≤ 512 + j.val; omega) (by show 512 + j.val < 512 + 512; omega), S_at, chunk_eq]
  rw [show Arr.nth (8 * t.val + k.val) = n from Fin.ext (by show 63 - (8 * t.val + k.val) = n.val; omega), show 8 * t.val + k.val = 63 - n.val by omega]
  congr 1
  exact local_eq k s (⟨512 + j.val, by omega⟩) j 512 rfl _

theorem out6_V (n : Fin 64) (s : Fin 64) (j : Fin 512) :
    out6 m c (ix2 (Arr.row n s) (⟨1024 + j.val, by omega⟩ : Fin 6144)) = ((arrs m c).chunk n).outV ((arrs m c).S (63 - n.val)) (ix2 s j) := by
  have hn := n.isLt
  have hs := s.isLt
  have hj := j.isLt
  obtain ⟨t, k, ht, hk⟩ := point_of n
  rw [← out6_block m c t (ix2 (⟨448 - 64 * k.val + s.val, by have := ltT k; omega⟩ : Fin 512) (⟨1024 + j.val, by omega⟩ : Fin 2048)) _
    (by show 64 * n.val + s.val = (7 - t.val) * 512 + (448 - 64 * k.val + s.val); have := ltT k; have := ltN t; omega) rfl]
  have hk8 := ltT k
  unfold Blk.outAll
  have e : Blk.tripOf (ix2 (⟨448 - 64 * k.val + s.val, by omega⟩ : Fin 512) (⟨1024 + j.val, by omega⟩ : Fin 2048)) = k :=
    Fin.ext (by show 7 - (448 - 64 * k.val + s.val) / 64 = k.val; omega)
  rw [e, Blk.outStep_V _ _ _ _ _ ⟨by show 448 - 64 * k.val ≤ 448 - 64 * k.val + s.val; omega, by show 448 - 64 * k.val + s.val < 448 - 64 * k.val + 64; omega⟩
    (by show 1024 ≤ 1024 + j.val; omega) (by show 1024 + j.val < 1024 + 512; omega), S_at, chunk_eq]
  rw [show Arr.nth (8 * t.val + k.val) = n from Fin.ext (by show 63 - (8 * t.val + k.val) = n.val; omega), show 8 * t.val + k.val = 63 - n.val by omega]
  congr 1
  exact local_eq k s (⟨1024 + j.val, by omega⟩) j 1024 rfl _

theorem out6_G (n : Fin 64) (s : Fin 64) (j : Fin 512) :
    out6 m c (ix2 (Arr.row n s) (⟨1536 + j.val, by omega⟩ : Fin 6144)) = ((arrs m c).chunk n).outG ((arrs m c).S (63 - n.val)) (ix2 s j) := by
  have hn := n.isLt
  have hs := s.isLt
  have hj := j.isLt
  obtain ⟨t, k, ht, hk⟩ := point_of n
  rw [← out6_block m c t (ix2 (⟨448 - 64 * k.val + s.val, by have := ltT k; omega⟩ : Fin 512) (⟨1536 + j.val, by omega⟩ : Fin 2048)) _
    (by show 64 * n.val + s.val = (7 - t.val) * 512 + (448 - 64 * k.val + s.val); have := ltT k; have := ltN t; omega) rfl]
  have hk8 := ltT k
  unfold Blk.outAll
  have e : Blk.tripOf (ix2 (⟨448 - 64 * k.val + s.val, by omega⟩ : Fin 512) (⟨1536 + j.val, by omega⟩ : Fin 2048)) = k :=
    Fin.ext (by show 7 - (448 - 64 * k.val + s.val) / 64 = k.val; omega)
  rw [e, Blk.outStep_G _ _ _ _ _ ⟨by show 448 - 64 * k.val ≤ 448 - 64 * k.val + s.val; omega, by show 448 - 64 * k.val + s.val < 448 - 64 * k.val + 64; omega⟩
    (by show 1536 ≤ 1536 + j.val; omega) (by show 1536 + j.val < 1536 + 512; omega), S_at, chunk_eq]
  rw [show Arr.nth (8 * t.val + k.val) = n from Fin.ext (by show 63 - (8 * t.val + k.val) = n.val; omega), show 8 * t.val + k.val = 63 - n.val by omega]
  congr 1
  exact local_eq k s (⟨1536 + j.val, by omega⟩) j 1536 rfl _

theorem out6_rest (i : S4096x6144.Idx) (h : ¬ (i 1).val < 2048) : out6 m c i = V m c main_v117_0 i := dif_neg h

theorem entry_out : V m c main_v117_0 = m ((c : Thread nD τ).loc main_arg4) := by
  entry_read
  rfl

/-- The run: what the results hold, the arguments unchanged. -/
theorem run_results : θ_run defs (onTc (τ := τ) (main (F := F))) ⟨m, fun _ => 0, ρ⟩ fun r => ∀ c : Dev nD,
      r.2.mem ((c : Thread nD τ).loc main_v117_0) = out6 m c
      ∧ r.2.mem ((c : Thread nD τ).loc main_v117_1) = lastRows (m ((c : Thread nD τ).loc main_arg2)) ((arrs m c).L 64)
      ∧ r.2.mem ((c : Thread nD τ).loc main_v117_2) = (arrs m c).G 64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c),
      ((h c).1 7).trans ((final7 m c).trans (congrArg _ (L_point m c 8 le_rfl))),
      ((h c).1 8).trans ((final8 m c).trans (G_point m c 8 le_rfl)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c)⟩)
    (run_main m ρ)

end Cert.KernelIdeal.Chunk
-- ==== Proof.Entry.lean ====
/- The arrays the host prepares for the kernel's region, in terms of the arguments. -/
module

public import proofs.«01_k».proof.Proof.Flat

@[expose] public section

set_option maxRecDepth 16384
set_option maxHeartbeats 2000000

noncomputable section

namespace Cert.KernelIdeal.Chunk

open Idealize.ShloMosaic Idealize.ShloMosaic.TcCoe Idealize.SL.Sem
open Idealize.ShloMosaic.StableHlo
open Cert.KernelIdeal.Gen

variable {F : FTy → Type} [FloatOps F]

/-- The logistic function of an array. -/
def hSig (x : Vec F S4096x512 .f32) : Vec F S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf x)))
/-- The query: the activation of the first columns. -/
def hQ0 (z : Vec F S4096x6144 .f32) : Vec F S4096x512 .f32 :=
  mulf (extractStridedSlice S4096x512 ![0, 0] z slices_S4096x6144_S4096x512_0_0) (hSig (extractStridedSlice S4096x512 ![0, 0] z slices_S4096x6144_S4096x512_0_0))
def hQ (z : Vec F S4096x6144 .f32) : Vec F S4096x4x128 .f32 := shapeCast _ (hQ0 z) shapeCasts_S4096x512_S4096x4x128
/-- The softmax of the two bounds. -/
def hE (l : Vec F S2x512 .f32) : Vec F S2x512 .f32 :=
  Host.exp (subf l (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf l (constant S_ .f32 0xFF800000#32) reducesTo_S2x512_S512_d0 h_S_)))))
def hSoft (l : Vec F S2x512 .f32) : Vec F S2x512 .f32 :=
  Host.divf (hE l) (broadcastInDim S2x512 ![0, 1] bcast_S1x512_S2x512_0_1 (broadcastInDim S1x512 ![1] bcast_S512_S1x512_1 (Host.reduceAdd (hE l) (constant S_ .f32 0x00000000#32) reducesTo_S2x512_S512_d0 h_S_)))
def hCum (l : Vec F S2x512 .f32) : Vec F S2x512 .f32 :=
  Host.reduceWindowAdd ![2, 1] ![1, 1] ![1, 0] ![0, 0] (hSoft l) (broadcastInDim S_ ![] bcast_S_S_ (constant S_ .f32 0x00000000#32)) reduceWindows_S2x512_S2x512_w2s1p1_0_w1s1p0_0 h_S_
/-- The lower bound of the forget gate. -/
def hLb (l : Vec F S2x512 .f32) : Vec F S512 .f32 :=
  shapeCast _ (extractStridedSlice S1x512 ![0, 0] (hCum l) slices_S2x512_S1x512_0_0) shapeCasts_S1x512_S512
/-- The forget gate. -/
def hFg (z : Vec F S4096x6144 .f32) (l : Vec F S2x512 .f32) : Vec F S4096x512 .f32 :=
  addf (broadcastInDim S4096x512 ![0, 1] bcast_S1x512_S4096x512_0_1 (broadcastInDim S1x512 ![1] bcast_S512_S1x512_1 (hLb l))) (mulf (broadcastInDim S4096x512 ![0, 1] bcast_S1x512_S4096x512_0_1 (broadcastInDim S1x512 ![1] bcast_S512_S1x512_1 (subf (broadcastInDim S512 ![] bcast_S_S512 (constant S_ .f32 0x3F800000#32)) (hLb l)))) (hSig (extractStridedSlice S4096x512 ![0, 512] z slices_S4096x6144_S4096x512_0_512)))
def hLog (z : Vec F S4096x6144 .f32) (l : Vec F S2x512 .f32) : Vec F S4096x4x128 .f32 := shapeCast _ (Host.log (hFg z l)) shapeCasts_S4096x512_S4096x4x128
def hK (z : Vec F S4096x6144 .f32) (l : Vec F S2x512 .f32) : Vec F S4096x4x128 .f32 :=
  subf (broadcastInDim S4096x4x128 ![] bcast_S_S4096x4x128 (constant S_ .f32 0x3F800000#32)) (shapeCast _ (hFg z l) shapeCasts_S4096x512_S4096x4x128)
def hV (z : Vec F S4096x6144 .f32) : Vec F S4096x4x128 .f32 :=
  shapeCast _ (extractStridedSlice S4096x512 ![0, 1024] z slices_S4096x6144_S4096x512_0_1024) shapeCasts_S4096x512_S4096x4x128
/-- The running sums of the gate's logarithm. -/
def hB (z : Vec F S4096x6144 .f32) (l : Vec F S2x512 .f32) : Vec F S4096x4x128 .f32 :=
  Host.reduceWindowAdd ![4096, 1, 1] ![1, 1, 1] ![4095, 0, 0] ![0, 0, 0] (hLog z l) (broadcastInDim S_ ![] bcast_S_S_ (constant S_ .f32 0x00000000#32)) reduceWindows_S4096x4x128_S4096x4x128_w4096s1p4095_0_w1s1p0_0_w1s1p0_0 h_S_
def hMask : Vec F S4096x4096x1x1 .i1 := cmpi .sle (iotaInDim S4096x4096x1x1 32 1) (iotaInDim S4096x4096x1x1 32 0)
def hDiff (z : Vec F S4096x6144 .f32) (l : Vec F S2x512 .f32) : Vec F S4096x4096x4x128 .f32 :=
  subf (broadcastInDim S4096x4096x4x128 ![0, 1, 2, 3] bcast_S4096x1x4x128_S4096x4096x4x128_0_1_2_3 (broadcastInDim S4096x1x4x128 ![0, 2, 3] bcast_S4096x4x128_S4096x1x4x128_0_2_3 (hB z l))) (broadcastInDim S4096x4096x4x128 ![0, 1, 2, 3] bcast_S1x4096x4x128_S4096x4096x4x128_0_1_2_3 (broadcastInDim S1x4096x4x128 ![1, 2, 3] bcast_S4096x4x128_S1x4096x4x128_1_2_3 (hB z l)))
def hSel (z : Vec F S4096x6144 .f32) (l : Vec F S2x512 .f32) : Vec F S4096x4096x4x128 .f32 :=
  select (broadcastInDim S4096x4096x4x128 ![0, 1, 2, 3] bcast_S4096x4096x1x1_S4096x4096x4x128_0_1_2_3 (hMask (F := F))) (hDiff z l) (broadcastInDim S4096x4096x4x128 ![] bcast_S_S4096x4096x4x128 (id (constant S_ .f32 0xFF800000#32)))
def hScore (z : Vec F S4096x6144 .f32) (l : Vec F S2x512 .f32) : Vec F S4096x4096x4 .f32 :=
  Host.reduceAdd (mulf (broadcastInDim S4096x4096x4x128 ![0, 1, 2, 3] bcast_S4096x1x4x128_S4096x4096x4x128_0_1_2_3 (broadcastInDim S4096x1x4x128 ![0, 2, 3] bcast_S4096x4x128_S4096x1x4x128_0_2_3 (hQ z))) (mulf (broadcastInDim S4096x4096x4x128 ![0, 1, 2, 3] bcast_S1x4096x4x128_S4096x4096x4x128_0_1_2_3 (broadcastInDim S1x4096x4x128 ![1, 2, 3] bcast_S4096x4x128_S1x4096x4x128_1_2_3 (hK z l))) (Host.exp (hSel z l)))) (constant S_ .f32 0x00000000#32) reducesTo_S4096x4096x4x128_S4096x4096x4_d3 h_S_
def hO3 (z : Vec F S4096x6144 .f32) (l : Vec F S2x512 .f32) : Vec F S4096x4x128 .f32 :=
  transpose S4096x4x128 [2, 0, 1] (Host.dotGeneral dot_S4096x4x128_S4096x4096x4_S4x128x4096_0_1_2_0_1_2 none (hV z) (hScore z l)) transposes_S4x128x4096_S4096x4x128_2_0_1
/-- The mixer's output before its norm. -/
def hO (z : Vec F S4096x6144 .f32) (l : Vec F S2x512 .f32) : Vec F S4096x512 .f32 := shapeCast _ (hO3 z l) shapeCasts_S4096x4x128_S4096x512
/-- Which rows come before a chunk. -/
def hBefore : Vec F S64x4096x1x1 .i1 :=
  broadcastInDim S64x4096x1x1 ![0, 1] bcast_S64x4096_S64x4096x1x1_0_1 (cmpi .slt (iotaInDim S64x4096 32 1) (muli (broadcastInDim S64x4096 ![] bcast_S_S64x4096 (constantI S_ 32 64#32)) (iotaInDim S64x4096 32 0)))
def hPart (z : Vec F S4096x6144 .f32) (l : Vec F S2x512 .f32) : Vec F S64x4096x4x128 .f32 :=
  select (broadcastInDim S64x4096x4x128 ![0, 1, 2, 3] bcast_S64x4096x1x1_S64x4096x4x128_0_1_2_3 (hBefore (F := F))) (broadcastInDim S64x4096x4x128 ![0, 1, 2, 3] bcast_S1x4096x4x128_S64x4096x4x128_0_1_2_3 (broadcastInDim S1x4096x4x128 ![1, 2, 3] bcast_S4096x4x128_S1x4096x4x128_1_2_3 (hLog z l))) (broadcastInDim S64x4096x4x128 ![] bcast_S_S64x4096x4x128 (id (constant S_ .f32 0x00000000#32)))
def hEnds (z : Vec F S4096x6144 .f32) (l : Vec F S2x512 .f32) : Vec F S64x4x128 .f32 :=
  Host.reduceAdd (hPart z l) (constant S_ .f32 0x00000000#32) reducesTo_S64x4096x4x128_S64x4x128_d1 h_S_
def hEDiff (z : Vec F S4096x6144 .f32) (l : Vec F S2x512 .f32) : Vec F S64x4096x4x128 .f32 :=
  subf (broadcastInDim S64x4096x4x128 ![0, 1, 2, 3] bcast_S64x1x4x128_S64x4096x4x128_0_1_2_3 (broadcastInDim S64x1x4x128 ![0, 2, 3] bcast_S64x4x128_S64x1x4x128_0_2_3 (hEnds z l))) (broadcastInDim S64x4096x4x128 ![0, 1, 2, 3] bcast_S1x4096x4x128_S64x4096x4x128_0_1_2_3 (broadcastInDim S1x4096x4x128 ![1, 2, 3] bcast_S4096x4x128_S1x4096x4x128_1_2_3 (hB z l)))
def hESel (z : Vec F S4096x6144 .f32) (l : Vec F S2x512 .f32) : Vec F S64x4096x4x128 .f32 :=
  select (broadcastInDim S64x4096x4x128 ![0, 1, 2, 3] bcast_S64x4096x1x1_S64x4096x4x128_0_1_2_3 (hBefore (F := F))) (hEDiff z l) (broadcastInDim S64x4096x4x128 ![] bcast_S_S64x4096x4x128 (id (constant S_ .f32 0xFF800000#32)))
def hSt4 (z : Vec F S4096x6144 .f32) (l : Vec F S2x512 .f32) : Vec F S64x4x128x128 .f32 :=
  transpose S64x4x128x128 [1, 0, 3, 2] (Host.dotGeneral dot_S64x4096x4x128_S4096x4x128_S4x64x128x128_1_0_03_2_2_1 none (mulf (broadcastInDim S64x4096x4x128 ![0, 1, 2, 3] bcast_S1x4096x4x128_S64x4096x4x128_0_1_2_3 (broadcastInDim S1x4096x4x128 ![1, 2, 3] bcast_S4096x4x128_S1x4096x4x128_1_2_3 (hK z l))) (Host.exp (hESel z l))) (hV z)) transposes_S4x64x128x128_S64x4x128x128_1_0_3_2
/-- The states before each chunk. -/
def hSt (z : Vec F S4096x6144 .f32) (l : Vec F S2x512 .f32) : Vec F S32768x128 .f32 := shapeCast _ (hSt4 z l) shapeCasts_S64x4x128x128_S32768x128

/-- The device's contents before the host's work, and after each part of it. -/
def w0 (V0 : Valuation τ sig (Elt F)) : Valuation τ sig (Elt F) := V0
theorem w0_main_arg0 (V0 : Valuation τ sig (Elt F)) : w0 V0 (no_index (Proc.devRef .tc main_arg0)) = V0 (Proc.devRef .tc main_arg0) := rfl
theorem w0_main_arg2 (V0 : Valuation τ sig (Elt F)) : w0 V0 (no_index (Proc.devRef .tc main_arg2)) = V0 (Proc.devRef .tc main_arg2) := rfl

def w1 (V0 : Valuation τ sig (Elt F)) : Valuation τ sig (Elt F) := after hostOps0 (w0 V0)
theorem w1_main_v0 (V0 : Valuation τ sig (Elt F)) : w1 V0 (no_index (Proc.devRef .tc main_v0)) = extractStridedSlice S4096x512 ![0, 0] (V0 (Proc.devRef .tc main_arg0)) slices_S4096x6144_S4096x512_0_0 := by
  unfold w1
  simp only [hostOps0, TRef.binary, TRef.nullary, TRef.unary, TRef.ternary, TRef.toBuf, TRef.ofBuf, cast_eq]
  after_results_simp
  all_goals first | done | (simp only [w0_main_arg0, w0_main_arg2] <;> rfl) | rfl
theorem w1_main_v1 (V0 : Valuation τ sig (Elt F)) : w1 V0 (no_index (Proc.devRef .tc main_v1)) = extractStridedSlice S4096x512 ![0, 512] (V0 (Proc.devRef .tc main_arg0)) slices_S4096x6144_S4096x512_0_512 := by
  unfold w1
  simp only [hostOps0, TRef.binary, TRef.nullary, TRef.unary, TRef.ternary, TRef.toBuf, TRef.ofBuf, cast_eq]
  after_results_simp
  all_goals first | done | (simp only [w0_main_arg0, w0_main_arg2] <;> rfl) | rfl
theorem w1_main_v2 (V0 : Valuation τ sig (Elt F)) : w1 V0 (no_index (Proc.devRef .tc main_v2)) = extractStridedSlice S4096x512 ![0, 1024] (V0 (Proc.devRef .tc main_arg0)) slices_S4096x6144_S4096x512_0_1024 := by
  unfold w1
  simp only [hostOps0, TRef.binary, TRef.nullary, TRef.unary, TRef.ternary, TRef.toBuf, TRef.ofBuf, cast_eq]
  after_results_simp
  all_goals first | done | (simp only [w0_main_arg0, w0_main_arg2] <;> rfl) | rfl
theorem w1_main_arg2 (V0 : Valuation τ sig (Elt F)) : w1 V0 (no_index (Proc.devRef .tc main_arg2)) = (V0 (Proc.devRef .tc main_arg2)) := by
  unfold w1
  simp only [hostOps0, TRef.binary, TRef.nullary, TRef.unary, TRef.ternary, TRef.toBuf, TRef.ofBuf, cast_eq]
  after_results_simp
  all_goals first | done | (simp only [w0_main_arg0, w0_main_arg2] <;> rfl) | rfl

def w2 (V0 : Valuation τ sig (Elt F)) : Valuation τ sig (Elt F) := after hostOps0_1 (w1 V0)
theorem w2_main_v3 (V0 : Valuation τ sig (Elt F)) : w2 V0 (no_index (Proc.devRef .tc main_v3)) = hQ0 (V0 (Proc.devRef .tc main_arg0)) := by
  unfold w2
  simp only [hostOps0_1, TRef.binary, TRef.nullary, TRef.unary, TRef.ternary, TRef.toBuf, TRef.ofBuf, cast_eq]
  after_results_simp
  all_goals first | done | (simp only [w1_main_v0, w1_main_v1, w1_main_v2, w1_main_arg2] <;> rfl) | rfl
theorem w2_main_v1 (V0 : Valuation τ sig (Elt F)) : w2 V0 (no_index (Proc.devRef .tc main_v1)) = extractStridedSlice S4096x512 ![0, 512] (V0 (Proc.devRef .tc main_arg0)) slices_S4096x6144_S4096x512_0_512 := by
  unfold w2
  simp only [hostOps0_1, TRef.binary, TRef.nullary, TRef.unary, TRef.ternary, TRef.toBuf, TRef.ofBuf, cast_eq]
  after_results_simp
  all_goals first | done | (simp only [w1_main_v0, w1_main_v1, w1_main_v2, w1_main_arg2] <;> rfl) | rfl
theorem w2_main_v2 (V0 : Valuation τ sig (Elt F)) : w2 V0 (no_index (Proc.devRef .tc main_v2)) = extractStridedSlice S4096x512 ![0, 1024] (V0 (Proc.devRef .tc main_arg0)) slices_S4096x6144_S4096x512_0_1024 := by
  unfold w2
  simp only [hostOps0_1, TRef.binary, TRef.nullary, TRef.unary, TRef.ternary, TRef.toBuf, TRef.ofBuf, cast_eq]
  after_results_simp
  all_goals first | done | (simp only [w1_main_v0, w1_main_v1, w1_main_v2, w1_main_arg2] <;> rfl) | rfl
theorem w2_main_arg2 (V0 : Valuation τ sig (Elt F)) : w2 V0 (no_index (Proc.devRef .tc main_arg2)) = (V0 (Proc.devRef .tc main_arg2)) := by
  unfold w2
  simp only [hostOps0_1, TRef.binary, TRef.nullary, TRef.unary, TRef.ternary, TRef.toBuf, TRef.ofBuf, cast_eq]
  after_results_simp
  all_goals first | done | (simp only [w1_main_v0, w1_main_v1, w1_main_v2, w1_main_arg2] <;> rfl) | rfl

def w3 (V0 : Valuation τ sig (Elt F)) : Valuation τ sig (Elt F) := after hostOps0_2 (w2 V0)
theorem w3_main_v4 (V0 : Valuation τ sig (Elt F)) : w3 V0 (no_index (Proc.devRef .tc main_v4)) = hQ (V0 (Proc.devRef .tc main_arg0)) := by
  unfold w3
  simp only [hostOps0_2, TRef.binary, TRef.nullary, TRef.unary, TRef.ternary, TRef.toBuf, TRef.ofBuf, cast_eq]
  after_results_simp
  all_goals first | done | (simp only [w2_main_v3, w2_main_v1, w2_main_v2, w2_main_arg2] <;> rfl) | rfl
theorem w3_main_v15 (V0 : Valuation τ sig (Elt F)) : w3 V0 (no_index (Proc.devRef .tc main_v15)) = hSoft (V0 (Proc.devRef .tc main_arg2)) := by
  unfold w3
  simp only [hostOps0_2, TRef.binary, TRef.nullary, TRef.unary, TRef.ternary, TRef.toBuf, TRef.ofBuf, cast_eq]
  after_results_simp
  all_goals first | done | (simp only [w2_main_v3, w2_main_v1, w2_main_v2, w2_main_arg2] <;> rfl) | rfl
theorem w3_main_v1 (V0 : Valuation τ sig (Elt F)) : w3 V0 (no_index (Proc.devRef .tc main_v1)) = extractStridedSlice S4096x512 ![0, 512] (V0 (Proc.devRef .tc main_arg0)) slices_S4096x6144_S4096x512_0_512 := by
  unfold w3
  simp only [hostOps0_2, TRef.binary, TRef.nullary, TRef.unary, TRef.ternary, TRef.toBuf, TRef.ofBuf, cast_eq]
  after_results_simp
  all_goals first | done | (simp only [w2_main_v3, w2_main_v1, w2_main_v2, w2_main_arg2] <;> rfl) | rfl
theorem w3_main_v2 (V0 : Valuation τ sig (Elt F)) : w3 V0 (no_index (Proc.devRef .tc main_v2)) = extractStridedSlice S4096x512 ![0, 1024] (V0 (Proc.devRef .tc main_arg0)) slices_S4096x6144_S4096x512_0_1024 := by
  unfold w3
  simp only [hostOps0_2, TRef.binary, TRef.nullary, TRef.unary, TRef.ternary, TRef.toBuf, TRef.ofBuf, cast_eq]
  after_results_simp
  all_goals first | done | (simp only [w2_main_v3, w2_main_v1, w2_main_v2, w2_main_arg2] <;> rfl) | rfl
theorem w3_main_arg2 (V0 : Valuation τ sig (Elt F)) : w3 V0 (no_index (Proc.devRef .tc main_arg2)) = (V0 (Proc.devRef .tc main_arg2)) := by
  unfold w3
  simp only [hostOps0_2, TRef.binary, TRef.nullary, TRef.unary, TRef.ternary, TRef.toBuf, TRef.ofBuf, cast_eq]
  after_results_simp
  all_goals first | done | (simp only [w2_main_v3, w2_main_v1, w2_main_v2, w2_main_arg2] <;> rfl) | rfl

def w4 (V0 : Valuation τ sig (Elt F)) : Valuation τ sig (Elt F) := after hostOps0_3 (w3 V0)
theorem w4_main_v16 (V0 : Valuation τ sig (Elt F)) : w4 V0 (no_index (Proc.devRef .tc main_v16)) = hCum (V0 (Proc.devRef .tc main_arg2)) := by
  unfold w4
  simp only [hostOps0_3, TRef.binary, TRef.nullary, TRef.unary, TRef.ternary, TRef.toBuf, TRef.ofBuf, cast_eq]
  after_results_simp
  all_goals first | done | (simp only [w3_main_v4, w3_main_v15, w3_main_v1, w3_main_v2, w3_main_arg2] <;> rfl) | rfl
theorem w4_main_v1 (V0 : Valuation τ sig (Elt F)) : w4 V0 (no_index (Proc.devRef .tc main_v1)) = extractStridedSlice S4096x512 ![0, 512] (V0 (Proc.devRef .tc main_arg0)) slices_S4096x6144_S4096x512_0_512 := by
  unfold w4
  simp only [hostOps0_3, TRef.binary, TRef.nullary, TRef.unary, TRef.ternary, TRef.toBuf, TRef.ofBuf, cast_eq]
  after_results_simp
  all_goals first | done | (simp only [w3_main_v4, w3_main_v15, w3_main_v1, w3_main_v2, w3_main_arg2] <;> rfl) | rfl
theorem w4_main_v2 (V0 : Valuation τ sig (Elt F)) : w4 V0 (no_index (Proc.devRef .tc main_v2)) = extractStridedSlice S4096x512 ![0, 1024] (V0 (Proc.devRef .tc main_arg0)) slices_S4096x6144_S4096x512_0_1024 := by
  unfold w4
  simp only [hostOps0_3, TRef.binary, TRef.nullary, TRef.unary, TRef.ternary, TRef.toBuf, TRef.ofBuf, cast_eq]
  after_results_simp
  all_goals first | done | (simp only [w3_main_v4, w3_main_v15, w3_main_v1, w3_main_v2, w3_main_arg2] <;> rfl) | rfl
theorem w4_main_v4 (V0 : Valuation τ sig (Elt F)) : w4 V0 (no_index (Proc.devRef .tc main_v4)) = hQ (V0 (Proc.devRef .tc main_arg0)) := by
  unfold w4
  simp only [hostOps0_3, TRef.binary, TRef.nullary, TRef.unary, TRef.ternary, TRef.toBuf, TRef.ofBuf, cast_eq]
  after_results_simp
  all_goals first | done | (simp only [w3_main_v4, w3_main_v15, w3_main_v1, w3_main_v2, w3_main_arg2] <;> rfl) | rfl
theorem w4_main_arg2 (V0 : Valuation τ sig (Elt F)) : w4 V0 (no_index (Proc.devRef .tc main_arg2)) = (V0 (Proc.devRef .tc main_arg2)) := by
  unfold w4
  simp only [hostOps0_3, TRef.binary, TRef.nullary, TRef.unary, TRef.ternary, TRef.toBuf, TRef.ofBuf, cast_eq]
  after_results_simp
  all_goals first | done | (simp only [w3_main_v4, w3_main_v15, w3_main_v1, w3_main_v2, w3_main_arg2] <;> rfl) | rfl

def w5 (V0 : Valuation τ sig (Elt F)) : Valuation τ sig (Elt F) := after hostOps0_4 (w4 V0)
theorem w5_main_v35 (V0 : Valuation τ sig (Elt F)) : w5 V0 (no_index (Proc.devRef .tc main_v35)) = hLog (V0 (Proc.devRef .tc main_arg0)) (V0 (Proc.devRef .tc main_arg2)) := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_v37 (V0 : Valuation τ sig (Elt F)) : w5 V0 (no_index (Proc.devRef .tc main_v37)) = hK (V0 (Proc.devRef .tc main_arg0)) (V0 (Proc.devRef .tc main_arg2)) := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_v38 (V0 : Valuation τ sig (Elt F)) : w5 V0 (no_index (Proc.devRef .tc main_v38)) = hV (V0 (Proc.devRef .tc main_arg0)) := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_v1 (V0 : Valuation τ sig (Elt F)) : w5 V0 (no_index (Proc.devRef .tc main_v1)) = extractStridedSlice S4096x512 ![0, 512] (V0 (Proc.devRef .tc main_arg0)) slices_S4096x6144_S4096x512_0_512 := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_v2 (V0 : Valuation τ sig (Elt F)) : w5 V0 (no_index (Proc.devRef .tc main_v2)) = extractStridedSlice S4096x512 ![0, 1024] (V0 (Proc.devRef .tc main_arg0)) slices_S4096x6144_S4096x512_0_1024 := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_v4 (V0 : Valuation τ sig (Elt F)) : w5 V0 (no_index (Proc.devRef .tc main_v4)) = hQ (V0 (Proc.devRef .tc main_arg0)) := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl
theorem w5_main_arg2 (V0 : Valuation τ sig (Elt F)) : w5 V0 (no_index (Proc.devRef .tc main_arg2)) = (V0 (Proc.devRef .tc main_arg2)) := by
  unfold w5
  simp only [hostOps0_4, TRef.binary, TRef.nullary, TRef.unary, TRef.ternary, TRef.toBuf, TRef.ofBuf, cast_eq]
  after_results_simp
  all_goals first | done | (simp only [w4_main_v16, w4_main_v1, w4_main_v2, w4_main_v4, w4_main_arg2] <;> rfl) | rfl

def w6 (V0 : Valuation τ sig (Elt F)) : Valuation τ sig (Elt F) := after hostOps0_5 (w5 V0)
theorem w6_main_v39 (V0 : Valuation τ sig (Elt F)) : w6 V0 (no_index (Proc.devRef .tc main_v39)) = hB (V0 (Proc.devRef .tc main_arg0)) (V0 (Proc.devRef .tc main_arg2)) := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_v1 (V0 : Valuation τ sig (Elt F)) : w6 V0 (no_index (Proc.devRef .tc main_v1)) = extractStridedSlice S4096x512 ![0, 512] (V0 (Proc.devRef .tc main_arg0)) slices_S4096x6144_S4096x512_0_512 := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_v2 (V0 : Valuation τ sig (Elt F)) : w6 V0 (no_index (Proc.devRef .tc main_v2)) = extractStridedSlice S4096x512 ![0, 1024] (V0 (Proc.devRef .tc main_arg0)) slices_S4096x6144_S4096x512_0_1024 := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_v4 (V0 : Valuation τ sig (Elt F)) : w6 V0 (no_index (Proc.devRef .tc main_v4)) = hQ (V0 (Proc.devRef .tc main_arg0)) := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_v37 (V0 : Valuation τ sig (Elt F)) : w6 V0 (no_index (Proc.devRef .tc main_v37)) = hK (V0 (Proc.devRef .tc main_arg0)) (V0 (Proc.devRef .tc main_arg2)) := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_v38 (V0 : Valuation τ sig (Elt F)) : w6 V0 (no_index (Proc.devRef .tc main_v38)) = hV (V0 (Proc.devRef .tc main_arg0)) := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl
theorem w6_main_arg2 (V0 : Valuation τ sig (Elt F)) : w6 V0 (no_index (Proc.devRef .tc main_arg2)) = (V0 (Proc.devRef .tc main_arg2)) := by
  unfold w6
  simp only [hostOps0_5, TRef.binary, TRef.nullary, TRef.unary, TRef.ternary, TRef.toBuf, TRef.ofBuf, cast_eq]
  after_results_simp
  all_goals first | done | (simp only [w5_main_v35, w5_main_v37, w5_main_v38, w5_main_v1, w5_main_v2, w5_main_v4, w5_main_arg2] <;> rfl) | rfl

def w7 (V0 : Valuation τ sig (Elt F)) : Valuation τ sig (Elt F) := after hostOps0_6 (w6 V0)
theorem w7_main_v42 (V0 : Valuation τ sig (Elt F)) : w7 V0 (no_index (Proc.devRef .tc main_v42)) = hMask (F := F) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v47 (V0 : Valuation τ sig (Elt F)) : w7 V0 (no_index (Proc.devRef .tc main_v47)) = hDiff (V0 (Proc.devRef .tc main_arg0)) (V0 (Proc.devRef .tc main_arg2)) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_cst_6 (V0 : Valuation τ sig (Elt F)) : w7 V0 (no_index (Proc.devRef .tc main_cst_6)) = constant S_ .f32 0xFF800000#32 := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v1 (V0 : Valuation τ sig (Elt F)) : w7 V0 (no_index (Proc.devRef .tc main_v1)) = extractStridedSlice S4096x512 ![0, 512] (V0 (Proc.devRef .tc main_arg0)) slices_S4096x6144_S4096x512_0_512 := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v2 (V0 : Valuation τ sig (Elt F)) : w7 V0 (no_index (Proc.devRef .tc main_v2)) = extractStridedSlice S4096x512 ![0, 1024] (V0 (Proc.devRef .tc main_arg0)) slices_S4096x6144_S4096x512_0_1024 := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v4 (V0 : Valuation τ sig (Elt F)) : w7 V0 (no_index (Proc.devRef .tc main_v4)) = hQ (V0 (Proc.devRef .tc main_arg0)) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v37 (V0 : Valuation τ sig (Elt F)) : w7 V0 (no_index (Proc.devRef .tc main_v37)) = hK (V0 (Proc.devRef .tc main_arg0)) (V0 (Proc.devRef .tc main_arg2)) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_v38 (V0 : Valuation τ sig (Elt F)) : w7 V0 (no_index (Proc.devRef .tc main_v38)) = hV (V0 (Proc.devRef .tc main_arg0)) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl
theorem w7_main_arg2 (V0 : Valuation τ sig (Elt F)) : w7 V0 (no_index (Proc.devRef .tc main_arg2)) = (V0 (Proc.devRef .tc main_arg2)) := by
  unfold w7
  simp only [hostOps0_6, TRef.binary, TRef.nullary, TRef.unary, TRef.ternary, TRef.toBuf, TRef.ofBuf, cast_eq]
  after_results_simp
  all_goals first | done | (simp only [w6_main_v39, w6_main_v1, w6_main_v2, w6_main_v4, w6_main_v37, w6_main_v38, w6_main_arg2] <;> rfl) | rfl

def w8 (V0 : Valuation τ sig (Elt F)) : Valuation τ sig (Elt F) := after hostOps0_7 (w7 V0)
theorem w8_main_v48 (V0 : Valuation τ sig (Elt F)) : w8 V0 (no_index (Proc.devRef .tc main_v48)) = hSel (V0 (Proc.devRef .tc main_arg0)) (V0 (Proc.devRef .tc main_arg2)) := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_v1 (V0 : Valuation τ sig (Elt F)) : w8 V0 (no_index (Proc.devRef .tc main_v1)) = extractStridedSlice S4096x512 ![0, 512] (V0 (Proc.devRef .tc main_arg0)) slices_S4096x6144_S4096x512_0_512 := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_v2 (V0 : Valuation τ sig (Elt F)) : w8 V0 (no_index (Proc.devRef .tc main_v2)) = extractStridedSlice S4096x512 ![0, 1024] (V0 (Proc.devRef .tc main_arg0)) slices_S4096x6144_S4096x512_0_1024 := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_v4 (V0 : Valuation τ sig (Elt F)) : w8 V0 (no_index (Proc.devRef .tc main_v4)) = hQ (V0 (Proc.devRef .tc main_arg0)) := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_v37 (V0 : Valuation τ sig (Elt F)) : w8 V0 (no_index (Proc.devRef .tc main_v37)) = hK (V0 (Proc.devRef .tc main_arg0)) (V0 (Proc.devRef .tc main_arg2)) := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_v38 (V0 : Valuation τ sig (Elt F)) : w8 V0 (no_index (Proc.devRef .tc main_v38)) = hV (V0 (Proc.devRef .tc main_arg0)) := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl
theorem w8_main_arg2 (V0 : Valuation τ sig (Elt F)) : w8 V0 (no_index (Proc.devRef .tc main_arg2)) = (V0 (Proc.devRef .tc main_arg2)) := by
  unfold w8
  simp only [hostOps0_7, TRef.binary, TRef.nullary, TRef.unary, TRef.ternary, TRef.toBuf, TRef.ofBuf, cast_eq]
  after_results_simp
  all_goals first | done | (simp only [w7_main_v42, w7_main_v47, w7_main_cst_6, w7_main_v1, w7_main_v2, w7_main_v4, w7_main_v37, w7_main_v38, w7_main_arg2] <;> rfl) | rfl

def w9 (V0 : Valuation τ sig (Elt F)) : Valuation τ sig (Elt F) := after hostOps0_8 (w8 V0)
theorem w9_main_v59 (V0 : Valuation τ sig (Elt F)) : w9 V0 (no_index (Proc.devRef .tc main_v59)) = hO (V0 (Proc.devRef .tc main_arg0)) (V0 (Proc.devRef .tc main_arg2)) := by
  unfold w9
  simp only [hostOps0_8, TRef.binary, TRef.nullary, TRef.unary, TRef.ternary, TRef.toBuf, TRef.ofBuf, cast_eq]
  after_results_simp
  all_goals first | done | (simp only [w8_main_v48, w8_main_v1, w8_main_v2, w8_main_v4, w8_main_v37, w8_main_v38, w8_main_arg2] <;> rfl) | rfl
theorem w9_main_v70 (V0 : Valuation τ sig (Elt F)) : w9 V0 (no_index (Proc.devRef .tc main_v70)) = hSoft (V0 (Proc.devRef .tc main_arg2)) := by
  unfold w9
  simp only [hostOps0_8, TRef.binary, TRef.nullary, TRef.unary, TRef.ternary, TRef.toBuf, TRef.ofBuf, cast_eq]
  after_results_simp
  all_goals first | done | (simp only [w8_main_v48, w8_main_v1, w8_main_v2, w8_main_v4, w8_main_v37, w8_main_v38, w8_main_arg2] <;> rfl) | rfl
theorem w9_main_v1 (V0 : Valuation τ sig (Elt F)) : w9 V0 (no_index (Proc.devRef .tc main_v1)) = extractStridedSlice S4096x512 ![0, 512] (V0 (Proc.devRef .tc main_arg0)) slices_S4096x6144_S4096x512_0_512 := by
  unfold w9
  simp only [hostOps0_8, TRef.binary, TRef.nullary, TRef.unary, TRef.ternary, TRef.toBuf, TRef.ofBuf, cast_eq]
  after_results_simp
  all_goals first | done | (simp only [w8_main_v48, w8_main_v1, w8_main_v2, w8_main_v4, w8_main_v37, w8_main_v38, w8_main_arg2] <;> rfl) | rfl
theorem w9_main_v2 (V0 : Valuation τ sig (Elt F)) : w9 V0 (no_index (Proc.devRef .tc main_v2)) = extractStridedSlice S4096x512 ![0, 1024] (V0 (Proc.devRef .tc main_arg0)) slices_S4096x6144_S4096x512_0_1024 := by
  unfold w9
  simp only [hostOps0_8, TRef.binary, TRef.nullary, TRef.unary, TRef.ternary, TRef.toBuf, TRef.ofBuf, cast_eq]
  after_results_simp
  all_goals first | done | (simp only [w8_main_v48, w8_main_v1, w8_main_v2, w8_main_v4, w8_main_v37, w8_main_v38, w8_main_arg2] <;> rfl) | rfl

def w10 (V0 : Valuation τ sig (Elt F)) : Valuation τ sig (Elt F) := after hostOps0_9 (w9 V0)
theorem w10_main_v71 (V0 : Valuation τ sig (Elt F)) : w10 V0 (no_index (Proc.devRef .tc main_v71)) = hCum (V0 (Proc.devRef .tc main_arg2)) := by
  unfold w10
  simp only [hostOps0_9, TRef.binary, TRef.nullary, TRef.unary, TRef.ternary, TRef.toBuf, TRef.ofBuf, cast_eq]
  after_results_simp
  all_goals first | done | (simp only [w9_main_v59, w9_main_v70, w9_main_v1, w9_main_v2] <;> rfl) | rfl
theorem w10_main_v1 (V0 : Valuation τ sig (Elt F)) : w10 V0 (no_index (Proc.devRef .tc main_v1)) = extractStridedSlice S4096x512 ![0, 512] (V0 (Proc.devRef .tc main_arg0)) slices_S4096x6144_S4096x512_0_512 := by
  unfold w10
  simp only [hostOps0_9, TRef.binary, TRef.nullary, TRef.unary, TRef.ternary, TRef.toBuf, TRef.ofBuf, cast_eq]
  after_results_simp
  all_goals first | done | (simp only [w9_main_v59, w9_main_v70, w9_main_v1, w9_main_v2] <;> rfl) | rfl
theorem w10_main_v2 (V0 : Valuation τ sig (Elt F)) : w10 V0 (no_index (Proc.devRef .tc main_v2)) = extractStridedSlice S4096x512 ![0, 1024] (V0 (Proc.devRef .tc main_arg0)) slices_S4096x6144_S4096x512_0_1024 := by
  unfold w10
  simp only [hostOps0_9, TRef.binary, TRef.nullary, TRef.unary, TRef.ternary, TRef.toBuf, TRef.ofBuf, cast_eq]
  after_results_simp
  all_goals first | done | (simp only [w9_main_v59, w9_main_v70, w9_main_v1, w9_main_v2] <;> rfl) | rfl
theorem w10_main_v59 (V0 : Valuation τ sig (Elt F)) : w10 V0 (no_index (Proc.devRef .tc main_v59)) = hO (V0 (Proc.devRef .tc main_arg0)) (V0 (Proc.devRef .tc main_arg2)) := by
  unfold w10
  simp only [hostOps0_9, TRef.binary, TRef.nullary, TRef.unary, TRef.ternary, TRef.toBuf, TRef.ofBuf, cast_eq]
  after_results_simp
  all_goals first | done | (simp only [w9_main_v59, w9_main_v70, w9_main_v1, w9_main_v2] <;> rfl) | rfl

def w11 (V0 : Valuation τ sig (Elt F)) : Valuation τ sig (Elt F) := after hostOps0_10 (w10 V0)
theorem w11_main_v90 (V0 : Valuation τ sig (Elt F)) : w11 V0 (no_index (Proc.devRef .tc main_v90)) = hLog (V0 (Proc.devRef .tc main_arg0)) (V0 (Proc.devRef .tc main_arg2)) := by
  unfold w11
  simp only [hostOps0_10, TRef.binary, TRef.nullary, TRef.unary, TRef.ternary, TRef.toBuf, TRef.ofBuf, cast_eq]
  after_results_simp
  all_goals first | done | (simp only [w10_main_v71, w10_main_v1, w10_main_v2, w10_main_v59] <;> rfl) | rfl
theorem w11_main_v92 (V0 : Valuation τ sig (Elt F)) : w11 V0 (no_index (Proc.devRef .tc main_v92)) = hK (V0 (Proc.devRef .tc main_arg0)) (V0 (Proc.devRef .tc main_arg2)) := by
  unfold w11
  simp only [hostOps0_10, TRef.binary, TRef.nullary, TRef.unary, TRef.ternary, TRef.toBuf, TRef.ofBuf, cast_eq]
  after_results_simp
  all_goals first | done | (simp only [w10_main_v71, w10_main_v1, w10_main_v2, w10_main_v59] <;> rfl) | rfl
theorem w11_main_v93 (V0 : Valuation τ sig (Elt F)) : w11 V0 (no_index (Proc.devRef .tc main_v93)) = hV (V0 (Proc.devRef .tc main_arg0)) := by
  unfold w11
  simp only [hostOps0_10, TRef.binary, TRef.nullary, TRef.unary, TRef.ternary, TRef.toBuf, TRef.ofBuf, cast_eq]
  after_results_simp
  all_goals first | done | (simp only [w10_main_v71, w10_main_v1, w10_main_v2, w10_main_v59] <;> rfl) | rfl
theorem w11_main_v59 (V0 : Valuation τ sig (Elt F)) : w11 V0 (no_index (Proc.devRef .tc main_v59)) = hO (V0 (Proc.devRef .tc main_arg0)) (V0 (Proc.devRef .tc main_arg2)) := by
  unfold w11
  simp only [hostOps0_10, TRef.binary, TRef.nullary, TRef.unary, TRef.ternary, TRef.toBuf, TRef.ofBuf, cast_eq]
  after_results_simp
  all_goals first | done | (simp only [w10_main_v71, w10_main_v1, w10_main_v2, w10_main_v59] <;> rfl) | rfl

def w12 (V0 : Valuation τ sig (Elt F)) : Valuation τ sig (Elt F) := after hostOps0_11 (w11 V0)
theorem w12_main_v94 (V0 : Valuation τ sig (Elt F)) : w12 V0 (no_index (Proc.devRef .tc main_v94)) = hB (V0 (Proc.devRef .tc main_arg0)) (V0 (Proc.devRef .tc main_arg2)) := by
  unfold w12
  simp only [hostOps0_11, TRef.binary, TRef.nullary, TRef.unary, TRef.ternary, TRef.toBuf, TRef.ofBuf, cast_eq]
  after_results_simp
  all_goals first | done | (simp only [w11_main_v90, w11_main_v92, w11_main_v93, w11_main_v59] <;> rfl) | rfl
theorem w12_main_v90 (V0 : Valuation τ sig (Elt F)) : w12 V0 (no_index (Proc.devRef .tc main_v90)) = hLog (V0 (Proc.devRef .tc main_arg0)) (V0 (Proc.devRef .tc main_arg2)) := by
  unfold w12
  simp only [hostOps0_11, TRef.binary, TRef.nullary, TRef.unary, TRef.ternary, TRef.toBuf, TRef.ofBuf, cast_eq]
  after_results_simp
  all_goals first | done | (simp only [w11_main_v90, w11_main_v92, w11_main_v93, w11_main_v59] <;> rfl) | rfl
theorem w12_main_v92 (V0 : Valuation τ sig (Elt F)) : w12 V0 (no_index (Proc.devRef .tc main_v92)) = hK (V0 (Proc.devRef .tc main_arg0)) (V0 (Proc.devRef .tc main_arg2)) := by
  unfold w12
  simp only [hostOps0_11, TRef.binary, TRef.nullary, TRef.unary, TRef.ternary, TRef.toBuf, TRef.ofBuf, cast_eq]
  after_results_simp
  all_goals first | done | (simp only [w11_main_v90, w11_main_v92, w11_main_v93, w11_main_v59] <;> rfl) | rfl
theorem w12_main_v93 (V0 : Valuation τ sig (Elt F)) : w12 V0 (no_index (Proc.devRef .tc main_v93)) = hV (V0 (Proc.devRef .tc main_arg0)) := by
  unfold w12
  simp only [hostOps0_11, TRef.binary, TRef.nullary, TRef.unary, TRef.ternary, TRef.toBuf, TRef.ofBuf, cast_eq]
  after_results_simp
  all_goals first | done | (simp only [w11_main_v90, w11_main_v92, w11_main_v93, w11_main_v59] <;> rfl) | rfl
theorem w12_main_v59 (V0 : Valuation τ sig (Elt F)) : w12 V0 (no_index (Proc.devRef .tc main_v59)) = hO (V0 (Proc.devRef .tc main_arg0)) (V0 (Proc.devRef .tc main_arg2)) := by
  unfold w12
  simp only [hostOps0_11, TRef.binary, TRef.nullary, TRef.unary, TRef.ternary, TRef.toBuf, TRef.ofBuf, cast_eq]
  after_results_simp
  all_goals first | done | (simp only [w11_main_v90, w11_main_v92, w11_main_v93, w11_main_v59] <;> rfl) | rfl

def w13 (V0 : Valuation τ sig (Elt F)) : Valuation τ sig (Elt F) := after hostOps0_12 (w12 V0)
theorem w13_main_v100 (V0 : Valuation τ sig (Elt F)) : w13 V0 (no_index (Proc.devRef .tc main_v100)) = hBefore (F := F) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_v101 (V0 : Valuation τ sig (Elt F)) : w13 V0 (no_index (Proc.devRef .tc main_v101)) = broadcastInDim S1x4096x4x128 ![1, 2, 3] bcast_S4096x4x128_S1x4096x4x128_1_2_3 (hLog (V0 (Proc.devRef .tc main_arg0)) (V0 (Proc.devRef .tc main_arg2))) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_cst_15 (V0 : Valuation τ sig (Elt F)) : w13 V0 (no_index (Proc.devRef .tc main_cst_15)) = constant S_ .f32 0x00000000#32 := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_v92 (V0 : Valuation τ sig (Elt F)) : w13 V0 (no_index (Proc.devRef .tc main_v92)) = hK (V0 (Proc.devRef .tc main_arg0)) (V0 (Proc.devRef .tc main_arg2)) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_v93 (V0 : Valuation τ sig (Elt F)) : w13 V0 (no_index (Proc.devRef .tc main_v93)) = hV (V0 (Proc.devRef .tc main_arg0)) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_v94 (V0 : Valuation τ sig (Elt F)) : w13 V0 (no_index (Proc.devRef .tc main_v94)) = hB (V0 (Proc.devRef .tc main_arg0)) (V0 (Proc.devRef .tc main_arg2)) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl
theorem w13_main_v59 (V0 : Valuation τ sig (Elt F)) : w13 V0 (no_index (Proc.devRef .tc main_v59)) = hO (V0 (Proc.devRef .tc main_arg0)) (V0 (Proc.devRef .tc main_arg2)) := by
  unfold w13
  simp only [hostOps0_12, TRef.binary, TRef.nullary, TRef.unary, TRef.ternary, TRef.toBuf, TRef.ofBuf, cast_eq]
  after_results_simp
  all_goals first | done | (simp only [w12_main_v94, w12_main_v90, w12_main_v92, w12_main_v93, w12_main_v59] <;> rfl) | rfl

def w14 (V0 : Valuation τ sig (Elt F)) : Valuation τ sig (Elt F) := after hostOps0_13 (w13 V0)
theorem w14_main_v102 (V0 : Valuation τ sig (Elt F)) : w14 V0 (no_index (Proc.devRef .tc main_v102)) = hPart (V0 (Proc.devRef .tc main_arg0)) (V0 (Proc.devRef .tc main_arg2)) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl
theorem w14_main_v92 (V0 : Valuation τ sig (Elt F)) : w14 V0 (no_index (Proc.devRef .tc main_v92)) = hK (V0 (Proc.devRef .tc main_arg0)) (V0 (Proc.devRef .tc main_arg2)) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl
theorem w14_main_v93 (V0 : Valuation τ sig (Elt F)) : w14 V0 (no_index (Proc.devRef .tc main_v93)) = hV (V0 (Proc.devRef .tc main_arg0)) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl
theorem w14_main_v94 (V0 : Valuation τ sig (Elt F)) : w14 V0 (no_index (Proc.devRef .tc main_v94)) = hB (V0 (Proc.devRef .tc main_arg0)) (V0 (Proc.devRef .tc main_arg2)) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl
theorem w14_main_v100 (V0 : Valuation τ sig (Elt F)) : w14 V0 (no_index (Proc.devRef .tc main_v100)) = hBefore (F := F) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl
theorem w14_main_v59 (V0 : Valuation τ sig (Elt F)) : w14 V0 (no_index (Proc.devRef .tc main_v59)) = hO (V0 (Proc.devRef .tc main_arg0)) (V0 (Proc.devRef .tc main_arg2)) := by
  unfold w14
  simp only [hostOps0_13, TRef.binary, TRef.nullary, TRef.unary, TRef.ternary, TRef.toBuf, TRef.ofBuf, cast_eq]
  after_results_simp
  all_goals first | done | (simp only [w13_main_v100, w13_main_v101, w13_main_cst_15, w13_main_v92, w13_main_v93, w13_main_v94, w13_main_v59] <;> rfl) | rfl

def w15 (V0 : Valuation τ sig (Elt F)) : Valuation τ sig (Elt F) := after hostOps0_14 (w14 V0)
theorem w15_main_v108 (V0 : Valuation τ sig (Elt F)) : w15 V0 (no_index (Proc.devRef .tc main_v108)) = hEDiff (V0 (Proc.devRef .tc main_arg0)) (V0 (Proc.devRef .tc main_arg2)) := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl
theorem w15_main_cst_17 (V0 : Valuation τ sig (Elt F)) : w15 V0 (no_index (Proc.devRef .tc main_cst_17)) = constant S_ .f32 0xFF800000#32 := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl
theorem w15_main_v92 (V0 : Valuation τ sig (Elt F)) : w15 V0 (no_index (Proc.devRef .tc main_v92)) = hK (V0 (Proc.devRef .tc main_arg0)) (V0 (Proc.devRef .tc main_arg2)) := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl
theorem w15_main_v93 (V0 : Valuation τ sig (Elt F)) : w15 V0 (no_index (Proc.devRef .tc main_v93)) = hV (V0 (Proc.devRef .tc main_arg0)) := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl
theorem w15_main_v100 (V0 : Valuation τ sig (Elt F)) : w15 V0 (no_index (Proc.devRef .tc main_v100)) = hBefore (F := F) := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl
theorem w15_main_v59 (V0 : Valuation τ sig (Elt F)) : w15 V0 (no_index (Proc.devRef .tc main_v59)) = hO (V0 (Proc.devRef .tc main_arg0)) (V0 (Proc.devRef .tc main_arg2)) := by
  unfold w15
  simp only [hostOps0_14, TRef.binary, TRef.nullary, TRef.unary, TRef.ternary, TRef.toBuf, TRef.ofBuf, cast_eq]
  after_results_simp
  all_goals first | done | (simp only [w14_main_v102, w14_main_v92, w14_main_v93, w14_main_v94, w14_main_v100, w14_main_v59] <;> rfl) | rfl

def w16 (V0 : Valuation τ sig (Elt F)) : Valuation τ sig (Elt F) := after hostOps0_15 (w15 V0)
theorem w16_main_v109 (V0 : Valuation τ sig (Elt F)) : w16 V0 (no_index (Proc.devRef .tc main_v109)) = hESel (V0 (Proc.devRef .tc main_arg0)) (V0 (Proc.devRef .tc main_arg2)) := by
  unfold w16
  simp only [hostOps0_15, TRef.binary, TRef.nullary, TRef.unary, TRef.ternary, TRef.toBuf, TRef.ofBuf, cast_eq]
  after_results_simp
  all_goals first | done | (simp only [w15_main_v108, w15_main_cst_17, w15_main_v92, w15_main_v93, w15_main_v100, w15_main_v59] <;> rfl) | rfl
theorem w16_main_v92 (V0 : Valuation τ sig (Elt F)) : w16 V0 (no_index (Proc.devRef .tc main_v92)) = hK (V0 (Proc.devRef .tc main_arg0)) (V0 (Proc.devRef .tc main_arg2)) := by
  unfold w16
  simp only [hostOps0_15, TRef.binary, TRef.nullary, TRef.unary, TRef.ternary, TRef.toBuf, TRef.ofBuf, cast_eq]
  after_results_simp
  all_goals first | done | (simp only [w15_main_v108, w15_main_cst_17, w15_main_v92, w15_main_v93, w15_main_v100, w15_main_v59] <;> rfl) | rfl
theorem w16_main_v93 (V0 : Valuation τ sig (Elt F)) : w16 V0 (no_index (Proc.devRef .tc main_v93)) = hV (V0 (Proc.devRef .tc main_arg0)) := by
  unfold w16
  simp only [hostOps0_15, TRef.binary, TRef.nullary, TRef.unary, TRef.ternary, TRef.toBuf, TRef.ofBuf, cast_eq]
  after_results_simp
  all_goals first | done | (simp only [w15_main_v108, w15_main_cst_17, w15_main_v92, w15_main_v93, w15_main_v100, w15_main_v59] <;> rfl) | rfl
theorem w16_main_v59 (V0 : Valuation τ sig (Elt F)) : w16 V0 (no_index (Proc.devRef .tc main_v59)) = hO (V0 (Proc.devRef .tc main_arg0)) (V0 (Proc.devRef .tc main_arg2)) := by
  unfold w16
  simp only [hostOps0_15, TRef.binary, TRef.nullary, TRef.unary, TRef.ternary, TRef.toBuf, TRef.ofBuf, cast_eq]
  after_results_simp
  all_goals first | done | (simp only [w15_main_v108, w15_main_cst_17, w15_main_v92, w15_main_v93, w15_main_v100, w15_main_v59] <;> rfl) | rfl

def w17 (V0 : Valuation τ sig (Elt F)) : Valuation τ sig (Elt F) := after hostOps0_16 (w16 V0)
theorem w17_main_v116 (V0 : Valuation τ sig (Elt F)) : w17 V0 (no_index (Proc.devRef .tc main_v116)) = hSt (V0 (Proc.devRef .tc main_arg0)) (V0 (Proc.devRef .tc main_arg2)) := by
  unfold w17
  simp only [hostOps0_16, TRef.binary, TRef.nullary, TRef.unary, TRef.ternary, TRef.toBuf, TRef.ofBuf, cast_eq]
  after_results_simp
  all_goals first | done | (simp only [w16_main_v109, w16_main_v92, w16_main_v93, w16_main_v59] <;> rfl) | rfl
theorem w17_main_v59 (V0 : Valuation τ sig (Elt F)) : w17 V0 (no_index (Proc.devRef .tc main_v59)) = hO (V0 (Proc.devRef .tc main_arg0)) (V0 (Proc.devRef .tc main_arg2)) := by
  unfold w17
  simp only [hostOps0_16, TRef.binary, TRef.nullary, TRef.unary, TRef.ternary, TRef.toBuf, TRef.ofBuf, cast_eq]
  after_results_simp
  all_goals first | done | (simp only [w16_main_v109, w16_main_v92, w16_main_v93, w16_main_v59] <;> rfl) | rfl

theorem entry_w (m : (ℓ : Loc nD τ sig) → Buf (Elt F) ℓ) (c : Dev nD) (b : Ref sig .tc) :
    V m c b = w17 (fun b => m (c, b)) (Proc.devRef .tc b) := by
  unfold w17 w16 w15 w14 w13 w12 w11 w10 w9 w8 w7 w6 w5 w4 w3 w2 w1 w0
  rfl

theorem entry_o (m : (ℓ : Loc nD τ sig) → Buf (Elt F) ℓ) (c : Dev nD) :
    V m c main_v59 = hO (m ((c : Thread nD τ).loc main_arg0)) (m ((c : Thread nD τ).loc main_arg2)) :=
  (entry_w m c main_v59).trans (w17_main_v59 _)

theorem entry_st (m : (ℓ : Loc nD τ sig) → Buf (Elt F) ℓ) (c : Dev nD) :
    V m c main_v116 = hSt (m ((c : Thread nD τ).loc main_arg0)) (m ((c : Thread nD τ).loc main_arg2)) :=
  (entry_w m c main_v116).trans (w17_main_v116 _)

end Cert.KernelIdeal.Chunk
-- ==== Proof.Window.lean ====
/- Running sums printed as windows of the whole height, as sums of extended reals. -/
module

public import Idealize.ShloMosaic.Lib.Pointwise

@[expose] public section

set_option maxRecDepth 16384

noncomputable section

namespace Cert.Real

open Idealize.ShloMosaic

theorem foldl_add (l : List ℕ) (f : ℕ → EReal) (a : EReal) : l.foldl (fun r n => r + f n) a = a + (l.map f).sum := by
  induction l generalizing a with
  | nil => simp
  | cons n l ih => rw [List.foldl_cons, ih, List.map_cons, List.sum_cons, add_assoc]

theorem foldl_fin {N : ℕ} (f : Fin N → EReal) (a : EReal) : (List.finRange N).foldl (fun r n => r + f n) a = a + ∑ n, f n := by
  have : ∀ (l : List (Fin N)) (a : EReal), l.foldl (fun r n => r + f n) a = a + (l.map f).sum := by
    intro l
    induction l with
    | nil => intro a; simp
    | cons n l ih => intro a; rw [List.foldl_cons, ih, List.map_cons, List.sum_cons, add_assoc]
  rw [this, ← List.ofFn_eq_map, List.sum_ofFn]

/-- The window sum as a sum over the window's positions, nothing being added to begin with. -/
theorem window_sum {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx,
          (if hin : ∀ a, lo a ≤ (j (a.cast h.1.symm)).val * strides a + (w a).val ∧ (j (a.cast h.1.symm)).val * strides a + (w a).val - lo a < s.size a
           then x (fun a => ⟨(j (a.cast h.1.symm)).val * strides a + (w a).val - lo a, (hin a).2⟩) else 0) := by
  unfold Ideal.hostReduceWindowAdd Host.reduceWindow
  refine (foldl_fin _ _).trans ?_
  rw [zero_add]
  refine Eq.trans (Finset.sum_congr rfl fun n _ => ?_) <| Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
           then x (fun a => ⟨(j (a.cast h.1.symm)).val * strides a + (w a).val - lo a, (hin a).2⟩) else 0)
  dsimp only
  by_cases q : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
  · rw [dif_pos q, dif_pos q]
  · rw [dif_neg q, dif_neg q]

theorem sum_up {N : ℕ} (f : Fin (N + 1) → EReal) (j : Fin (N + 1)) :
    (∑ w : Fin (N + 1), if h : N ≤ j.val + w.val then f ⟨j.val + w.val - N, by omega⟩ else 0) = ∑ i : Fin (N + 1), if i ≤ j then f i else 0 := by
  refine Finset.sum_bij_ne_zero (fun w _ _ => (⟨(j.val + w.val - N) % (N + 1), Nat.mod_lt _ (Nat.succ_pos _)⟩ : Fin (N + 1))) (fun _ _ _ => Finset.mem_univ _) ?_ ?_ ?_
  · intro a _ ha b _ hb e
    have ha' : N ≤ j.val + a.val := by by_contra q; exact ha (dif_neg q)
    have hb' : N ≤ j.val + b.val := by by_contra q; exact hb (dif_neg q)
    have := congrArg Fin.val e
    simp only at this
    rw [Nat.mod_eq_of_lt (by omega), Nat.mod_eq_of_lt (by omega)] at this
    exact Fin.ext (by omega)
  · intro b _ hb
    have hb' : b ≤ j := by by_contra q; exact hb (if_neg q)
    have hb'' : b.val ≤ j.val := hb'
    rw [if_pos hb'] at hb
    have q : N ≤ j.val + (b.val + N - j.val) := by omega
    have e : (⟨j.val + (b.val + N - j.val) - N, by omega⟩ : Fin (N + 1)) = b := Fin.ext (by show j.val + (b.val + N - j.val) - N = b.val; omega)
    refine ⟨⟨b.val + N - j.val, by omega⟩, Finset.mem_univ _, ?_, ?_⟩
    · rw [dif_pos q, e]; exact hb
    · exact Fin.ext (by show (j.val + (b.val + N - j.val) - N) % (N + 1) = b.val; rw [Nat.mod_eq_of_lt (by omega)]; omega)
  · intro a _ ha
    have ha' : N ≤ j.val + a.val := by by_contra q; exact ha (dif_neg q)
    have e : (⟨(j.val + a.val - N) % (N + 1), Nat.mod_lt _ (Nat.succ_pos _)⟩ : Fin (N + 1)) = ⟨j.val + a.val - N, by omega⟩ := Fin.ext (Nat.mod_eq_of_lt (by omega))
    rw [dif_pos ha']
    rw [e, if_pos (by show j.val + a.val - N ≤ j.val; omega)]

theorem sum_down {N : ℕ} (f : Fin (N + 1) → EReal) (j : Fin (N + 1)) :
    (∑ w : Fin (N + 1), if h : j.val + w.val < N + 1 then f ⟨j.val + w.val, h⟩ else 0) = ∑ i : Fin (N + 1), if j ≤ i then f i else 0 := by
  refine Finset.sum_bij_ne_zero (fun w _ _ => (⟨(j.val + w.val) % (N + 1), Nat.mod_lt _ (Nat.succ_pos _)⟩ : Fin (N + 1))) (fun _ _ _ => Finset.mem_univ _) ?_ ?_ ?_
  · intro a _ ha b _ hb e
    have ha' : j.val + a.val < N + 1 := by by_contra q; exact ha (dif_neg q)
    have hb' : j.val + b.val < N + 1 := by by_contra q; exact hb (dif_neg q)
    have := congrArg Fin.val e
    simp only at this
    rw [Nat.mod_eq_of_lt ha', Nat.mod_eq_of_lt hb'] at this
    exact Fin.ext (by omega)
  · intro b _ hb
    have hb' : j ≤ b := by by_contra q; exact hb (if_neg q)
    have hb'' : j.val ≤ b.val := hb'
    rw [if_pos hb'] at hb
    have q : j.val + (b.val - j.val) < N + 1 := by omega
    have e : (⟨j.val + (b.val - j.val), q⟩ : Fin (N + 1)) = b := Fin.ext (by show j.val + (b.val - j.val) = b.val; omega)
    refine ⟨⟨b.val - j.val, by omega⟩, Finset.mem_univ _, ?_, ?_⟩
    · rw [dif_pos q, e]; exact hb
    · exact Fin.ext (by show (j.val + (b.val - j.val)) % (N + 1) = b.val; rw [Nat.mod_eq_of_lt q]; omega)
  · intro a _ ha
    have ha' : j.val + a.val < N + 1 := by by_contra q; exact ha (dif_neg q)
    have e : (⟨(j.val + a.val) % (N + 1), Nat.mod_lt _ (Nat.succ_pos _)⟩ : Fin (N + 1)) = ⟨j.val + a.val, ha'⟩ := Fin.ext (Nat.mod_eq_of_lt ha')
    rw [dif_pos ha']
    rw [e, if_pos (by show j.val ≤ j.val + a.val; omega)]

/-- The running sum over the first axis of three. -/
theorem up3 {N M A B : ℕ} (hN : M + 1 = N) (h : (⟨3, ![N, A, B]⟩ : Shape).ReduceWindows (![N, 1, 1] : Fin 3 → ℕ) ![1, 1, 1] ![M, 0, 0] ![0, 0, 0] ⟨3, ![N, A, B]⟩)
    (x : (⟨3, ![N, A, B]⟩ : Shape).Idx → EReal) (j : Fin N) (a : Fin A) (b : Fin B) :
    Ideal.hostReduceWindowAdd (![N, 1, 1] : Fin 3 → ℕ) ![1, 1, 1] ![M, 0, 0] ![0, 0, 0] h x 0 (ix3 j a b) = ∑ i : Fin N, if i ≤ j then x (ix3 i a b) else 0 := by
  subst hN
  rw [window_sum]
  refine Eq.trans ?_ (sum_up (fun i => x (ix3 i a b)) j)
  refine (sum_idx3 _).trans (Finset.sum_congr rfl fun w _ => ?_)
  refine (Fin.sum_univ_one _).trans ((Fin.sum_univ_one _).trans ?_)
  by_cases q : M ≤ j.val + w.val
  · rw [dif_pos q, dif_pos (by
      intro k
      match k with
      | ⟨0, _⟩ => exact ⟨by show M ≤ j.val * 1 + w.val; omega, by show j.val * 1 + w.val - M < M + 1; omega⟩
      | ⟨1, _⟩ => exact ⟨Nat.zero_le _, by show a.val * 1 + 0 - 0 < A; omega⟩
      | ⟨2, _⟩ => exact ⟨Nat.zero_le _, by show b.val * 1 + 0 - 0 < B; omega⟩)]
    refine congrArg x (funext fun k => Fin.ext ?_)
    match k with
    | ⟨0, _⟩ => show j.val * 1 + w.val - M = j.val + w.val - M; omega
    | ⟨1, _⟩ => show a.val * 1 + 0 - 0 = a.val; omega
    | ⟨2, _⟩ => show b.val * 1 + 0 - 0 = b.val; omega
  · rw [dif_neg q, dif_neg fun e => q (by have := (e 0).1; change M ≤ j.val * 1 + w.val at this; omega)]

/-- The running sum from the end, over the first axis of three. -/
theorem down3 {N M A B : ℕ} (hN : M + 1 = N) (h : (⟨3, ![N, A, B]⟩ : Shape).ReduceWindows (![N, 1, 1] : Fin 3 → ℕ) ![1, 1, 1] ![0, 0, 0] ![M, 0, 0] ⟨3, ![N, A, B]⟩)
    (x : (⟨3, ![N, A, B]⟩ : Shape).Idx → EReal) (j : Fin N) (a : Fin A) (b : Fin B) :
    Ideal.hostReduceWindowAdd (![N, 1, 1] : Fin 3 → ℕ) ![1, 1, 1] ![0, 0, 0] ![M, 0, 0] h x 0 (ix3 j a b) = ∑ i : Fin N, if j ≤ i then x (ix3 i a b) else 0 := by
  subst hN
  rw [window_sum]
  refine Eq.trans ?_ (sum_down (fun i => x (ix3 i a b)) j)
  refine (sum_idx3 _).trans (Finset.sum_congr rfl fun w _ => ?_)
  refine (Fin.sum_univ_one _).trans ((Fin.sum_univ_one _).trans ?_)
  by_cases q : j.val + w.val < M + 1
  · rw [dif_pos q, dif_pos (by
      intro k
      match k with
      | ⟨0, _⟩ => exact ⟨Nat.zero_le _, by show j.val * 1 + w.val - 0 < M + 1; omega⟩
      | ⟨1, _⟩ => exact ⟨Nat.zero_le _, by show a.val * 1 + 0 - 0 < A; omega⟩
      | ⟨2, _⟩ => exact ⟨Nat.zero_le _, by show b.val * 1 + 0 - 0 < B; omega⟩)]
    refine congrArg x (funext fun k => Fin.ext ?_)
    match k with
    | ⟨0, _⟩ => show j.val * 1 + w.val - 0 = j.val + w.val; omega
    | ⟨1, _⟩ => show a.val * 1 + 0 - 0 = a.val; omega
    | ⟨2, _⟩ => show b.val * 1 + 0 - 0 = b.val; omega
  · rw [dif_neg q, dif_neg fun e => q (by have := (e 0).2; change j.val * 1 + w.val - 0 < M + 1 at this; omega)]

/-- The running sum over the first axis of two. -/
theorem up2 {N M A : ℕ} (hN : M + 1 = N) (h : (⟨2, ![N, A]⟩ : Shape).ReduceWindows (![N, 1] : Fin 2 → ℕ) ![1, 1] ![M, 0] ![0, 0] ⟨2, ![N, A]⟩)
    (x : (⟨2, ![N, A]⟩ : Shape).Idx → EReal) (j : Fin N) (a : Fin A) :
    Ideal.hostReduceWindowAdd (![N, 1] : Fin 2 → ℕ) ![1, 1] ![M, 0] ![0, 0] h x 0 (ix2 j a) = ∑ i : Fin N, if i ≤ j then x (ix2 i a) else 0 := by
  subst hN
  rw [window_sum]
  refine Eq.trans ?_ (sum_up (fun i => x (ix2 i a)) j)
  refine (sum_idx2 _).trans (Finset.sum_congr rfl fun w _ => ?_)
  refine (Fin.sum_univ_one _).trans ?_
  by_cases q : M ≤ j.val + w.val
  · rw [dif_pos q, dif_pos (by
      intro k
      match k with
      | ⟨0, _⟩ => exact ⟨by show M ≤ j.val * 1 + w.val; omega, by show j.val * 1 + w.val - M < M + 1; omega⟩
      | ⟨1, _⟩ => exact ⟨Nat.zero_le _, by show a.val * 1 + 0 - 0 < A; omega⟩)]
    refine congrArg x (funext fun k => Fin.ext ?_)
    match k with
    | ⟨0, _⟩ => show j.val * 1 + w.val - M = j.val + w.val - M; omega
    | ⟨1, _⟩ => show a.val * 1 + 0 - 0 = a.val; omega
  · rw [dif_neg q, dif_neg fun e => q (by have := (e 0).1; change M ≤ j.val * 1 + w.val at this; omega)]

/-- The running sum from the end, over the first axis of two. -/
theorem down2 {N M A : ℕ} (hN : M + 1 = N) (h : (⟨2, ![N, A]⟩ : Shape).ReduceWindows (![N, 1] : Fin 2 → ℕ) ![1, 1] ![0, 0] ![M, 0] ⟨2, ![N, A]⟩)
    (x : (⟨2, ![N, A]⟩ : Shape).Idx → EReal) (j : Fin N) (a : Fin A) :
    Ideal.hostReduceWindowAdd (![N, 1] : Fin 2 → ℕ) ![1, 1] ![0, 0] ![M, 0] h x 0 (ix2 j a) = ∑ i : Fin N, if j ≤ i then x (ix2 i a) else 0 := by
  subst hN
  rw [window_sum]
  refine Eq.trans ?_ (sum_down (fun i => x (ix2 i a)) j)
  refine (sum_idx2 _).trans (Finset.sum_congr rfl fun w _ => ?_)
  refine (Fin.sum_univ_one _).trans ?_
  by_cases q : j.val + w.val < M + 1
  · rw [dif_pos q, dif_pos (by
      intro k
      match k with
      | ⟨0, _⟩ => exact ⟨Nat.zero_le _, by show j.val * 1 + w.val - 0 < M + 1; omega⟩
      | ⟨1, _⟩ => exact ⟨Nat.zero_le _, by show a.val * 1 + 0 - 0 < A; omega⟩)]
    refine congrArg x (funext fun k => Fin.ext ?_)
    match k with
    | ⟨0, _⟩ => show j.val * 1 + w.val - 0 = j.val + w.val; omega
    | ⟨1, _⟩ => show a.val * 1 + 0 - 0 = a.val; omega
  · rw [dif_neg q, dif_neg fun e => q (by have := (e 0).2; change j.val * 1 + w.val - 0 < M + 1 at this; omega)]

theorem window_read {s t u : Shape} (window strides lo hi : Fin s.rank → Nat) (h : s.ReduceWindows window strides lo hi t) (hu : 0 < u.numel) (x : FVec Ideal s .f32)
    (init : FVec Ideal u .f32) (h0 : init (Shape.Idx.first hu) = (0 : EReal)) (j : t.Idx) :
    Host.reduceWindowAdd window strides lo hi x init h hu j = Ideal.hostReduceWindowAdd window strides lo hi h x 0 j := by
  unfold Host.reduceWindowAdd
  rw [h0]
  rfl

variable {u : Shape} (hu : 0 < u.numel) (init : FVec Ideal u .f32) (h0 : init (Shape.Idx.first hu) = (0 : EReal))
include h0

theorem up3' {N M A B : ℕ} (hN : M + 1 = N) (h : (⟨3, ![N, A, B]⟩ : Shape).ReduceWindows (![N, 1, 1] : Fin 3 → ℕ) ![1, 1, 1] ![M, 0, 0] ![0, 0, 0] ⟨3, ![N, A, B]⟩)
    (x : FVec Ideal ⟨3, ![N, A, B]⟩ .f32) (j : Fin N) (a : Fin A) (b : Fin B) :
    (Host.reduceWindowAdd (![N, 1, 1] : Fin 3 → ℕ) ![1, 1, 1] ![M, 0, 0] ![0, 0, 0] x init h hu (ix3 j a b) : EReal) = ∑ i : Fin N, if i ≤ j then (x (ix3 i a b) : EReal) else 0 :=
  (window_read _ _ _ _ h hu x init h0 _).trans (up3 hN h x j a b)

theorem down3' {N M A B : ℕ} (hN : M + 1 = N) (h : (⟨3, ![N, A, B]⟩ : Shape).ReduceWindows (![N, 1, 1] : Fin 3 → ℕ) ![1, 1, 1] ![0, 0, 0] ![M, 0, 0] ⟨3, ![N, A, B]⟩)
    (x : FVec Ideal ⟨3, ![N, A, B]⟩ .f32) (j : Fin N) (a : Fin A) (b : Fin B) :
    (Host.reduceWindowAdd (![N, 1, 1] : Fin 3 → ℕ) ![1, 1, 1] ![0, 0, 0] ![M, 0, 0] x init h hu (ix3 j a b) : EReal) = ∑ i : Fin N, if j ≤ i then (x (ix3 i a b) : EReal) else 0 :=
  (window_read _ _ _ _ h hu x init h0 _).trans (down3 hN h x j a b)

theorem up2' {N M A : ℕ} (hN : M + 1 = N) (h : (⟨2, ![N, A]⟩ : Shape).ReduceWindows (![N, 1] : Fin 2 → ℕ) ![1, 1] ![M, 0] ![0, 0] ⟨2, ![N, A]⟩)
    (x : FVec Ideal ⟨2, ![N, A]⟩ .f32) (j : Fin N) (a : Fin A) :
    (Host.reduceWindowAdd (![N, 1] : Fin 2 → ℕ) ![1, 1] ![M, 0] ![0, 0] x init h hu (ix2 j a) : EReal) = ∑ i : Fin N, if i ≤ j then (x (ix2 i a) : EReal) else 0 :=
  (window_read _ _ _ _ h hu x init h0 _).trans (up2 hN h x j a)

theorem down2' {N M A : ℕ} (hN : M + 1 = N) (h : (⟨2, ![N, A]⟩ : Shape).ReduceWindows (![N, 1] : Fin 2 → ℕ) ![1, 1] ![0, 0] ![M, 0] ⟨2, ![N, A]⟩)
    (x : FVec Ideal ⟨2, ![N, A]⟩ .f32) (j : Fin N) (a : Fin A) :
    (Host.reduceWindowAdd (![N, 1] : Fin 2 → ℕ) ![1, 1] ![0, 0] ![M, 0] x init h hu (ix2 j a) : EReal) = ∑ i : Fin N, if j ≤ i then (x (ix2 i a) : EReal) else 0 :=
  (window_read _ _ _ _ h hu x init h0 _).trans (down2 hN h x j a)

end Cert.Real
-- ==== Proof.Real.lean ====
/- The mixer and its gradient over the reals. -/
module

public import Mathlib.Analysis.SpecialFunctions.Log.Basic
public import Mathlib.Analysis.SpecialFunctions.Pow.Real
public import Mathlib.Analysis.SpecialFunctions.Trigonometric.Basic

@[expose] public section

noncomputable section

namespace Cert.Real

open scoped BigOperators

/-- The arguments. -/
structure Args where
  z : Fin 4096 → Fin 2048 → ℝ
  dy : Fin 4096 → Fin 512 → ℝ
  l : Fin 2 → Fin 512 → ℝ
  gain : Fin 128 → ℝ

/-- Column `c` of head `h`. -/
abbrev cc (h : Fin 4) (c : Fin 128) : Fin 512 := ⟨h.val * 128 + c.val, by omega⟩

/-- The logistic function. -/
def sg (x : ℝ) : ℝ := 1 / (1 + Real.exp (-x))

theorem sg_pos (x : ℝ) : 0 < sg x := by unfold sg; positivity
theorem sg_lt_one (x : ℝ) : sg x < 1 := by
  unfold sg
  rw [div_lt_one (by positivity)]
  linarith [Real.exp_pos (-x)]

namespace Args

variable (X : Args)

def qr (t : Fin 4096) (j : Fin 512) : ℝ := X.z t ⟨j.val, by omega⟩
def fr (t : Fin 4096) (j : Fin 512) : ℝ := X.z t ⟨512 + j.val, by omega⟩
def v (t : Fin 4096) (j : Fin 512) : ℝ := X.z t ⟨1024 + j.val, by omega⟩
def g (t : Fin 4096) (j : Fin 512) : ℝ := X.z t ⟨1536 + j.val, by omega⟩
def q (t : Fin 4096) (j : Fin 512) : ℝ := X.qr t j * sg (X.qr t j)
/-- The lower bound of the forget gate. -/
def lb (j : Fin 512) : ℝ := 1 / (1 + Real.exp (X.l 1 j - X.l 0 j))
/-- The forget gate. -/
def fg (t : Fin 4096) (j : Fin 512) : ℝ := X.lb j + (1 - X.lb j) * sg (X.fr t j)
def a (t : Fin 4096) (j : Fin 512) : ℝ := Real.log (X.fg t j)
def k (t : Fin 4096) (j : Fin 512) : ℝ := 1 - X.fg t j
/-- The running sum of the gate's logarithm. -/
def b (t : Fin 4096) (j : Fin 512) : ℝ := ∑ s : Fin 4096, if s ≤ t then X.a s j else 0
/-- The decay from row `s` to row `t`. -/
def A (t s : Fin 4096) (j : Fin 512) : ℝ := if s ≤ t then Real.exp (X.b t j - X.b s j) else 0
def sc (t s : Fin 4096) (h : Fin 4) : ℝ := ∑ c : Fin 128, X.q t (cc h c) * (X.k s (cc h c) * X.A t s (cc h c))
/-- The mixed value. -/
def o (t : Fin 4096) (h : Fin 4) (w : Fin 128) : ℝ := ∑ s : Fin 4096, X.v s (cc h w) * X.sc t s h

theorem lb_pos (j : Fin 512) : 0 < X.lb j := by unfold lb; positivity
theorem lb_lt_one (j : Fin 512) : X.lb j < 1 := by
  unfold lb
  rw [div_lt_one (by positivity)]
  linarith [Real.exp_pos (X.l 1 j - X.l 0 j)]
theorem fg_lb (t : Fin 4096) (j : Fin 512) : X.lb j < X.fg t j := by
  unfold fg
  have := mul_pos (sub_pos.2 (X.lb_lt_one j)) (sg_pos (X.fr t j))
  linarith
theorem fg_pos (t : Fin 4096) (j : Fin 512) : 0 < X.fg t j := (X.lb_pos j).trans (X.fg_lb t j)
theorem fg_lt_one (t : Fin 4096) (j : Fin 512) : X.fg t j < 1 := by
  unfold fg
  nlinarith [X.lb_lt_one j, sg_lt_one (X.fr t j)]

/-- The small number the norm adds to the mean square. -/
def eps : ℝ := 8796093 * (2 : ℝ) ^ (-43 : ℤ)
def var (t : Fin 4096) (h : Fin 4) : ℝ := (∑ w : Fin 128, X.o t h w * X.o t h w) / 128 + eps
theorem eps_pos : 0 < eps := by unfold eps; positivity
theorem var_pos (t : Fin 4096) (h : Fin 4) : 0 < X.var t h := by
  unfold var
  have : 0 ≤ ∑ w : Fin 128, X.o t h w * X.o t h w := Finset.sum_nonneg fun w _ => mul_self_nonneg _
  have := eps_pos
  positivity
def r (t : Fin 4096) (h : Fin 4) : ℝ := (Real.sqrt (X.var t h))⁻¹
def n (t : Fin 4096) (h : Fin 4) (w : Fin 128) : ℝ := X.o t h w * X.r t h
/-- The cotangent times the gate's activation. -/
def dyg (t : Fin 4096) (j : Fin 512) : ℝ := X.dy t j * (X.g t j * sg (X.g t j))
/-- The gradient of the gate. -/
def dg (t : Fin 4096) (h : Fin 4) (w : Fin 128) : ℝ :=
  X.n t h w * X.gain w * X.dy t (cc h w) * (sg (X.g t (cc h w)) * (1 + X.g t (cc h w) * (1 - sg (X.g t (cc h w)))))
/-- The gradient of the norm's gain. -/
def dgain (w : Fin 128) : ℝ := ∑ t : Fin 4096, ∑ h : Fin 4, X.n t h w * X.dyg t (cc h w)

end Args

end Cert.Real
-- ==== Proof.Host.lean ====
/- The host's arrays over the reals: where the arguments are real numbers, so are they. -/
module

public import proofs.«01_k».proof.Proof.Entry
public import proofs.«01_k».proof.Proof.Window
public import proofs.«01_k».proof.Proof.Real
public import Idealize.ShloMosaic.Lib.IdealHost
public import Idealize.ShloMosaic.Lib.WordCmp

@[expose] public section

set_option maxRecDepth 16384

noncomputable section

namespace Cert.Real

open Idealize.ShloMosaic

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem sg_coe (r : ℝ) : Ideal.div 1 (1 + Ideal.exp (-(r : EReal))) = ((sg r : ℝ) : EReal) := by
  rw [← EReal.coe_neg, Ideal.exp_coe, ← EReal.coe_one, ← EReal.coe_add, div_real _ (by positivity)]
  rfl

theorem ite_coe (p : Prop) [Decidable p] (a b : ℝ) : (if p then (a : EReal) else (b : EReal)) = ((if p then a else b : ℝ) : EReal) := by
  split <;> rfl

theorem log_real {r : ℝ} (h : 0 < r) : Ideal.log (r : EReal) = ((Real.log r : ℝ) : EReal) := by
  rw [Ideal.log_coe, if_neg (not_le.2 h)]

theorem ofBits_bot : Ideal.ofBits FTy.f32 4286578688#32 = ⊥ := by simp [Ideal.ofBits, Ideal.ieee]

theorem rsqrt_real {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 h.le), if_neg h.ne']

theorem word_128 : Ideal.ofBits FTy.f32 0x43000000#32 = ((128 : ℝ) : EReal) := by
  simp [Ideal.ofBits, Ideal.ieee]
  rw [← EReal.coe_mul]
  norm_num
theorem word_eps : Ideal.ofBits FTy.f32 0x358637BD#32 = ((Args.eps : ℝ) : EReal) := by
  simp [Ideal.ofBits, Ideal.ieee, Args.eps]

theorem le_word {s t : Fin 4096} (q : s ≤ t) : IntOp.cmpi CmpIPredicate.sle (BitVec.ofNat 32 s.val) (BitVec.ofNat 32 t.val) = 1#1 := by
  rw [WordCmp.cmpi_sle_ofNat_eq_one_iff (by omega) (by omega)]
  exact q
theorem not_le_word {s t : Fin 4096} (q : ¬ s ≤ t) : IntOp.cmpi CmpIPredicate.sle (BitVec.ofNat 32 s.val) (BitVec.ofNat 32 t.val) = 0#1 := by
  rw [WordCmp.cmpi_sle_ofNat_eq_zero_iff (by omega) (by omega)]
  exact q

end Cert.Real

namespace Cert.KernelIdeal.Chunk

open Idealize.ShloMosaic Idealize.ShloMosaic.TcCoe Idealize.SL.Sem
open Cert.KernelIdeal.Gen Cert.Real

/-- The arguments are the real numbers `X`. -/
structure Holds (z : FVec Ideal S4096x6144 .f32) (dy : FVec Ideal S4096x512 .f32) (l : FVec Ideal S2x512 .f32) (gain : FVec Ideal S1x128 .f32) (X : Args) : Prop where
  z : ∀ (t : Fin 4096) (n : ℕ) (h : n < 2048) (p : n < 6144), z (ix2 t (⟨n, p⟩ : Fin 6144)) = ((X.z t ⟨n, h⟩ : ℝ) : EReal)
  dy : ∀ (t : Fin 4096) (j : Fin 512), dy (ix2 t j) = ((X.dy t j : ℝ) : EReal)
  l : ∀ (i : Fin 2) (j : Fin 512), l (ix2 i j) = ((X.l i j : ℝ) : EReal)
  gain : ∀ (w : Fin 128), gain (ix2 (0 : Fin 1) w) = ((X.gain w : ℝ) : EReal)

theorem zero_init (i : S_.Idx) : (broadcastInDim S_ ![] bcast_S_S_ (constant S_ FTy.f32 0#32 : FVec Ideal S_ .f32) : FVec Ideal S_ .f32) i = (0 : EReal) := by
  pointwise []

variable {z : FVec Ideal S4096x6144 .f32} {dy : FVec Ideal S4096x512 .f32} {l : FVec Ideal S2x512 .f32} {gain : FVec Ideal S1x128 .f32} {X : Args}
variable (hX : Holds z dy l gain X)
include hX

theorem hQ_at (t : Fin 4096) (h : Fin 4) (c : Fin 128) : hQ (F := Ideal) z (ix3 t h c) = ((X.q t (cc h c) : ℝ) : EReal) := by
  pointwise [hQ, hQ0, hSig]
  rw [hX.z t (h.val * 128 + c.val) (by omega) _, sg_coe, ← EReal.coe_mul]
  rfl

theorem hV_at (t : Fin 4096) (h : Fin 4) (c : Fin 128) : hV (F := Ideal) z (ix3 t h c) = ((X.v t (cc h c) : ℝ) : EReal) := by
  pointwise [hV]
  exact hX.z t (1024 + (h.val * 128 + c.val)) (by omega) _

theorem hSoft_at (i : Fin 2) (j : Fin 512) : hSoft (F := Ideal) l (ix2 i j) = ((Real.exp (X.l i j) / (Real.exp (X.l 0 j) + Real.exp (X.l 1 j)) : ℝ) : EReal) := by
  pointwise [hSoft, hE]
  have e : max (Ideal.ofBits FTy.f32 4286578688#32) (Finset.fold max (Ideal.ofBits FTy.f32 4286578688#32) (fun x : Fin 2 => l (ix2 x j)) Finset.univ) = ((max (X.l 0 j) (X.l 1 j) : ℝ) : EReal) := by
    rw [ofBits_bot]
    refine (bot_sup_eq _).trans ?_
    show max (l (ix2 (0 : Fin 2) j)) (max (l (ix2 (1 : Fin 2) j)) (⊥ : EReal)) = _
    rw [hX.l, hX.l, max_bot_right]
    exact (EReal.coe_strictMono.monotone.map_max).symm
  simp only [e]
  simp only [Fin.sum_univ_two, hX.l, ← EReal.coe_sub, Ideal.exp_coe, ← EReal.coe_add]
  rw [div_real _ (by positivity)]
  refine congrArg _ ?_
  rw [Real.exp_sub, Real.exp_sub, Real.exp_sub]
  field_simp

theorem hLb_at (j : Fin 512) : hLb (F := Ideal) l (ix1 j) = ((X.lb j : ℝ) : EReal) := by
  pointwise [hLb, hCum]
  refine (up2' h_S_ _ (zero_init _) (N := 2) (M := 1) (by norm_num) _ (hSoft (F := Ideal) l) 0 j).trans ?_
  rw [Fin.sum_univ_two, if_pos (by decide), if_neg (by decide), add_zero, hSoft_at hX]
  refine congrArg _ ?_
  unfold Args.lb
  rw [Real.exp_sub]
  have := Real.exp_pos (X.l 0 j)
  field_simp

theorem hFg_at (t : Fin 4096) (j : Fin 512) : hFg (F := Ideal) z l (ix2 t j) = ((X.fg t j : ℝ) : EReal) := by
  pointwise [hFg, hSig]
  rw [hX.z t (512 + j.val) (by omega) _, sg_coe, hLb_at hX, ← EReal.coe_one, ← EReal.coe_sub, ← EReal.coe_mul, ← EReal.coe_add]
  rfl
theorem hLog_at (t : Fin 4096) (h : Fin 4) (c : Fin 128) : hLog (F := Ideal) z l (ix3 t h c) = ((X.a t (cc h c) : ℝ) : EReal) := by
  pointwise [hLog]
  exact (congrArg Ideal.log (hFg_at hX t (cc h c))).trans (log_real (X.fg_pos _ _))
theorem hK_at (t : Fin 4096) (h : Fin 4) (c : Fin 128) : hK (F := Ideal) z l (ix3 t h c) = ((X.k t (cc h c) : ℝ) : EReal) := by
  pointwise [hK]
  exact (congrArg (fun x : EReal => 1 - x) (hFg_at hX t (cc h c))).trans (by rw [← EReal.coe_one, ← EReal.coe_sub]; rfl)
theorem hB_at (t : Fin 4096) (h : Fin 4) (c : Fin 128) : hB (F := Ideal) z l (ix3 t h c) = ((X.b t (cc h c) : ℝ) : EReal) := by
  unfold hB
  refine (up3' h_S_ _ (zero_init _) (N := 4096) (M := 4095) (by norm_num) _ (hLog (F := Ideal) z l) t h c).trans ?_
  refine (Finset.sum_congr rfl fun i _ => ?_).trans (sum_coe _ _)
  rw [hLog_at hX]
  exact ite_coe _ _ 0
theorem hSel_at (t s : Fin 4096) (h : Fin 4) (c : Fin 128) : Ideal.exp (hSel (F := Ideal) z l (ix4 t s h c)) = ((X.A t s (cc h c) : ℝ) : EReal) := by
  pointwise [hSel, hMask, hDiff]
  rw [hB_at hX, hB_at hX]
  have e : (id (constant S_ FTy.f32 4286578688#32) : FVec Ideal S_ .f32) ix0 = (⊥ : EReal) := ofBits_bot
  rw [e]
  unfold Args.A
  by_cases q : s ≤ t
  · rw [if_pos q, (show IntOp.cmpi CmpIPredicate.sle (BitVec.ofNat 32 ↑s) (BitVec.ofNat 32 ↑t) = 1#1 from le_word q), ← EReal.coe_sub]
    exact Ideal.exp_coe _
  · rw [if_neg q, (show IntOp.cmpi CmpIPredicate.sle (BitVec.ofNat 32 ↑s) (BitVec.ofNat 32 ↑t) = 0#1 from not_le_word q)]
    exact rfl
theorem hScore_at (t s : Fin 4096) (h : Fin 4) : hScore (F := Ideal) z l (ix3 t s h) = ((X.sc t s h : ℝ) : EReal) := by
  pointwise [hScore]
  refine (Finset.sum_congr rfl fun c _ => ?_).trans (sum_coe _ _)
  rw [hQ_at hX, hK_at hX, hSel_at hX, ← EReal.coe_mul, ← EReal.coe_mul]
theorem hO_at (t : Fin 4096) (h : Fin 4) (w : Fin 128) : hO3 (F := Ideal) z l (ix3 t h w) = ((X.o t h w : ℝ) : EReal) := by
  pointwise [hO3]
  refine (Finset.sum_congr rfl fun s _ => ?_).trans (sum_coe _ _)
  rw [hV_at hX, hScore_at hX, ← EReal.coe_mul]

end Cert.KernelIdeal.Chunk
-- ==== Proof.ChunkGate.lean ====
/- A chunk's gradients of the gate and of the norm's gain, over the reals. -/
module

public import proofs.«01_k».proof.Proof.Results
public import proofs.«01_k».proof.Proof.Host

@[expose] public section

set_option maxRecDepth 16384

noncomputable section

namespace Cert.KernelIdeal.Chunk

open Idealize.ShloMosaic Idealize.ShloMosaic.TcCoe Idealize.SL.Sem
open Cert.KernelIdeal.Gen Cert.Real

theorem hd_at {φ : EltTy} (x : Vec Ideal S64x512 φ) (h : Fin 4) (s : Fin 64) (w : Fin 128) : hd x h (ix2 s w) = x (ix2 s (cc h w)) := by
  match h with
  | 0 =>
    pointwise [hd]
    exact congrArg (fun p : Fin 512 => x (ix2 s p)) (Fin.ext (by show w.val = 0 * 128 + w.val; omega))
  | 1 =>
    pointwise [hd]
    exact congrArg (fun p : Fin 512 => x (ix2 s p)) (Fin.ext (by show 128 + w.val = 1 * 128 + w.val; omega))
  | 2 =>
    pointwise [hd]
    exact congrArg (fun p : Fin 512 => x (ix2 s p)) (Fin.ext (by show 256 + w.val = 2 * 128 + w.val; omega))
  | 3 =>
    pointwise [hd]
    exact congrArg (fun p : Fin 512 => x (ix2 s p)) (Fin.ext (by show 384 + w.val = 3 * 128 + w.val; omega))

theorem cat4 (x : Fin 4 → FVec Ideal S64x128 .f32) (h : Fin 4) (s : Fin 64) (w : Fin 128) : k0_pay258 (x 0) (x 1) (x 2) (x 3) (ix2 s (cc h w)) = x h (ix2 s w) := by
  match h with
  | 0 =>
    pointwise [k0_pay258]
  | 1 =>
    pointwise [k0_pay258]
  | 2 =>
    pointwise [k0_pay258]
    rw [dif_neg (by omega), dif_neg (by omega), dif_pos (by omega)]
    exact congrArg (fun p : Fin 128 => x 2 (ix2 s p)) (Fin.ext (by show 256 + w.val - 128 - 128 = w.val; omega))
  | 3 =>
    pointwise [k0_pay258]
    rw [dif_neg (by omega), dif_neg (by omega), dif_neg (by omega)]
    exact congrArg (fun p : Fin 128 => x 3 (ix2 s p)) (Fin.ext (by show 384 + w.val - 128 - 128 - 128 = w.val; omega))

theorem cat4R (x : FVec Ideal S1x128 .f32) (h : Fin 4) (w : Fin 128) : k0_pay259 x (ix2 (0 : Fin 1) (cc h w)) = x (ix2 (0 : Fin 1) w) := by
  match h with
  | 0 =>
    pointwise [k0_pay259]
  | 1 =>
    pointwise [k0_pay259]
  | 2 =>
    pointwise [k0_pay259]
    rw [dif_neg (by omega), dif_neg (by omega), dif_pos (by omega)]
    exact congrArg (fun p : Fin 128 => x (ix2 (0 : Fin 1) p)) (Fin.ext (by show 256 + w.val - 128 - 128 = w.val; omega))
  | 3 =>
    pointwise [k0_pay259]
    rw [dif_neg (by omega), dif_neg (by omega), dif_neg (by omega)]
    exact congrArg (fun p : Fin 128 => x (ix2 (0 : Fin 1) p)) (Fin.ext (by show 384 + w.val - 128 - 128 - 128 = w.val; omega))

/-- What chunk `n` reads is the real numbers `X`, the states apart. -/
structure Reads (C : In Ideal) (X : Args) (n : Fin 64) : Prop where
  l : ∀ (i : Fin 2) (j : Fin 512), C.l (ix2 i j) = ((X.l i j : ℝ) : EReal)
  gain : ∀ w : Fin 128, C.gain (ix2 (0 : Fin 1) w) = ((X.gain w : ℝ) : EReal)
  q : ∀ (s : Fin 64) (j : Fin 512), C.q (ix2 s j) = ((X.qr (Arr.row n s) j : ℝ) : EReal)
  f : ∀ (s : Fin 64) (j : Fin 512), C.f (ix2 s j) = ((X.fr (Arr.row n s) j : ℝ) : EReal)
  v : ∀ (s : Fin 64) (j : Fin 512), C.v (ix2 s j) = ((X.v (Arr.row n s) j : ℝ) : EReal)
  g : ∀ (s : Fin 64) (j : Fin 512), C.g (ix2 s j) = ((X.g (Arr.row n s) j : ℝ) : EReal)
  dy : ∀ (s : Fin 64) (j : Fin 512), C.dy (ix2 s j) = ((X.dy (Arr.row n s) j : ℝ) : EReal)
  o : ∀ (s : Fin 64) (h : Fin 4) (w : Fin 128), C.o h (ix2 s w) = ((X.o (Arr.row n s) h w : ℝ) : EReal)

variable {C : In Ideal} {X : Args} {n : Fin 64} (hC : Reads C X n) (D : DS Ideal)
include hC

theorem r_at (s : Fin 64) (h : Fin 4) : k0_pay46 (C.o h) (ix2 s (0 : Fin 1)) = ((X.r (Arr.row n s) h : ℝ) : EReal) := by
  pointwise [k0_pay46, k0_pay45]
  rw [word_128, word_eps]
  refine (congrArg (fun x : EReal => Ideal.rsqrt (Ideal.div x ((128 : ℝ) : EReal) + ((Args.eps : ℝ) : EReal)))
    ((Finset.sum_congr rfl fun w _ => ?_).trans (sum_coe _ fun w => X.o (Arr.row n s) h w * X.o (Arr.row n s) h w))).trans ?_
  · exact (congrArg₂ (fun x y : EReal => x * y) (hC.o s h w) (hC.o s h w)).trans (EReal.coe_mul _ _).symm
  · show Ideal.rsqrt (Ideal.div _ _ + _) = _
    rw [div_real _ (by norm_num), ← EReal.coe_add]
    exact rsqrt_real (X.var_pos _ _)

theorem n_at (s : Fin 64) (h : Fin 4) (w : Fin 128) : (C.H D h).n (ix2 s w) = ((X.n (Arr.row n s) h w : ℝ) : EReal) := by
  pointwise [Head.n, k0_pay47, k0_pay45]
  exact (congrArg₂ (fun x y : EReal => x * y) (hC.o s h w) (r_at hC s h)).trans (EReal.coe_mul _ _).symm

theorem sgg_at (s : Fin 64) (j : Fin 512) : k0_pay31 C.g (ix2 s j) = ((sg (X.g (Arr.row n s) j) : ℝ) : EReal) := by
  pointwise [k0_pay31]
  exact (congrArg (fun x : EReal => Ideal.div 1 (1 + Ideal.exp (0 - x))) (hC.g s j)).trans ((congrArg (fun x : EReal => Ideal.div 1 (1 + Ideal.exp x)) (zero_sub _)).trans (sg_coe _))

theorem dygIn_at (s : Fin 64) (j : Fin 512) : C.dyg (ix2 s j) = ((X.dyg (Arr.row n s) j : ℝ) : EReal) := by
  pointwise [In.dyg, k0_pay32]
  refine (congrArg₂ (fun x y : EReal => x * y) (hC.dy s j) (congrArg₂ (fun x y : EReal => x * y) (hC.g s j) (sgg_at hC s j))).trans ?_
  show (_ : EReal) * (_ * _) = _
  rw [← EReal.coe_mul, ← EReal.coe_mul]
  rfl

theorem outG_at (s : Fin 64) (h : Fin 4) (w : Fin 128) : C.outG D (ix2 s (cc h w)) = ((X.dg (Arr.row n s) h w : ℝ) : EReal) := by
  pointwise [In.outG, k0_pay9]
  refine (congrArg₂ (fun x y : EReal => x * y) (congrArg₂ (fun x y : EReal => x * y) (congrArg₂ (fun x y : EReal => x * y) (congrArg₂ (fun x y : EReal => x * y) (hC.dy s (cc h w))
      ((cat4 (fun i => (C.H D i).n) h s w).trans (n_at hC D s h w))) ((cat4R C.gain h w).trans (hC.gain w))) (sgg_at hC s (cc h w)))
    (congrArg (fun x : EReal => 1 + x) (congrArg₂ (fun x y : EReal => x * y) (hC.g s (cc h w)) (congrArg (fun x : EReal => 1 - x) (sgg_at hC s (cc h w)))))).trans ?_
  show (_ : EReal) * _ * _ * _ * (1 + _ * (1 - _)) = _
  rw [← EReal.coe_one]
  simp only [← EReal.coe_mul, ← EReal.coe_sub, ← EReal.coe_add]
  refine congrArg _ ?_
  unfold Args.dg
  ring

theorem dgain_at (h : Fin 4) (acc : FVec Ideal S1x128 .f32) (a : ℝ) (w : Fin 128) (ha : acc (ix2 (0 : Fin 1) w) = (a : EReal)) :
    (C.H D h).dgain acc (ix2 (0 : Fin 1) w) = ((a + ∑ s : Fin 64, X.n (Arr.row n s) h w * X.dyg (Arr.row n s) (cc h w) : ℝ) : EReal) := by
  pointwise [Head.dgain]
  refine (congrArg₂ (fun x y : EReal => x + y) ha ((Finset.sum_congr rfl fun s _ => ?_).trans (sum_coe _ fun s => X.n (Arr.row n s) h w * X.dyg (Arr.row n s) (cc h w)))).trans (EReal.coe_add _ _).symm
  refine (congrArg₂ (fun x y : EReal => x * y) ((hd_at (φ := .f32) C.dyg h s w).trans (dygIn_at hC s (cc h w))) (n_at hC D s h w)).trans ?_
  exact (EReal.coe_mul _ _).symm.trans (congrArg _ (mul_comm _ _))

end Cert.KernelIdeal.Chunk
-- ==== Proof.Sums.lean ====
/- The gradient of the recurrence over the reals, and sums over the chunks before and after one. -/
module

public import proofs.«01_k».proof.Proof.Real

@[expose] public section

noncomputable section

namespace Cert.Real

open scoped BigOperators

/-- Row `s` of chunk `n`. -/
abbrev row (n s : Fin 64) : Fin 4096 := ⟨64 * n.val + s.val, by omega⟩

theorem sum_all (F : Fin 4096 → ℝ) : ∑ t : Fin 4096, F t = ∑ n : Fin 64, ∑ s : Fin 64, F (row n s) := by
  rw [← Fintype.sum_prod_type']
  refine (Fintype.sum_bijective (fun p : Fin 64 × Fin 64 => row p.1 p.2) ⟨fun p q e => ?_, fun t => ?_⟩ _ _ fun _ => rfl).symm
  · have := congrArg Fin.val e
    simp only at this
    exact Prod.ext (Fin.ext (by omega)) (Fin.ext (by omega))
  · exact ⟨(⟨t.val / 64, by omega⟩, ⟨t.val % 64, by omega⟩), Fin.ext (by show 64 * (t.val / 64) + t.val % 64 = t.val; omega)⟩

/-- The sum over the rows of one chunk. -/
theorem sum_chunk (n : Fin 64) (F : Fin 4096 → ℝ) : (∑ t : Fin 4096, if t.val / 64 = n.val then F t else 0) = ∑ s : Fin 64, F (row n s) := by
  rw [sum_all, Finset.sum_eq_single n]
  · refine Finset.sum_congr rfl fun s _ => if_pos ?_
    show (64 * n.val + s.val) / 64 = n.val
    omega
  · intro m _ h
    refine Finset.sum_eq_zero fun s _ => if_neg fun e => h (Fin.ext ?_)
    have : (64 * m.val + s.val) / 64 = n.val := e
    omega
  · intro h
    exact absurd (Finset.mem_univ n) h

/-- The sum over the rows before chunk `m`. -/
def before (m : ℕ) (F : Fin 4096 → ℝ) : ℝ := ∑ t : Fin 4096, if t.val < 64 * m then F t else 0
/-- The sum over the rows from chunk `m` on. -/
def after (m : ℕ) (F : Fin 4096 → ℝ) : ℝ := ∑ t : Fin 4096, if 64 * m ≤ t.val then F t else 0

theorem before_succ (n : Fin 64) (F : Fin 4096 → ℝ) : before (n.val + 1) F = before n.val F + ∑ s : Fin 64, F (row n s) := by
  unfold before
  rw [← sum_chunk, ← Finset.sum_add_distrib]
  refine Finset.sum_congr rfl fun t _ => ?_
  split_ifs <;> first | omega | simp

theorem after_succ (n : Fin 64) (F : Fin 4096 → ℝ) : after n.val F = (∑ s : Fin 64, F (row n s)) + after (n.val + 1) F := by
  unfold after
  rw [← sum_chunk, ← Finset.sum_add_distrib]
  refine Finset.sum_congr rfl fun t _ => ?_
  split_ifs <;> first | omega | simp

theorem before_after (m : ℕ) (F : Fin 4096 → ℝ) : before m F + after m F = ∑ t, F t := by
  unfold before after
  rw [← Finset.sum_add_distrib]
  refine Finset.sum_congr rfl fun t _ => ?_
  split_ifs <;> first | omega | simp

theorem after_64 (F : Fin 4096 → ℝ) : after 64 F = 0 :=
  Finset.sum_eq_zero fun t _ => if_neg (by omega)

theorem before_congr (m : ℕ) {F G : Fin 4096 → ℝ} (h : ∀ t, t.val < 64 * m → F t = G t) : before m F = before m G :=
  Finset.sum_congr rfl fun t _ => by split_ifs with q; exacts [h t q, rfl]
theorem after_congr (m : ℕ) {F G : Fin 4096 → ℝ} (h : ∀ t, 64 * m ≤ t.val → F t = G t) : after m F = after m G :=
  Finset.sum_congr rfl fun t _ => by split_ifs with q; exacts [h t q, rfl]
theorem before_mul (m : ℕ) (F : Fin 4096 → ℝ) (x : ℝ) : before m F * x = before m fun t => F t * x := by
  unfold before
  rw [Finset.sum_mul]
  exact Finset.sum_congr rfl fun t _ => by split_ifs; exacts [rfl, zero_mul x]
theorem after_mul (m : ℕ) (F : Fin 4096 → ℝ) (x : ℝ) : after m F * x = after m fun t => F t * x := by
  unfold after
  rw [Finset.sum_mul]
  exact Finset.sum_congr rfl fun t _ => by split_ifs; exacts [rfl, zero_mul x]
theorem before_sum {ι : Type*} (s : Finset ι) (m : ℕ) (F : ι → Fin 4096 → ℝ) : (∑ i ∈ s, before m (F i)) = before m fun t => ∑ i ∈ s, F i t := by
  unfold before
  rw [Finset.sum_comm]
  exact Finset.sum_congr rfl fun t _ => by split_ifs; exacts [rfl, Finset.sum_const_zero]
theorem after_sum {ι : Type*} (s : Finset ι) (m : ℕ) (F : ι → Fin 4096 → ℝ) : (∑ i ∈ s, after m (F i)) = after m fun t => ∑ i ∈ s, F i t := by
  unfold after
  rw [Finset.sum_comm]
  exact Finset.sum_congr rfl fun t _ => by split_ifs; exacts [rfl, Finset.sum_const_zero]
theorem after_zero (m : ℕ) {F : Fin 4096 → ℝ} (h : ∀ t, 64 * m ≤ t.val → F t = 0) : after m F = 0 :=
  Finset.sum_eq_zero fun t _ => by split_ifs with q; exacts [h t q, rfl]
theorem before_zero (m : ℕ) {F : Fin 4096 → ℝ} (h : ∀ t, t.val < 64 * m → F t = 0) : before m F = 0 :=
  Finset.sum_eq_zero fun t _ => by split_ifs with q; exacts [h t q, rfl]
theorem after_before (m k : ℕ) (F : Fin 4096 → Fin 4096 → ℝ) : (after m fun t => before k (F t)) = before k fun s => after m fun t => F t s := by
  unfold before after
  have e (t : Fin 4096) : (if 64 * m ≤ t.val then ∑ s : Fin 4096, (if s.val < 64 * k then F t s else 0) else 0)
      = ∑ s : Fin 4096, if s.val < 64 * k then (if 64 * m ≤ t.val then F t s else 0) else 0 := by
    split_ifs <;> simp
  have e' (s : Fin 4096) : (if s.val < 64 * k then ∑ t : Fin 4096, (if 64 * m ≤ t.val then F t s else 0) else 0)
      = ∑ t : Fin 4096, if s.val < 64 * k then (if 64 * m ≤ t.val then F t s else 0) else 0 := by
    split_ifs <;> simp
  simp only [e, e']
  exact Finset.sum_comm
theorem after_after (m : ℕ) (F : Fin 4096 → Fin 4096 → ℝ) : (after m fun t => after m (F t)) = after m fun s => after m fun t => F t s := by
  unfold after
  have e (t : Fin 4096) : (if 64 * m ≤ t.val then ∑ s : Fin 4096, (if 64 * m ≤ s.val then F t s else 0) else 0)
      = ∑ s : Fin 4096, if 64 * m ≤ s.val then (if 64 * m ≤ t.val then F t s else 0) else 0 := by
    split_ifs <;> simp
  have e' (s : Fin 4096) : (if 64 * m ≤ s.val then ∑ t : Fin 4096, (if 64 * m ≤ t.val then F t s else 0) else 0)
      = ∑ t : Fin 4096, if 64 * m ≤ s.val then (if 64 * m ≤ t.val then F t s else 0) else 0 := by
    split_ifs <;> simp
  simp only [e, e']
  exact Finset.sum_comm

namespace Args

variable (X : Args)

/-- The cotangent of the normalised value. -/
def dn (t : Fin 4096) (h : Fin 4) (w : Fin 128) : ℝ := X.dyg t (cc h w) * X.gain w
def mean (t : Fin 4096) (h : Fin 4) : ℝ := (∑ w : Fin 128, X.dn t h w * X.n t h w) / 128
/-- The cotangent of the mixed value. -/
def dO (t : Fin 4096) (h : Fin 4) (w : Fin 128) : ℝ := X.r t h * (X.dn t h w - X.n t h w * X.mean t h)
/-- The cotangent of the scores. -/
def dA (t s : Fin 4096) (h : Fin 4) : ℝ := ∑ w : Fin 128, X.dO t h w * X.v s (cc h w)
/-- The gradient of the query. -/
def dq (t : Fin 4096) (h : Fin 4) (c : Fin 128) : ℝ := ∑ s : Fin 4096, X.dA t s h * (X.k s (cc h c) * X.A t s (cc h c))
/-- The gradient of the key. -/
def dk (s : Fin 4096) (h : Fin 4) (c : Fin 128) : ℝ := ∑ t : Fin 4096, X.dA t s h * (X.q t (cc h c) * X.A t s (cc h c))
/-- The gradient of the value. -/
def dv (s : Fin 4096) (h : Fin 4) (w : Fin 128) : ℝ := ∑ t : Fin 4096, X.sc t s h * X.dO t h w
/-- What the pair of rows `t` and `s` gives to the gradient of the decay's logarithm. -/
def E (h : Fin 4) (c : Fin 128) (t s : Fin 4096) : ℝ := X.k s (cc h c) * (X.q t (cc h c) * X.dA t s h) * X.A t s (cc h c)
/-- The gradient of the running sum. -/
def db (t : Fin 4096) (h : Fin 4) (c : Fin 128) : ℝ := (∑ s : Fin 4096, X.E h c t s) - ∑ s : Fin 4096, X.E h c s t
/-- The gradient of the gate's logarithm. -/
def dlog (t : Fin 4096) (h : Fin 4) (c : Fin 128) : ℝ := ∑ i : Fin 4096, if t ≤ i then X.db i h c else 0
/-- The gradient of the forget gate. -/
def dfg (t : Fin 4096) (h : Fin 4) (c : Fin 128) : ℝ := X.dlog t h c / X.fg t (cc h c) - X.dk t h c
/-- The gradient of the query's projection. -/
def dQ (t : Fin 4096) (h : Fin 4) (c : Fin 128) : ℝ :=
  X.dq t h c * sg (X.qr t (cc h c)) * (1 + X.qr t (cc h c) * (1 - sg (X.qr t (cc h c))))
/-- The gradient of the forget gate's projection. -/
def dF (t : Fin 4096) (h : Fin 4) (c : Fin 128) : ℝ :=
  X.dfg t h c * (1 - X.lb (cc h c)) * sg (X.fr t (cc h c)) * (1 - sg (X.fr t (cc h c)))
/-- The gradient of the lower bound. -/
def dLb (h : Fin 4) (c : Fin 128) : ℝ := ∑ t : Fin 4096, X.dfg t h c * (1 - sg (X.fr t (cc h c)))

/-- The running sum before chunk `m`. -/
def e (m : ℕ) (j : Fin 512) : ℝ := before m fun t => X.a t j
/-- The state before chunk `m`. -/
def st (m : ℕ) (h : Fin 4) (w c : Fin 128) : ℝ := before m fun s => Real.exp (X.e m (cc h c) - X.b s (cc h c)) * X.k s (cc h c) * X.v s (cc h w)
/-- The cotangent of the state before chunk `m`. -/
def ds (m : ℕ) (h : Fin 4) (w c : Fin 128) : ℝ := after m fun t => Real.exp (X.b t (cc h c) - X.e m (cc h c)) * X.q t (cc h c) * X.dO t h w

theorem b_row (n s : Fin 64) (j : Fin 512) : X.b (row n s) j = X.e n.val j + ∑ i : Fin 64, if i ≤ s then X.a (row n i) j else 0 := by
  have h : (∑ i : Fin 64, if i ≤ s then X.a (row n i) j else 0) = ∑ i : Fin 64, (fun t : Fin 4096 => if t ≤ row n s then X.a t j else 0) (row n i) := by
    refine Finset.sum_congr rfl fun i _ => ?_
    have : (i ≤ s) ↔ (row n i ≤ row n s) := by
      rw [Fin.le_def, Fin.le_def]
      show i.val ≤ s.val ↔ 64 * n.val + i.val ≤ 64 * n.val + s.val
      omega
    simp only [this]
  rw [h, ← sum_chunk n (fun t : Fin 4096 => if t ≤ row n s then X.a t j else 0)]
  unfold b e before
  rw [← Finset.sum_add_distrib]
  refine Finset.sum_congr rfl fun t _ => ?_
  simp only [Fin.le_def]
  show (if t.val ≤ 64 * n.val + s.val then _ else _) = _
  split_ifs <;> first | omega | simp

theorem b_last (n : Fin 64) (j : Fin 512) : X.b (row n 63) j = X.e (n.val + 1) j := by
  rw [b_row, e, e, before_succ]
  refine congrArg _ (Finset.sum_congr rfl fun i _ => if_pos ?_)
  rw [Fin.le_def]
  show i.val ≤ 63
  omega

theorem b_succ (t u : Fin 4096) (j : Fin 512) (h : u.val = t.val + 1) : X.b u j = X.b t j + X.a u j := by
  have : X.a u j = ∑ s : Fin 4096, if s = u then X.a s j else 0 := by rw [Finset.sum_ite_eq' Finset.univ u (fun s => X.a s j), if_pos (Finset.mem_univ u)]
  unfold b
  rw [this, ← Finset.sum_add_distrib]
  refine Finset.sum_congr rfl fun s _ => ?_
  simp only [Fin.le_def, Fin.ext_iff]
  split_ifs <;> first | omega | simp

theorem a_nonpos (t : Fin 4096) (j : Fin 512) : X.a t j ≤ 0 := Real.log_nonpos (X.fg_pos t j).le (X.fg_lt_one t j).le

theorem a_low (t : Fin 4096) (j : Fin 512) (h : X.l 1 j - X.l 0 j ≤ 9) : -10 ≤ X.a t j := by
  unfold a
  rw [Real.le_log_iff_exp_le (X.fg_pos t j)]
  refine le_trans ?_ (X.fg_lb t j).le
  unfold lb
  rw [Real.exp_neg, ← one_div]
  refine one_div_le_one_div_of_le (by positivity) ?_
  have h1 : Real.exp (X.l 1 j - X.l 0 j) ≤ Real.exp 9 := Real.exp_le_exp.2 h
  have h2 : Real.exp 10 = Real.exp 9 * Real.exp 1 := by rw [← Real.exp_add]; norm_num
  have h3 : (2 : ℝ) ≤ Real.exp 1 := by have := Real.add_one_le_exp (1 : ℝ); linarith
  have h4 : (1 : ℝ) ≤ Real.exp 9 := by have := Real.add_one_le_exp (9 : ℝ); linarith
  rw [h2]
  nlinarith

theorem b_drop (j : Fin 512) (h : X.l 1 j - X.l 0 j ≤ 9) (d : ℕ) (t u : Fin 4096) (e : u.val = t.val + d) :
    X.b u j ≤ X.b t j ∧ X.b t j - X.b u j ≤ 10 * d := by
  induction d generalizing u with
  | zero =>
    have : u = t := Fin.ext e
    subst this
    simp
  | succ d ih =>
    have := u.isLt
    obtain ⟨h1, h2⟩ := ih ⟨t.val + d, by omega⟩ rfl
    rw [X.b_succ ⟨t.val + d, by omega⟩ u j (by rw [e]; rfl)]
    have := X.a_nonpos u j
    have := X.a_low u j h
    push_cast
    constructor <;> linarith

/-- Less than nine rows apart, no cap at 80 binds. -/
theorem b_cap (j : Fin 512) (h : X.l 1 j - X.l 0 j ≤ 9) (t u : Fin 4096) (e : u.val ≤ t.val + 8) : X.b t j - X.b u j ≤ 80 := by
  by_cases q : t.val ≤ u.val
  · have := (X.b_drop j h (u.val - t.val) t u (by omega)).2
    have : ((u.val - t.val : ℕ) : ℝ) ≤ 8 := by
      have : u.val - t.val ≤ 8 := by omega
      exact_mod_cast this
    linarith
  · have := (X.b_drop j h (t.val - u.val) u t (by omega)).1
    linarith

end Args

end Cert.Real
-- ==== Proof.Split.lean ====
/- The gradient of the recurrence, chunk by chunk: what a chunk's own rows give, what the state before it gives, and what the cotangent of the state after it gives. -/
module

public import proofs.«01_k».proof.Proof.Sums

@[expose] public section

noncomputable section

namespace Cert.Real.Args

open scoped BigOperators

variable (X : Args)

theorem A_le {t s : Fin 4096} (h : s.val ≤ t.val) (j : Fin 512) : X.A t s j = Real.exp (X.b t j - X.b s j) := if_pos h
theorem A_gt {t s : Fin 4096} (h : t.val < s.val) (j : Fin 512) : X.A t s j = 0 := if_neg (not_le.2 h)
theorem sc_gt {t s : Fin 4096} (q : t.val < s.val) (h : Fin 4) : X.sc t s h = 0 :=
  Finset.sum_eq_zero fun c _ => by rw [X.A_gt q, mul_zero, mul_zero]
theorem E_gt {t s : Fin 4096} (q : t.val < s.val) (h : Fin 4) (c : Fin 128) : X.E h c t s = 0 := by
  unfold E
  rw [X.A_gt q, mul_zero]

/-- The middle row of a row's group of sixteen. -/
def mid (s : Fin 64) : Fin 64 := ⟨16 * (s.val / 16) + 7, by omega⟩
def midOf (r : Fin 4) : Fin 64 := ⟨16 * r.val + 7, by omega⟩
/-- The group of a row. -/
def grp (s : Fin 64) : Fin 4 := ⟨s.val / 16, by omega⟩
theorem mid_grp (s : Fin 64) : midOf (grp s) = mid s := rfl
/-- Row `i` of group `r`. -/
abbrev gr (r : Fin 4) (i : Fin 16) : Fin 64 := ⟨16 * r.val + i.val, by omega⟩
theorem mid_gr (r : Fin 4) (i : Fin 16) : mid (gr r i) = midOf r := by
  refine Fin.ext ?_
  show 16 * ((16 * r.val + i.val) / 16) + 7 = 16 * r.val + 7
  omega
theorem grp_gr (r : Fin 4) (i : Fin 16) : grp (gr r i) = r := by
  refine Fin.ext ?_
  show (16 * r.val + i.val) / 16 = r.val
  omega

theorem sum_gr (F : Fin 64 → ℝ) : ∑ r : Fin 4, ∑ i : Fin 16, F (gr r i) = ∑ s : Fin 64, F s := by
  rw [← Fintype.sum_prod_type']
  refine Fintype.sum_bijective (fun p : Fin 4 × Fin 16 => gr p.1 p.2) ⟨fun p q e => ?_, fun t => ?_⟩ _ _ fun _ => rfl
  · have := congrArg Fin.val e
    simp only at this
    exact Prod.ext (Fin.ext (by omega)) (Fin.ext (by omega))
  · exact ⟨(⟨t.val / 16, by omega⟩, ⟨t.val % 16, by omega⟩), Fin.ext (by show 16 * (t.val / 16) + t.val % 16 = t.val; omega)⟩

variable (n : Fin 64) (h : Fin 4)

/-- The query scaled to its group's middle row. -/
def qs (t : Fin 64) (j : Fin 512) : ℝ := X.q (row n t) j * Real.exp (X.b (row n t) j - X.b (row n (mid t)) j)
/-- The decay from a row to a group's middle row, for the rows up to the group's end. -/
def ee (r : Fin 4) (s : Fin 64) (j : Fin 512) : ℝ := if s.val < 16 * r.val + 16 then Real.exp (X.b (row n (midOf r)) j - X.b (row n s) j) else 0
def kk (r : Fin 4) (s : Fin 64) (j : Fin 512) : ℝ := X.k (row n s) j * X.ee n r s j
/-- The query scaled to the chunk's start. -/
def qd (t : Fin 64) (j : Fin 512) : ℝ := X.q (row n t) j * Real.exp (X.b (row n t) j - X.e n.val j)
/-- The key scaled to the chunk's end. -/
def kd (s : Fin 64) (j : Fin 512) : ℝ := X.k (row n s) j * Real.exp (X.e (n.val + 1) j - X.b (row n s) j)
/-- The cotangent of the scores within the chunk. -/
def da (t s : Fin 64) : ℝ := if s ≤ t then X.dA (row n t) (row n s) h else 0
def dqs (t : Fin 64) (c : Fin 128) : ℝ := ∑ s : Fin 64, X.da n h t s * X.kk n (grp t) s (cc h c)
def dqd (t : Fin 64) (c : Fin 128) : ℝ := ∑ w : Fin 128, X.dO (row n t) h w * X.st n.val h w c
def dkd (s : Fin 64) (c : Fin 128) : ℝ := ∑ w : Fin 128, X.v (row n s) (cc h w) * X.ds (n.val + 1) h w c
/-- What a group's queries give to a key. -/
def gk (r : Fin 4) (s : Fin 64) (c : Fin 128) : ℝ := ∑ i : Fin 16, X.da n h (gr r i) s * X.qs n (gr r i) (cc h c)
/-- What the rows after the chunk take from the rows before its end. -/
def dbl (c : Fin 128) : ℝ :=
  Real.exp (X.e (n.val + 1) (cc h c) - X.e n.val (cc h c)) * (∑ w : Fin 128, X.ds (n.val + 1) h w c * X.st n.val h w c) + ∑ s : Fin 64, X.dkd n h s c * X.kd n s (cc h c)

theorem ee_da (t s : Fin 64) (j : Fin 512) (r : Fin 4) (hr : grp t = r) :
    X.da n h t s * (Real.exp (X.b (row n t) j - X.b (row n (mid t)) j) * X.ee n r s j) = X.dA (row n t) (row n s) h * X.A (row n t) (row n s) j := by
  subst hr
  unfold da ee
  by_cases q : s ≤ t
  · have q' : s.val ≤ t.val := q
    rw [if_pos q, if_pos (by show s.val < 16 * (t.val / 16) + 16; omega), mid_grp, ← Real.exp_add, X.A_le (by show 64 * n.val + s.val ≤ 64 * n.val + t.val; omega)]
    congr 2
    ring
  · have q' : ¬ s.val ≤ t.val := q
    rw [if_neg q, X.A_gt (by show 64 * n.val + t.val < 64 * n.val + s.val; omega), zero_mul, mul_zero]

/-- The scores within a chunk. -/
theorem score (t s : Fin 64) : (if s ≤ t then ∑ c : Fin 128, X.qs n t (cc h c) * X.kk n (grp t) s (cc h c) else 0) = X.sc (row n t) (row n s) h := by
  by_cases q : s ≤ t
  · have q' : s.val ≤ t.val := q
    rw [if_pos q]
    refine Finset.sum_congr rfl fun c _ => ?_
    unfold qs kk ee
    rw [if_pos (by show s.val < 16 * (t.val / 16) + 16; omega), mid_grp, X.A_le (by show 64 * n.val + s.val ≤ 64 * n.val + t.val; omega)]
    have : Real.exp (X.b (row n t) (cc h c) - X.b (row n s) (cc h c)) = Real.exp (X.b (row n t) (cc h c) - X.b (row n (mid t)) (cc h c)) * Real.exp (X.b (row n (mid t)) (cc h c) - X.b (row n s) (cc h c)) := by
      rw [← Real.exp_add]
      congr 1
      ring
    rw [this]
    ring
  · have q' : ¬ s.val ≤ t.val := q
    rw [if_neg q, X.sc_gt (by show 64 * n.val + t.val < 64 * n.val + s.val; omega)]

/-- From a row of the chunk to the rows after it. -/
theorem far_after (s : Fin 64) (t : Fin 4096) (ht : 64 * (n.val + 1) ≤ t.val) (j : Fin 512) :
    Real.exp (X.b t j - X.e (n.val + 1) j) * Real.exp (X.e (n.val + 1) j - X.b (row n s) j) = X.A t (row n s) j := by
  rw [X.A_le (by show 64 * n.val + s.val ≤ t.val; omega), ← Real.exp_add]
  congr 1
  ring

/-- From the rows before the chunk to a row of it. -/
theorem far_before (t : Fin 64) (s : Fin 4096) (hs : s.val < 64 * n.val) (j : Fin 512) :
    Real.exp (X.e n.val j - X.b s j) * Real.exp (X.b (row n t) j - X.e n.val j) = X.A (row n t) s j := by
  rw [X.A_le (by show s.val ≤ 64 * n.val + t.val; omega), ← Real.exp_add]
  congr 1
  ring

theorem dv_split (s : Fin 64) (w : Fin 128) :
    (∑ t : Fin 64, X.sc (row n t) (row n s) h * X.dO (row n t) h w) + (∑ c : Fin 128, X.kd n s (cc h c) * X.ds (n.val + 1) h w c) = X.dv (row n s) h w := by
  unfold dv
  rw [← before_after n.val, before_zero n.val (fun t ht => by rw [X.sc_gt (by show t.val < 64 * n.val + s.val; omega), zero_mul]), zero_add, after_succ]
  congr 1
  unfold ds
  simp only [mul_comm (X.kd n s _), after_mul]
  rw [after_sum]
  refine after_congr _ fun t ht => ?_
  unfold sc
  rw [Finset.sum_mul]
  refine Finset.sum_congr rfl fun c _ => ?_
  rw [← X.far_after n s t ht]
  unfold kd
  ring

theorem dqs_eq (t : Fin 64) (c : Fin 128) :
    X.dqs n h t c * Real.exp (X.b (row n t) (cc h c) - X.b (row n (mid t)) (cc h c)) = ∑ s : Fin 64, X.dA (row n t) (row n s) h * (X.k (row n s) (cc h c) * X.A (row n t) (row n s) (cc h c)) := by
  unfold dqs
  rw [Finset.sum_mul]
  refine Finset.sum_congr rfl fun s _ => ?_
  have := X.ee_da n h t s (cc h c) (grp t) rfl
  unfold kk
  linear_combination X.k (row n s) (cc h c) * this

theorem dqd_eq (t : Fin 64) (c : Fin 128) :
    X.dqd n h t c * Real.exp (X.b (row n t) (cc h c) - X.e n.val (cc h c)) = before n.val fun s => X.dA (row n t) s h * (X.k s (cc h c) * X.A (row n t) s (cc h c)) := by
  unfold dqd st
  simp only [mul_comm (X.dO (row n t) h _), before_mul]
  rw [before_sum, before_mul]
  refine before_congr _ fun s hs => ?_
  rw [← X.far_before n t s hs]
  unfold dA
  rw [Finset.sum_mul, Finset.sum_mul]
  exact Finset.sum_congr rfl fun w _ => by ring

theorem dq_split (t : Fin 64) (c : Fin 128) :
    X.dqs n h t c * Real.exp (X.b (row n t) (cc h c) - X.b (row n (mid t)) (cc h c)) + X.dqd n h t c * Real.exp (X.b (row n t) (cc h c) - X.e n.val (cc h c)) = X.dq (row n t) h c := by
  rw [dqs_eq, dqd_eq]
  unfold dq
  rw [← before_after (n.val + 1), after_zero (n.val + 1) (fun s hs => by rw [X.A_gt (by show 64 * n.val + t.val < s.val; omega), mul_zero, mul_zero]), add_zero, before_succ]
  exact add_comm _ _

theorem gk_eq (s : Fin 64) (c : Fin 128) :
    ∑ r : Fin 4, X.gk n h r s c * X.ee n r s (cc h c) = ∑ t : Fin 64, X.dA (row n t) (row n s) h * (X.q (row n t) (cc h c) * X.A (row n t) (row n s) (cc h c)) := by
  rw [← sum_gr]
  refine Finset.sum_congr rfl fun r _ => ?_
  unfold gk
  rw [Finset.sum_mul]
  refine Finset.sum_congr rfl fun i _ => ?_
  have := X.ee_da n h (gr r i) s (cc h c) r (grp_gr r i)
  unfold qs
  linear_combination X.q (row n (gr r i)) (cc h c) * this

theorem dkd_eq (s : Fin 64) (c : Fin 128) :
    X.dkd n h s c * Real.exp (X.e (n.val + 1) (cc h c) - X.b (row n s) (cc h c)) = after (n.val + 1) fun t => X.dA t (row n s) h * (X.q t (cc h c) * X.A t (row n s) (cc h c)) := by
  unfold dkd ds
  simp only [mul_comm (X.v (row n s) _), after_mul]
  rw [after_sum, after_mul]
  refine after_congr _ fun t ht => ?_
  rw [← X.far_after n s t ht]
  unfold dA
  rw [Finset.sum_mul, Finset.sum_mul]
  exact Finset.sum_congr rfl fun w _ => by ring

theorem dk_split (s : Fin 64) (c : Fin 128) :
    (∑ r : Fin 4, X.gk n h r s c * X.ee n r s (cc h c)) + X.dkd n h s c * Real.exp (X.e (n.val + 1) (cc h c) - X.b (row n s) (cc h c)) = X.dk (row n s) h c := by
  rw [gk_eq, dkd_eq]
  unfold dk
  rw [← before_after n.val, before_zero n.val (fun t ht => by rw [X.A_gt (by show t.val < 64 * n.val + s.val; omega), mul_zero, mul_zero]), zero_add, after_succ]

theorem E_q (c : Fin 128) (t : Fin 4096) : ∑ s, X.E h c t s = X.q t (cc h c) * X.dq t h c := by
  unfold dq E
  rw [Finset.mul_sum]
  exact Finset.sum_congr rfl fun s _ => by ring
theorem E_k (c : Fin 128) (s : Fin 4096) : ∑ t, X.E h c t s = X.k s (cc h c) * X.dk s h c := by
  unfold dk E
  rw [Finset.mul_sum]
  exact Finset.sum_congr rfl fun s _ => by ring

theorem db_split (t : Fin 64) (c : Fin 128) :
    X.qs n t (cc h c) * X.dqs n h t c - (∑ r : Fin 4, X.gk n h r t c * X.kk n r t (cc h c)) + X.dqd n h t c * X.qd n t (cc h c) - X.dkd n h t c * X.kd n t (cc h c)
      = X.db (row n t) h c := by
  unfold db
  rw [E_q, E_k, ← dq_split, ← dk_split]
  have : ∑ r : Fin 4, X.gk n h r t c * X.kk n r t (cc h c) = X.k (row n t) (cc h c) * ∑ r : Fin 4, X.gk n h r t c * X.ee n r t (cc h c) := by
    rw [Finset.mul_sum]
    exact Finset.sum_congr rfl fun r _ => by unfold kk; ring
  rw [this]
  unfold qs qd kd
  ring

/-- What the rows after the chunk take from the rows before its end. -/
theorem dbl_eq (c : Fin 128) : X.dbl n h c = after (n.val + 1) fun t => before (n.val + 1) (X.E h c t) := by
  have e1 : Real.exp (X.e (n.val + 1) (cc h c) - X.e n.val (cc h c)) * (∑ w : Fin 128, X.ds (n.val + 1) h w c * X.st n.val h w c) = after (n.val + 1) fun t => before n.val (X.E h c t) := by
    rw [mul_comm, Finset.sum_mul]
    unfold ds
    simp only [after_mul]
    rw [after_sum]
    refine after_congr _ fun t ht => ?_
    unfold st
    simp only [mul_comm _ (before _ _), before_mul]
    rw [before_sum]
    refine before_congr _ fun s hs => ?_
    unfold E dA
    rw [X.A_le (by omega), show X.b t (cc h c) - X.b s (cc h c) = (X.b t (cc h c) - X.e (n.val + 1) (cc h c)) + (X.e (n.val + 1) (cc h c) - X.e n.val (cc h c)) + (X.e n.val (cc h c) - X.b s (cc h c)) by ring, Real.exp_add, Real.exp_add,
      Finset.mul_sum, Finset.mul_sum, Finset.sum_mul]
    exact Finset.sum_congr rfl fun w _ => by ring
  have e2 (s : Fin 64) : X.dkd n h s c * X.kd n s (cc h c) = after (n.val + 1) fun t => X.E h c t (row n s) := by
    have := X.dkd_eq n h s c
    unfold kd
    rw [show X.dkd n h s c * (X.k (row n s) (cc h c) * Real.exp (X.e (n.val + 1) (cc h c) - X.b (row n s) (cc h c))) = (X.dkd n h s c * Real.exp (X.e (n.val + 1) (cc h c) - X.b (row n s) (cc h c))) * X.k (row n s) (cc h c) by ring, this, after_mul]
    exact after_congr _ fun t _ => by unfold E; ring
  unfold dbl
  rw [e1, Finset.sum_congr rfl fun s _ => e2 s, after_sum]
  unfold after
  rw [← Finset.sum_add_distrib]
  refine Finset.sum_congr rfl fun t _ => ?_
  simp only [before_succ]
  split_ifs
  · rfl
  · simp

/-- The gradient of the running sum, added up over the rows after the chunk. -/
theorem db_after (c : Fin 128) : (after (n.val + 1) fun t => X.db t h c) = X.dbl n h c := by
  rw [dbl_eq]
  have e (t : Fin 4096) (ht : 64 * (n.val + 1) ≤ t.val) : X.db t h c = before (n.val + 1) (X.E h c t) + (after (n.val + 1) (X.E h c t) - after (n.val + 1) fun s => X.E h c s t) := by
    unfold db
    rw [← before_after (n.val + 1) (X.E h c t), ← before_after (n.val + 1) (fun s => X.E h c s t), before_zero (n.val + 1) (F := fun s => X.E h c s t) fun s hs => X.E_gt (by omega) h c]
    ring
  rw [after_congr _ e]
  have s (F G H : Fin 4096 → ℝ) : after (n.val + 1) (fun t => F t + (G t - H t)) = after (n.val + 1) F + (after (n.val + 1) G - after (n.val + 1) H) := by
    unfold after
    rw [← Finset.sum_sub_distrib, ← Finset.sum_add_distrib]
    refine Finset.sum_congr rfl fun t _ => ?_
    split_ifs <;> simp
  rw [s, after_after, sub_self, add_zero]

theorem dlog_split (s : Fin 64) (c : Fin 128) :
    (∑ i : Fin 64, if s ≤ i then X.db (row n i) h c + (if i = 63 then X.dbl n h c else 0) else 0) = X.dlog (row n s) h c := by
  have e1 : (∑ i : Fin 64, if s ≤ i then X.db (row n i) h c + (if i = 63 then X.dbl n h c else 0) else 0)
      = (∑ i : Fin 64, (fun t : Fin 4096 => if row n s ≤ t then X.db t h c else 0) (row n i)) + X.dbl n h c := by
    have : X.dbl n h c = ∑ i : Fin 64, if i = 63 then X.dbl n h c else 0 := by rw [Finset.sum_ite_eq' Finset.univ (63 : Fin 64) (fun _ => X.dbl n h c), if_pos (Finset.mem_univ _)]
    conv_rhs => rw [this]
    rw [← Finset.sum_add_distrib]
    refine Finset.sum_congr rfl fun i _ => ?_
    have q : (row n s ≤ row n i) ↔ s ≤ i := by
      rw [Fin.le_def, Fin.le_def]
      show 64 * n.val + s.val ≤ 64 * n.val + i.val ↔ s.val ≤ i.val
      omega
    simp only [q]
    have hs := s.isLt
    by_cases p : s ≤ i
    · rw [if_pos p, if_pos p]
    · have : i ≠ 63 := by
        intro e
        subst e
        exact p (by rw [Fin.le_def]; show s.val ≤ 63; omega)
      rw [if_neg p, if_neg p, if_neg this, add_zero]
  rw [e1, ← db_after, ← sum_chunk n (fun t : Fin 4096 => if row n s ≤ t then X.db t h c else 0)]
  unfold dlog after
  rw [← Finset.sum_add_distrib]
  refine Finset.sum_congr rfl fun t _ => ?_
  simp only [Fin.le_def]
  show _ = if 64 * n.val + s.val ≤ t.val then _ else _
  have := s.isLt
  split_ifs <;> first | omega | simp

theorem ds_split (w c : Fin 128) :
    X.ds (n.val + 1) h w c * Real.exp (X.e (n.val + 1) (cc h c) - X.e n.val (cc h c)) + (∑ t : Fin 64, X.dO (row n t) h w * X.qd n t (cc h c)) = X.ds n.val h w c := by
  conv_rhs => unfold ds
  rw [after_succ, add_comm]
  congr 1
  · exact Finset.sum_congr rfl fun t _ => by unfold qd; ring
  · unfold ds
    rw [after_mul]
    refine after_congr _ fun t _ => ?_
    rw [show X.b t (cc h c) - X.e n.val (cc h c) = (X.b t (cc h c) - X.e (n.val + 1) (cc h c)) + (X.e (n.val + 1) (cc h c) - X.e n.val (cc h c)) by ring, Real.exp_add]
    ring

end Cert.Real.Args
-- ==== Proof.ChunkBase.lean ====
/- A chunk's gates, running sums and scaled queries and keys, over the reals. -/
module

public import proofs.«01_k».proof.Proof.ChunkGate
public import proofs.«01_k».proof.Proof.Split

@[expose] public section

set_option maxRecDepth 16384

noncomputable section

namespace Cert.KernelIdeal.Chunk

open Idealize.ShloMosaic Idealize.ShloMosaic.TcCoe Idealize.SL.Sem
open Cert.KernelIdeal.Gen Cert.Real

/-- What chunk `n` reads is the real numbers `X`, the states and their cotangents too. -/
structure Full (C : In Ideal) (X : Args) (n : Fin 64) (D : DS Ideal) : Prop where
  reads : Reads C X n
  low : ∀ j, X.l 1 j - X.l 0 j ≤ 9
  st : ∀ (h : Fin 4) (w c : Fin 128), C.st h (ix2 w c) = ((X.st n.val h w c : ℝ) : EReal)
  ds : ∀ (h : Fin 4) (w c : Fin 128), D h (ix3 (0 : Fin 1) w c) = ((X.ds (n.val + 1) h w c : ℝ) : EReal)

theorem word_80 : Ideal.ofBits FTy.f32 1117782016#32 = ((80 : ℝ) : EReal) := by
  simp [Ideal.ofBits, Ideal.ieee]
  rw [← EReal.coe_mul]
  norm_num

theorem min_80 {x : ℝ} (h : x ≤ 80) : min (x : EReal) (Ideal.ofBits FTy.f32 1117782016#32) = (x : EReal) := by
  rw [word_80]
  exact min_eq_left (EReal.coe_le_coe_iff.2 h)

theorem le64 {s t : Fin 64} (q : s ≤ t) : IntOp.cmpi CmpIPredicate.sle (BitVec.ofNat 32 s.val) (BitVec.ofNat 32 t.val) = 1#1 := by
  rw [WordCmp.cmpi_sle_ofNat_eq_one_iff (by omega) (by omega)]
  exact q
theorem not_le64 {s t : Fin 64} (q : ¬ s ≤ t) : IntOp.cmpi CmpIPredicate.sle (BitVec.ofNat 32 s.val) (BitVec.ofNat 32 t.val) = 0#1 := by
  rw [WordCmp.cmpi_sle_ofNat_eq_zero_iff (by omega) (by omega)]
  exact q

theorem mask_at (t s : Fin 64) : k0_pay5 (ix2 t s) = if s ≤ t then 1#1 else 0#1 := by
  pointwise [k0_pay5]
  split_ifs with q
  · exact le64 q
  · exact not_le64 q

theorem tri_at (t s : Fin 64) : k0_pay6 (F := Ideal) (ix2 t s) = (((if s ≤ t then 1 else 0 : ℝ)) : EReal) := by
  pointwise [k0_pay6]
  rw [mask_at]
  show (((BitVec.setWidth 32 (if s ≤ t then 1#1 else 0#1)).toInt : ℝ) : EReal) = _
  split_ifs <;> simp

theorem row_gr (s : Fin 64) : s = Args.gr (Args.grp s) ⟨s.val % 16, by omega⟩ :=
  Fin.ext (by show s.val = 16 * (s.val / 16) + s.val % 16; omega)

/-- Four groups of sixteen rows, one below another. -/
theorem cat16 (x : Fin 4 → FVec Ideal S16x512 .f32) (r : Fin 4) (i : Fin 16) (j : Fin 512) :
    concatenate S64x512 0 [⟨S16x512, x 0⟩, ⟨S16x512, x 1⟩, ⟨S16x512, x 2⟩, ⟨S16x512, x 3⟩] concatenates_S16x512_S16x512_S16x512_S16x512_S64x512_d0 (ix2 (Args.gr r i) j) = x r (ix2 i j) := by
  match r with
  | 0 => pointwise [Args.gr]
  | 1 => pointwise [Args.gr]
  | 2 =>
    pointwise [Args.gr]
    rw [dif_neg (by omega), dif_neg (by omega), dif_pos (by omega)]
    exact congrArg (fun p : Fin 16 => x 2 (ix2 p j)) (Fin.ext (by show 32 + i.val - 16 - 16 = i.val; omega))
  | 3 =>
    pointwise [Args.gr]
    rw [dif_neg (by omega), dif_neg (by omega), dif_neg (by omega)]
    exact congrArg (fun p : Fin 16 => x 3 (ix2 p j)) (Fin.ext (by show 48 + i.val - 16 - 16 - 16 = i.val; omega))

/-- Four groups of sixteen rows, one below another. -/
theorem cat16_64 (x : Fin 4 → FVec Ideal S16x64 .f32) (r : Fin 4) (i : Fin 16) (j : Fin 64) :
    concatenate S64x64 0 [⟨S16x64, x 0⟩, ⟨S16x64, x 1⟩, ⟨S16x64, x 2⟩, ⟨S16x64, x 3⟩] concatenates_S16x64_S16x64_S16x64_S16x64_S64x64_d0 (ix2 (Args.gr r i) j) = x r (ix2 i j) := by
  match r with
  | 0 => pointwise [Args.gr]
  | 1 => pointwise [Args.gr]
  | 2 =>
    pointwise [Args.gr]
    rw [dif_neg (by omega), dif_neg (by omega), dif_pos (by omega)]
    exact congrArg (fun p : Fin 16 => x 2 (ix2 p j)) (Fin.ext (by show 32 + i.val - 16 - 16 = i.val; omega))
  | 3 =>
    pointwise [Args.gr]
    rw [dif_neg (by omega), dif_neg (by omega), dif_neg (by omega)]
    exact congrArg (fun p : Fin 16 => x 3 (ix2 p j)) (Fin.ext (by show 48 + i.val - 16 - 16 - 16 = i.val; omega))

/-- Four groups of sixteen rows, one below another. -/
theorem cat16_128 (x : Fin 4 → FVec Ideal S16x128 .f32) (r : Fin 4) (i : Fin 16) (j : Fin 128) :
    concatenate S64x128 0 [⟨S16x128, x 0⟩, ⟨S16x128, x 1⟩, ⟨S16x128, x 2⟩, ⟨S16x128, x 3⟩] concatenates_S16x128_S16x128_S16x128_S16x128_S64x128_d0 (ix2 (Args.gr r i) j) = x r (ix2 i j) := by
  match r with
  | 0 => pointwise [Args.gr]
  | 1 => pointwise [Args.gr]
  | 2 =>
    pointwise [Args.gr]
    rw [dif_neg (by omega), dif_neg (by omega), dif_pos (by omega)]
    exact congrArg (fun p : Fin 16 => x 2 (ix2 p j)) (Fin.ext (by show 32 + i.val - 16 - 16 = i.val; omega))
  | 3 =>
    pointwise [Args.gr]
    rw [dif_neg (by omega), dif_neg (by omega), dif_neg (by omega)]
    exact congrArg (fun p : Fin 16 => x 3 (ix2 p j)) (Fin.ext (by show 48 + i.val - 16 - 16 - 16 = i.val; omega))

/-- The running sums of four rows, each spread over its group. -/
def refRow (B : FVec Ideal S64x512 .f32) : Fin 4 → FVec Ideal S16x512 .f32
  | 0 => broadcastTo S16x512 (shapeCast S1x512 (extractStridedSlice S1x512 ![7, 0] B slices_S64x512_o7_0_S1x512) shapeCasts_S1x512_S1x512) broadcasts_S1x512_S16x512
  | 1 => broadcastTo S16x512 (shapeCast S1x512 (extractStridedSlice S1x512 ![23, 0] B slices_S64x512_o23_0_S1x512) shapeCasts_S1x512_S1x512) broadcasts_S1x512_S16x512
  | 2 => broadcastTo S16x512 (shapeCast S1x512 (extractStridedSlice S1x512 ![39, 0] B slices_S64x512_o39_0_S1x512) shapeCasts_S1x512_S1x512) broadcasts_S1x512_S16x512
  | 3 => broadcastTo S16x512 (shapeCast S1x512 (extractStridedSlice S1x512 ![55, 0] B slices_S64x512_o55_0_S1x512) shapeCasts_S1x512_S1x512) broadcasts_S1x512_S16x512

theorem refRow_at (B : FVec Ideal S64x512 .f32) (r : Fin 4) (i : Fin 16) (j : Fin 512) : refRow B r (ix2 i j) = B (ix2 (Args.midOf r) j) := by
  match r with
  | 0 => pointwise [refRow]; exact congrArg (fun p : Fin 64 => B (ix2 p j)) (Fin.ext rfl)
  | 1 => pointwise [refRow]; exact congrArg (fun p : Fin 64 => B (ix2 p j)) (Fin.ext rfl)
  | 2 => pointwise [refRow]; exact congrArg (fun p : Fin 64 => B (ix2 p j)) (Fin.ext rfl)
  | 3 => pointwise [refRow]; exact congrArg (fun p : Fin 64 => B (ix2 p j)) (Fin.ext rfl)

theorem pay22_at (a b : FVec Ideal S64x512 .f32) (r : Fin 4) (i : Fin 16) (j : Fin 512) :
    k0_pay22 a b (ix2 (Args.gr r i) j) = Ideal.exp (min ((show EReal from k0_pay21 a b (ix2 (Args.gr r i) j)) - (show EReal from k0_pay21 a b (ix2 (Args.midOf r) j))) (Ideal.ofBits FTy.f32 1117782016#32)) := by
  refine Eq.trans ?_ (congrArg (fun x : EReal => Ideal.exp (min ((show EReal from k0_pay21 a b (ix2 (Args.gr r i) j)) - x) (Ideal.ofBits FTy.f32 1117782016#32))) ((cat16 (refRow (k0_pay21 a b)) r i j).trans (refRow_at _ r i j)))
  rfl

variable {C : In Ideal} {X : Args} {n : Fin 64} (hC : Reads C X n)
include hC

theorem lb_at (j : Fin 512) : C.lb (ix2 (0 : Fin 1) j) = ((X.lb j : ℝ) : EReal) := by
  pointwise [k0_pay4]
  refine (congrArg₂ (fun x y : EReal => Ideal.div 1 (1 + Ideal.exp (x - y))) (hC.l 1 j) (hC.l 0 j)).trans ?_
  show Ideal.div 1 (1 + Ideal.exp (_ - _)) = _
  rw [← EReal.coe_sub, Ideal.exp_coe, ← EReal.coe_one, ← EReal.coe_add, div_real _ (by positivity)]
  rfl
theorem sigq_at (s : Fin 64) (j : Fin 512) : k0_pay12 C.q (ix2 s j) = ((sg (X.qr (row n s) j) : ℝ) : EReal) := by
  pointwise [k0_pay12]
  exact (congrArg (fun x : EReal => Ideal.div 1 (1 + Ideal.exp (0 - x))) (hC.q s j)).trans ((congrArg (fun x : EReal => Ideal.div 1 (1 + Ideal.exp x)) (zero_sub _)).trans (sg_coe _))
theorem sigf_at (s : Fin 64) (j : Fin 512) : k0_pay14 C.f (ix2 s j) = ((sg (X.fr (row n s) j) : ℝ) : EReal) := by
  pointwise [k0_pay14]
  exact (congrArg (fun x : EReal => Ideal.div 1 (1 + Ideal.exp (0 - x))) (hC.f s j)).trans ((congrArg (fun x : EReal => Ideal.div 1 (1 + Ideal.exp x)) (zero_sub _)).trans (sg_coe _))
theorem q_at (s : Fin 64) (j : Fin 512) : k0_pay13 C.q (ix2 s j) = ((X.q (row n s) j : ℝ) : EReal) := by
  pointwise [k0_pay13]
  exact (congrArg₂ (fun x y : EReal => x * y) (hC.q s j) (sigq_at hC s j)).trans (EReal.coe_mul _ _).symm
theorem fg_at (s : Fin 64) (j : Fin 512) : k0_pay15 C.lb C.f (ix2 s j) = ((X.fg (row n s) j : ℝ) : EReal) := by
  pointwise [k0_pay15]
  refine (congrArg₂ (fun x y : EReal => x + (1 - x) * y) (lb_at hC j) (sigf_at hC s j)).trans ?_
  show (_ : EReal) + (1 - _) * _ = _
  rw [← EReal.coe_one]
  simp only [← EReal.coe_mul, ← EReal.coe_sub, ← EReal.coe_add]
  rfl
theorem K_at (s : Fin 64) (j : Fin 512) : C.K (ix2 s j) = ((X.k (row n s) j : ℝ) : EReal) := by
  pointwise [In.K, k0_pay16]
  refine (congrArg₂ (fun x y : EReal => (1 - x) * (1 - y)) (lb_at hC j) (sigf_at hC s j)).trans ?_
  show ((1 : EReal) - _) * (1 - _) = _
  rw [← EReal.coe_one]
  simp only [← EReal.coe_mul, ← EReal.coe_sub, ← EReal.coe_add]
  refine congrArg _ ?_
  unfold Args.k Args.fg
  ring
theorem log_at (s : Fin 64) (j : Fin 512) : k0_pay17 C.lb C.f (ix2 s j) = ((X.a (row n s) j : ℝ) : EReal) := by
  pointwise [k0_pay17]
  exact (congrArg Ideal.log (fg_at hC s j)).trans (log_real (X.fg_pos _ _))
theorem B_at (s : Fin 64) (j : Fin 512) : C.B (ix2 s j) = ((X.b (row n s) j - X.e n.val j : ℝ) : EReal) := by
  pointwise [In.B, k0_pay21, In.s1, In.s2, k0_pay19, k0_pay20, k0_pay18]
  have h1 : (∑ i : Fin 64, (show EReal from k0_pay6 (F := Ideal) (ix2 s i)) * (show EReal from k0_pay17 C.lb C.f (ix2 i j))) = ((X.b (row n s) j - X.e n.val j : ℝ) : EReal) := by
    rw [X.b_row, add_sub_cancel_left]
    refine (Finset.sum_congr rfl fun i _ => ?_).trans (sum_coe _ _)
    refine (congrArg₂ (fun x y : EReal => x * y) (tri_at s i) (log_at hC i j)).trans ?_
    show (_ : EReal) * _ = _
    rw [← EReal.coe_mul]
    exact congrArg _ (by split_ifs <;> simp)
  have h2 : (∑ i : Fin 64, (show EReal from k0_pay6 (F := Ideal) (ix2 s i)) * ((show EReal from k0_pay17 C.lb C.f (ix2 i j)) - (show EReal from k0_pay17 C.lb C.f (ix2 i j)))) = 0 := by
    refine Finset.sum_eq_zero fun i _ => ?_
    refine (congrArg (fun y : EReal => (show EReal from k0_pay6 (F := Ideal) (ix2 s i)) * (y - y)) (log_at hC i j)).trans ?_
    show (_ : EReal) * (_ - _) = _
    rw [← EReal.coe_sub, sub_self, EReal.coe_zero, mul_zero]
  exact (congrArg₂ (fun x y : EReal => x + y) h1 h2).trans (add_zero _)

theorem Blast_at (j : Fin 512) : C.B (ix2 (63 : Fin 64) j) = ((X.e (n.val + 1) j - X.e n.val j : ℝ) : EReal) := by
  rw [B_at hC, X.b_last]

theorem EB_at (s : Fin 64) (j : Fin 512) : C.EB (ix2 s j) = ((Real.exp (X.b (row n s) j - X.e n.val j) : ℝ) : EReal) := by
  pointwise [In.EB, k0_pay23]
  exact (congrArg Ideal.exp (B_at hC s j)).trans (Ideal.exp_coe _)
theorem EBL_at (j : Fin 512) : C.EBL (ix2 (0 : Fin 1) j) = ((Real.exp (X.e (n.val + 1) j - X.e n.val j) : ℝ) : EReal) := by
  pointwise [In.EBL, k0_pay25, k0_pay24]
  exact (congrArg Ideal.exp (Blast_at hC j)).trans (Ideal.exp_coe _)
theorem EKD_at (s : Fin 64) (j : Fin 512) : C.EKD (ix2 s j) = ((Real.exp (X.e (n.val + 1) j - X.b (row n s) j) : ℝ) : EReal) := by
  pointwise [In.EKD, k0_pay26, k0_pay24]
  refine (congrArg₂ (fun x y : EReal => Ideal.exp (x - y)) (Blast_at hC j) (B_at hC s j)).trans ?_
  show Ideal.exp (_ - _) = _
  rw [← EReal.coe_sub, Ideal.exp_coe]
  exact congrArg _ (congrArg _ (by ring))
theorem qd_at (s : Fin 64) (j : Fin 512) : C.qd (ix2 s j) = ((X.qd n s j : ℝ) : EReal) := by
  pointwise [In.qd, k0_pay28]
  exact (congrArg₂ (fun x y : EReal => x * y) (q_at hC s j) (EB_at hC s j)).trans (EReal.coe_mul _ _).symm
theorem kd_at (s : Fin 64) (j : Fin 512) : C.kd (ix2 s j) = ((X.kd n s j : ℝ) : EReal) := by
  pointwise [In.kd, k0_pay29]
  exact (congrArg₂ (fun x y : EReal => x * y) (K_at hC s j) (EKD_at hC s j)).trans (EReal.coe_mul _ _).symm
theorem vb_at (s : Fin 64) (j : Fin 512) : C.vb (ix2 s j) = ((X.v (row n s) j : ℝ) : EReal) := by
  pointwise [In.vb, k0_pay30]
  exact hC.v s j

variable (low : ∀ j, X.l 1 j - X.l 0 j ≤ 9)
include low

theorem EW_at (s : Fin 64) (j : Fin 512) : C.EW (ix2 s j) = ((Real.exp (X.b (row n s) j - X.b (row n (Args.mid s)) j) : ℝ) : EReal) := by
  have e := row_gr s
  rw [e]
  have m : Args.mid (Args.gr (Args.grp s) ⟨s.val % 16, by omega⟩) = Args.midOf (Args.grp s) := Args.mid_gr _ _
  rw [m]
  refine (pay22_at C.s1 C.s2 _ _ j).trans ?_
  refine (congrArg₂ (fun x y : EReal => Ideal.exp (min (x - y) (Ideal.ofBits FTy.f32 1117782016#32))) (B_at hC _ j) (B_at hC _ j)).trans ?_
  show Ideal.exp (min (_ - _) _) = _
  rw [← EReal.coe_sub, sub_sub_sub_cancel_right, min_80, Ideal.exp_coe]
  refine X.b_cap j (low j) _ _ ?_
  show 64 * n.val + (16 * (s.val / 16) + 7) ≤ 64 * n.val + (16 * (s.val / 16) + s.val % 16) + 8
  omega
theorem qs_at (s : Fin 64) (j : Fin 512) : C.qs (ix2 s j) = ((X.qs n s j : ℝ) : EReal) := by
  pointwise [In.qs, k0_pay27]
  exact (congrArg₂ (fun x y : EReal => x * y) (q_at hC s j) (EW_at hC low s j)).trans (EReal.coe_mul _ _).symm

end Cert.KernelIdeal.Chunk
-- ==== Proof.ChunkHead.lean ====
/- One head of a chunk, over the reals. -/
module

public import proofs.«01_k».proof.Proof.ChunkBase

@[expose] public section

set_option maxRecDepth 16384

noncomputable section

namespace Cert.KernelIdeal.Chunk

open Idealize.ShloMosaic Idealize.ShloMosaic.TcCoe Idealize.SL.Sem
open Cert.KernelIdeal.Gen Cert.Real

theorem hdR_at (x : FVec Ideal S1x512 .f32) (h : Fin 4) (w : Fin 128) : hdR x h (ix2 (0 : Fin 1) w) = x (ix2 (0 : Fin 1) (cc h w)) := by
  match h with
  | 0 =>
    pointwise [hdR]
    exact congrArg (fun p : Fin 512 => x (ix2 (0 : Fin 1) p)) (Fin.ext (by show w.val = 0 * 128 + w.val; omega))
  | 1 =>
    pointwise [hdR]
    exact congrArg (fun p : Fin 512 => x (ix2 (0 : Fin 1) p)) (Fin.ext (by show 128 + w.val = 1 * 128 + w.val; omega))
  | 2 =>
    pointwise [hdR]
    exact congrArg (fun p : Fin 512 => x (ix2 (0 : Fin 1) p)) (Fin.ext (by show 256 + w.val = 2 * 128 + w.val; omega))
  | 3 =>
    pointwise [hdR]
    exact congrArg (fun p : Fin 512 => x (ix2 (0 : Fin 1) p)) (Fin.ext (by show 384 + w.val = 3 * 128 + w.val; omega))

theorem pay43_at (x : Vec Ideal S128x128 .f32) (w c : Fin 128) : k0_pay43 x (ix2 w c) = x (ix2 w c) := by
  pointwise [k0_pay43]
theorem pay44_at (x : Vec Ideal S1x128x128 .f32) (w c : Fin 128) : k0_pay44 x (ix2 w c) = x (ix3 (0 : Fin 1) w c) := by
  pointwise [k0_pay44]

theorem ee_at {X : Args} (low : ∀ j, X.l 1 j - X.l 0 j ≤ 9) (n : Fin 64) (r : Fin 4) (s : Fin 64) (j : Fin 512) (x y : EReal)
    (hx : x = ((X.b (row n (Args.midOf r)) j - X.e n.val j : ℝ) : EReal)) (hy : y = ((X.b (row n s) j - X.e n.val j : ℝ) : EReal)) :
    Scalar.select (IntOp.cmpi CmpIPredicate.slt (BitVec.ofNat 32 s.val) (BitVec.ofNat 32 (16 * r.val + 16))) (Ideal.exp (min (x - y) (Ideal.ofBits FTy.f32 1117782016#32))) (0 : EReal)
      = ((X.ee n r s j : ℝ) : EReal) := by
  unfold Args.ee
  by_cases q : s.val < 16 * r.val + 16
  · rw [if_pos q, (WordCmp.cmpi_slt_ofNat_eq_one_iff (w := 32) (by omega) (by omega)).2 q, hx, hy, ← EReal.coe_sub, sub_sub_sub_cancel_right, min_80, Ideal.exp_coe]
    · rfl
    · refine X.b_cap j (low j) _ _ ?_
      show 64 * n.val + s.val ≤ 64 * n.val + (16 * r.val + 7) + 8
      omega
  · rw [if_neg q, (WordCmp.cmpi_slt_ofNat_eq_zero_iff (w := 32) (by omega) (by omega)).2 q]
    rfl

/-- The four groups' factors, and the four groups' scaled keys. -/
def Head.eR (H : Head Ideal) : Fin 4 → FVec Ideal S64x128 .f32
  | 0 => H.e0
  | 1 => H.e1
  | 2 => H.e2
  | 3 => H.e3
def Head.kR (H : Head Ideal) : Fin 4 → FVec Ideal S64x128 .bf16
  | 0 => H.kk0
  | 1 => H.kk1
  | 2 => H.kk2
  | 3 => H.kk3
/-- Sixteen rows' scores against the whole chunk. -/
def Head.aR (H : Head Ideal) : Fin 4 → FVec Ideal S16x64 .f32
  | 0 => k0_pay55 rows H.K H.B H.qs
  | 1 => k0_pay58 rows H.K H.B H.qs
  | 2 => k0_pay61 rows H.K H.B H.qs
  | 3 => matmul dot_S16x128_S64x128_S16x64_1_1_0_0_n_n none (extractStridedSlice S16x128 ![48, 0] H.qs slices_S64x128_o48_0_S16x128) H.kk3 (constant S16x64 .f32 0x00000000#32)
/-- The scores within the chunk, before and after the mask. -/
def Head.aCat (H : Head Ideal) : FVec Ideal S64x64 .f32 :=
  concatenate S64x64 0 [⟨S16x64, H.aR 0⟩, ⟨S16x64, H.aR 1⟩, ⟨S16x64, H.aR 2⟩, ⟨S16x64, H.aR 3⟩] concatenates_S16x64_S16x64_S16x64_S16x64_S64x64_d0
def Head.a (H : Head Ideal) : FVec Ideal S64x64 .f32 := select k0_pay5 H.aCat (broadcast S64x64 Head.zero)
/-- Sixteen rows of the scores' cotangent. -/
def Head.daR (H : Head Ideal) : Fin 4 → FVec Ideal S16x64 .bf16
  | 0 => k0_pay73 H.da
  | 1 => k0_pay75 H.da
  | 2 => k0_pay77 H.da
  | 3 => k0_pay79 H.da
def Head.gR (H : Head Ideal) : Fin 4 → FVec Ideal S64x128 .f32
  | 0 => k0_pay74 H.qs H.da
  | 1 => k0_pay76 H.qs H.da
  | 2 => k0_pay78 H.qs H.da
  | 3 => k0_pay80 H.qs H.da
def Head.dqsR (H : Head Ideal) (r : Fin 4) : FVec Ideal S16x128 .f32 :=
  matmul dot_S16x64_S64x128_S16x128_1_0_0_1_n_n none (H.daR r) (H.kR r) (constant S16x128 .f32 0x00000000#32)

variable {C : In Ideal} {X : Args} {n : Fin 64} {D : DS Ideal} (hF : Full C X n D) (h : Fin 4)
include hF

theorem hK_at' (s : Fin 64) (c : Fin 128) : (C.H D h).K (ix2 s c) = ((X.k (row n s) (cc h c) : ℝ) : EReal) := (hd_at (φ := .f32) C.K h s c).trans (K_at hF.reads s (cc h c))
theorem hB_at' (s : Fin 64) (c : Fin 128) : (C.H D h).B (ix2 s c) = ((X.b (row n s) (cc h c) - X.e n.val (cc h c) : ℝ) : EReal) := (hd_at (φ := .f32) C.B h s c).trans (B_at hF.reads s (cc h c))
theorem hEW_at (s : Fin 64) (c : Fin 128) : (C.H D h).EW (ix2 s c) = ((Real.exp (X.b (row n s) (cc h c) - X.b (row n (Args.mid s)) (cc h c)) : ℝ) : EReal) := (hd_at (φ := .f32) C.EW h s c).trans (EW_at hF.reads hF.low s (cc h c))
theorem hEB_at (s : Fin 64) (c : Fin 128) : (C.H D h).EB (ix2 s c) = ((Real.exp (X.b (row n s) (cc h c) - X.e n.val (cc h c)) : ℝ) : EReal) := (hd_at (φ := .f32) C.EB h s c).trans (EB_at hF.reads s (cc h c))
theorem hEBL_at (c : Fin 128) : (C.H D h).EBL (ix2 (0 : Fin 1) c) = ((Real.exp (X.e (n.val + 1) (cc h c) - X.e n.val (cc h c)) : ℝ) : EReal) := (hdR_at C.EBL h c).trans (EBL_at hF.reads (cc h c))
theorem hEKD_at (s : Fin 64) (c : Fin 128) : (C.H D h).EKD (ix2 s c) = ((Real.exp (X.e (n.val + 1) (cc h c) - X.b (row n s) (cc h c)) : ℝ) : EReal) := (hd_at (φ := .f32) C.EKD h s c).trans (EKD_at hF.reads s (cc h c))
theorem hqs_at (s : Fin 64) (c : Fin 128) : (C.H D h).qs (ix2 s c) = ((X.qs n s (cc h c) : ℝ) : EReal) := (hd_at (φ := .bf16) C.qs h s c).trans (qs_at hF.reads hF.low s (cc h c))
theorem hqd_at (s : Fin 64) (c : Fin 128) : (C.H D h).qd (ix2 s c) = ((X.qd n s (cc h c) : ℝ) : EReal) := (hd_at (φ := .bf16) C.qd h s c).trans (qd_at hF.reads s (cc h c))
theorem hkd_at (s : Fin 64) (c : Fin 128) : (C.H D h).kd (ix2 s c) = ((X.kd n s (cc h c) : ℝ) : EReal) := (hd_at (φ := .bf16) C.kd h s c).trans (kd_at hF.reads s (cc h c))
theorem hvb_at (s : Fin 64) (c : Fin 128) : (C.H D h).vb (ix2 s c) = ((X.v (row n s) (cc h c) : ℝ) : EReal) := (hd_at (φ := .bf16) C.vb h s c).trans (vb_at hF.reads s (cc h c))
theorem hst_at (w c : Fin 128) : (C.H D h).st (ix2 w c) = ((X.st n.val h w c : ℝ) : EReal) := by
  exact (pay43_at (C.st h) w c).trans (hF.st h w c)
theorem hds_at (w c : Fin 128) : (C.H D h).ds (ix2 w c) = ((X.ds (n.val + 1) h w c : ℝ) : EReal) := by
  exact (pay44_at (D h) w c).trans (hF.ds h w c)

theorem dn_at (s : Fin 64) (w : Fin 128) : (C.H D h).dn (ix2 s w) = ((X.dn (row n s) h w : ℝ) : EReal) := by
  pointwise [Head.dn]
  exact (congrArg₂ (fun x y : EReal => x * y) ((hd_at (φ := .f32) C.dyg h s w).trans (dygIn_at hF.reads s (cc h w))) (hF.reads.gain w)).trans (EReal.coe_mul _ _).symm

theorem mean_at (s : Fin 64) : (C.H D h).mean (ix2 s (0 : Fin 1)) = ((X.mean (row n s) h : ℝ) : EReal) := by
  pointwise [Head.mean]
  rw [word_128]
  refine (congrArg (fun x : EReal => Ideal.div x ((128 : ℝ) : EReal)) ((Finset.sum_congr rfl fun w _ => ?_).trans (sum_coe _ fun w => X.dn (row n s) h w * X.n (row n s) h w))).trans ?_
  · exact (congrArg₂ (fun x y : EReal => x * y) (dn_at hF h s w) (n_at hF.reads D s h w)).trans (EReal.coe_mul _ _).symm
  · show Ideal.div _ _ = _
    rw [div_real _ (by norm_num)]
    rfl

theorem dO_at (s : Fin 64) (w : Fin 128) : (C.H D h).dO (ix2 s w) = ((X.dO (row n s) h w : ℝ) : EReal) := by
  pointwise [Head.dO]
  refine (congrArg₂ (fun x y : EReal => x * y) (r_at hF.reads s h) (congrArg₂ (fun x y : EReal => x - y) (dn_at hF h s w)
    (congrArg₂ (fun x y : EReal => x * y) (n_at hF.reads D s h w) (mean_at hF h s)))).trans ?_
  show (_ : EReal) * (_ - _ * _) = _
  simp only [← EReal.coe_mul, ← EReal.coe_sub, ← EReal.coe_add]
  rfl

theorem eR_at (r : Fin 4) (s : Fin 64) (c : Fin 128) : (C.H D h).eR r (ix2 s c) = ((X.ee n r s (cc h c) : ℝ) : EReal) := by
  match r with
  | 0 =>
    pointwise [Head.eR, Head.e0, k0_pay53]
    exact ee_at hF.low n 0 s (cc h c) _ _ (hB_at' hF h 7 c) (hB_at' hF h s c)
  | 1 =>
    pointwise [Head.eR, Head.e1, k0_pay56]
    exact ee_at hF.low n 1 s (cc h c) _ _ (hB_at' hF h 23 c) (hB_at' hF h s c)
  | 2 =>
    pointwise [Head.eR, Head.e2, k0_pay59]
    exact ee_at hF.low n 2 s (cc h c) _ _ (hB_at' hF h 39 c) (hB_at' hF h s c)
  | 3 =>
    pointwise [Head.eR, Head.e3, k0_pay63, k0_pay62]
    exact ee_at hF.low n 3 s (cc h c) _ _ (hB_at' hF h 55 c) (hB_at' hF h s c)

theorem kR_at (r : Fin 4) (s : Fin 64) (c : Fin 128) : (C.H D h).kR r (ix2 s c) = ((X.kk n r s (cc h c) : ℝ) : EReal) := by
  have e : (C.H D h).kR r (ix2 s c) = (show EReal from (C.H D h).K (ix2 s c)) * (show EReal from (C.H D h).eR r (ix2 s c)) := by
    match r with
    | 0 => rfl
    | 1 => rfl
    | 2 => rfl
    | 3 => rfl
  exact e.trans ((congrArg₂ (fun x y : EReal => x * y) (hK_at' hF h s c) (eR_at hF h r s c)).trans (EReal.coe_mul _ _).symm)

theorem aR_at (r : Fin 4) (i : Fin 16) (s : Fin 64) :
    (C.H D h).aR r (ix2 i s) = ((∑ c : Fin 128, X.qs n (Args.gr r i) (cc h c) * X.kk n r s (cc h c) : ℝ) : EReal) := by
  have e : (C.H D h).aR r (ix2 i s) = ∑ c : Fin 128, (show EReal from (C.H D h).qs (ix2 (Args.gr r i) c)) * (show EReal from (C.H D h).kR r (ix2 s c)) := by
    match r with
    | 0 =>
      pointwise [Head.aR, k0_pay55]
      refine Finset.sum_congr rfl fun c _ => ?_
      exact congrArg₂ (fun (p : Fin 64) (y : EReal) => (show EReal from (C.H D h).qs (ix2 p c)) * y) (Fin.ext (by show i.val = 16 * 0 + i.val; omega)) rfl
    | 1 =>
      pointwise [Head.aR, k0_pay58]
      rfl
    | 2 =>
      pointwise [Head.aR, k0_pay61]
      rfl
    | 3 =>
      pointwise [Head.aR]
      rfl
  refine e.trans ((Finset.sum_congr rfl fun c _ => ?_).trans (sum_coe _ _))
  exact (congrArg₂ (fun x y : EReal => x * y) (hqs_at hF h (Args.gr r i) c) (kR_at hF h r s c)).trans (EReal.coe_mul _ _).symm

theorem a_at (t s : Fin 64) : (C.H D h).a (ix2 t s) = ((X.sc (row n t) (row n s) h : ℝ) : EReal) := by
  have e : (C.H D h).aCat (ix2 t s) = (show EReal from (C.H D h).aR (Args.grp t) (ix2 ⟨t.val % 16, by omega⟩ s)) := by
    conv_lhs => rw [row_gr t]
    exact cat16_64 (C.H D h).aR _ _ s
  pointwise [Head.a]
  refine (congrArg (fun x : EReal => Scalar.select (k0_pay5 (ix2 t s)) x 0) (e.trans (aR_at hF h _ _ s))).trans ?_
  rw [mask_at, ← X.score n h t s, ← row_gr t]
  split_ifs <;> rfl

theorem dv_at (s : Fin 64) (w : Fin 128) : (C.H D h).dv (ix2 s w) = ((X.dv (row n s) h w : ℝ) : EReal) := by
  have e : (C.H D h).dv (ix2 s w) = (addf (matmul dot_S64x64_S64x128_S64x128_0_0_1_1_n_n none (truncf .bf16 (C.H D h).a bitsLt_bf16_f32) (C.H D h).dO (constant S64x128 .f32 0x00000000#32))
      (matmul dot_S64x128_S128x128_S64x128_1_1_0_0_n_n none (C.H D h).kd (k0_pay65 (C.H D h).ds) (constant S64x128 .f32 0x00000000#32))) (ix2 s w) := rfl
  rw [e, ← X.dv_split n h s w, EReal.coe_add]
  pointwise [k0_pay65]
  refine congrArg₂ (fun x y : EReal => x + y) ?_ ?_
  · refine (Finset.sum_congr rfl fun t _ => ?_).trans (sum_coe _ _)
    exact (congrArg₂ (fun x y : EReal => x * y) (a_at hF h t s) (dO_at hF h t w)).trans (EReal.coe_mul _ _).symm
  · refine (Finset.sum_congr rfl fun c _ => ?_).trans (sum_coe _ _)
    exact (congrArg₂ (fun x y : EReal => x * y) (hkd_at hF h s c) (hds_at hF h w c)).trans (EReal.coe_mul _ _).symm

theorem da_at (t s : Fin 64) : (C.H D h).da (ix2 t s) = ((X.da n h t s : ℝ) : EReal) := by
  have e : (∑ w : Fin 128, (show EReal from (C.H D h).dO (ix2 t w)) * (show EReal from (C.H D h).vb (ix2 s w))) = ((X.dA (row n t) (row n s) h : ℝ) : EReal) := by
    refine (Finset.sum_congr rfl fun w _ => ?_).trans (sum_coe _ _)
    exact (congrArg₂ (fun x y : EReal => x * y) (dO_at hF h t w) (hvb_at hF h s w)).trans (EReal.coe_mul _ _).symm
  pointwise [Head.da, k0_pay72]
  refine (congrArg (fun x : EReal => Scalar.select (k0_pay5 (ix2 t s)) x 0) e).trans ?_
  rw [mask_at]
  unfold Args.da
  split_ifs <;> rfl

theorem daR_at (r : Fin 4) (i : Fin 16) (s : Fin 64) : (C.H D h).daR r (ix2 i s) = ((X.da n h (Args.gr r i) s : ℝ) : EReal) := by
  rw [← da_at hF h (Args.gr r i) s]
  match r with
  | 0 =>
    pointwise [Head.daR, k0_pay73]
    exact congrArg (fun p : Fin 64 => (C.H D h).da (ix2 p s)) (Fin.ext (by show i.val = 16 * 0 + i.val; omega))
  | 1 => pointwise [Head.daR, k0_pay75]; rfl
  | 2 => pointwise [Head.daR, k0_pay77]; rfl
  | 3 => pointwise [Head.daR, k0_pay79]; rfl

theorem gR_at (r : Fin 4) (s : Fin 64) (c : Fin 128) : (C.H D h).gR r (ix2 s c) = ((X.gk n h r s c : ℝ) : EReal) := by
  have e : (C.H D h).gR r (ix2 s c) = ∑ i : Fin 16, (show EReal from (C.H D h).daR r (ix2 i s)) * (show EReal from (C.H D h).qs (ix2 (Args.gr r i) c)) := by
    match r with
    | 0 =>
      pointwise [Head.gR, Head.daR, k0_pay74]
      refine Finset.sum_congr rfl fun i _ => ?_
      exact congrArg (fun (p : Fin 64) => (show EReal from k0_pay73 (C.H D h).da (ix2 i s)) * (show EReal from (C.H D h).qs (ix2 p c))) (Fin.ext (by show i.val = 16 * 0 + i.val; omega))
    | 1 => pointwise [Head.gR, Head.daR, k0_pay76]; rfl
    | 2 => pointwise [Head.gR, Head.daR, k0_pay78]; rfl
    | 3 => pointwise [Head.gR, Head.daR, k0_pay80]; rfl
  refine e.trans ((Finset.sum_congr rfl fun i _ => ?_).trans (sum_coe _ _))
  exact (congrArg₂ (fun x y : EReal => x * y) (daR_at hF h r i s) (hqs_at hF h (Args.gr r i) c)).trans (EReal.coe_mul _ _).symm

theorem dqsR_at (r : Fin 4) (i : Fin 16) (c : Fin 128) : (C.H D h).dqsR r (ix2 i c) = ((X.dqs n h (Args.gr r i) c : ℝ) : EReal) := by
  pointwise [Head.dqsR]
  refine (Finset.sum_congr rfl fun s _ => ?_).trans (sum_coe _ _)
  refine (congrArg₂ (fun x y : EReal => x * y) (daR_at hF h r i s) (kR_at hF h r s c)).trans ?_
  rw [Args.grp_gr]
  exact (EReal.coe_mul _ _).symm

theorem dqs_at (t : Fin 64) (c : Fin 128) : (C.H D h).dqs (ix2 t c) = ((X.dqs n h t c : ℝ) : EReal) := by
  rw [row_gr t]
  exact (cat16_128 (C.H D h).dqsR _ _ c).trans (dqsR_at hF h _ _ c)

theorem dqd_at (t : Fin 64) (c : Fin 128) : (C.H D h).dqd (ix2 t c) = ((X.dqd n h t c : ℝ) : EReal) := by
  pointwise [Head.dqd, k0_pay66]
  refine (Finset.sum_congr rfl fun w _ => ?_).trans (sum_coe _ _)
  exact (congrArg₂ (fun x y : EReal => x * y) (dO_at hF h t w) (hst_at hF h w c)).trans (EReal.coe_mul _ _).symm

theorem dkd_at (s : Fin 64) (c : Fin 128) : (C.H D h).dkd (ix2 s c) = ((X.dkd n h s c : ℝ) : EReal) := by
  pointwise [Head.dkd, k0_pay68, k0_pay65]
  refine (Finset.sum_congr rfl fun w _ => ?_).trans (sum_coe _ _)
  exact (congrArg₂ (fun x y : EReal => x * y) (hvb_at hF h s w) (hds_at hF h w c)).trans (EReal.coe_mul _ _).symm

theorem dsNew_at (w c : Fin 128) : (C.H D h).dsNew (ix3 (0 : Fin 1) w c) = ((X.ds n.val h w c : ℝ) : EReal) := by
  rw [← X.ds_split n h w c, EReal.coe_add]
  pointwise [Head.dsNew, k0_pay69]
  refine congrArg₂ (fun x y : EReal => x + y) ((congrArg₂ (fun x y : EReal => x * y) (hds_at hF h w c) (hEBL_at hF h c)).trans (EReal.coe_mul _ _).symm) ?_
  refine (Finset.sum_congr rfl fun t _ => ?_).trans (sum_coe _ _)
  exact (congrArg₂ (fun x y : EReal => x * y) (dO_at hF h t w) (hqd_at hF h t c)).trans (EReal.coe_mul _ _).symm

theorem dbl_at (c : Fin 128) : (C.H D h).dbl (ix2 (0 : Fin 1) c) = ((X.dbl n h c : ℝ) : EReal) := by
  unfold Args.dbl
  rw [EReal.coe_add]
  pointwise [Head.dbl, k0_pay71, k0_pay70]
  refine congrArg₂ (fun x y : EReal => x + y) ?_ ?_
  · refine (congrArg₂ (fun x y : EReal => x * y) (hEBL_at hF h c) ?_).trans (EReal.coe_mul _ _).symm
    refine (Finset.sum_congr rfl fun w _ => ?_).trans (sum_coe _ _)
    exact (congrArg₂ (fun x y : EReal => x * y) (hds_at hF h w c) (hst_at hF h w c)).trans (EReal.coe_mul _ _).symm
  · refine (Finset.sum_congr rfl fun s _ => ?_).trans (sum_coe _ _)
    exact (congrArg₂ (fun x y : EReal => x * y) (dkd_at hF h s c) (hkd_at hF h s c)).trans (EReal.coe_mul _ _).symm

theorem dq_at (t : Fin 64) (c : Fin 128) : (C.H D h).dq (ix2 t c) = ((X.dq (row n t) h c : ℝ) : EReal) := by
  rw [← X.dq_split n h t c, EReal.coe_add]
  pointwise [Head.dq, k0_pay87]
  exact congrArg₂ (fun x y : EReal => x + y)
    ((congrArg₂ (fun x y : EReal => x * y) (dqs_at hF h t c) (hEW_at hF h t c)).trans (EReal.coe_mul _ _).symm)
    ((congrArg₂ (fun x y : EReal => x * y) (dqd_at hF h t c) (hEB_at hF h t c)).trans (EReal.coe_mul _ _).symm)

theorem dkin_at (s : Fin 64) (c : Fin 128) : (C.H D h).dkin (ix2 s c) = ((∑ r : Fin 4, X.gk n h r s c * X.ee n r s (cc h c) : ℝ) : EReal) := by
  have t (r : Fin 4) := (congrArg₂ (fun x y : EReal => x * y) (gR_at hF h r s c) (eR_at hF h r s c)).trans (EReal.coe_mul _ _).symm
  rw [Fin.sum_univ_four]
  pointwise [Head.dkin, k0_pay81]
  simp only [EReal.coe_add]
  exact congrArg₂ (fun x y : EReal => x + y) (congrArg₂ (fun x y : EReal => x + y) (congrArg₂ (fun x y : EReal => x + y) (t 0) (t 1)) (t 2)) (t 3)

theorem dk_at (s : Fin 64) (c : Fin 128) : (C.H D h).dk (ix2 s c) = ((X.dk (row n s) h c : ℝ) : EReal) := by
  rw [← X.dk_split n h s c, EReal.coe_add]
  pointwise [Head.dk, k0_pay88]
  exact congrArg₂ (fun x y : EReal => x + y) (dkin_at hF h s c)
    ((congrArg₂ (fun x y : EReal => x * y) (dkd_at hF h s c) (hEKD_at hF h s c)).trans (EReal.coe_mul _ _).symm)

theorem db0_at (t : Fin 64) (c : Fin 128) : (C.H D h).db0 (ix2 t c) = ((X.db (row n t) h c : ℝ) : EReal) := by
  have u (r : Fin 4) := (congrArg₂ (fun x y : EReal => x * y) (gR_at hF h r t c) (kR_at hF h r t c)).trans (EReal.coe_mul _ _).symm
  rw [← X.db_split n h t c, Fin.sum_univ_four]
  pointwise [Head.db0, k0_pay83, k0_pay70]
  simp only [EReal.coe_add, EReal.coe_sub]
  refine congrArg₂ (fun x y : EReal => x - y) (congrArg₂ (fun x y : EReal => x + y) (congrArg₂ (fun x y : EReal => x - y) ?_
    (congrArg₂ (fun x y : EReal => x + y) (congrArg₂ (fun x y : EReal => x + y) (congrArg₂ (fun x y : EReal => x + y) (u 0) (u 1)) (u 2)) (u 3))) ?_) ?_
  · exact (congrArg₂ (fun x y : EReal => x * y) (hqs_at hF h t c) (dqs_at hF h t c)).trans (EReal.coe_mul _ _).symm
  · exact (congrArg₂ (fun x y : EReal => x * y) (dqd_at hF h t c) (hqd_at hF h t c)).trans (EReal.coe_mul _ _).symm
  · exact (congrArg₂ (fun x y : EReal => x * y) (dkd_at hF h t c) (hkd_at hF h t c)).trans (EReal.coe_mul _ _).symm

theorem dbt_at (t : Fin 64) (c : Fin 128) : (C.H D h).dbt (ix2 t c) = (((if t = 63 then X.dbl n h c else 0 : ℝ)) : EReal) := by
  pointwise [Head.dbt, k0_pay255]
  by_cases q : t = 63
  · subst q
    exact dbl_at hF h c
  · have q' : ¬ t.val = 63 := fun e => q (Fin.ext e)
    rw [if_neg q]
    have e : IntOp.cmpi CmpIPredicate.eq (BitVec.ofNat 32 t.val) 63#32 = 0#1 := by
      revert t
      decide
    rw [e]
    rfl

theorem db_at (t : Fin 64) (c : Fin 128) : (C.H D h).db (ix2 t c) = ((X.db (row n t) h c + (if t = 63 then X.dbl n h c else 0) : ℝ) : EReal) := by
  rw [EReal.coe_add]
  pointwise [Head.db]
  exact congrArg₂ (fun x y : EReal => x + y) (db0_at hF h t c) (dbt_at hF h t c)

end Cert.KernelIdeal.Chunk
-- ==== Proof.ChunkOut.lean ====
/- What a chunk writes, over the reals: the gradients of the query, the forget gate and the value,
   and its part of the lower bound's gradient. -/
module

public import proofs.«01_k».proof.Proof.ChunkHead

@[expose] public section

set_option maxRecDepth 16384

noncomputable section

namespace Cert.KernelIdeal.Chunk

open Idealize.ShloMosaic Idealize.ShloMosaic.TcCoe Idealize.SL.Sem
open Cert.KernelIdeal.Gen Cert.Real

/-- The four heads side by side. -/
def In.dbs (C : In Ideal) (D : DS Ideal) : FVec Ideal S64x512 .f32 := k0_pay258 (C.H D 0).db (C.H D 1).db (C.H D 2).db (C.H D 3).db
def In.dks (C : In Ideal) (D : DS Ideal) : FVec Ideal S64x512 .f32 := k0_pay258 (C.H D 0).dk (C.H D 1).dk (C.H D 2).dk (C.H D 3).dk
def In.dqq (C : In Ideal) (D : DS Ideal) : FVec Ideal S64x512 .f32 := k0_pay258 (C.H D 0).dq (C.H D 1).dq (C.H D 2).dq (C.H D 3).dq
/-- The forget gate's cotangent. -/
def In.dfg (C : In Ideal) (D : DS Ideal) : FVec Ideal S64x512 .f32 :=
  k0_pay256 k0_pay6 (k0_pay15 C.lb C.f) (C.H D 0).db (C.H D 0).dk (C.H D 1).db (C.H D 1).dk (C.H D 2).db (C.H D 2).dk
    (C.H D 3).EKD (C.H D 3).dkd (C.H D 3).dkin (C.H D 3).db0 (C.H D 3).dbt

theorem dfg_eq (C : In Ideal) (D : DS Ideal) : C.dfg D = subf (divf (addf (matmul dot_S64x64_S64x512_S64x512_0_0_1_1_n_n none k0_pay6 (truncf .bf16 (C.dbs D) bitsLt_bf16_f32) (constant S64x512 .f32 0x00000000#32))
    (matmul dot_S64x64_S64x512_S64x512_0_0_1_1_n_n none k0_pay6 (truncf .bf16 (subf (C.dbs D) (extf .f32 (truncf .bf16 (C.dbs D) bitsLt_bf16_f32) bitsLt_bf16_f32)) bitsLt_bf16_f32) (constant S64x512 .f32 0x00000000#32)))
    (k0_pay15 C.lb C.f)) (C.dks D) := rfl

variable {C : In Ideal} {X : Args} {n : Fin 64} {D : DS Ideal} (hF : Full C X n D)
include hF

theorem dbs_at (s : Fin 64) (h : Fin 4) (c : Fin 128) : C.dbs D (ix2 s (cc h c)) = ((X.db (row n s) h c + (if s = 63 then X.dbl n h c else 0) : ℝ) : EReal) :=
  (cat4 (fun i => (C.H D i).db) h s c).trans (db_at hF h s c)
theorem dks_at (s : Fin 64) (h : Fin 4) (c : Fin 128) : C.dks D (ix2 s (cc h c)) = ((X.dk (row n s) h c : ℝ) : EReal) :=
  (cat4 (fun i => (C.H D i).dk) h s c).trans (dk_at hF h s c)
theorem dqq_at (s : Fin 64) (h : Fin 4) (c : Fin 128) : C.dqq D (ix2 s (cc h c)) = ((X.dq (row n s) h c : ℝ) : EReal) :=
  (cat4 (fun i => (C.H D i).dq) h s c).trans (dq_at hF h s c)

theorem dfg_at (s : Fin 64) (h : Fin 4) (c : Fin 128) : C.dfg D (ix2 s (cc h c)) = ((X.dfg (row n s) h c : ℝ) : EReal) := by
  have e1 : (∑ i : Fin 64, (show EReal from k0_pay6 (F := Ideal) (ix2 i s)) * (show EReal from C.dbs D (ix2 i (cc h c)))) = ((X.dlog (row n s) h c : ℝ) : EReal) := by
    rw [← X.dlog_split n h s c]
    refine (Finset.sum_congr rfl fun i _ => ?_).trans (sum_coe _ _)
    refine (congrArg₂ (fun x y : EReal => x * y) (tri_at i s) (dbs_at hF i h c)).trans ?_
    refine (EReal.coe_mul _ _).symm.trans (congrArg _ ?_)
    split_ifs <;> simp
  have e2 : (∑ i : Fin 64, (show EReal from k0_pay6 (F := Ideal) (ix2 i s)) * ((show EReal from C.dbs D (ix2 i (cc h c))) - (show EReal from C.dbs D (ix2 i (cc h c))))) = ((0 : ℝ) : EReal) := by
    have : (0 : ℝ) = ∑ i : Fin 64, (0 : ℝ) := by simp
    rw [this]
    refine (Finset.sum_congr rfl fun i _ => ?_).trans (sum_coe _ _)
    refine (congrArg₂ (fun x y : EReal => x * (y - y)) (tri_at i s) (dbs_at hF i h c)).trans ?_
    show (_ : EReal) * (_ - _) = _
    rw [← EReal.coe_sub, ← EReal.coe_mul, sub_self, mul_zero]
  rw [dfg_eq]
  pointwise []
  refine (congrArg₂ (fun x y : EReal => x - y) (congrArg₂ (fun x y : EReal => Ideal.div x y) (congrArg₂ (fun x y : EReal => x + y) e1 e2) (fg_at hF.reads s (cc h c))) (dks_at hF s h c)).trans ?_
  show Ideal.div (_ + _) _ - _ = _
  rw [← EReal.coe_add, add_zero, div_real _ (X.fg_pos _ _).ne', ← EReal.coe_sub]
  rfl

theorem outF_at (s : Fin 64) (h : Fin 4) (c : Fin 128) : C.outF D (ix2 s (cc h c)) = ((X.dF (row n s) h c : ℝ) : EReal) := by
  have e : C.outF D = truncf .bf16 (mulf (mulf (mulf (C.dfg D) (broadcastTo S64x512 (subf (broadcast S1x512 Head.one) C.lb) broadcasts_S1x512_S64x512)) (k0_pay14 C.f)) (subf (broadcast S64x512 Head.one) (k0_pay14 C.f))) bitsLt_bf16_f32 := rfl
  rw [e]
  pointwise [Head.one]
  refine (congrArg₂ (fun x y : EReal => x * y) (congrArg₂ (fun x y : EReal => x * y) (congrArg₂ (fun x y : EReal => x * y) (dfg_at hF s h c) (congrArg (fun x : EReal => 1 - x) (lb_at hF.reads (cc h c))))
    (sigf_at hF.reads s (cc h c))) (congrArg (fun x : EReal => 1 - x) (sigf_at hF.reads s (cc h c)))).trans ?_
  show (_ : EReal) * (1 - _) * _ * (1 - _) = _
  rw [← EReal.coe_one]
  simp only [← EReal.coe_mul, ← EReal.coe_sub, ← EReal.coe_add]
  rfl

theorem outLb_at (acc : Vec Ideal S1x512 .f32) (a : ℝ) (h : Fin 4) (c : Fin 128) (ha : acc (ix2 (0 : Fin 1) (cc h c)) = (a : EReal)) :
    C.outLb D acc (ix2 (0 : Fin 1) (cc h c)) = ((a + ∑ s : Fin 64, X.dfg (row n s) h c * (1 - sg (X.fr (row n s) (cc h c))) : ℝ) : EReal) := by
  have e : C.outLb D acc = shapeCast S1x512 (addf acc (shapeCast S1x512 (multiReduction .add [0] S512 (mulf (C.dfg D) (subf (broadcast S64x512 Head.one) (k0_pay14 C.f))) 0x00000000#32 reduces_S64x512_S512 (.inl rfl) rfl) shapeCasts_S512_S1x512)) shapeCasts_S1x512_S1x512 := rfl
  rw [e]
  pointwise [Head.one]
  refine (congrArg₂ (fun x y : EReal => x + y) ha ((Finset.sum_congr rfl fun s _ => ?_).trans (sum_coe _ fun s => X.dfg (row n s) h c * (1 - sg (X.fr (row n s) (cc h c)))))).trans (EReal.coe_add _ _).symm
  refine (congrArg₂ (fun x y : EReal => x * (1 - y)) (dfg_at hF s h c) (sigf_at hF.reads s (cc h c))).trans ?_
  show (_ : EReal) * (1 - _) = _
  rw [← EReal.coe_one, ← EReal.coe_sub, ← EReal.coe_mul]

theorem outV_at (s : Fin 64) (h : Fin 4) (w : Fin 128) : C.outV D (ix2 s (cc h w)) = ((X.dv (row n s) h w : ℝ) : EReal) := by
  have e : C.outV D = truncf .bf16 (k0_pay258 (C.H D 0).dv (C.H D 1).dv (C.H D 2).dv (C.H D 3).dv) bitsLt_bf16_f32 := rfl
  rw [e]
  exact (cat4 (fun i => (C.H D i).dv) h s w).trans (dv_at hF h s w)

theorem outQ_at (s : Fin 64) (h : Fin 4) (c : Fin 128) : C.outQ D (ix2 s (cc h c)) = ((X.dQ (row n s) h c : ℝ) : EReal) := by
  have e : C.outQ D = truncf .bf16 (mulf (mulf (C.dqq D) (k0_pay12 C.q)) (addf (broadcast S64x512 Head.one) (mulf C.q (subf (broadcast S64x512 Head.one) (k0_pay12 C.q))))) bitsLt_bf16_f32 := rfl
  rw [e]
  pointwise [Head.one]
  refine (congrArg₂ (fun x y : EReal => x * y) (congrArg₂ (fun x y : EReal => x * y) (dqq_at hF s h c) (sigq_at hF.reads s (cc h c)))
    (congrArg (fun x : EReal => 1 + x) (congrArg₂ (fun x y : EReal => x * y) (hF.reads.q s (cc h c)) (congrArg (fun x : EReal => 1 - x) (sigq_at hF.reads s (cc h c)))))).trans ?_
  show (_ : EReal) * _ * (1 + _ * (1 - _)) = _
  rw [← EReal.coe_one]
  simp only [← EReal.coe_mul, ← EReal.coe_sub, ← EReal.coe_add]
  rfl

end Cert.KernelIdeal.Chunk
-- ==== Proof.HostState.lean ====
/- The states the forward pass saved, over the reals. -/
module

public import proofs.«01_k».proof.Proof.ChunkBase

@[expose] public section

set_option maxRecDepth 16384

noncomputable section

namespace Cert.KernelIdeal.Chunk

open Idealize.ShloMosaic Idealize.ShloMosaic.TcCoe Idealize.SL.Sem
open Cert.KernelIdeal.Gen Cert.Real

theorem before_at (m : Fin 64) (s : Fin 4096) : hBefore (F := Ideal) (ix4 m s (0 : Fin 1) (0 : Fin 1)) = if s.val < 64 * m.val then 1#1 else 0#1 := by
  pointwise [hBefore]
  have e : IntOp.muli (64#32) (BitVec.ofNat 32 m.val) = BitVec.ofNat 32 (64 * m.val) := by
    show (64#32) * BitVec.ofNat 32 m.val = _
    rw [← BitVec.ofNat_mul_ofNat]
  rw [e]
  split_ifs with q
  · exact (WordCmp.cmpi_slt_ofNat_eq_one_iff (w := 32) (by omega) (by omega)).2 q
  · exact (WordCmp.cmpi_slt_ofNat_eq_zero_iff (w := 32) (by omega) (by omega)).2 q

variable {z : Vec Ideal S4096x6144 .f32} {dy : Vec Ideal S4096x512 .f32} {l : Vec Ideal S2x512 .f32} {gain : Vec Ideal S1x128 .f32} {X : Args} (hX : Holds z dy l gain X)
include hX

theorem part_at (m : Fin 64) (s : Fin 4096) (h : Fin 4) (c : Fin 128) : hPart (F := Ideal) z l (ix4 m s h c) = ((if s.val < 64 * m.val then X.a s (cc h c) else 0 : ℝ) : EReal) := by
  pointwise [hPart]
  have e : (id (constant S_ FTy.f32 0#32) : FVec Ideal S_ .f32) ix0 = (0 : EReal) := by
    show Ideal.ofBits FTy.f32 0#32 = 0
    simp [Ideal.ofBits, Ideal.ieee]
  rw [e, before_at, hLog_at hX]
  split_ifs <;> rfl
theorem ends_at (m : Fin 64) (h : Fin 4) (c : Fin 128) : hEnds (F := Ideal) z l (ix3 m h c) = ((X.e m.val (cc h c) : ℝ) : EReal) := by
  pointwise [hEnds]
  exact (Finset.sum_congr rfl fun s _ => part_at hX m s h c).trans (sum_coe _ _)
theorem diff_at (m : Fin 64) (s : Fin 4096) (h : Fin 4) (c : Fin 128) : hEDiff (F := Ideal) z l (ix4 m s h c) = ((X.e m.val (cc h c) - X.b s (cc h c) : ℝ) : EReal) := by
  pointwise [hEDiff]
  rw [ends_at hX, hB_at hX, ← EReal.coe_sub]
theorem esel_at (m : Fin 64) (s : Fin 4096) (h : Fin 4) (c : Fin 128) : Ideal.exp (hESel (F := Ideal) z l (ix4 m s h c)) = ((if s.val < 64 * m.val then Real.exp (X.e m.val (cc h c) - X.b s (cc h c)) else 0 : ℝ) : EReal) := by
  pointwise [hESel]
  have e : (id (constant S_ FTy.f32 4286578688#32) : FVec Ideal S_ .f32) ix0 = (⊥ : EReal) := ofBits_bot
  rw [e, before_at, diff_at hX]
  split_ifs
  · exact Ideal.exp_coe _
  · rfl
theorem st4_at (m : Fin 64) (h : Fin 4) (w c : Fin 128) : hSt4 (F := Ideal) z l (ix4 m h w c) = ((X.st m.val h w c : ℝ) : EReal) := by
  pointwise [hSt4]
  unfold Args.st before
  refine (Finset.sum_congr rfl fun s _ => ?_).trans (sum_coe _ _)
  rw [hK_at hX, hV_at hX, esel_at hX, ← EReal.coe_mul, ← EReal.coe_mul]
  refine congrArg _ ?_
  split_ifs
  · ring
  · simp
theorem st_at (m : Fin 64) (h : Fin 4) (w c : Fin 128) : hSt (F := Ideal) z l (ix2 (⟨512 * m.val + 128 * h.val + w.val, by omega⟩ : Fin 32768) c) = ((X.st m.val h w c : ℝ) : EReal) := by
  pointwise [hSt]
  exact st4_at hX m h w c

end Cert.KernelIdeal.Chunk
-- ==== Proof.Gate.lean ====
/- The kernel's gradients of the gate and of the norm's gain are the reference's. -/
module

public import proofs.«01_k».proof.Proof.ChunkGate

@[expose] public section

set_option maxRecDepth 16384

noncomputable section

namespace Cert.KernelIdeal.Chunk

open Idealize.ShloMosaic Idealize.ShloMosaic.TcCoe Idealize.SL.Sem
open Cert.KernelIdeal.Gen Cert.Real

/-- The arrays a run reads are real numbers, the mixed value being the mixer's. -/
structure Real (A : Arr Ideal) (X : Args) : Prop where
  holds : Holds A.z A.dy A.l A.gain X
  o : A.o = hO A.z A.l

theorem arrs_real (m : (ℓ : Loc nD τ sig) → Buf (Elt Ideal) ℓ) (c : Dev nD) {X : Args}
    (h : Holds (m ((c : Thread nD τ).loc main_arg0)) (m ((c : Thread nD τ).loc main_arg1)) (m ((c : Thread nD τ).loc main_arg2)) (m ((c : Thread nD τ).loc main_arg3)) X) :
    Real (arrs m c) X := ⟨h, entry_o m c⟩

variable {A : Arr Ideal} {X : Args} (hA : Real A X)
include hA

theorem reads (n : Fin 64) : Reads (A.chunk n) X n where
  l := hA.holds.l
  gain := hA.holds.gain
  q s j := hA.holds.z (Arr.row n s) j.val (by omega) _
  f s j := hA.holds.z (Arr.row n s) (512 + j.val) (by omega) _
  v s j := hA.holds.z (Arr.row n s) (1024 + j.val) (by omega) _
  g s j := hA.holds.z (Arr.row n s) (1536 + j.val) (by omega) _
  dy s j := hA.holds.dy (Arr.row n s) j
  o s h w := by
    refine Eq.trans ?_ (hO_at hA.holds (Arr.row n s) h w)
    show A.o (ix2 (Arr.row n s) (Arr.col h w)) = _
    rw [hA.o]
    pointwise [hO]
    have e0 : (⟨(128 * h.val + w.val) / 128, by omega⟩ : Fin 4) = h := Fin.ext (by show (128 * h.val + w.val) / 128 = h.val; omega)
    have e1 : (⟨(128 * h.val + w.val) % 128, by omega⟩ : Fin 128) = w := Fin.ext (by show (128 * h.val + w.val) % 128 = w.val; omega)
    rw [e0, e1]

/-- The running gradient of the norm's gain. -/
theorem G_at (w : Fin 128) (j : ℕ) : A.G j (ix2 (0 : Fin 1) w)
    = ((∑ i ∈ Finset.range j, ∑ s : Fin 64, ∑ h : Fin 4, X.n (Arr.row (Arr.nth i) s) h w * X.dyg (Arr.row (Arr.nth i) s) (cc h w) : ℝ) : EReal) := by
  induction j with
  | zero =>
    unfold Arr.G
    pointwise [k0_pay3]
    all_goals simp
  | succ j ih =>
    rw [Finset.sum_range_succ]
    have hC := reads hA (Arr.nth j)
    refine (dgain_at hC (A.S j) 3 _ _ w (dgain_at hC (A.S j) 2 _ _ w (dgain_at hC (A.S j) 1 _ _ w (dgain_at hC (A.S j) 0 _ _ w ih)))).trans ?_
    refine congrArg _ ?_
    simp only [Fin.sum_univ_four, Finset.sum_add_distrib]
    ring

theorem sum_rows (F : Fin 4096 → ℝ) : ∑ n : Fin 64, ∑ s : Fin 64, F (Arr.row n s) = ∑ t : Fin 4096, F t := by
  rw [← Fintype.sum_prod_type']
  refine Fintype.sum_bijective (fun p : Fin 64 × Fin 64 => Arr.row p.1 p.2) ⟨fun p q e => ?_, fun t => ?_⟩ _ _ fun _ => rfl
  · have := congrArg Fin.val e
    simp only at this
    exact Prod.ext (Fin.ext (by omega)) (Fin.ext (by omega))
  · exact ⟨(⟨t.val / 64, by omega⟩, ⟨t.val % 64, by omega⟩), Fin.ext (by show 64 * (t.val / 64) + t.val % 64 = t.val; omega)⟩

theorem gain_eq (w : Fin 128) : A.G 64 (ix2 (0 : Fin 1) w) = ((X.dgain w : ℝ) : EReal) := by
  refine (G_at hA w 64).trans (congrArg _ ?_)
  rw [Finset.sum_range]
  unfold Args.dgain
  rw [← sum_rows hA]
  refine (Finset.sum_congr rfl fun i _ => ?_).trans (Equiv.sum_comp Fin.revPerm fun n : Fin 64 => ∑ s : Fin 64, ∑ h : Fin 4, X.n (Arr.row n s) h w * X.dyg (Arr.row n s) (cc h w))
  rw [show Fin.revPerm i = Arr.nth i.val from Fin.ext (by simp [Fin.val_rev])]

end Cert.KernelIdeal.Chunk
-- ==== Proof.Whole.lean ====
/- The whole run over the reals: the cotangent of the state, and the gradients of the query, the
   forget gate, the value and the lower bound. -/
module

public import proofs.«01_k».proof.Proof.ChunkOut
public import proofs.«01_k».proof.Proof.HostState
public import proofs.«01_k».proof.Proof.Gate

@[expose] public section

set_option maxRecDepth 16384

noncomputable section

namespace Cert.KernelIdeal.Chunk

open Idealize.ShloMosaic Idealize.ShloMosaic.TcCoe Idealize.SL.Sem
open Cert.KernelIdeal.Gen Cert.Real

/-- The state's cotangent before the last chunk. -/
def noughts {F : FTy → Type} [FloatOps F] : Vec F S4x128x128 .f32 := k0_pay1

/-- The arrays a run reads are real numbers, the mixed value and the states being the mixer's. -/
structure RealSt (A : Arr Ideal) (X : Args) : Prop where
  real : Real A X
  st : A.st = hSt A.z A.l
  low : ∀ j, X.l 1 j - X.l 0 j ≤ 9

theorem arrs_st (m : (ℓ : Loc nD τ sig) → Buf (Elt Ideal) ℓ) (c : Dev nD) {X : Args}
    (h : Holds (m ((c : Thread nD τ).loc main_arg0)) (m ((c : Thread nD τ).loc main_arg1)) (m ((c : Thread nD τ).loc main_arg2)) (m ((c : Thread nD τ).loc main_arg3)) X)
    (low : ∀ j, X.l 1 j - X.l 0 j ≤ 9) : RealSt (arrs m c) X := ⟨arrs_real m c h, entry_st m c, low⟩

variable {A : Arr Ideal} {X : Args} (hA : RealSt A X)
include hA

theorem full (n : Fin 64) (D : DS Ideal) (hD : ∀ (h : Fin 4) (w c : Fin 128), D h (ix3 (0 : Fin 1) w c) = ((X.ds (n.val + 1) h w c : ℝ) : EReal)) :
    Full (A.chunk n) X n D where
  reads := reads hA.real n
  low := hA.low
  st h w c := by
    refine Eq.trans ?_ (st_at hA.real.holds n h w c)
    rw [← hA.st]
    rfl
  ds := hD

omit hA in
theorem zero1 (y : S4x128x128.Idx) : k0_pay1 (F := Ideal) y = ((0 : ℝ) : EReal) := by
  rw [eq_ix3 y]
  pointwise [k0_pay1]
  all_goals simp

omit hA in
theorem ld_const (r : Rect S4x128x128) (x : r.shape.Idx) : (View.ld (noughts (F := Ideal)) r x : EReal) = ((0 : ℝ) : EReal) := zero1 (r.idx x)
omit hA in
theorem zero4 (h : Fin 4) (w c : Fin 128) : dsOf (noughts (F := Ideal)) h (ix3 (0 : Fin 1) w c) = ((0 : ℝ) : EReal) := by
  match h with
  | 0 => exact ld_const (Rect.unit (s := S4x128x128) ![0, 0, 0] S1x128x128.size inb_S4x128x128_S1x128x128_0_0_0) _
  | 1 => exact ld_const (Rect.unit (s := S4x128x128) ![1, 0, 0] S1x128x128.size inb_S4x128x128_S1x128x128_1_0_0) _
  | 2 => exact ld_const (Rect.unit (s := S4x128x128) ![2, 0, 0] S1x128x128.size inb_S4x128x128_S1x128x128_2_0_0) _
  | 3 => exact ld_const (Rect.unit (s := S4x128x128) ![3, 0, 0] S1x128x128.size inb_S4x128x128_S1x128x128_3_0_0) _

theorem dsRun_at (j : ℕ) (hj : j ≤ 64) : ∀ (h : Fin 4) (w c : Fin 128), A.S j h (ix3 (0 : Fin 1) w c) = ((X.ds (64 - j) h w c : ℝ) : EReal) := by
  induction j with
  | zero =>
    intro h w c
    have e : X.ds (64 - 0) h w c = 0 := after_64 _
    rw [e]
    exact zero4 h w c
  | succ j ih =>
    intro h w c
    have hn : (Arr.nth j).val = 64 - (j + 1) := by show 63 - j = _; omega
    have hn1 : (Arr.nth j).val + 1 = 64 - j := by show 63 - j + 1 = _; omega
    rw [← hn]
    refine dsNew_at (full hA (Arr.nth j) (A.S j) ?_) h w c
    rw [hn1]
    exact ih (by omega)

/-- Every chunk of the run. -/
theorem full_run (n : Fin 64) : Full (A.chunk n) X n (A.S (63 - n.val)) := by
  refine full hA n _ ?_
  have e : n.val + 1 = 64 - (63 - n.val) := by omega
  rw [e]
  exact dsRun_at hA (63 - n.val) (by omega)

theorem L_at (h : Fin 4) (c : Fin 128) (j : ℕ) (hj : j ≤ 64) : A.L j (ix2 (0 : Fin 1) (cc h c))
    = ((∑ i ∈ Finset.range j, ∑ s : Fin 64, X.dfg (row (Arr.nth i) s) h c * (1 - sg (X.fr (row (Arr.nth i) s) (cc h c))) : ℝ) : EReal) := by
  induction j with
  | zero =>
    unfold Arr.L
    pointwise [k0_pay2]
    all_goals simp
  | succ j ih =>
    rw [Finset.sum_range_succ]
    have e : 63 - (Arr.nth j).val = j := by show 63 - (63 - j) = j; omega
    have hF := full_run hA (Arr.nth j)
    rw [e] at hF
    exact outLb_at hF (A.L j) _ h c (ih (by omega))

theorem dlb_eq (h : Fin 4) (c : Fin 128) : A.L 64 (ix2 (0 : Fin 1) (cc h c)) = ((X.dLb h c : ℝ) : EReal) := by
  refine (L_at hA h c 64 le_rfl).trans (congrArg _ ?_)
  rw [Finset.sum_range]
  unfold Args.dLb
  rw [← sum_rows hA.real]
  refine (Finset.sum_congr rfl fun i _ => ?_).trans (Equiv.sum_comp Fin.revPerm fun n : Fin 64 => ∑ s : Fin 64, X.dfg (row n s) h c * (1 - sg (X.fr (row n s) (cc h c))))
  rw [show Fin.revPerm i = Arr.nth i.val from Fin.ext (by simp [Fin.val_rev])]

theorem lastRows_0 (h : Fin 4) (c : Fin 128) : lastRows A.l (A.L 64) (ix2 (0 : Fin 2) (cc h c)) = ((X.dLb h c * X.lb (cc h c) * (1 - X.lb (cc h c)) : ℝ) : EReal) := by
  show k0_pay10 A.l (A.L 64) (ix2 (0 : Fin 1) (cc h c)) = _
  have e : k0_pay4 A.l (ix2 (0 : Fin 1) (cc h c)) = ((X.lb (cc h c) : ℝ) : EReal) := lb_at (reads hA.real 0) (cc h c)
  pointwise [k0_pay10]
  refine (congrArg₂ (fun x y : EReal => x * y) (congrArg₂ (fun x y : EReal => x * y) (dlb_eq hA h c) e) (congrArg (fun x : EReal => 1 - x) e)).trans ?_
  show (_ : EReal) * _ * (1 - _) = _
  rw [← EReal.coe_one]
  simp only [← EReal.coe_mul, ← EReal.coe_sub]

theorem lastRows_1 (h : Fin 4) (c : Fin 128) : lastRows A.l (A.L 64) (ix2 (1 : Fin 2) (cc h c)) = ((-(X.dLb h c * X.lb (cc h c) * (1 - X.lb (cc h c))) : ℝ) : EReal) := by
  have e := lastRows_0 hA h c
  show k0_pay11 A.l (A.L 64) (ix2 (0 : Fin 1) (cc h c)) = _
  pointwise [k0_pay11]
  refine (congrArg (fun x : EReal => 0 - x) e).trans ?_
  show (0 : EReal) - _ = _
  rw [zero_sub, EReal.coe_neg]

end Cert.KernelIdeal.Chunk
-- ==== Proof.RefHost.lean ====
/- The reference's intermediate arrays are the ones the kernel's host code computes. -/
module

public import proofs.«01_k».proof.Proof.Host
public import proofs.«01_k».proof.Proof.Gen.ReferenceIdeal.Run

@[expose] public section

set_option maxRecDepth 16384

noncomputable section

namespace Cert.ReferenceIdeal.Grad

open Idealize.ShloMosaic Idealize.ShloMosaic.TcCoe Idealize.SL.Sem
open Idealize.ShloMosaic.StableHlo
open Cert.ReferenceIdeal.Gen Cert.ReferenceIdeal.Value
open Cert.KernelIdeal.Chunk

variable (W : Valuation τ sig (Elt Ideal))

abbrev zz : FVec Ideal S4096x6144 .f32 := W (Proc.devRef .tc main_arg0)
abbrev ll : FVec Ideal S2x512 .f32 := W (Proc.devRef .tc main_arg2)
abbrev yy : FVec Ideal S4096x512 .f32 := W (Proc.devRef .tc main_arg1)
abbrev gg : FVec Ideal S1x128 .f32 := W (Proc.devRef .tc main_arg3)

theorem ref_sig : res_main_v4_2 W = hSig (extractStridedSlice S4096x512 ![0, 0] (zz W) slices_S4096x6144_S4096x512_0_0) := rfl
theorem ref_E : res_main_v26 W = hE (F := Ideal) (ll W) := rfl
theorem ref_lb : res_main_v36 W = hLb (F := Ideal) (ll W) := by
  unfold res_main_v36 res_main_v28
  rw [ref_E]
  rfl
theorem ref_fg : res_main_v53 W = hFg (F := Ideal) (zz W) (ll W) := by
  unfold res_main_v53 res_main_v48
  rw [ref_lb]
  rfl
theorem ref_v : res_main_v59 W = hV (F := Ideal) (zz W) := rfl
theorem ref_b : res_main_v60 W = hB (F := Ideal) (zz W) (ll W) := by
  unfold res_main_v60
  rw [ref_fg]
  rfl
theorem ref_decay : res_main_v70 W = (Host.exp (F := Ideal) (s := S4096x4096x4x128) (φ := .f32) (hSel (F := Ideal) (zz W) (ll W))) := by
  unfold res_main_v70
  rw [ref_b]
  rfl
theorem ref_score : res_main_v77 W = hScore (F := Ideal) (zz W) (ll W) := by
  unfold res_main_v77 res_main_v74 res_main_v72 res_main_v71
  rw [ref_decay, ref_fg, ref_sig]
  rfl
theorem ref_o : res_main_v79 W = hO3 (F := Ideal) (zz W) (ll W) := by
  unfold res_main_v79
  rw [ref_score, ref_v]
  rfl

end Cert.ReferenceIdeal.Grad
-- ==== Proof.RefGate.lean ====
/- The reference's gradients of the gate and of the norm's gain, over the reals. -/
module

public import proofs.«01_k».proof.Proof.RefHost

@[expose] public section

set_option maxRecDepth 16384

noncomputable section

namespace Cert.ReferenceIdeal.Grad

open Idealize.ShloMosaic Idealize.ShloMosaic.TcCoe Idealize.SL.Sem
open Idealize.ShloMosaic.StableHlo
open Cert.ReferenceIdeal.Gen Cert.ReferenceIdeal.Value Cert.Real
open Cert.KernelIdeal.Chunk (hO3 hO_at Holds)

/-- A sum over the first two of three axes. -/
theorem reduce01 {A B C : ℕ} (h : (⟨3, ![A, B, C]⟩ : Shape).ReducesTo [0, 1] ⟨1, ![C]⟩) (x : (⟨3, ![A, B, C]⟩ : Shape).Idx → EReal) (w : Fin C) :
    Ideal.hostReduceAdd h x 0 (ix1 w) = ∑ a : Fin A, ∑ b : Fin B, x (ix3 a b w) := by
  have e (a : Fin A) (b : Fin B) (c : Fin C) : h.drop (ix3 a b c) = ix1 w ↔ c = w := by
    have k : ((h.drop (ix3 a b c) 0 : Fin _) : ℕ) = c.val := h.drop_apply_val_of_eq (ix3 a b c) 0 2 (show 0 < 1 by decide) rfl
    constructor
    · intro q
      rw [q] at k
      exact Fin.ext k.symm
    · intro q
      funext i
      fin_cases i
      exact Fin.ext (k.trans (congrArg Fin.val q))
  unfold Ideal.hostReduceAdd
  rw [Finset.sum_filter, zero_add, sum_idx3]
  refine Finset.sum_congr rfl fun a _ => Finset.sum_congr rfl fun b _ => ?_
  simp only [e]
  rw [Finset.sum_ite_eq' Finset.univ w (fun c => x (ix3 a b c)), if_pos (Finset.mem_univ w)]

/-- The gradient of the gate, as the reference computes it. -/
def refG (W : Valuation τ sig (Elt Ideal)) : FVec Ideal S4096x512 .f32 :=
  addf (mulf (res_main_v99 W) (res_main_v97_2 W)) (mulf (mulf (res_main_v3 W) (res_main_v99 W)) (mulf (res_main_v97_2 W) (subf (broadcastInDim S4096x512 ![] bcast_S_S4096x512 (constant S_ .f32 0x3F800000#32)) (res_main_v97_2 W))))
/-- The gradient of the norm's gain, as the reference computes it. -/
def refGain (W : Valuation τ sig (Elt Ideal)) : FVec Ideal S1x128 .f32 :=
  broadcastInDim S1x128 ![1] bcast_S128_S1x128_1 (Host.reduceAdd (shapeCast _ (Host.reduceAdd (mulf (res_main_v92 W) (res_main_v102 W)) (constant S_ .f32 0x00000000#32) reducesTo_S4096x4x128_S128_d0_1 h_S_) shapeCasts_S128_S1x1x128) (constant S_ .f32 0x00000000#32) reducesTo_S1x1x128_S128_d0_1 h_S_)

variable {W : Valuation τ sig (Elt Ideal)} {X : Args} (hX : Holds (zz W) (yy W) (ll W) (gg W) X)
include hX

theorem o_at (t : Fin 4096) (h : Fin 4) (w : Fin 128) : (show EReal from res_main_v79 W (ix3 t h w)) = ((X.o t h w : ℝ) : EReal) :=
  (congrFun (ref_o W) (ix3 t h w)).trans (hO_at hX t h w)

theorem var_at (t : Fin 4096) (h : Fin 4) : (show EReal from res_main_v86 W (ix3 t h (0 : Fin 1))) = ((X.var t h : ℝ) : EReal) := by
  pointwise [res_main_v86]
  rw [word_128, word_eps]
  refine (congrArg (fun x : EReal => Ideal.div x ((128 : ℝ) : EReal) + ((Args.eps : ℝ) : EReal)) ((Finset.sum_congr rfl fun w _ => ?_).trans (sum_coe _ fun w => X.o t h w * X.o t h w))).trans ?_
  · exact (congrArg₂ (fun x y : EReal => x * y) (o_at hX t h w) (o_at hX t h w)).trans (EReal.coe_mul _ _).symm
  · show Ideal.div _ _ + _ = _
    rw [div_real _ (by norm_num), ← EReal.coe_add]
    rfl
theorem r_at (t : Fin 4096) (h : Fin 4) : (show EReal from res_main_v87 W (ix3 t h (0 : Fin 1))) = ((X.r t h : ℝ) : EReal) := by
  pointwise [res_main_v87]
  exact (congrArg Ideal.rsqrt (var_at hX t h)).trans (rsqrt_real (X.var_pos t h))
theorem n_at (t : Fin 4096) (h : Fin 4) (w : Fin 128) : (show EReal from res_main_v92 W (ix3 t h w)) = ((X.n t h w : ℝ) : EReal) := by
  pointwise [res_main_v92]
  exact (congrArg₂ (fun x y : EReal => x * y) (o_at hX t h w) (r_at hX t h)).trans (EReal.coe_mul _ _).symm
theorem g_at (t : Fin 4096) (j : Fin 512) : (show EReal from res_main_v3 W (ix2 t j)) = ((X.g t j : ℝ) : EReal) := by
  pointwise [res_main_v3]
  exact hX.z t (1536 + j.val) (by omega) _
theorem sgg_at (t : Fin 4096) (j : Fin 512) : (show EReal from res_main_v97_2 W (ix2 t j)) = ((sg (X.g t j) : ℝ) : EReal) := by
  pointwise [res_main_v97_2]
  exact (congrArg (fun x : EReal => Ideal.div 1 (1 + Ideal.exp (-x))) (g_at hX t j)).trans (sg_coe _)
theorem dyg_at (t : Fin 4096) (h : Fin 4) (w : Fin 128) : (show EReal from res_main_v102 W (ix3 t h w)) = ((X.dyg t (cc h w) : ℝ) : EReal) := by
  pointwise [res_main_v102, res_main_v97_0]
  refine (congrArg₂ (fun x y : EReal => x * y) (hX.dy t (cc h w)) (congrArg₂ (fun x y : EReal => x * y) (g_at hX t (cc h w)) (sgg_at hX t (cc h w)))).trans ?_
  show (_ : EReal) * (_ * _) = _
  rw [← EReal.coe_mul, ← EReal.coe_mul]
  rfl
theorem ngdy_at (t : Fin 4096) (h : Fin 4) (w : Fin 128) : (show EReal from res_main_v99 W (ix2 t (cc h w))) = ((X.n t h w * X.gain w * X.dy t (cc h w) : ℝ) : EReal) := by
  pointwise [res_main_v99, res_main_v96, res_main_v93]
  have e0 : (⟨(h.val * 128 + w.val) / 128, by omega⟩ : Fin 4) = h := Fin.ext (by show (h.val * 128 + w.val) / 128 = h.val; omega)
  have e1 : (⟨(h.val * 128 + w.val) % 128, by omega⟩ : Fin 128) = w := Fin.ext (by show (h.val * 128 + w.val) % 128 = w.val; omega)
  rw [e0, e1]
  refine (congrArg₂ (fun x y : EReal => x * y) (congrArg₂ (fun x y : EReal => x * y) (n_at hX t h w) (hX.gain w)) (hX.dy t (cc h w))).trans ?_
  show (_ : EReal) * _ * _ = _
  rw [← EReal.coe_mul, ← EReal.coe_mul]

/-- The gradient of the gate. -/
theorem refG_at (t : Fin 4096) (h : Fin 4) (w : Fin 128) : refG W (ix2 t (cc h w)) = ((X.dg t h w : ℝ) : EReal) := by
  pointwise [refG]
  refine (congrArg₂ (fun x y : EReal => x + y) (congrArg₂ (fun x y : EReal => x * y) (ngdy_at hX t h w) (sgg_at hX t (cc h w)))
    (congrArg₂ (fun x y : EReal => x * y) (congrArg₂ (fun x y : EReal => x * y) (g_at hX t (cc h w)) (ngdy_at hX t h w))
      (congrArg₂ (fun x y : EReal => x * y) (sgg_at hX t (cc h w)) (congrArg (fun x : EReal => 1 - x) (sgg_at hX t (cc h w)))))).trans ?_
  show (_ : EReal) * _ + _ * _ * (_ * (1 - _)) = _
  rw [← EReal.coe_one]
  simp only [← EReal.coe_mul, ← EReal.coe_sub, ← EReal.coe_add]
  refine congrArg _ ?_
  unfold Args.dg
  ring

/-- The gradient of the norm's gain. -/
theorem refGain_at (w : Fin 128) : refGain W (ix2 (0 : Fin 1) w) = ((X.dgain w : ℝ) : EReal) := by
  pointwise [refGain]
  rw [reduce01]
  show ∑ a : Fin 1, ∑ b : Fin 1, _ = _
  rw [Fin.sum_univ_one, Fin.sum_univ_one]
  pointwise []
  refine (reduce01 _ (mulf (res_main_v92 W) (res_main_v102 W)) w).trans ?_
  refine (Finset.sum_congr rfl fun t _ => (Finset.sum_congr rfl fun h _ => ?_).trans (sum_coe _ fun h : Fin 4 => X.n t h w * X.dyg t (cc h w))).trans (sum_coe _ _)
  exact (congrArg₂ (fun x y : EReal => x * y) (n_at hX t h w) (dyg_at hX t h w)).trans (EReal.coe_mul _ _).symm

end Cert.ReferenceIdeal.Grad
-- ==== Proof.RefOut.lean ====
/- The reference's first result, piece by piece. -/
module

public import proofs.«01_k».proof.Proof.RefGate

@[expose] public section

set_option maxRecDepth 16384

noncomputable section

namespace Cert.ReferenceIdeal.Grad

open Idealize.ShloMosaic Idealize.ShloMosaic.TcCoe Idealize.SL.Sem
open Idealize.ShloMosaic.StableHlo
open Cert.ReferenceIdeal.Gen Cert.ReferenceIdeal.Value Cert.Real

/-- The gradient of the projections, beside the gradient that was already there. -/
def refZ (W : Valuation τ sig (Elt Ideal)) : FVec Ideal S4096x6144 .bf16 :=
  concatenate S4096x6144 1 [⟨S4096x2048, (truncf .bf16 ((concatenate S4096x2048 1 [⟨S4096x512, ((addf (mulf (res_main_v186 W) (res_main_v4_2 W)) (mulf (mulf (res_main_v0 W) (res_main_v186 W)) (mulf (res_main_v4_2 W) (subf (broadcastInDim S4096x512 ![] bcast_S_S4096x512 (constant S_ .f32 0x3F800000#32)) (res_main_v4_2 W))))) : (⟨S4096x512, .f32⟩ : BufTy).Contents (Elt Ideal))⟩, ⟨S4096x512, ((mulf (mulf (broadcastInDim S4096x512 ![0, 1] bcast_S1x512_S4096x512_0_1 (res_main_v48 W)) (res_main_v158 W)) (mulf (res_main_v44 W) (subf (broadcastInDim S4096x512 ![] bcast_S_S4096x512 (constant S_ .f32 0x3F800000#32)) (res_main_v44 W)))) : (⟨S4096x512, .f32⟩ : BufTy).Contents (Elt Ideal))⟩, ⟨S4096x512, ((shapeCast _ (transpose S4096x4x128 [2, 0, 1] (Host.dotGeneral dot_S4x128x4096_S4096x4096x4_S4x128x4096_2_0_1_1_0_2 none (show FVec Ideal S4x128x4096 .f32 from res_main_v124 W) (show FVec Ideal S4096x4096x4 .f32 from res_main_v77 W)) transposes_S4x128x4096_S4096x4x128_2_0_1) shapeCasts_S4096x4x128_S4096x512) : (⟨S4096x512, .f32⟩ : BufTy).Contents (Elt Ideal))⟩, ⟨S4096x512, ((addf (mulf (res_main_v99 W) (res_main_v97_2 W)) (mulf (mulf (res_main_v3 W) (res_main_v99 W)) (mulf (res_main_v97_2 W) (subf (broadcastInDim S4096x512 ![] bcast_S_S4096x512 (constant S_ .f32 0x3F800000#32)) (res_main_v97_2 W))))) : (⟨S4096x512, .f32⟩ : BufTy).Contents (Elt Ideal))⟩] concatenates_S4096x512_S4096x512_S4096x512_S4096x512_S4096x2048_d1 : (⟨S4096x2048, .f32⟩ : BufTy).Contents (Elt Ideal))) bitsLt_bf16_f32)⟩, ⟨S4096x4096, (extractStridedSlice S4096x4096 ![0, 2048] (W (Proc.devRef .tc main_arg4)) slices_S4096x6144_S4096x4096_0_2048)⟩] concatenates_S4096x2048_S4096x4096_S4096x6144_d1

/-- The gradient of the lower bounds. -/
def refL (W : Valuation τ sig (Elt Ideal)) : FVec Ideal S2x512 .f32 :=
  mulf (addf (Host.divf (res_main_v173 W) (broadcastInDim S2x512 ![0, 1] bcast_S1x512_S2x512_0_1 (res_main_v28 W))) (broadcastInDim S2x512 ![1] bcast_S512_S2x512_1 (Host.reduceAdd (Host.negf (shapeCast _ (Host.reduceAdd (mulf (mulf (res_main_v173 W) (broadcastInDim S2x512 ![0, 1] bcast_S1x512_S2x512_0_1 (Host.divf (broadcastInDim S1x512 ![] bcast_S_S1x512 (constant S_ .f32 0x3F800000#32)) (mulf (res_main_v28 W) (res_main_v28 W))))) (res_main_v26 W)) (constant S_ .f32 0x00000000#32) reducesTo_S2x512_S512_d0 h_S_) shapeCasts_S512_S1x512)) (constant S_ .f32 0x00000000#32) reducesTo_S1x512_S512_d0 h_S_))) (res_main_v26 W)

variable (W : Valuation τ sig (Elt Ideal))

/-- The gradient of the query projection. -/
def refQ : FVec Ideal S4096x512 .f32 :=
  addf (mulf (res_main_v186 W) (res_main_v4_2 W)) (mulf (mulf (res_main_v0 W) (res_main_v186 W)) (mulf (res_main_v4_2 W) (subf (broadcastInDim S4096x512 ![] bcast_S_S4096x512 (constant S_ .f32 0x3F800000#32)) (res_main_v4_2 W))))
/-- The gradient of the forget gate's projection. -/
def refF : FVec Ideal S4096x512 .f32 :=
  mulf (mulf (broadcastInDim S4096x512 ![0, 1] bcast_S1x512_S4096x512_0_1 (res_main_v48 W)) (res_main_v158 W)) (mulf (res_main_v44 W) (subf (broadcastInDim S4096x512 ![] bcast_S_S4096x512 (constant S_ .f32 0x3F800000#32)) (res_main_v44 W)))

theorem refZ_Q (t : Fin 4096) (j : Fin 512) : refZ W (ix2 t (⟨0 + j.val, by omega⟩ : Fin 6144)) = refQ W (ix2 t j) := by
  unfold refQ
  pointwise [refZ]
  rw [dif_pos (by omega)]

theorem refZ_F (t : Fin 4096) (j : Fin 512) : refZ W (ix2 t (⟨512 + j.val, by omega⟩ : Fin 6144)) = refF W (ix2 t j) := by
  unfold refF
  pointwise [refZ]
  rw [dif_pos (by omega)]

theorem refZ_V (t : Fin 4096) (h : Fin 4) (w : Fin 128) : (show EReal from refZ W (ix2 t (⟨1024 + (cc h w).val, by omega⟩ : Fin 6144)))
    = ∑ s : Fin 4096, (show EReal from res_main_v124 W (ix3 h w s)) * (show EReal from res_main_v77 W (ix3 s t h)) := by
  pointwise [refZ]
  have e0 : (⟨(1024 + (h.val * 128 + w.val) - 512 - 512) / 128, by omega⟩ : Fin 4) = h := Fin.ext (by show (1024 + (h.val * 128 + w.val) - 512 - 512) / 128 = h.val; omega)
  have e1 : (⟨(1024 + (h.val * 128 + w.val) - 512 - 512) % 128, by omega⟩ : Fin 128) = w := Fin.ext (by show (1024 + (h.val * 128 + w.val) - 512 - 512) % 128 = w.val; omega)
  rw [dif_pos (by omega), dif_neg (by omega), dif_neg (by omega), dif_pos (by omega), e0, e1]

theorem refZ_G (t : Fin 4096) (j : Fin 512) : refZ W (ix2 t (⟨1536 + j.val, by omega⟩ : Fin 6144)) = refG W (ix2 t j) := by
  unfold refG
  pointwise [refZ]
  have e : (⟨1536 + j.val - 512 - 512 - 512, by omega⟩ : Fin 512) = j := Fin.ext (by show 1536 + j.val - 512 - 512 - 512 = j.val; omega)
  rw [dif_pos (by omega), dif_neg (by omega), dif_neg (by omega), dif_neg (by omega), e]

theorem refZ_rest (t : Fin 4096) (p : Fin 6144) (h : 2048 ≤ p.val) : refZ W (ix2 t p) = W (Proc.devRef .tc main_arg4) (ix2 t p) := by
  pointwise [refZ]
  rw [dif_neg (by omega)]
  exact congrArg (fun p : Fin 6144 => W (Proc.devRef .tc main_arg4) (ix2 t p)) (Fin.ext (by show 2048 + (p.val - 2048) = p.val; omega))

end Cert.ReferenceIdeal.Grad
-- ==== Proof.RefGrad.lean ====
/- The reference's gradients of the query, the forget gate, the value and the lower bound, over the reals. -/
module

public import proofs.«01_k».proof.Proof.RefOut
public import proofs.«01_k».proof.Proof.Sums

@[expose] public section

set_option maxRecDepth 16384

noncomputable section

namespace Cert.ReferenceIdeal.Grad

open Idealize.ShloMosaic Idealize.ShloMosaic.TcCoe Idealize.SL.Sem
open Idealize.ShloMosaic.StableHlo
open Cert.ReferenceIdeal.Gen Cert.ReferenceIdeal.Value Cert.Real
open Cert.KernelIdeal.Chunk (hO3 hO_at Holds hSel hSel_at hV_at hK_at hFg_at hB_at hScore_at zero_init)

/-- The gradient of the running sum of the gate's logarithm. -/
def rdb (W : Valuation τ sig (Elt Ideal)) : FVec Ideal S4096x4x128 .f32 :=
  addf (Host.reduceAdd (shapeCast _ (Host.reduceAdd (Host.negf (res_main_v143 W)) (constant S_ .f32 0x00000000#32) reducesTo_S4096x4096x4x128_S4096x4x128_d0 h_S_) shapeCasts_S4096x4x128_S1x4096x4x128) (constant S_ .f32 0x00000000#32) reducesTo_S1x4096x4x128_S4096x4x128_d0 h_S_) (Host.reduceAdd (shapeCast _ (Host.reduceAdd (res_main_v143 W) (constant S_ .f32 0x00000000#32) reducesTo_S4096x4096x4x128_S4096x4x128_d1 h_S_) shapeCasts_S4096x4x128_S4096x1x4x128) (constant S_ .f32 0x00000000#32) reducesTo_S4096x1x4x128_S4096x4x128_d1 h_S_)
/-- The gradient of the lower bound, before the sum over the rows of bounds. -/
def rdl (W : Valuation τ sig (Elt Ideal)) : FVec Ideal S512 .f32 :=
  addf (Host.reduceAdd (shapeCast _ (Host.reduceAdd (res_main_v158 W) (constant S_ .f32 0x00000000#32) reducesTo_S4096x512_S512_d0 h_S_) shapeCasts_S512_S1x512) (constant S_ .f32 0x00000000#32) reducesTo_S1x512_S512_d0 h_S_) (Host.negf (Host.reduceAdd (shapeCast _ (Host.reduceAdd (mulf (res_main_v158 W) (res_main_v44 W)) (constant S_ .f32 0x00000000#32) reducesTo_S4096x512_S512_d0 h_S_) shapeCasts_S512_S1x512) (constant S_ .f32 0x00000000#32) reducesTo_S1x512_S512_d0 h_S_))
/-- The same beside a row of noughts. -/
def rpad (W : Valuation τ sig (Elt Ideal)) : FVec Ideal S2x512 .f32 :=
  pad S2x512 ![0, 0] ![1, 0] ![0, 0] (broadcastInDim S1x512 ![1] bcast_S512_S1x512_1 (rdl W)) (constant S_ .f32 0x00000000#32) pads_S1x512_S2x512_010_000 h_S_

variable {W : Valuation τ sig (Elt Ideal)} {X : Args} (hX : Holds (zz W) (yy W) (ll W) (gg W) X)
include hX

omit hX in
theorem _root_.Cert.Real.word_half : Ideal.ofBits FTy.f32 3204448256#32 = ((-(1/2) : ℝ) : EReal) := by
  simp [Ideal.ofBits, Ideal.ieee]
  rw [← EReal.coe_mul]
  norm_num
theorem dn_at (t : Fin 4096) (h : Fin 4) (w : Fin 128) : (show EReal from res_main_v107 W (ix3 t h w)) = ((X.dn t h w : ℝ) : EReal) := by
  pointwise [res_main_v107, res_main_v93]
  exact (congrArg₂ (fun x y : EReal => x * y) (dyg_at hX t h w) (hX.gain w)).trans (EReal.coe_mul _ _).symm
theorem v119_at (t : Fin 4096) (h : Fin 4) (w : Fin 128) : (show EReal from res_main_v119 W (ix3 t h w)) = ((-(1/2) * X.r t h * X.r t h * X.mean t h : ℝ) : EReal) := by
  pointwise [res_main_v119]
  rw [word_128, Cert.Real.word_half]
  show ∑ a : Fin 1, _ = _
  rw [Fin.sum_univ_one]
  refine (congrArg₂ (fun x y : EReal => Ideal.div (x * (((-(1/2) : ℝ) : EReal) * y)) ((128 : ℝ) : EReal))
    ((Finset.sum_congr rfl fun v _ => (congrArg₂ (fun x y : EReal => x * y) (o_at hX t h v) (dn_at hX t h v)).trans (EReal.coe_mul _ _).symm).trans (sum_coe _ _))
    ((congrArg₂ (fun x y : EReal => Ideal.div x y) (r_at hX t h) (var_at hX t h)).trans (div_real _ (X.var_pos t h).ne'))).trans ?_
  show Ideal.div (_ * (_ * _)) _ = _
  rw [← EReal.coe_mul, ← EReal.coe_mul, div_real _ (by norm_num)]
  refine congrArg _ ?_
  unfold Args.mean
  have e : (∑ w : Fin 128, X.dn t h w * X.n t h w) = X.r t h * ∑ v : Fin 128, X.o t h v * X.dn t h v := by
    rw [Finset.mul_sum]
    refine Finset.sum_congr rfl fun w _ => ?_
    unfold Args.n
    ring
  have e2 : X.r t h / X.var t h = X.r t h * (X.r t h * X.r t h) := by
    rw [div_eq_mul_inv]
    refine congrArg _ ?_
    unfold Args.r
    rw [← mul_inv, Real.mul_self_sqrt (X.var_pos t h).le]
  rw [e, e2]
  ring
theorem dO_at (t : Fin 4096) (h : Fin 4) (w : Fin 128) : (show EReal from res_main_v124 W (ix3 h w t)) = ((X.dO t h w : ℝ) : EReal) := by
  pointwise [res_main_v124]
  refine (congrArg₂ (fun x y : EReal => x + y) (congrArg₂ (fun x y : EReal => x + y) (congrArg₂ (fun x y : EReal => x * y) (dn_at hX t h w) (r_at hX t h))
    (congrArg₂ (fun x y : EReal => x * y) (o_at hX t h w) (v119_at hX t h w))) (congrArg₂ (fun x y : EReal => x * y) (v119_at hX t h w) (o_at hX t h w))).trans ?_
  show (_ : EReal) * _ + _ * _ + _ * _ = _
  simp only [← EReal.coe_mul, ← EReal.coe_add]
  refine congrArg _ ?_
  unfold Args.dO Args.n
  ring
theorem dA_at (t s : Fin 4096) (h : Fin 4) (c : Fin 128) : (show EReal from res_main_v129 W (ix4 t s h c)) = ((X.dA t s h : ℝ) : EReal) := by
  pointwise [res_main_v129]
  refine (Finset.sum_congr rfl fun w _ => ?_).trans (sum_coe _ _)
  exact (congrArg₂ (fun x y : EReal => x * y) (dO_at hX t h w) ((congrFun (ref_v W) (ix3 s h w)).trans (hV_at hX s h w))).trans (EReal.coe_mul _ _).symm
theorem D_at (t s : Fin 4096) (h : Fin 4) (c : Fin 128) : (show EReal from res_main_v70 W (ix4 t s h c)) = ((X.A t s (cc h c) : ℝ) : EReal) :=
  (congrFun (ref_decay W) (ix4 t s h c)).trans (hSel_at hX t s h c)
theorem sgq_at (t : Fin 4096) (j : Fin 512) : (show EReal from res_main_v4_2 W (ix2 t j)) = ((sg (X.qr t j) : ℝ) : EReal) := by
  pointwise [res_main_v4_2]
  pointwise [res_main_v0]
  exact (congrArg (fun x : EReal => Ideal.div 1 (1 + Ideal.exp (-x))) (hX.z t j.val (by omega) _)).trans (sg_coe _)
theorem q_at (t : Fin 4096) (h : Fin 4) (c : Fin 128) : (show EReal from res_main_v71 W (ix4 t (0 : Fin 1) h c)) = ((X.q t (cc h c) : ℝ) : EReal) := by
  pointwise [res_main_v71, res_main_v0]
  exact (congrArg₂ (fun x y : EReal => x * y) (hX.z t (h.val * 128 + c.val) (by omega) _) (sgq_at hX t (cc h c))).trans (EReal.coe_mul _ _).symm
theorem k_at (s : Fin 4096) (h : Fin 4) (c : Fin 128) : (show EReal from res_main_v72 W (ix4 (0 : Fin 1) s h c)) = ((X.k s (cc h c) : ℝ) : EReal) := by
  pointwise [res_main_v72]
  refine (congrArg (fun x : EReal => 1 - x) ((congrFun (ref_fg W) (ix2 s (cc h c))).trans (hFg_at hX s (cc h c)))).trans ?_
  show (1 : EReal) - _ = _
  rw [← EReal.coe_one, ← EReal.coe_sub]
  rfl
theorem kD_at (t s : Fin 4096) (h : Fin 4) (c : Fin 128) : (show EReal from res_main_v74 W (ix4 t s h c)) = ((X.k s (cc h c) * X.A t s (cc h c) : ℝ) : EReal) := by
  pointwise [res_main_v74]
  exact (congrArg₂ (fun x y : EReal => x * y) (k_at hX s h c) (D_at hX t s h c)).trans (EReal.coe_mul _ _).symm
theorem qdA_at (t s : Fin 4096) (h : Fin 4) (c : Fin 128) : (show EReal from res_main_v131 W (ix4 t s h c)) = ((X.q t (cc h c) * X.dA t s h : ℝ) : EReal) := by
  pointwise [res_main_v131]
  exact (congrArg₂ (fun x y : EReal => x * y) (q_at hX t h c) (dA_at hX t s h c)).trans (EReal.coe_mul _ _).symm
theorem E_at (t s : Fin 4096) (h : Fin 4) (c : Fin 128) : (show EReal from res_main_v143 W (ix4 t s h c)) = ((X.E h c t s : ℝ) : EReal) := by
  pointwise [res_main_v143, res_main_v69_1]
  have e := (congrArg₂ (fun x y : EReal => x * y) (congrArg₂ (fun x y : EReal => x * y) (k_at hX s h c) (qdA_at hX t s h c)) (D_at hX t s h c))
  refine (congrArg (fun x : EReal => Scalar.select (IntOp.cmpi CmpIPredicate.sle (BitVec.ofNat 32 s.val) (BitVec.ofNat 32 t.val)) x 0) e).trans ?_
  show Scalar.select _ (_ * _ * _) _ = _
  rw [← EReal.coe_mul, ← EReal.coe_mul]
  by_cases q : s ≤ t
  · rw [show IntOp.cmpi CmpIPredicate.sle (BitVec.ofNat 32 s.val) (BitVec.ofNat 32 t.val) = 1#1 from le_word q]
    rfl
  · rw [show IntOp.cmpi CmpIPredicate.sle (BitVec.ofNat 32 s.val) (BitVec.ofNat 32 t.val) = 0#1 from not_le_word q]
    unfold Args.E
    rw [show X.A t s (cc h c) = 0 from if_neg q, mul_zero]
    rfl
theorem dq_at (t : Fin 4096) (h : Fin 4) (c : Fin 128) : (show EReal from res_main_v186 W (ix2 t (cc h c))) = ((X.dq t h c : ℝ) : EReal) := by
  pointwise [res_main_v186]
  have e0 : (⟨(h.val * 128 + c.val) / 128, by omega⟩ : Fin 4) = h := Fin.ext (by show (h.val * 128 + c.val) / 128 = h.val; omega)
  have e1 : (⟨(h.val * 128 + c.val) % 128, by omega⟩ : Fin 128) = c := Fin.ext (by show (h.val * 128 + c.val) % 128 = c.val; omega)
  rw [e0, e1]
  show ∑ a : Fin 1, ∑ b : Fin 4096, _ = _
  rw [Fin.sum_univ_one]
  refine (Finset.sum_congr rfl fun s _ => ?_).trans (sum_coe _ _)
  exact (congrArg₂ (fun x y : EReal => x * y) (dA_at hX t s h c) (kD_at hX t s h c)).trans (EReal.coe_mul _ _).symm
theorem sgf_at (t : Fin 4096) (j : Fin 512) : (show EReal from res_main_v44 W (ix2 t j)) = ((sg (X.fr t j) : ℝ) : EReal) := by
  pointwise [res_main_v44]
  exact (congrArg (fun x : EReal => Ideal.div 1 (1 + Ideal.exp (-x))) (hX.z t (512 + j.val) (by omega) _)).trans (sg_coe _)
theorem onelb_at (j : Fin 512) : (show EReal from res_main_v48 W (ix2 (0 : Fin 1) j)) = ((1 - X.lb j : ℝ) : EReal) := by
  pointwise [res_main_v48]
  rw [ref_lb]
  refine (congrArg (fun x : EReal => 1 - x) (Cert.KernelIdeal.Chunk.hLb_at hX j)).trans ?_
  show (1 : EReal) - _ = _
  rw [← EReal.coe_one, ← EReal.coe_sub]
theorem qr_at (t : Fin 4096) (j : Fin 512) : (show EReal from res_main_v0 W (ix2 t j)) = ((X.qr t j : ℝ) : EReal) := by
  pointwise [res_main_v0]
  exact hX.z t j.val (by omega) _
theorem refQ_at (t : Fin 4096) (h : Fin 4) (c : Fin 128) : refQ W (ix2 t (cc h c)) = ((X.dQ t h c : ℝ) : EReal) := by
  pointwise [refQ]
  refine (congrArg₂ (fun x y : EReal => x + y) (congrArg₂ (fun x y : EReal => x * y) (dq_at hX t h c) (sgq_at hX t (cc h c)))
    (congrArg₂ (fun x y : EReal => x * y) (congrArg₂ (fun x y : EReal => x * y) (qr_at hX t (cc h c)) (dq_at hX t h c))
      (congrArg₂ (fun x y : EReal => x * y) (sgq_at hX t (cc h c)) (congrArg (fun x : EReal => 1 - x) (sgq_at hX t (cc h c)))))).trans ?_
  show (_ : EReal) * _ + _ * _ * (_ * (1 - _)) = _
  rw [← EReal.coe_one]
  simp only [← EReal.coe_mul, ← EReal.coe_sub, ← EReal.coe_add]
  refine congrArg _ ?_
  unfold Args.dQ
  ring
theorem db_at (t : Fin 4096) (h : Fin 4) (c : Fin 128) : rdb W (ix3 t h c) = ((X.db t h c : ℝ) : EReal) := by
  pointwise [rdb]
  show (∑ a : Fin 1, ∑ b : Fin 4096, _) + (∑ a : Fin 1, ∑ b : Fin 4096, _) = _
  rw [Fin.sum_univ_one, Fin.sum_univ_one]
  refine (congrArg₂ (fun x y : EReal => x + y) ((Finset.sum_congr rfl fun s _ => (congrArg (fun x : EReal => -x) (E_at hX s t h c)).trans (EReal.coe_neg _).symm).trans (sum_coe _ _))
    ((Finset.sum_congr rfl fun s _ => E_at hX t s h c).trans (sum_coe _ _))).trans ?_
  refine (EReal.coe_add _ _).symm.trans (congrArg _ ?_)
  rw [Finset.sum_neg_distrib]
  unfold Args.db
  ring
theorem dfg_at (t : Fin 4096) (h : Fin 4) (c : Fin 128) : (show EReal from res_main_v158 W (ix2 t (cc h c))) = ((X.dfg t h c : ℝ) : EReal) := by
  pointwise [res_main_v158]
  have e0 : (⟨(h.val * 128 + c.val) / 128, by omega⟩ : Fin 4) = h := Fin.ext (by show (h.val * 128 + c.val) / 128 = h.val; omega)
  have e1 : (⟨(h.val * 128 + c.val) % 128, by omega⟩ : Fin 128) = c := Fin.ext (by show (h.val * 128 + c.val) % 128 = c.val; omega)
  rw [e0, e1]
  refine (congrArg₂ (fun x y : EReal => x + y) (congrArg₂ (fun x y : EReal => Ideal.div x y) ?_ ((congrFun (ref_fg W) (ix2 t (cc h c))).trans (hFg_at hX t (cc h c)))) (congrArg (fun x : EReal => -x) ?_)).trans
    (show Ideal.div ((X.dlog t h c : ℝ) : EReal) ((X.fg t (cc h c) : ℝ) : EReal) + -((X.dk t h c : ℝ) : EReal) = _ from ?_)
  · refine (down3' h_S_ _ (zero_init _) (N := 4096) (M := 4095) (by norm_num) _ (rdb W) t h c).trans ?_
    refine (Finset.sum_congr rfl fun i _ => ?_).trans (sum_coe _ _)
    rw [db_at hX]
    exact ite_coe _ _ 0
  · show ∑ a : Fin 1, ∑ b : Fin 4096, _ = _
    rw [Fin.sum_univ_one]
    refine (Finset.sum_congr rfl fun s _ => ?_).trans (sum_coe _ _)
    refine (congrArg₂ (fun x y : EReal => x * y) (qdA_at hX s t h c) (D_at hX s t h c)).trans ?_
    refine (EReal.coe_mul _ _).symm.trans (congrArg _ ?_)
    ring
  · rw [div_real _ (X.fg_pos _ _).ne', ← EReal.coe_neg, ← EReal.coe_add]
    refine congrArg _ ?_
    unfold Args.dfg
    ring
theorem refF_at (t : Fin 4096) (h : Fin 4) (c : Fin 128) : refF W (ix2 t (cc h c)) = ((X.dF t h c : ℝ) : EReal) := by
  pointwise [refF]
  refine (congrArg₂ (fun x y : EReal => x * y) (congrArg₂ (fun x y : EReal => x * y) (onelb_at hX (cc h c)) (dfg_at hX t h c))
      (congrArg₂ (fun x y : EReal => x * y) (sgf_at hX t (cc h c)) (congrArg (fun x : EReal => 1 - x) (sgf_at hX t (cc h c))))).trans ?_
  show (_ : EReal) * _ * (_ * (1 - _)) = _
  rw [← EReal.coe_one]
  simp only [← EReal.coe_mul, ← EReal.coe_sub, ← EReal.coe_add]
  refine congrArg _ ?_
  unfold Args.dF
  ring
theorem refV_at (t : Fin 4096) (h : Fin 4) (w : Fin 128) : (show EReal from refZ W (ix2 t (⟨1024 + (cc h w).val, by omega⟩ : Fin 6144))) = ((X.dv t h w : ℝ) : EReal) := by
  rw [refZ_V]
  refine (Finset.sum_congr rfl fun s _ => ?_).trans (sum_coe _ _)
  refine (congrArg₂ (fun x y : EReal => x * y) (dO_at hX s h w) ((congrFun (ref_score W) (ix3 s t h)).trans (hScore_at hX s t h))).trans ?_
  exact (EReal.coe_mul _ _).symm.trans (congrArg _ (mul_comm _ _))

theorem rdl_at (h : Fin 4) (c : Fin 128) : rdl W (ix1 (cc h c)) = ((X.dLb h c : ℝ) : EReal) := by
  pointwise [rdl]
  show (∑ a : Fin 1, ∑ b : Fin 4096, _) + -(∑ a : Fin 1, ∑ b : Fin 4096, _) = _
  rw [Fin.sum_univ_one, Fin.sum_univ_one]
  refine (congrArg₂ (fun x y : EReal => x + -y) ((Finset.sum_congr rfl fun t _ => dfg_at hX t h c).trans (sum_coe _ _))
    ((Finset.sum_congr rfl fun t _ => (congrArg₂ (fun x y : EReal => x * y) (dfg_at hX t h c) (sgf_at hX t (cc h c))).trans (EReal.coe_mul _ _).symm).trans (sum_coe _ _))).trans ?_
  show (_ : EReal) + -_ = _
  rw [← EReal.coe_neg, ← EReal.coe_add]
  refine congrArg _ ?_
  unfold Args.dLb
  rw [← sub_eq_add_neg, ← Finset.sum_sub_distrib]
  exact Finset.sum_congr rfl fun t _ => by ring
theorem rpad_at (i : Fin 2) (h : Fin 4) (c : Fin 128) : rpad W (ix2 i (cc h c)) = ((if i = 0 then X.dLb h c else 0 : ℝ) : EReal) := by
  pointwise [rpad]
  match i with
  | 0 =>
    rw [dif_pos ⟨by norm_num, by omega⟩, if_pos rfl]
    exact rdl_at hX h c
  | 1 =>
    rw [dif_neg (fun e => absurd e.1 (by norm_num)), if_neg (by decide)]
    rfl
theorem v173_at (i : Fin 2) (h : Fin 4) (c : Fin 128) : (show EReal from res_main_v173 W (ix2 i (cc h c))) = ((if i = 0 then X.dLb h c else 0 : ℝ) : EReal) := by
  refine (down2' h_S_ _ (zero_init _) (N := 2) (M := 1) (by norm_num) _ (rpad W) i (cc h c)).trans ?_
  rw [Fin.sum_univ_two, rpad_at hX, rpad_at hX]
  match i with
  | 0 => simp
  | 1 => simp
theorem sm_at (i : Fin 2) (j : Fin 512) : (show EReal from res_main_v26 W (ix2 i j)) = ((Real.exp (X.l i j - max (X.l 0 j) (X.l 1 j)) : ℝ) : EReal) := by
  rw [ref_E]
  pointwise [Cert.KernelIdeal.Chunk.hE]
  have e : max (Ideal.ofBits FTy.f32 4286578688#32) (Finset.fold max (Ideal.ofBits FTy.f32 4286578688#32) (fun x : Fin 2 => ll W (ix2 x j)) Finset.univ) = ((max (X.l 0 j) (X.l 1 j) : ℝ) : EReal) := by
    rw [ofBits_bot]
    refine (bot_sup_eq _).trans ?_
    show max (ll W (ix2 (0 : Fin 2) j)) (max (ll W (ix2 (1 : Fin 2) j)) (⊥ : EReal)) = _
    rw [hX.l, hX.l, max_bot_right]
    exact (EReal.coe_strictMono.monotone.map_max).symm
  simp only [e]
  rw [hX.l, ← EReal.coe_sub, Ideal.exp_coe]
theorem smsum_at (j : Fin 512) : (show EReal from res_main_v28 W (ix2 (0 : Fin 1) j)) = ((Real.exp (X.l 0 j - max (X.l 0 j) (X.l 1 j)) + Real.exp (X.l 1 j - max (X.l 0 j) (X.l 1 j)) : ℝ) : EReal) := by
  pointwise [res_main_v28]
  rw [Fin.sum_univ_two, EReal.coe_add]
  exact congrArg₂ (fun x y : EReal => x + y) (sm_at hX 0 j) (sm_at hX 1 j)
omit hX in
theorem one_div_real {a b : ℝ} (ha : a ≠ 0) (hb : b ≠ 0) : Ideal.div 1 ((a : EReal) * (b : EReal)) = ((1 / (a * b) : ℝ) : EReal) := by
  rw [← EReal.coe_mul, ← EReal.coe_one, div_real _ (mul_ne_zero ha hb)]
omit hX in
theorem mul3 (a b c : ℝ) : (a : EReal) * (b : EReal) * (c : EReal) = ((a * b * c : ℝ) : EReal) := by
  rw [← EReal.coe_mul, ← EReal.coe_mul]
theorem refL_at (i : Fin 2) (h : Fin 4) (c : Fin 128) : refL W (ix2 i (cc h c)) = ((if i = 0 then X.dLb h c * X.lb (cc h c) * (1 - X.lb (cc h c)) else -(X.dLb h c * X.lb (cc h c) * (1 - X.lb (cc h c))) : ℝ) : EReal) := by
  pointwise [refL]
  have hS : 0 < Real.exp (X.l 0 (cc h c) - max (X.l 0 (cc h c)) (X.l 1 (cc h c))) + Real.exp (X.l 1 (cc h c) - max (X.l 0 (cc h c)) (X.l 1 (cc h c))) := by positivity
  show (Ideal.div _ _ + ∑ a : Fin 1, -∑ x : Fin 2, _) * _ = _
  rw [Fin.sum_univ_one]
  refine (congrArg₂ (fun x y : EReal => x * y) (congrArg₂ (fun x y : EReal => x + y)
    ((congrArg₂ (fun x y : EReal => Ideal.div x y) (v173_at hX i h c) (smsum_at hX (cc h c))).trans (div_real _ hS.ne'))
    (congrArg (fun x : EReal => -x) ((Finset.sum_congr rfl fun x _ => (congrArg₂ (fun x y : EReal => x * y) (congrArg₂ (fun x y : EReal => x * y) (v173_at hX x h c)
      ((congrArg₂ (fun x y : EReal => Ideal.div 1 (x * y)) (smsum_at hX (cc h c)) (smsum_at hX (cc h c))).trans (one_div_real hS.ne' hS.ne'))) (sm_at hX x (cc h c))).trans
        (mul3 _ _ _)).trans (sum_coe _ _)))) (sm_at hX i (cc h c))).trans ?_
  show ((_ : EReal) + -_) * _ = _
  rw [← EReal.coe_neg, ← EReal.coe_add, ← EReal.coe_mul]
  refine congrArg _ ?_
  rw [Fin.sum_univ_two, if_pos rfl, if_neg (show ¬ (1 : Fin 2) = 0 by decide)]
  have e0 := Real.exp_pos (X.l 0 (cc h c))
  have e1 := Real.exp_pos (X.l 1 (cc h c))
  have eM := Real.exp_pos (max (X.l 0 (cc h c)) (X.l 1 (cc h c)))
  have hlb : X.lb (cc h c) = Real.exp (X.l 0 (cc h c)) / (Real.exp (X.l 0 (cc h c)) + Real.exp (X.l 1 (cc h c))) := by
    unfold Args.lb
    rw [Real.exp_sub]
    field_simp
  rw [hlb]
  match i with
  | 0 =>
    rw [if_pos rfl, if_pos rfl, Real.exp_sub, Real.exp_sub]
    field_simp
    ring
  | 1 =>
    rw [if_neg (by decide), if_neg (by decide), Real.exp_sub, Real.exp_sub]
    field_simp
    ring

end Cert.ReferenceIdeal.Grad
-- ==== Proof.Same.lean ====
/- The two programs' results are equal. -/
module

public import proofs.«01_k».proof.Proof.Whole
public import proofs.«01_k».proof.Proof.RefGrad

@[expose] public section

set_option maxRecDepth 16384

noncomputable section

namespace Cert.Same

open Idealize.ShloMosaic Idealize.ShloMosaic.TcCoe Idealize.SL.Sem
open Cert.Real Cert.KernelIdeal.Chunk Cert.ReferenceIdeal.Grad

/-- The two programs' arguments are the same real numbers. -/
structure Ctx (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal)) (X : Args) : Prop where
  holds : Holds (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) X
  ref : Holds (zz W) (yy W) (ll W) (gg W) X
  low : ∀ j, X.l 1 j - X.l 0 j ≤ 9
  keep : W (Proc.devRef .tc Cert.ReferenceIdeal.main_arg4) = m ((c : Thread Cert.KernelIdeal.nD Cert.KernelIdeal.τ).loc Cert.KernelIdeal.main_arg4)

variable {m : (ℓ : Loc Cert.KernelIdeal.nD Cert.KernelIdeal.τ Cert.KernelIdeal.sig) → Buf (Elt Ideal) ℓ} {c : Dev Cert.KernelIdeal.nD}
    {W : Valuation Cert.ReferenceIdeal.τ Cert.ReferenceIdeal.sig (Elt Ideal)} {X : Args} (H : Ctx m c W X)
include H

theorem rowOf (t : Fin 4096) : t = Arr.row (⟨t.val / 64, by omega⟩ : Fin 64) (⟨t.val % 64, by omega⟩ : Fin 64) :=
  Fin.ext (by show t.val = 64 * (t.val / 64) + t.val % 64; omega)
theorem colOf (j : Fin 512) : j = cc (⟨j.val / 128, by omega⟩ : Fin 4) (⟨j.val % 128, by omega⟩ : Fin 128) :=
  Fin.ext (by show j.val = j.val / 128 * 128 + j.val % 128; omega)

theorem gate (t : Fin 4096) (j : Fin 512) : out6 m c (ix2 t (⟨1536 + j.val, by omega⟩ : Fin 6144)) = refZ W (ix2 t (⟨1536 + j.val, by omega⟩ : Fin 6144)) := by
  rw [refZ_G W t j, rowOf H t, out6_G m c _ _ j, colOf H j]
  exact (outG_at (reads (arrs_real m c H.holds) _) _ _ _ _).trans (refG_at H.ref _ _ _).symm

theorem rest (t : Fin 4096) (p : Fin 6144) (h : 2048 ≤ p.val) : out6 m c (ix2 t p) = refZ W (ix2 t p) := by
  rw [refZ_rest W t p h, H.keep, out6_rest m c (ix2 t p) (by show ¬ p.val < 2048; omega), entry_out]

theorem gain (i : Cert.KernelIdeal.S1x128.Idx) : (arrs m c).G 64 i = refGain W i := by
  have e : i = ix2 (0 : Fin 1) (i 1) := (eq_ix2 i).trans (congrArg (fun x : Fin 1 => (ix2 x (i 1) : Cert.KernelIdeal.S1x128.Idx)) (Subsingleton.elim _ _))
  rw [e]
  exact (gain_eq (arrs_real m c H.holds) (i 1)).trans (refGain_at H.ref (i 1)).symm

theorem query (t : Fin 4096) (j : Fin 512) : out6 m c (ix2 t (⟨0 + j.val, by omega⟩ : Fin 6144)) = refZ W (ix2 t (⟨0 + j.val, by omega⟩ : Fin 6144)) := by
  rw [refZ_Q W t j, rowOf H t, out6_Q m c _ _ j, colOf H j]
  exact (outQ_at (full_run (arrs_st m c H.holds H.low) _) _ _ _).trans (refQ_at H.ref _ _ _).symm

theorem forget (t : Fin 4096) (j : Fin 512) : out6 m c (ix2 t (⟨512 + j.val, by omega⟩ : Fin 6144)) = refZ W (ix2 t (⟨512 + j.val, by omega⟩ : Fin 6144)) := by
  rw [refZ_F W t j, rowOf H t, out6_F m c _ _ j, colOf H j]
  exact (outF_at (full_run (arrs_st m c H.holds H.low) _) _ _ _).trans (refF_at H.ref _ _ _).symm

theorem value (t : Fin 4096) (j : Fin 512) : out6 m c (ix2 t (⟨1024 + j.val, by omega⟩ : Fin 6144)) = refZ W (ix2 t (⟨1024 + j.val, by omega⟩ : Fin 6144)) := by
  rw [rowOf H t, out6_V m c _ _ j, colOf H j]
  exact (outV_at (full_run (arrs_st m c H.holds H.low) _) _ _ _).trans (refV_at H.ref _ _ _).symm

theorem first (t : Fin 4096) (p : Fin 6144) : out6 m c (ix2 t p) = refZ W (ix2 t p) := by
  by_cases q3 : 2048 ≤ p.val
  · exact rest H t p q3
  · by_cases q2 : 1536 ≤ p.val
    · rw [show p = (⟨1536 + (p.val - 1536), by omega⟩ : Fin 6144) from Fin.ext (by show p.val = 1536 + (p.val - 1536); omega)]
      exact gate H t ⟨p.val - 1536, by omega⟩
    · by_cases q1 : 1024 ≤ p.val
      · rw [show p = (⟨1024 + (p.val - 1024), by omega⟩ : Fin 6144) from Fin.ext (by show p.val = 1024 + (p.val - 1024); omega)]
        exact value H t ⟨p.val - 1024, by omega⟩
      · by_cases q0 : 512 ≤ p.val
        · rw [show p = (⟨512 + (p.val - 512), by omega⟩ : Fin 6144) from Fin.ext (by show p.val = 512 + (p.val - 512); omega)]
          exact forget H t ⟨p.val - 512, by omega⟩
        · rw [show p = (⟨0 + p.val, by omega⟩ : Fin 6144) from Fin.ext (by show p.val = 0 + p.val; omega)]
          exact query H t ⟨p.val, by omega⟩

theorem bounds (i : Fin 2) (j : Fin 512) : lastRows (m ((c : Thread Cert.KernelIdeal.nD Cert.KernelIdeal.τ).loc Cert.KernelIdeal.main_arg2)) ((arrs m c).L 64) (ix2 i j) = refL W (ix2 i j) := by
  rw [colOf H j]
  refine Eq.trans ?_ (refL_at H.ref i _ _).symm
  match i with
  | 0 => exact lastRows_0 (arrs_st m c H.holds H.low) _ _
  | 1 => exact lastRows_1 (arrs_st m c H.holds H.low) _ _

end Cert.Same
-- ==== Proof.Tame.lean ====
/- What the precondition says of the arguments: they are real numbers, and the second row of the lower bounds is at most nine above the first. -/
module

public import proofs.«01_k».proof.Proof.Host
public import proofs.«01_k».proof.Proof.Gen.Pre_tame
public import Idealize.ShloMosaic.Lib.ReduceAll
public import Idealize.ShloMosaic.Lib.Affine

@[expose] public section

set_option maxRecDepth 16384

noncomputable section

namespace Cert.Tame

open Idealize.ShloMosaic
open Cert.Real Cert.Pre_tame
open Cert.KernelIdeal.Chunk (Holds)

attribute [local instance] Cert.Pre_tame.Gen.facts

instance : Subsingleton S_.Idx := ⟨fun _ _ => funext fun a => a.elim0⟩

theorem word_inf : Ideal.ofBits FTy.f32 0x7F800000#32 = ⊤ := by simp [Ideal.ofBits, Ideal.ieee]

theorem finite_of (x : EReal) (h : Ideal.cmp .olt (max x (-x)) (Ideal.ofBits .f32 0x7F800000#32) = 1#1) : x = ((x.toReal : ℝ) : EReal) := by
  rw [word_inf] at h
  have h' := (Ideal.cmp_olt_eq_one _ _).1 h
  rcases max_lt_iff.1 h' with ⟨h1, h2⟩
  refine (EReal.coe_toReal (ne_of_lt h1) fun e => ?_).symm
  rw [e] at h2
  exact absurd h2 (by simp)

theorem word_9 : Ideal.ofBits FTy.f32 0x41100000#32 = ((9 : ℝ) : EReal) := by
  simp [Ideal.ofBits, Ideal.ieee]
  rw [← EReal.coe_mul]
  norm_num

/-- Arguments of which the precondition holds are real numbers. -/
theorem holds (a0 : FVec Ideal S4096x6144 .f32) (a1 : FVec Ideal S4096x512 .f32) (a2 : FVec Ideal S2x512 .f32) (a3 : FVec Ideal S1x128 .f32) (a4 : FVec Ideal S4096x6144 .bf16)
    (h : Cert.Pre_tame.fn (F := Ideal) a0 a1 a2 a3 a4 = fun _ => 1#1) : ∃ X : Args, Holds a0 a1 a2 a3 X ∧ ∀ j, X.l 1 j - X.l 0 j ≤ 9 := by
  obtain ⟨e1, e2⟩ := IntOp.andi_eq_one.1 (congrFun h ix0)
  obtain ⟨e3, e4⟩ := IntOp.andi_eq_one.1 e1
  obtain ⟨e5, e6⟩ := IntOp.andi_eq_one.1 e3
  obtain ⟨e7, e8⟩ := IntOp.andi_eq_one.1 e4
  have f0 := Host.reduce_andi_all _ _ _ _ _ e5
  have f1 := Host.reduce_andi_all _ _ _ _ _ e6
  have f2 := Host.reduce_andi_all _ _ _ _ _ e7
  have f3 := Host.reduce_andi_all _ _ _ _ _ e8
  have f4 := Host.reduce_andi_all _ _ _ _ _ e2
  have hl (i : Fin 2) (j : Fin 512) : a2 (ix2 i j) = (((a2 (ix2 i j) : EReal).toReal : ℝ) : EReal) := finite_of _ (f2 (ix2 i j))
  refine ⟨⟨fun t n => (a0 (ix2 t (⟨n.val, by omega⟩ : Fin 6144)) : EReal).toReal, fun t j => (a1 (ix2 t j) : EReal).toReal, fun i j => (a2 (ix2 i j) : EReal).toReal,
    fun w => (a3 (ix2 (0 : Fin 1) w) : EReal).toReal⟩, ⟨fun t n hn p => ?_, fun t j => finite_of _ (f1 (ix2 t j)), hl, fun w => finite_of _ (f3 (ix2 (0 : Fin 1) w))⟩, fun j => ?_⟩
  · refine finite_of _ ?_
    have k := f0 (ix2 t (⟨n, hn⟩ : Fin 2048))
    have e : (extractStridedSlice S4096x2048 ![0, 0] a0 Cert.Pre_tame.Facts.slices_S4096x6144_S4096x2048_0_0 : FVec Ideal S4096x2048 .f32) (ix2 t (⟨n, hn⟩ : Fin 2048)) = a0 (ix2 t (⟨n, p⟩ : Fin 6144)) := by
      pointwise []
    have k' : Ideal.cmp .olt (max (show EReal from (extractStridedSlice S4096x2048 ![0, 0] a0 Cert.Pre_tame.Facts.slices_S4096x6144_S4096x2048_0_0 : FVec Ideal S4096x2048 .f32) (ix2 t (⟨n, hn⟩ : Fin 2048))) (-(show EReal from (extractStridedSlice S4096x2048 ![0, 0] a0 Cert.Pre_tame.Facts.slices_S4096x6144_S4096x2048_0_0 : FVec Ideal S4096x2048 .f32) (ix2 t (⟨n, hn⟩ : Fin 2048))))) (Ideal.ofBits .f32 0x7F800000#32) = 1#1 := k
    rw [e] at k'
    exact k'
  · have k := f4 (ix1 j)
    have e : (subf (shapeCast S512 (extractStridedSlice S1x512 ![1, 0] a2 Cert.Pre_tame.Facts.slices_S2x512_S1x512_1_0) Cert.Pre_tame.Facts.shapeCasts_S1x512_S512)
        (shapeCast S512 (extractStridedSlice S1x512 ![0, 0] a2 Cert.Pre_tame.Facts.slices_S2x512_S1x512_0_0) Cert.Pre_tame.Facts.shapeCasts_S1x512_S512) : FVec Ideal S512 .f32) (ix1 j)
        = ((((a2 (ix2 (1 : Fin 2) j) : EReal).toReal - (a2 (ix2 (0 : Fin 2) j) : EReal).toReal : ℝ)) : EReal) := by
      pointwise []
      rw [EReal.coe_sub]
      exact congrArg₂ (fun x y : EReal => x - y) (hl 1 j) (hl 0 j)
    have k' : Ideal.cmp .ole (show EReal from (subf (shapeCast S512 (extractStridedSlice S1x512 ![1, 0] a2 Cert.Pre_tame.Facts.slices_S2x512_S1x512_1_0) Cert.Pre_tame.Facts.shapeCasts_S1x512_S512)
        (shapeCast S512 (extractStridedSlice S1x512 ![0, 0] a2 Cert.Pre_tame.Facts.slices_S2x512_S1x512_0_0) Cert.Pre_tame.Facts.shapeCasts_S1x512_S512) : FVec Ideal S512 .f32) (ix1 j)) (Ideal.ofBits .f32 0x41100000#32) = 1#1 := k
    rw [e, word_9] at k'
    exact EReal.coe_le_coe_iff.1 ((Ideal.cmp_ole_eq_one _ _).1 k')

end Cert.Tame
-- ==== Proof.Algebraic.lean ====
/- The kernel's results and the reference's are equal. -/
module

public import proofs.«01_k».proof.Defs
public import proofs.«01_k».proof.Proof.Same
public import proofs.«01_k».proof.Proof.Tame

@[expose] public section

set_option maxRecDepth 16384

noncomputable section

namespace Cert

open Idealize.ShloMosaic Idealize.ShloMosaic.TcCoe Idealize.SL.Sem
open Idealize.ShloMosaic.StableHlo

theorem algebraic : @algebraic_KernelIdeal_ReferenceIdeal_pre_tame Cert.KernelIdeal.Gen.facts Cert.ReferenceIdeal.Gen.facts Cert.Pre_tame.Gen.facts := by
  intro m g m' g' hp hm
  have H : ∀ c : Dev Cert.KernelIdeal.nD, ∃ X, Cert.Same.Ctx m c (launchContents m' c) X := fun c => by
    obtain ⟨X, hX, hl⟩ := Cert.Tame.holds _ _ _ _ _ (hp c)
    obtain ⟨h0, h1, h2, h3, h4⟩ := hm c
    refine ⟨X, hX, ?_, hl, h4⟩
    have hX' := hX
    rw [← h0, ← h1, ← h2, ← h3] at hX'
    exact hX'
  refine ⟨fun c => Cert.KernelIdeal.Chunk.out6 m c, fun c => Cert.KernelIdeal.Chunk.lastRows (m ((c.tc : Thread Cert.KernelIdeal.nD Cert.KernelIdeal.τ).loc Cert.KernelIdeal.main_arg2)) ((Cert.KernelIdeal.Chunk.arrs m c).L 64),
    fun c => (Cert.KernelIdeal.Chunk.arrs m c).G 64, ?_, ?_⟩
  · refine (θ_run (Cert.KernelIdeal.defs (F := Ideal)) _ _).mono (fun r h c => ?_) (Cert.KernelIdeal.Chunk.run_results (F := Ideal) m g)
    obtain ⟨e0, e1, e2, ha⟩ := h c
    exact ⟨e0, e1, e2, ha.1, ha.2.1, ha.2.2.1, ha.2.2.2.1, ha.2.2.2.2⟩
  · refine (θ_run (Cert.ReferenceIdeal.defs (F := Ideal)) _ _).mono (fun r h c => ?_) (Cert.ReferenceIdeal.Value.run (F := Ideal) m' g')
    obtain ⟨X, hX⟩ := H c
    obtain ⟨e0, e1, e2, ha⟩ := h c
    refine ⟨funext fun i => ?_, funext fun i => ?_, funext fun i => ?_, ha.1, ha.2.1, ha.2.2.1, ha.2.2.2.1, ha.2.2.2.2⟩
    · rw [eq_ix2 i]
      exact (congrFun e0 (ix2 (i 0) (i 1))).trans (Cert.Same.first hX (i 0) (i 1)).symm
    · rw [eq_ix2 i]
      exact (congrFun e1 (ix2 (i 0) (i 1))).trans (Cert.Same.bounds hX (i 0) (i 1)).symm
    · exact (congrFun e2 i).trans (Cert.Same.gain hX i).symm

end Cert
-- ==== Proof.BackGate.lean ====
/- The product of the gate's gradient with the gate's weights: the call mm_dhf_a. -/
module

public import proofs.«01_k».proof.Defs
public import proofs.«01_k».proof.Proof.Gen.Kernel7Ideal.Value
public import proofs.«01_k».proof.Proof.Gen.Kernel7.Frame
public import proofs.«01_k».proof.Proof.Gen.Reference7Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel7Ideal.Whole

open Idealize.ShloMosaic Idealize.ShloMosaic.TcCoe Idealize.SL.Sem
open Idealize.ShloMosaic.Pipeline (Dat)
open Cert.Kernel7Ideal Cert.Kernel7Ideal.Gen
open scoped BigOperators

variable (m : (ℓ : Loc nD τ sig) → Buf (Elt Ideal) ℓ)

/-- the gradient of the first product with respect to its left factor -/
abbrev prod (a0 : FVec Ideal Cert.Reference7Ideal.S4096x2816 .bf16) (a1 : FVec Ideal Cert.Reference7Ideal.S2816x1024 .bf16) : FVec Ideal Cert.Reference7Ideal.S4096x1024 .f32 :=
  Host.dotGeneral Cert.Reference7Ideal.dot_S4096x2816_S1024x2816_S4096x1024_1_1_0_0_n_n none (extf .f32 a0 Cert.Reference7Ideal.Gen.bitsLt_bf16_f32) (transpose Cert.Reference7Ideal.S1024x2816 [1, 0]
    (extf .f32 a1 Cert.Reference7Ideal.Gen.bitsLt_bf16_f32) Cert.Reference7Ideal.Gen.transposes_S2816x1024_S1024x2816_1_0)

/-- Where each window sits at each grid point. -/
theorem idx_val : ∀ t : Fin cfg0.N, win0_0.index t = ![t.val, 0]
    ∧ win0_1.index t = ![0, 0]
    ∧ win0_2.index t = ![t.val, 0] :=
  (by decide +kernel : ∀ t : Fin grid0.N, _)

theorem point_2 (c : Dev nD) (t : Fin cfg0.N) (y) :
    k0_pay1 (iblk m c 0 t) (iblk m c 1 t) y
      = prod (m ((c : Thread nD τ).loc main_arg0)) (m ((c : Thread nD τ).loc main_arg1)) (((cfg0.win 2).blk t).view.emb y) := by
  pointwise [k0_pay1, prod]
  blk_point [iblk, V, idx_val t]

theorem final_2 (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Kernel7Ideal.Whole

namespace Cert

open Idealize.ShloMosaic Idealize.ShloMosaic.TcCoe Idealize.SL.Sem

theorem frame_kernel7 : @quiescent_Kernel7 Cert.Kernel7.Gen.facts := fun m ρ _ => Cert.Kernel7.Gen.frame m ρ

theorem frame_ideal7 : @quiescent_Kernel7Ideal Cert.Kernel7Ideal.Gen.facts := fun m ρ _ => Cert.Kernel7Ideal.Gen.frame m ρ

theorem frame_reference7 : @quiescent_Reference7Ideal Cert.Reference7Ideal.Gen.facts := fun m ρ _ =>
  (θ_run (Cert.Reference7Ideal.defs (F := Ideal)) _ _).mono
    (fun r h => ⟨fun c => ⟨(h c).2.1, (h c).2.2⟩, sem_eq_zero_of_no_sems rfl r.2⟩)
    (Cert.Reference7Ideal.Value.run (F := Ideal) m ρ)

theorem algebraic7 : @algebraic_Kernel7Ideal_Reference7Ideal Cert.Kernel7Ideal.Gen.facts Cert.Reference7Ideal.Gen.facts := by
  intro m g m' g' hp hm
  refine ⟨fun c => Cert.Kernel7Ideal.Whole.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run (Cert.Kernel7Ideal.defs (F := Ideal)) _ _).mono (fun r h c => ?_) (Cert.Kernel7Ideal.Value.run_blocks (F := Ideal) m g)
    obtain ⟨e0, ha⟩ := h c
    exact ⟨e0.trans (Cert.Kernel7Ideal.Whole.final_2 m c), ha.1, ha.2⟩
  · refine (θ_run (Cert.Reference7Ideal.defs (F := Ideal)) _ _).mono (fun r h c => ?_) (Cert.Reference7Ideal.Value.run (F := Ideal) m' g')
    obtain ⟨e0, ha⟩ := h c
    obtain ⟨h0, h1⟩ := hm c
    rw [h0, h1] at e0
    exact ⟨e0, ha.1, ha.2⟩

end Cert

end
-- ==== Proof.Down.lean ====
/- The down product and the residual: the call mm_x2. -/
module

public import proofs.«01_k».proof.Defs
public import proofs.«01_k».proof.Proof.Gen.Kernel9Ideal.Value
public import proofs.«01_k».proof.Proof.Gen.Kernel9.Frame
public import proofs.«01_k».proof.Proof.Gen.Reference9Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel9Ideal.Whole

open Idealize.ShloMosaic Idealize.ShloMosaic.TcCoe Idealize.SL.Sem
open Idealize.ShloMosaic.Pipeline (Dat)
open Cert.Kernel9Ideal Cert.Kernel9Ideal.Gen
open scoped BigOperators

variable (m : (ℓ : Loc nD τ sig) → Buf (Elt Ideal) ℓ)

/-- the residual and the product -/
abbrev sum (a0 : FVec Ideal Cert.Reference9Ideal.S4096x2816 .bf16) (a1 : FVec Ideal Cert.Reference9Ideal.S2816x1024 .bf16) (a2 : FVec Ideal Cert.Reference9Ideal.S4096x1024 .f32) : FVec Ideal Cert.Reference9Ideal.S4096x1024 .f32 :=
  addf a2 (Host.dotGeneral Cert.Reference9Ideal.dot_S4096x2816_S2816x1024_S4096x1024_1_0_0_1_n_n none (extf .f32 a0 Cert.Reference9Ideal.Gen.bitsLt_bf16_f32) (extf .f32 a1
    Cert.Reference9Ideal.Gen.bitsLt_bf16_f32))

/-- Where each window sits at each grid point. -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem point_3 (c : Dev nD) (t : Fin cfg0.N) (y) :
    k0_pay1 (iblk m c 0 t) (iblk m c 1 t) (iblk m c 2 t) y
      = sum (m ((c : Thread nD τ).loc main_arg0)) (m ((c : Thread nD τ).loc main_arg1)) (m ((c : Thread nD τ).loc main_arg2)) (((cfg0.win 3).blk t).view.emb y) := by
  pointwise [k0_pay1, sum]
  blk_point [iblk, V, idx_val t]

theorem final_3 (c : Dev nD) : (dats m 0 c).arrAt 3 (cfgs 0).N = sum (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

end Cert.Kernel9Ideal.Whole

namespace Cert

open Idealize.ShloMosaic Idealize.ShloMosaic.TcCoe Idealize.SL.Sem

theorem frame_kernel9 : @quiescent_Kernel9 Cert.Kernel9.Gen.facts := fun m ρ _ => Cert.Kernel9.Gen.frame m ρ

theorem frame_ideal9 : @quiescent_Kernel9Ideal Cert.Kernel9Ideal.Gen.facts := fun m ρ _ => Cert.Kernel9Ideal.Gen.frame m ρ

theorem frame_reference9 : @quiescent_Reference9Ideal Cert.Reference9Ideal.Gen.facts := fun m ρ _ =>
  (θ_run (Cert.Reference9Ideal.defs (F := Ideal)) _ _).mono
    (fun r h => ⟨fun c => ⟨(h c).2.1, (h c).2.2.1, (h c).2.2.2⟩, sem_eq_zero_of_no_sems rfl r.2⟩)
    (Cert.Reference9Ideal.Value.run (F := Ideal) m ρ)

theorem algebraic9 : @algebraic_Kernel9Ideal_Reference9Ideal Cert.Kernel9Ideal.Gen.facts Cert.Reference9Ideal.Gen.facts := by
  intro m g m' g' hp hm
  refine ⟨fun c => Cert.Kernel9Ideal.Whole.sum (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · refine (θ_run (Cert.Kernel9Ideal.defs (F := Ideal)) _ _).mono (fun r h c => ?_) (Cert.Kernel9Ideal.Value.run_blocks (F := Ideal) m g)
    obtain ⟨e0, ha⟩ := h c
    exact ⟨e0.trans (Cert.Kernel9Ideal.Whole.final_3 m c), ha.1, ha.2.1, ha.2.2⟩
  · refine (θ_run (Cert.Reference9Ideal.defs (F := Ideal)) _ _).mono (fun r h c => ?_) (Cert.Reference9Ideal.Value.run (F := Ideal) m' g')
    obtain ⟨e0, ha⟩ := h c
    obtain ⟨h0, h1, h2⟩ := hm c
    rw [h0, h1, h2] at e0
    exact ⟨e0, ha.1, ha.2.1, ha.2.2⟩

end Cert

end
-- ==== Proof.GateForward.lean ====
/- The gated products of the feed-forward block: the call _swiglu_fwd. -/
module

public import proofs.«01_k».proof.Defs
public import proofs.«01_k».proof.Proof.Gen.Kernel3Ideal.Value
public import proofs.«01_k».proof.Proof.Gen.Kernel3.Frame
public import proofs.«01_k».proof.Proof.Gen.Reference3Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel3Ideal.Whole

open Idealize.ShloMosaic Idealize.ShloMosaic.TcCoe Idealize.SL.Sem
open Idealize.ShloMosaic.Pipeline (Dat)
open Cert.Kernel3Ideal Cert.Kernel3Ideal.Gen
open scoped BigOperators

variable (m : (ℓ : Loc nD τ sig) → Buf (Elt Ideal) ℓ)

/-- the gate's product -/
abbrev gate (a0 : FVec Ideal Cert.Reference3Ideal.S4096x1024 .bf16) (a1 : FVec Ideal Cert.Reference3Ideal.S2816x1024 .bf16) : FVec Ideal Cert.Reference3Ideal.S4096x2816 .bf16 :=
  truncf .bf16 (Host.dotGeneral Cert.Reference3Ideal.dot_S4096x1024_S1024x2816_S4096x2816_1_0_0_1_n_n none (extf .f32 a0 Cert.Reference3Ideal.Gen.bitsLt_bf16_f32) (transpose
    Cert.Reference3Ideal.S1024x2816 [1, 0] (extf .f32 a1 Cert.Reference3Ideal.Gen.bitsLt_bf16_f32) Cert.Reference3Ideal.Gen.transposes_S2816x1024_S1024x2816_1_0))
    Cert.Reference3Ideal.Gen.bitsLt_bf16_f32

/-- the other product -/
abbrev up (a0 : FVec Ideal Cert.Reference3Ideal.S4096x1024 .bf16) (a2 : FVec Ideal Cert.Reference3Ideal.S2816x1024 .bf16) : FVec Ideal Cert.Reference3Ideal.S4096x2816 .bf16 :=
  truncf .bf16 (Host.dotGeneral Cert.Reference3Ideal.dot_S4096x1024_S1024x2816_S4096x2816_1_0_0_1_n_n none (extf .f32 a0 Cert.Reference3Ideal.Gen.bitsLt_bf16_f32) (transpose
    Cert.Reference3Ideal.S1024x2816 [1, 0] (extf .f32 a2 Cert.Reference3Ideal.Gen.bitsLt_bf16_f32) Cert.Reference3Ideal.Gen.transposes_S2816x1024_S1024x2816_1_0))
    Cert.Reference3Ideal.Gen.bitsLt_bf16_f32

/-- the gated product -/
abbrev act (a0 : FVec Ideal Cert.Reference3Ideal.S4096x1024 .bf16) (a1 : FVec Ideal Cert.Reference3Ideal.S2816x1024 .bf16) (a2 : FVec Ideal Cert.Reference3Ideal.S2816x1024 .bf16) : FVec Ideal Cert.Reference3Ideal.S4096x2816 .bf16 :=
  truncf .bf16 (mulf (mulf (Host.dotGeneral Cert.Reference3Ideal.dot_S4096x1024_S1024x2816_S4096x2816_1_0_0_1_n_n none (extf .f32 a0 Cert.Reference3Ideal.Gen.bitsLt_bf16_f32) (transpose
    Cert.Reference3Ideal.S1024x2816 [1, 0] (extf .f32 a1 Cert.Reference3Ideal.Gen.bitsLt_bf16_f32) Cert.Reference3Ideal.Gen.transposes_S2816x1024_S1024x2816_1_0)) (Host.divf (broadcastInDim
    Cert.Reference3Ideal.S4096x2816 ![] Cert.Reference3Ideal.Gen.bcast_S_S4096x2816 (constant Cert.Reference3Ideal.S_ .f32 0x3F800000#32)) (addf (broadcastInDim Cert.Reference3Ideal.S4096x2816 ![]
    Cert.Reference3Ideal.Gen.bcast_S_S4096x2816 (constant Cert.Reference3Ideal.S_ .f32 0x3F800000#32)) (Host.exp (Host.negf (Host.dotGeneral
    Cert.Reference3Ideal.dot_S4096x1024_S1024x2816_S4096x2816_1_0_0_1_n_n none (extf .f32 a0 Cert.Reference3Ideal.Gen.bitsLt_bf16_f32) (transpose Cert.Reference3Ideal.S1024x2816 [1, 0] (extf .f32 a1
    Cert.Reference3Ideal.Gen.bitsLt_bf16_f32) Cert.Reference3Ideal.Gen.transposes_S2816x1024_S1024x2816_1_0))))))) (Host.dotGeneral
    Cert.Reference3Ideal.dot_S4096x1024_S1024x2816_S4096x2816_1_0_0_1_n_n none (extf .f32 a0 Cert.Reference3Ideal.Gen.bitsLt_bf16_f32) (transpose Cert.Reference3Ideal.S1024x2816 [1, 0] (extf .f32 a2
    Cert.Reference3Ideal.Gen.bitsLt_bf16_f32) Cert.Reference3Ideal.Gen.transposes_S2816x1024_S1024x2816_1_0))) Cert.Reference3Ideal.Gen.bitsLt_bf16_f32

/-- Where each window sits at each grid point. -/
theorem idx_val : ∀ t : Fin cfg0.N, win0_0.index t = ![t.val % 8, 0]
    ∧ win0_1.index t = ![t.val / 8, 0]
    ∧ win0_2.index t = ![t.val / 8, 0]
    ∧ win0_3.index t = ![t.val % 8, t.val / 8]
    ∧ win0_4.index t = ![t.val % 8, t.val / 8]
    ∧ win0_5.index t = ![t.val % 8, t.val / 8] :=
  (by decide +kernel : ∀ t : Fin grid0.N, _)

theorem point_3 (c : Dev nD) (t : Fin cfg0.N) (y) :
    k0_pay1 (iblk m c 0 t) (iblk m c 1 t) y
      = gate (m ((c : Thread nD τ).loc main_arg0)) (m ((c : Thread nD τ).loc main_arg1)) (((cfg0.win 3).blk t).view.emb y) := by
  pointwise [k0_pay1, gate]
  blk_point [iblk, V, idx_val t]

theorem final_3 (c : Dev nD) : (dats m 0 c).arrAt 3 (cfgs 0).N = gate (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

theorem point_4 (c : Dev nD) (t : Fin cfg0.N) (y) :
    k0_pay2 (iblk m c 0 t) (iblk m c 2 t) y
      = up (m ((c : Thread nD τ).loc main_arg0)) (m ((c : Thread nD τ).loc main_arg2)) (((cfg0.win 4).blk t).view.emb y) := by
  pointwise [k0_pay2, up]
  blk_point [iblk, V, idx_val t]

theorem final_4 (c : Dev nD) : (dats m 0 c).arrAt 4 (cfgs 0).N = up (m ((c : Thread nD τ).loc main_arg0)) (m ((c : Thread nD τ).loc main_arg2)) := by
  refine (dats m 0 c).arrAt_eq_of_covers 4 _ (by decide +kernel) fun t hf y => ?_
  blk_simp; rw [after0_4]; frame_out
  exact point_4 m c t y

theorem point_5 (c : Dev nD) (t : Fin cfg0.N) (y) :
    k0_pay3 (iblk m c 0 t) (iblk m c 1 t) (iblk m c 2 t) y
      = act (m ((c : Thread nD τ).loc main_arg0)) (m ((c : Thread nD τ).loc main_arg1)) (m ((c : Thread nD τ).loc main_arg2)) (((cfg0.win 5).blk t).view.emb y) := by
  pointwise [k0_pay1, k0_pay2, k0_pay3, zero_sub, act]
  blk_point [iblk, V, idx_val t]

theorem final_5 (c : Dev nD) : (dats m 0 c).arrAt 5 (cfgs 0).N = act (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

end Cert.Kernel3Ideal.Whole

namespace Cert

open Idealize.ShloMosaic Idealize.ShloMosaic.TcCoe Idealize.SL.Sem

theorem frame_kernel3 : @quiescent_Kernel3 Cert.Kernel3.Gen.facts := fun m ρ _ => Cert.Kernel3.Gen.frame m ρ

theorem frame_ideal3 : @quiescent_Kernel3Ideal Cert.Kernel3Ideal.Gen.facts := fun m ρ _ => Cert.Kernel3Ideal.Gen.frame m ρ

theorem frame_reference3 : @quiescent_Reference3Ideal Cert.Reference3Ideal.Gen.facts := fun m ρ _ =>
  (θ_run (Cert.Reference3Ideal.defs (F := Ideal)) _ _).mono
    (fun r h => ⟨fun c => ⟨(h c).2.2.2.1, (h c).2.2.2.2.1, (h c).2.2.2.2.2⟩, sem_eq_zero_of_no_sems rfl r.2⟩)
    (Cert.Reference3Ideal.Value.run (F := Ideal) m ρ)

theorem algebraic3 : @algebraic_Kernel3Ideal_Reference3Ideal Cert.Kernel3Ideal.Gen.facts Cert.Reference3Ideal.Gen.facts := by
  intro m g m' g' hp hm
  refine ⟨fun c => Cert.Kernel3Ideal.Whole.gate (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => Cert.Kernel3Ideal.Whole.up (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), fun c => Cert.Kernel3Ideal.Whole.act (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run (Cert.Kernel3Ideal.defs (F := Ideal)) _ _).mono (fun r h c => ?_) (Cert.Kernel3Ideal.Value.run_blocks (F := Ideal) m g)
    obtain ⟨e0, e1, e2, ha⟩ := h c
    exact ⟨e0.trans (Cert.Kernel3Ideal.Whole.final_3 m c), e1.trans (Cert.Kernel3Ideal.Whole.final_4 m c), e2.trans (Cert.Kernel3Ideal.Whole.final_5 m c), ha.1, ha.2.1, ha.2.2⟩
  · refine (θ_run (Cert.Reference3Ideal.defs (F := Ideal)) _ _).mono (fun r h c => ?_) (Cert.Reference3Ideal.Value.run (F := Ideal) m' g')
    obtain ⟨e0, e1, e2, ha⟩ := h c
    obtain ⟨h0, h1, h2⟩ := hm c
    rw [h0, h1] at e0
    rw [h0, h2] at e1
    rw [h0, h1, h2] at e2
    exact ⟨e0, e1, e2, ha.1, ha.2.1, ha.2.2⟩

end Cert

end
-- ==== Proof.OutNorm.lean ====
/- The output product with the residual and its norm: the call mm_x1. -/
module

public import proofs.«01_k».proof.Defs
public import proofs.«01_k».proof.Proof.Gen.Kernel10Ideal.Value
public import proofs.«01_k».proof.Proof.Gen.Kernel10.Frame
public import proofs.«01_k».proof.Proof.Gen.Reference10Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel10Ideal.Whole

open Idealize.ShloMosaic Idealize.ShloMosaic.TcCoe Idealize.SL.Sem
open Idealize.ShloMosaic.Pipeline (Dat)
open Cert.Kernel10Ideal Cert.Kernel10Ideal.Gen
open scoped BigOperators

variable (m : (ℓ : Loc nD τ sig) → Buf (Elt Ideal) ℓ)

/-- the residual and the product -/
abbrev sum (a0 : FVec Ideal Cert.Reference10Ideal.S4096x1024 .bf16) (a1 : FVec Ideal Cert.Reference10Ideal.S1024x1024 .bf16) (a2 : FVec Ideal Cert.Reference10Ideal.S4096x1024 .f32) : FVec Ideal Cert.Reference10Ideal.S4096x1024 .f32 :=
  addf a2 (Host.dotGeneral Cert.Reference10Ideal.dot_S4096x1024_S1024x1024_S4096x1024_1_0_0_1_n_n none (extf .f32 a0 Cert.Reference10Ideal.Gen.bitsLt_bf16_f32) (extf .f32 a1
    Cert.Reference10Ideal.Gen.bitsLt_bf16_f32))

/-- its norm times the gain -/
abbrev normed (a0 : FVec Ideal Cert.Reference10Ideal.S4096x1024 .bf16) (a1 : FVec Ideal Cert.Reference10Ideal.S1024x1024 .bf16) (a2 : FVec Ideal Cert.Reference10Ideal.S4096x1024 .f32) (a3 : FVec Ideal Cert.Reference10Ideal.S1x1024 .f32) : FVec Ideal Cert.Reference10Ideal.S4096x1024 .bf16 :=
  truncf .bf16 (mulf (mulf (addf a2 (Host.dotGeneral Cert.Reference10Ideal.dot_S4096x1024_S1024x1024_S4096x1024_1_0_0_1_n_n none (extf .f32 a0 Cert.Reference10Ideal.Gen.bitsLt_bf16_f32) (extf .f32 a1
    Cert.Reference10Ideal.Gen.bitsLt_bf16_f32))) (broadcastInDim Cert.Reference10Ideal.S4096x1024 ![0, 1] Cert.Reference10Ideal.Gen.bcast_S4096x1_S4096x1024_0_1 (Host.rsqrt (addf (Host.divf
    (broadcastInDim Cert.Reference10Ideal.S4096x1 ![0] Cert.Reference10Ideal.Gen.bcast_S4096_S4096x1_0 (Host.reduceAdd (mulf (addf a2 (Host.dotGeneral
    Cert.Reference10Ideal.dot_S4096x1024_S1024x1024_S4096x1024_1_0_0_1_n_n none (extf .f32 a0 Cert.Reference10Ideal.Gen.bitsLt_bf16_f32) (extf .f32 a1 Cert.Reference10Ideal.Gen.bitsLt_bf16_f32)))
    (addf a2 (Host.dotGeneral Cert.Reference10Ideal.dot_S4096x1024_S1024x1024_S4096x1024_1_0_0_1_n_n none (extf .f32 a0 Cert.Reference10Ideal.Gen.bitsLt_bf16_f32) (extf .f32 a1
    Cert.Reference10Ideal.Gen.bitsLt_bf16_f32)))) (constant Cert.Reference10Ideal.S_ .f32 0x00000000#32) Cert.Reference10Ideal.Gen.reducesTo_S4096x1024_S4096_d1 Cert.Reference10Ideal.Gen.h_S_))
    (broadcastInDim Cert.Reference10Ideal.S4096x1 ![] Cert.Reference10Ideal.Gen.bcast_S_S4096x1 (constant Cert.Reference10Ideal.S_ .f32 0x44800000#32))) (broadcastInDim Cert.Reference10Ideal.S4096x1
    ![] Cert.Reference10Ideal.Gen.bcast_S_S4096x1 (constant Cert.Reference10Ideal.S_ .f32 0x358637BD#32)))))) (broadcastInDim Cert.Reference10Ideal.S4096x1024 ![0, 1]
    Cert.Reference10Ideal.Gen.bcast_S1x1024_S4096x1024_0_1 a3)) Cert.Reference10Ideal.Gen.bitsLt_bf16_f32

/-- Where each window sits at each grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

theorem point_4 (c : Dev nD) (t : Fin cfg0.N) (y) :
    k0_pay1 (iblk m c 0 t) (iblk m c 1 t) (iblk m c 2 t) y
      = sum (m ((c : Thread nD τ).loc main_arg0)) (m ((c : Thread nD τ).loc main_arg1)) (m ((c : Thread nD τ).loc main_arg2)) (((cfg0.win 4).blk t).view.emb y) := by
  pointwise [k0_pay1, sum]
  blk_point [iblk, V, idx_val t]

theorem final_4 (c : Dev nD) : (dats m 0 c).arrAt 4 (cfgs 0).N = sum (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

theorem point_5 (c : Dev nD) (t : Fin cfg0.N) (y) :
    k0_pay2 (iblk m c 0 t) (iblk m c 1 t) (iblk m c 2 t) (iblk m c 3 t) y
      = normed (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, normed]
  blk_point [iblk, V, idx_val t]

theorem final_5 (c : Dev nD) : (dats m 0 c).arrAt 5 (cfgs 0).N = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.Kernel10Ideal.Whole

namespace Cert

open Idealize.ShloMosaic Idealize.ShloMosaic.TcCoe Idealize.SL.Sem

theorem frame_kernel10 : @quiescent_Kernel10 Cert.Kernel10.Gen.facts := fun m ρ _ => Cert.Kernel10.Gen.frame m ρ

theorem frame_ideal10 : @quiescent_Kernel10Ideal Cert.Kernel10Ideal.Gen.facts := fun m ρ _ => Cert.Kernel10Ideal.Gen.frame m ρ

theorem frame_reference10 : @quiescent_Reference10Ideal Cert.Reference10Ideal.Gen.facts := fun m ρ _ =>
  (θ_run (Cert.Reference10Ideal.defs (F := Ideal)) _ _).mono
    (fun r h => ⟨fun c => ⟨(h c).2.2.1, (h c).2.2.2.1, (h c).2.2.2.2.1, (h c).2.2.2.2.2⟩, sem_eq_zero_of_no_sems rfl r.2⟩)
    (Cert.Reference10Ideal.Value.run (F := Ideal) m ρ)

theorem algebraic10 : @algebraic_Kernel10Ideal_Reference10Ideal Cert.Kernel10Ideal.Gen.facts Cert.Reference10Ideal.Gen.facts := by
  intro m g m' g' hp hm
  refine ⟨fun c => Cert.Kernel10Ideal.Whole.sum (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)), fun c => Cert.Kernel10Ideal.Whole.normed (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)), ?_, ?_⟩
  · refine (θ_run (Cert.Kernel10Ideal.defs (F := Ideal)) _ _).mono (fun r h c => ?_) (Cert.Kernel10Ideal.Value.run_blocks (F := Ideal) m g)
    obtain ⟨e0, e1, ha⟩ := h c
    exact ⟨e0.trans (Cert.Kernel10Ideal.Whole.final_4 m c), e1.trans (Cert.Kernel10Ideal.Whole.final_5 m c), ha.1, ha.2.1, ha.2.2.1, ha.2.2.2⟩
  · refine (θ_run (Cert.Reference10Ideal.defs (F := Ideal)) _ _).mono (fun r h c => ?_) (Cert.Reference10Ideal.Value.run (F := Ideal) m' g')
    obtain ⟨e0, e1, ha⟩ := h c
    obtain ⟨h0, h1, h2, h3⟩ := hm c
    rw [h0, h1, h2] at e0
    rw [h0, h1, h2, h3] at e1
    exact ⟨e0, e1, ha.1, ha.2.1, ha.2.2.1, ha.2.2.2⟩

end Cert

end
-- ==== Proof.GateBack.lean ====
/- The backward pass of the gated products: the call _swiglu_bwd. -/
module

public import proofs.«01_k».proof.Defs
public import proofs.«01_k».proof.Proof.Gen.Kernel2Ideal.Value
public import proofs.«01_k».proof.Proof.Gen.Kernel2.Frame
public import proofs.«01_k».proof.Proof.Gen.Reference2Ideal.Run
public import proofs.«01_k».proof.Proof.Tame
public import proofs.«01_k».proof.Proof.Gen.Pre_finite2
public import Idealize.ShloMosaic.Lib.Pipeline.ValueKit
public import Idealize.ShloMosaic.Lib.Pointwise
public import Idealize.ShloMosaic.Lib.Quiescent

@[expose] public section

set_option maxRecDepth 16384

noncomputable section

namespace Cert.Kernel2Ideal.Whole

open Idealize.ShloMosaic Idealize.ShloMosaic.TcCoe Idealize.SL.Sem
open Idealize.ShloMosaic.Pipeline (Dat)
open Cert.Kernel2Ideal Cert.Kernel2Ideal.Gen
open scoped BigOperators

variable (m : (ℓ : Loc nD τ sig) → Buf (Elt Ideal) ℓ)

/-- the gradient of the gate -/
abbrev dgate (a0 : FVec Ideal Cert.Reference2Ideal.S4096x1024 .f32) (a1 : FVec Ideal Cert.Reference2Ideal.S2816x1024 .bf16) (a2 : FVec Ideal Cert.Reference2Ideal.S4096x2816 .bf16) (a3 : FVec Ideal Cert.Reference2Ideal.S4096x2816 .bf16) : FVec Ideal Cert.Reference2Ideal.S4096x2816 .bf16 :=
  truncf .bf16 (addf (mulf (mulf (Host.dotGeneral Cert.Reference2Ideal.dot_S4096x1024_S2816x1024_S4096x2816_1_1_0_0_n_n none a0 (extf .f32 a1 Cert.Reference2Ideal.Gen.bitsLt_bf16_f32)) (extf .f32 a3
    Cert.Reference2Ideal.Gen.bitsLt_bf16_f32)) (Host.divf (broadcastInDim Cert.Reference2Ideal.S4096x2816 ![] Cert.Reference2Ideal.Gen.bcast_S_S4096x2816 (constant Cert.Reference2Ideal.S_ .f32
    0x3F800000#32)) (addf (broadcastInDim Cert.Reference2Ideal.S4096x2816 ![] Cert.Reference2Ideal.Gen.bcast_S_S4096x2816 (constant Cert.Reference2Ideal.S_ .f32 0x3F800000#32)) (Host.exp (Host.negf
    (extf .f32 a2 Cert.Reference2Ideal.Gen.bitsLt_bf16_f32)))))) (mulf (mulf (extf .f32 a2 Cert.Reference2Ideal.Gen.bitsLt_bf16_f32) (mulf (Host.dotGeneral
    Cert.Reference2Ideal.dot_S4096x1024_S2816x1024_S4096x2816_1_1_0_0_n_n none a0 (extf .f32 a1 Cert.Reference2Ideal.Gen.bitsLt_bf16_f32)) (extf .f32 a3 Cert.Reference2Ideal.Gen.bitsLt_bf16_f32)))
    (mulf (Host.divf (broadcastInDim Cert.Reference2Ideal.S4096x2816 ![] Cert.Reference2Ideal.Gen.bcast_S_S4096x2816 (constant Cert.Reference2Ideal.S_ .f32 0x3F800000#32)) (addf (broadcastInDim
    Cert.Reference2Ideal.S4096x2816 ![] Cert.Reference2Ideal.Gen.bcast_S_S4096x2816 (constant Cert.Reference2Ideal.S_ .f32 0x3F800000#32)) (Host.exp (Host.negf (extf .f32 a2
    Cert.Reference2Ideal.Gen.bitsLt_bf16_f32))))) (subf (broadcastInDim Cert.Reference2Ideal.S4096x2816 ![] Cert.Reference2Ideal.Gen.bcast_S_S4096x2816 (constant Cert.Reference2Ideal.S_ .f32
    0x3F800000#32)) (Host.divf (broadcastInDim Cert.Reference2Ideal.S4096x2816 ![] Cert.Reference2Ideal.Gen.bcast_S_S4096x2816 (constant Cert.Reference2Ideal.S_ .f32 0x3F800000#32)) (addf
    (broadcastInDim Cert.Reference2Ideal.S4096x2816 ![] Cert.Reference2Ideal.Gen.bcast_S_S4096x2816 (constant Cert.Reference2Ideal.S_ .f32 0x3F800000#32)) (Host.exp (Host.negf (extf .f32 a2
    Cert.Reference2Ideal.Gen.bitsLt_bf16_f32))))))))) Cert.Reference2Ideal.Gen.bitsLt_bf16_f32

/-- the gradient of the other product -/
abbrev dup (a0 : FVec Ideal Cert.Reference2Ideal.S4096x1024 .f32) (a1 : FVec Ideal Cert.Reference2Ideal.S2816x1024 .bf16) (a2 : FVec Ideal Cert.Reference2Ideal.S4096x2816 .bf16) : FVec Ideal Cert.Reference2Ideal.S4096x2816 .bf16 :=
  truncf .bf16 (mulf (mulf (extf .f32 a2 Cert.Reference2Ideal.Gen.bitsLt_bf16_f32) (Host.divf (broadcastInDim Cert.Reference2Ideal.S4096x2816 ![] Cert.Reference2Ideal.Gen.bcast_S_S4096x2816 (constant
    Cert.Reference2Ideal.S_ .f32 0x3F800000#32)) (addf (broadcastInDim Cert.Reference2Ideal.S4096x2816 ![] Cert.Reference2Ideal.Gen.bcast_S_S4096x2816 (constant Cert.Reference2Ideal.S_ .f32
    0x3F800000#32)) (Host.exp (Host.negf (extf .f32 a2 Cert.Reference2Ideal.Gen.bitsLt_bf16_f32)))))) (Host.dotGeneral Cert.Reference2Ideal.dot_S4096x1024_S2816x1024_S4096x2816_1_1_0_0_n_n none a0
    (extf .f32 a1 Cert.Reference2Ideal.Gen.bitsLt_bf16_f32))) Cert.Reference2Ideal.Gen.bitsLt_bf16_f32

/-- Where each window sits at each grid point. -/
theorem idx_val : ∀ t : Fin cfg0.N, win0_0.index t = ![t.val % 8, 0]
    ∧ win0_1.index t = ![t.val / 8, 0]
    ∧ win0_2.index t = ![t.val % 8, t.val / 8]
    ∧ win0_3.index t = ![t.val % 8, t.val / 8]
    ∧ win0_4.index t = ![t.val % 8, t.val / 8]
    ∧ win0_5.index t = ![t.val % 8, t.val / 8] :=
  (by decide +kernel : ∀ t : Fin grid0.N, _)

theorem top_exp : Ideal.exp (⊤ : EReal) = ⊤ := rfl
theorem bot_exp : Ideal.exp (⊥ : EReal) = 0 := rfl
theorem one_add_top : 1 + (⊤ : EReal) = ⊤ := by rw [← EReal.coe_one]; exact EReal.coe_add_top 1
theorem div_top : Ideal.div 1 (⊤ : EReal) = 0 := by simp [Ideal.div]
theorem div_one : Ideal.div 1 (1 : EReal) = 1 := by simp [Ideal.div]

/-- The derivative of the gate in its two forms: where the factor before it is a real number they agree, at the infinities too. -/
theorem slope (q : ℝ) (a : EReal) : (q : EReal) * Ideal.div 1 (1 + Ideal.exp (-a)) * (1 + a * (1 - Ideal.div 1 (1 + Ideal.exp (-a))))
    = (q : EReal) * Ideal.div 1 (1 + Ideal.exp (-a)) + a * (q : EReal) * (Ideal.div 1 (1 + Ideal.exp (-a)) * (1 - Ideal.div 1 (1 + Ideal.exp (-a)))) := by
  induction a using EReal.rec with
  | bot => simp [top_exp, one_add_top, div_top]
  | top =>
    have h : (1 : EReal) - 1 = 0 := by rw [← EReal.coe_one, ← EReal.coe_sub]; simp
    simp [bot_exp, div_one, h]
  | coe a =>
    rw [Cert.Real.sg_coe, ← EReal.coe_one]
    simp only [← EReal.coe_mul, ← EReal.coe_add, ← EReal.coe_sub]
    exact congrArg _ (by ring)

/-- The arguments the first result needs to be real numbers. -/
def Tame (c : Dev nD) : Prop :=
  (∀ i, (m ((c : Thread nD τ).loc main_arg0) i : EReal) = (((m ((c : Thread nD τ).loc main_arg0) i : EReal).toReal : ℝ) : EReal))
  ∧ (∀ i, (m ((c : Thread nD τ).loc main_arg1) i : EReal) = (((m ((c : Thread nD τ).loc main_arg1) i : EReal).toReal : ℝ) : EReal))
  ∧ (∀ i, (m ((c : Thread nD τ).loc main_arg3) i : EReal) = (((m ((c : Thread nD τ).loc main_arg3) i : EReal).toReal : ℝ) : EReal))

/-- A sum of products of real numbers, times one more, is a real number. -/
theorem real_mul {ι : Type*} [Fintype ι] (f g : ι → EReal) (b : EReal) (hf : ∀ i, f i = ((f i).toReal : ℝ)) (hg : ∀ i, g i = ((g i).toReal : ℝ)) (hb : b = (b.toReal : ℝ)) :
    (∑ i, f i * g i) * b = (((∑ i, (f i).toReal * (g i).toReal) * b.toReal : ℝ) : EReal) := by
  rw [EReal.coe_mul, ← hb, ← Cert.Real.sum_coe]
  exact congrArg (fun x : EReal => x * b) (Finset.sum_congr rfl fun i _ => by rw [EReal.coe_mul, ← hf, ← hg])

theorem point_4 (c : Dev nD) (t : Fin cfg0.N) (y) :
    Tame m c → k0_pay4 (iblk m c 0 t) (iblk m c 1 t) (iblk m c 2 t) (iblk m c 3 t) y
      = dgate (m ((c : Thread nD τ).loc main_arg0)) (m ((c : Thread nD τ).loc main_arg1)) (m ((c : Thread nD τ).loc main_arg2)) (m ((c : Thread nD τ).loc main_arg3)) (((cfg0.win 4).blk t).view.emb y) := by
  intro h
  pointwise [k0_pay1, k0_pay2, k0_pay3, k0_pay4, zero_sub, dgate]
  refine Eq.trans ?_ ((congrArg (fun q : EReal => q * _ * _) (real_mul _ _ _ (fun _ => h.1 _) (fun _ => h.2.1 _) (h.2.2 _))).trans ((slope _ _).trans
    (congrArg (fun q : EReal => q * _ + _ * q * _) (real_mul _ _ _ (fun _ => h.1 _) (fun _ => h.2.1 _) (h.2.2 _)).symm)))
  blk_point [iblk, V, idx_val t]

theorem final_4 (c : Dev nD) (h : Tame m c) : (dats m 0 c).arrAt 4 (cfgs 0).N = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y h

theorem point_5 (c : Dev nD) (t : Fin cfg0.N) (y) :
    k0_pay5 (iblk m c 0 t) (iblk m c 1 t) (iblk m c 2 t) y
      = dup (m ((c : Thread nD τ).loc main_arg0)) (m ((c : Thread nD τ).loc main_arg1)) (m ((c : Thread nD τ).loc main_arg2)) (((cfg0.win 5).blk t).view.emb y) := by
  pointwise [k0_pay1, k0_pay2, k0_pay3, k0_pay5, zero_sub, dup]
  refine (mul_assoc _ _ _).trans ((mul_comm _ _).trans ?_)
  blk_point [iblk, V, idx_val t]

theorem final_5 (c : Dev nD) : (dats m 0 c).arrAt 5 (cfgs 0).N = dup (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

end Cert.Kernel2Ideal.Whole

namespace Cert

open Idealize.ShloMosaic Idealize.ShloMosaic.TcCoe Idealize.SL.Sem

theorem frame_kernel2 : @quiescent_Kernel2 Cert.Kernel2.Gen.facts := fun m ρ _ => Cert.Kernel2.Gen.frame m ρ

theorem frame_ideal2 : @quiescent_Kernel2Ideal Cert.Kernel2Ideal.Gen.facts := fun m ρ _ => Cert.Kernel2Ideal.Gen.frame m ρ

theorem frame_reference2 : @quiescent_Reference2Ideal Cert.Reference2Ideal.Gen.facts := fun m ρ _ =>
  (θ_run (Cert.Reference2Ideal.defs (F := Ideal)) _ _).mono
    (fun r h => ⟨fun c => ⟨(h c).2.2.1, (h c).2.2.2.1, (h c).2.2.2.2.1, (h c).2.2.2.2.2⟩, sem_eq_zero_of_no_sems rfl r.2⟩)
    (Cert.Reference2Ideal.Value.run (F := Ideal) m ρ)

theorem frame_ideal2_finite : @quiescent_Kernel2Ideal_pre_finite2 Cert.Kernel2Ideal.Gen.facts Cert.Pre_finite2.Gen.facts := fun m ρ _ => Cert.Kernel2Ideal.Gen.frame m ρ

theorem frame_reference2_finite : @quiescent_Reference2Ideal_pre_finite2 Cert.Reference2Ideal.Gen.facts Cert.Pre_finite2.Gen.facts := fun m ρ _ => frame_reference2 m ρ trivial

theorem tame_of (m : (ℓ : Loc Cert.Kernel2Ideal.nD Cert.Kernel2Ideal.τ Cert.Kernel2Ideal.sig) → Buf (Elt Ideal) ℓ) (hp : Pre_Kernel2Ideal_finite2 (hPre_finite2 := Cert.Pre_finite2.Gen.facts) m)
    (c : Dev Cert.Kernel2Ideal.nD) : Cert.Kernel2Ideal.Whole.Tame m c := by
  haveI := Cert.Pre_finite2.Gen.facts
  haveI : Subsingleton Cert.Pre_finite2.S_.Idx := ⟨fun _ _ => funext fun a => a.elim0⟩
  obtain ⟨e1, e2⟩ := IntOp.andi_eq_one.1 (congrFun (hp c) ix0)
  obtain ⟨e3, e4⟩ := IntOp.andi_eq_one.1 e1
  have f0 := Host.reduce_andi_all _ _ _ _ _ e3
  have f1 := Host.reduce_andi_all _ _ _ _ _ e4
  have f3 := Host.reduce_andi_all _ _ _ _ _ e2
  exact ⟨fun i => Cert.Tame.finite_of _ (f0 i), fun i => Cert.Tame.finite_of _ (f1 i), fun i => Cert.Tame.finite_of _ (f3 i)⟩

theorem algebraic2 : @algebraic_Kernel2Ideal_Reference2Ideal_pre_finite2 Cert.Kernel2Ideal.Gen.facts Cert.Reference2Ideal.Gen.facts Cert.Pre_finite2.Gen.facts := by
  intro m g m' g' hp hm
  refine ⟨fun c => Cert.Kernel2Ideal.Whole.dgate (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.Kernel2Ideal.Whole.dup (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run (Cert.Kernel2Ideal.defs (F := Ideal)) _ _).mono (fun r h c => ?_) (Cert.Kernel2Ideal.Value.run_blocks (F := Ideal) m g)
    obtain ⟨e0, e1, ha⟩ := h c
    exact ⟨e0.trans (Cert.Kernel2Ideal.Whole.final_4 m c (tame_of m hp c)), e1.trans (Cert.Kernel2Ideal.Whole.final_5 m c), ha.1, ha.2.1, ha.2.2.1, ha.2.2.2⟩
  · refine (θ_run (Cert.Reference2Ideal.defs (F := Ideal)) _ _).mono (fun r h c => ?_) (Cert.Reference2Ideal.Value.run (F := Ideal) m' g')
    obtain ⟨e0, e1, ha⟩ := h c
    obtain ⟨h0, h1, h2, h3⟩ := hm c
    rw [h0, h1, h2, h3] at e0
    rw [h0, h1, h2] at e1
    exact ⟨e0, e1, ha.1, ha.2.1, ha.2.2.1, ha.2.2.2⟩

end Cert

end
-- ==== Proof.GateWeight.lean ====
/- The gradient of the weights of the gate: the call mm_dw_ffn_gate. -/
module

public import proofs.«01_k».proof.Defs
public import proofs.«01_k».proof.Proof.Gen.Kernel4Ideal.Value
public import proofs.«01_k».proof.Proof.Gen.Kernel4.Frame
public import proofs.«01_k».proof.Proof.Gen.Reference4Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel4Ideal.Whole

open Idealize.ShloMosaic Idealize.ShloMosaic.TcCoe Idealize.SL.Sem
open Idealize.ShloMosaic.Pipeline (Dat)
open Cert.Kernel4Ideal Cert.Kernel4Ideal.Gen
open scoped BigOperators

variable (m : (ℓ : Loc nD τ sig) → Buf (Elt Ideal) ℓ)

/-- the gradient of the weights, stored transposed -/
abbrev weight (a0 : FVec Ideal Cert.Reference4Ideal.S4096x2816 .bf16) (a1 : FVec Ideal Cert.Reference4Ideal.S4096x1024 .bf16) : FVec Ideal Cert.Reference4Ideal.S2816x1024 .bf16 :=
  truncf .bf16 (transpose Cert.Reference4Ideal.S2816x1024 [1, 0] (transpose Cert.Reference4Ideal.S1024x2816 [1, 0] (Host.dotGeneral
    Cert.Reference4Ideal.dot_S4096x2816_S4096x1024_S2816x1024_0_0_1_1_n_n none (extf .f32 a0 Cert.Reference4Ideal.Gen.bitsLt_bf16_f32) (extf .f32 a1 Cert.Reference4Ideal.Gen.bitsLt_bf16_f32))
    Cert.Reference4Ideal.Gen.transposes_S2816x1024_S1024x2816_1_0) Cert.Reference4Ideal.Gen.transposes_S1024x2816_S2816x1024_1_0) Cert.Reference4Ideal.Gen.bitsLt_bf16_f32

/-- Where each window sits at each grid point. -/
theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · blk_point [iblk, V, idx_val s, hm, hd, idx_val t, ht, Fin.val_castAdd]
  · blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel4Ideal.Whole

namespace Cert

open Idealize.ShloMosaic Idealize.ShloMosaic.TcCoe Idealize.SL.Sem

theorem frame_kernel4 : @quiescent_Kernel4 Cert.Kernel4.Gen.facts := fun m ρ _ => Cert.Kernel4.Gen.frame m ρ

theorem frame_ideal4 : @quiescent_Kernel4Ideal Cert.Kernel4Ideal.Gen.facts := fun m ρ _ => Cert.Kernel4Ideal.Gen.frame m ρ

theorem frame_reference4 : @quiescent_Reference4Ideal Cert.Reference4Ideal.Gen.facts := fun m ρ _ =>
  (θ_run (Cert.Reference4Ideal.defs (F := Ideal)) _ _).mono
    (fun r h => ⟨fun c => ⟨(h c).2.1, (h c).2.2⟩, sem_eq_zero_of_no_sems rfl r.2⟩)
    (Cert.Reference4Ideal.Value.run (F := Ideal) m ρ)

theorem algebraic4 : @algebraic_Kernel4Ideal_Reference4Ideal Cert.Kernel4Ideal.Gen.facts Cert.Reference4Ideal.Gen.facts := by
  intro m g m' g' hp hm
  refine ⟨fun c => Cert.Kernel4Ideal.Whole.weight (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run (Cert.Kernel4Ideal.defs (F := Ideal)) _ _).mono (fun r h c => ?_) (Cert.Kernel4Ideal.Value.run_blocks (F := Ideal) m g)
    obtain ⟨e0, ha⟩ := h c
    exact ⟨e0.trans (Cert.Kernel4Ideal.Whole.final_2 m c), ha.1, ha.2⟩
  · refine (θ_run (Cert.Reference4Ideal.defs (F := Ideal)) _ _).mono (fun r h c => ?_) (Cert.Reference4Ideal.Value.run (F := Ideal) m' g')
    obtain ⟨e0, ha⟩ := h c
    obtain ⟨h0, h1⟩ := hm c
    rw [h0, h1] at e0
    exact ⟨e0, ha.1, ha.2⟩

end Cert

end
-- ==== Proof.DownWeight.lean ====
/- The gradient of the down weights: the call mm_dw_ffn_down. -/
module

public import proofs.«01_k».proof.Defs
public import proofs.«01_k».proof.Proof.Gen.Kernel5Ideal.Value
public import proofs.«01_k».proof.Proof.Gen.Kernel5.Frame
public import proofs.«01_k».proof.Proof.Gen.Reference5Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel5Ideal.Whole

open Idealize.ShloMosaic Idealize.ShloMosaic.TcCoe Idealize.SL.Sem
open Idealize.ShloMosaic.Pipeline (Dat)
open Cert.Kernel5Ideal Cert.Kernel5Ideal.Gen
open scoped BigOperators

variable (m : (ℓ : Loc nD τ sig) → Buf (Elt Ideal) ℓ)

/-- the gradient of the weights -/
abbrev weight (a0 : FVec Ideal Cert.Reference5Ideal.S4096x2816 .bf16) (a1 : FVec Ideal Cert.Reference5Ideal.S4096x1024 .f32) : FVec Ideal Cert.Reference5Ideal.S2816x1024 .bf16 :=
  truncf .bf16 (transpose Cert.Reference5Ideal.S2816x1024 [1, 0] (Host.dotGeneral Cert.Reference5Ideal.dot_S4096x1024_S4096x2816_S1024x2816_0_0_1_1_n_n none a1 (extf .f32 a0
    Cert.Reference5Ideal.Gen.bitsLt_bf16_f32)) Cert.Reference5Ideal.Gen.transposes_S1024x2816_S2816x1024_1_0) Cert.Reference5Ideal.Gen.bitsLt_bf16_f32

/-- Where each window sits at each grid point. -/
theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · refine (mul_comm _ _).trans ?_; blk_point [iblk, V, idx_val s, hm, hd, idx_val t, ht, Fin.val_castAdd]
  · refine (mul_comm _ _).trans ?_; blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel5Ideal.Whole

namespace Cert

open Idealize.ShloMosaic Idealize.ShloMosaic.TcCoe Idealize.SL.Sem

theorem frame_kernel5 : @quiescent_Kernel5 Cert.Kernel5.Gen.facts := fun m ρ _ => Cert.Kernel5.Gen.frame m ρ

theorem frame_ideal5 : @quiescent_Kernel5Ideal Cert.Kernel5Ideal.Gen.facts := fun m ρ _ => Cert.Kernel5Ideal.Gen.frame m ρ

theorem frame_reference5 : @quiescent_Reference5Ideal Cert.Reference5Ideal.Gen.facts := fun m ρ _ =>
  (θ_run (Cert.Reference5Ideal.defs (F := Ideal)) _ _).mono
    (fun r h => ⟨fun c => ⟨(h c).2.1, (h c).2.2⟩, sem_eq_zero_of_no_sems rfl r.2⟩)
    (Cert.Reference5Ideal.Value.run (F := Ideal) m ρ)

theorem algebraic5 : @algebraic_Kernel5Ideal_Reference5Ideal Cert.Kernel5Ideal.Gen.facts Cert.Reference5Ideal.Gen.facts := by
  intro m g m' g' hp hm
  refine ⟨fun c => Cert.Kernel5Ideal.Whole.weight (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run (Cert.Kernel5Ideal.defs (F := Ideal)) _ _).mono (fun r h c => ?_) (Cert.Kernel5Ideal.Value.run_blocks (F := Ideal) m g)
    obtain ⟨e0, ha⟩ := h c
    exact ⟨e0.trans (Cert.Kernel5Ideal.Whole.final_2 m c), ha.1, ha.2⟩
  · refine (θ_run (Cert.Reference5Ideal.defs (F := Ideal)) _ _).mono (fun r h c => ?_) (Cert.Reference5Ideal.Value.run (F := Ideal) m' g')
    obtain ⟨e0, ha⟩ := h c
    obtain ⟨h0, h1⟩ := hm c
    rw [h0, h1] at e0
    exact ⟨e0, ha.1, ha.2⟩

end Cert

end
-- ==== Proof.InWeight.lean ====
/- The gradient of the input weights: the call mm_dw_in. -/
module

public import proofs.«01_k».proof.Defs
public import proofs.«01_k».proof.Proof.Gen.Kernel6Ideal.Value
public import proofs.«01_k».proof.Proof.Gen.Kernel6.Frame
public import proofs.«01_k».proof.Proof.Gen.Reference6Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel6Ideal.Whole

open Idealize.ShloMosaic Idealize.ShloMosaic.TcCoe Idealize.SL.Sem
open Idealize.ShloMosaic.Pipeline (Dat)
open Cert.Kernel6Ideal Cert.Kernel6Ideal.Gen
open scoped BigOperators

variable (m : (ℓ : Loc nD τ sig) → Buf (Elt Ideal) ℓ)

/-- the gradient of the weights, stored transposed -/
abbrev weight (a0 : FVec Ideal Cert.Reference6Ideal.S4096x6144 .bf16) (a1 : FVec Ideal Cert.Reference6Ideal.S4096x1024 .bf16) : FVec Ideal Cert.Reference6Ideal.S6144x1024 .bf16 :=
  truncf .bf16 (transpose Cert.Reference6Ideal.S6144x1024 [1, 0] (transpose Cert.Reference6Ideal.S1024x6144 [1, 0] (Host.dotGeneral
    Cert.Reference6Ideal.dot_S4096x6144_S4096x1024_S6144x1024_0_0_1_1_n_n none (extf .f32 a0 Cert.Reference6Ideal.Gen.bitsLt_bf16_f32) (extf .f32 a1 Cert.Reference6Ideal.Gen.bitsLt_bf16_f32))
    Cert.Reference6Ideal.Gen.transposes_S6144x1024_S1024x6144_1_0) Cert.Reference6Ideal.Gen.transposes_S1024x6144_S6144x1024_1_0) Cert.Reference6Ideal.Gen.bitsLt_bf16_f32

/-- Where each window sits at each grid point. -/
theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · blk_point [iblk, V, idx_val s, hm, hd, idx_val t, ht, Fin.val_castAdd]
  · blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel6Ideal.Whole

namespace Cert

open Idealize.ShloMosaic Idealize.ShloMosaic.TcCoe Idealize.SL.Sem

theorem frame_kernel6 : @quiescent_Kernel6 Cert.Kernel6.Gen.facts := fun m ρ _ => Cert.Kernel6.Gen.frame m ρ

theorem frame_ideal6 : @quiescent_Kernel6Ideal Cert.Kernel6Ideal.Gen.facts := fun m ρ _ => Cert.Kernel6Ideal.Gen.frame m ρ

theorem frame_reference6 : @quiescent_Reference6Ideal Cert.Reference6Ideal.Gen.facts := fun m ρ _ =>
  (θ_run (Cert.Reference6Ideal.defs (F := Ideal)) _ _).mono
    (fun r h => ⟨fun c => ⟨(h c).2.1, (h c).2.2⟩, sem_eq_zero_of_no_sems rfl r.2⟩)
    (Cert.Reference6Ideal.Value.run (F := Ideal) m ρ)

theorem algebraic6 : @algebraic_Kernel6Ideal_Reference6Ideal Cert.Kernel6Ideal.Gen.facts Cert.Reference6Ideal.Gen.facts := by
  intro m g m' g' hp hm
  refine ⟨fun c => Cert.Kernel6Ideal.Whole.weight (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run (Cert.Kernel6Ideal.defs (F := Ideal)) _ _).mono (fun r h c => ?_) (Cert.Kernel6Ideal.Value.run_blocks (F := Ideal) m g)
    obtain ⟨e0, ha⟩ := h c
    exact ⟨e0.trans (Cert.Kernel6Ideal.Whole.final_2 m c), ha.1, ha.2⟩
  · refine (θ_run (Cert.Reference6Ideal.defs (F := Ideal)) _ _).mono (fun r h c => ?_) (Cert.Reference6Ideal.Value.run (F := Ideal) m' g')
    obtain ⟨e0, ha⟩ := h c
    obtain ⟨h0, h1⟩ := hm c
    rw [h0, h1] at e0
    exact ⟨e0, ha.1, ha.2⟩

end Cert

end
-- ==== Proof.NormBack.lean ====
/- The gradient of the norm after the product with the other weights: the call mm_dx1. -/
module

public import proofs.«01_k».proof.Defs
public import proofs.«01_k».proof.Proof.Gen.Kernel8Ideal.Value
public import proofs.«01_k».proof.Proof.Gen.Kernel8.Frame
public import proofs.«01_k».proof.Proof.Gen.Reference8Ideal.Run
public import proofs.«01_k».proof.Proof.Host
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel8Ideal.Whole

open Idealize.ShloMosaic Idealize.ShloMosaic.TcCoe Idealize.SL.Sem
open Idealize.ShloMosaic.Pipeline (Dat)
open Cert.Kernel8Ideal Cert.Kernel8Ideal.Gen
open scoped BigOperators

variable (m : (ℓ : Loc nD τ sig) → Buf (Elt Ideal) ℓ)

/-- the gradient of the norm, and the residual -/
abbrev dx (a0 : FVec Ideal Cert.Reference8Ideal.S4096x2816 .bf16) (a1 : FVec Ideal Cert.Reference8Ideal.S2816x1024 .bf16) (a2 : FVec Ideal Cert.Reference8Ideal.S4096x1024 .f32) (a3 : FVec Ideal Cert.Reference8Ideal.S4096x1024 .f32) (a4 : FVec Ideal Cert.Reference8Ideal.S1x1024 .f32) (a5 : FVec Ideal Cert.Reference8Ideal.S4096x1024 .f32) : FVec Ideal Cert.Reference8Ideal.S4096x1024 .f32 :=
  addf (addf (addf a5 (mulf (mulf (addf a2 (Host.dotGeneral Cert.Reference8Ideal.dot_S4096x2816_S1024x2816_S4096x1024_1_1_0_0_n_n none (extf .f32 a0 Cert.Reference8Ideal.Gen.bitsLt_bf16_f32)
    (transpose Cert.Reference8Ideal.S1024x2816 [1, 0] (extf .f32 a1 Cert.Reference8Ideal.Gen.bitsLt_bf16_f32) Cert.Reference8Ideal.Gen.transposes_S2816x1024_S1024x2816_1_0))) (broadcastInDim
    Cert.Reference8Ideal.S4096x1024 ![0, 1] Cert.Reference8Ideal.Gen.bcast_S1x1024_S4096x1024_0_1 a4)) (broadcastInDim Cert.Reference8Ideal.S4096x1024 ![0, 1]
    Cert.Reference8Ideal.Gen.bcast_S4096x1_S4096x1024_0_1 (Host.rsqrt (addf (Host.divf (broadcastInDim Cert.Reference8Ideal.S4096x1 ![0] Cert.Reference8Ideal.Gen.bcast_S4096_S4096x1_0 (Host.reduceAdd
    (mulf a3 a3) (constant Cert.Reference8Ideal.S_ .f32 0x00000000#32) Cert.Reference8Ideal.Gen.reducesTo_S4096x1024_S4096_d1 Cert.Reference8Ideal.Gen.h_S_)) (broadcastInDim
    Cert.Reference8Ideal.S4096x1 ![] Cert.Reference8Ideal.Gen.bcast_S_S4096x1 (constant Cert.Reference8Ideal.S_ .f32 0x44800000#32))) (broadcastInDim Cert.Reference8Ideal.S4096x1 ![]
    Cert.Reference8Ideal.Gen.bcast_S_S4096x1 (constant Cert.Reference8Ideal.S_ .f32 0x358637BD#32))))))) (mulf a3 (broadcastInDim Cert.Reference8Ideal.S4096x1024 ![0]
    Cert.Reference8Ideal.Gen.bcast_S4096_S4096x1024_0 (Host.reduceAdd (Host.divf (mulf (shapeCast _ (Host.reduceAdd (mulf a3 (mulf (addf a2 (Host.dotGeneral
    Cert.Reference8Ideal.dot_S4096x2816_S1024x2816_S4096x1024_1_1_0_0_n_n none (extf .f32 a0 Cert.Reference8Ideal.Gen.bitsLt_bf16_f32) (transpose Cert.Reference8Ideal.S1024x2816 [1, 0] (extf .f32 a1
    Cert.Reference8Ideal.Gen.bitsLt_bf16_f32) Cert.Reference8Ideal.Gen.transposes_S2816x1024_S1024x2816_1_0))) (broadcastInDim Cert.Reference8Ideal.S4096x1024 ![0, 1]
    Cert.Reference8Ideal.Gen.bcast_S1x1024_S4096x1024_0_1 a4))) (constant Cert.Reference8Ideal.S_ .f32 0x00000000#32) Cert.Reference8Ideal.Gen.reducesTo_S4096x1024_S4096_d1
    Cert.Reference8Ideal.Gen.h_S_) Cert.Reference8Ideal.Gen.shapeCasts_S4096_S4096x1) (mulf (broadcastInDim Cert.Reference8Ideal.S4096x1 ![] Cert.Reference8Ideal.Gen.bcast_S_S4096x1 (constant
    Cert.Reference8Ideal.S_ .f32 0xBF000000#32)) (Host.divf (Host.rsqrt (addf (Host.divf (broadcastInDim Cert.Reference8Ideal.S4096x1 ![0] Cert.Reference8Ideal.Gen.bcast_S4096_S4096x1_0
    (Host.reduceAdd (mulf a3 a3) (constant Cert.Reference8Ideal.S_ .f32 0x00000000#32) Cert.Reference8Ideal.Gen.reducesTo_S4096x1024_S4096_d1 Cert.Reference8Ideal.Gen.h_S_)) (broadcastInDim
    Cert.Reference8Ideal.S4096x1 ![] Cert.Reference8Ideal.Gen.bcast_S_S4096x1 (constant Cert.Reference8Ideal.S_ .f32 0x44800000#32))) (broadcastInDim Cert.Reference8Ideal.S4096x1 ![]
    Cert.Reference8Ideal.Gen.bcast_S_S4096x1 (constant Cert.Reference8Ideal.S_ .f32 0x358637BD#32)))) (addf (Host.divf (broadcastInDim Cert.Reference8Ideal.S4096x1 ![0]
    Cert.Reference8Ideal.Gen.bcast_S4096_S4096x1_0 (Host.reduceAdd (mulf a3 a3) (constant Cert.Reference8Ideal.S_ .f32 0x00000000#32) Cert.Reference8Ideal.Gen.reducesTo_S4096x1024_S4096_d1
    Cert.Reference8Ideal.Gen.h_S_)) (broadcastInDim Cert.Reference8Ideal.S4096x1 ![] Cert.Reference8Ideal.Gen.bcast_S_S4096x1 (constant Cert.Reference8Ideal.S_ .f32 0x44800000#32))) (broadcastInDim
    Cert.Reference8Ideal.S4096x1 ![] Cert.Reference8Ideal.Gen.bcast_S_S4096x1 (constant Cert.Reference8Ideal.S_ .f32 0x358637BD#32)))))) (broadcastInDim Cert.Reference8Ideal.S4096x1 ![]
    Cert.Reference8Ideal.Gen.bcast_S_S4096x1 (constant Cert.Reference8Ideal.S_ .f32 0x44800000#32))) (constant Cert.Reference8Ideal.S_ .f32 0x00000000#32)
    Cert.Reference8Ideal.Gen.reducesTo_S4096x1_S4096_d1 Cert.Reference8Ideal.Gen.h_S_)))) (mulf (broadcastInDim Cert.Reference8Ideal.S4096x1024 ![0] Cert.Reference8Ideal.Gen.bcast_S4096_S4096x1024_0
    (Host.reduceAdd (Host.divf (mulf (shapeCast _ (Host.reduceAdd (mulf a3 (mulf (addf a2 (Host.dotGeneral Cert.Reference8Ideal.dot_S4096x2816_S1024x2816_S4096x1024_1_1_0_0_n_n none (extf .f32 a0
    Cert.Reference8Ideal.Gen.bitsLt_bf16_f32) (transpose Cert.Reference8Ideal.S1024x2816 [1, 0] (extf .f32 a1 Cert.Reference8Ideal.Gen.bitsLt_bf16_f32)
    Cert.Reference8Ideal.Gen.transposes_S2816x1024_S1024x2816_1_0))) (broadcastInDim Cert.Reference8Ideal.S4096x1024 ![0, 1] Cert.Reference8Ideal.Gen.bcast_S1x1024_S4096x1024_0_1 a4))) (constant
    Cert.Reference8Ideal.S_ .f32 0x00000000#32) Cert.Reference8Ideal.Gen.reducesTo_S4096x1024_S4096_d1 Cert.Reference8Ideal.Gen.h_S_) Cert.Reference8Ideal.Gen.shapeCasts_S4096_S4096x1) (mulf
    (broadcastInDim Cert.Reference8Ideal.S4096x1 ![] Cert.Reference8Ideal.Gen.bcast_S_S4096x1 (constant Cert.Reference8Ideal.S_ .f32 0xBF000000#32)) (Host.divf (Host.rsqrt (addf (Host.divf
    (broadcastInDim Cert.Reference8Ideal.S4096x1 ![0] Cert.Reference8Ideal.Gen.bcast_S4096_S4096x1_0 (Host.reduceAdd (mulf a3 a3) (constant Cert.Reference8Ideal.S_ .f32 0x00000000#32)
    Cert.Reference8Ideal.Gen.reducesTo_S4096x1024_S4096_d1 Cert.Reference8Ideal.Gen.h_S_)) (broadcastInDim Cert.Reference8Ideal.S4096x1 ![] Cert.Reference8Ideal.Gen.bcast_S_S4096x1 (constant
    Cert.Reference8Ideal.S_ .f32 0x44800000#32))) (broadcastInDim Cert.Reference8Ideal.S4096x1 ![] Cert.Reference8Ideal.Gen.bcast_S_S4096x1 (constant Cert.Reference8Ideal.S_ .f32 0x358637BD#32))))
    (addf (Host.divf (broadcastInDim Cert.Reference8Ideal.S4096x1 ![0] Cert.Reference8Ideal.Gen.bcast_S4096_S4096x1_0 (Host.reduceAdd (mulf a3 a3) (constant Cert.Reference8Ideal.S_ .f32 0x00000000#32)
    Cert.Reference8Ideal.Gen.reducesTo_S4096x1024_S4096_d1 Cert.Reference8Ideal.Gen.h_S_)) (broadcastInDim Cert.Reference8Ideal.S4096x1 ![] Cert.Reference8Ideal.Gen.bcast_S_S4096x1 (constant
    Cert.Reference8Ideal.S_ .f32 0x44800000#32))) (broadcastInDim Cert.Reference8Ideal.S4096x1 ![] Cert.Reference8Ideal.Gen.bcast_S_S4096x1 (constant Cert.Reference8Ideal.S_ .f32 0x358637BD#32))))))
    (broadcastInDim Cert.Reference8Ideal.S4096x1 ![] Cert.Reference8Ideal.Gen.bcast_S_S4096x1 (constant Cert.Reference8Ideal.S_ .f32 0x44800000#32))) (constant Cert.Reference8Ideal.S_ .f32
    0x00000000#32) Cert.Reference8Ideal.Gen.reducesTo_S4096x1_S4096_d1 Cert.Reference8Ideal.Gen.h_S_)) a3)

/-- the gradient of the gain of the norm -/
abbrev dgain (a0 : FVec Ideal Cert.Reference8Ideal.S4096x2816 .bf16) (a1 : FVec Ideal Cert.Reference8Ideal.S2816x1024 .bf16) (a2 : FVec Ideal Cert.Reference8Ideal.S4096x1024 .f32) (a3 : FVec Ideal Cert.Reference8Ideal.S4096x1024 .f32) : FVec Ideal Cert.Reference8Ideal.S1x1024 .f32 :=
  shapeCast _ (Host.reduceAdd (mulf (mulf a3 (broadcastInDim Cert.Reference8Ideal.S4096x1024 ![0, 1] Cert.Reference8Ideal.Gen.bcast_S4096x1_S4096x1024_0_1 (Host.rsqrt (addf (Host.divf (broadcastInDim
    Cert.Reference8Ideal.S4096x1 ![0] Cert.Reference8Ideal.Gen.bcast_S4096_S4096x1_0 (Host.reduceAdd (mulf a3 a3) (constant Cert.Reference8Ideal.S_ .f32 0x00000000#32)
    Cert.Reference8Ideal.Gen.reducesTo_S4096x1024_S4096_d1 Cert.Reference8Ideal.Gen.h_S_)) (broadcastInDim Cert.Reference8Ideal.S4096x1 ![] Cert.Reference8Ideal.Gen.bcast_S_S4096x1 (constant
    Cert.Reference8Ideal.S_ .f32 0x44800000#32))) (broadcastInDim Cert.Reference8Ideal.S4096x1 ![] Cert.Reference8Ideal.Gen.bcast_S_S4096x1 (constant Cert.Reference8Ideal.S_ .f32 0x358637BD#32))))))
    (addf a2 (Host.dotGeneral Cert.Reference8Ideal.dot_S4096x2816_S1024x2816_S4096x1024_1_1_0_0_n_n none (extf .f32 a0 Cert.Reference8Ideal.Gen.bitsLt_bf16_f32) (transpose
    Cert.Reference8Ideal.S1024x2816 [1, 0] (extf .f32 a1 Cert.Reference8Ideal.Gen.bitsLt_bf16_f32) Cert.Reference8Ideal.Gen.transposes_S2816x1024_S1024x2816_1_0)))) (constant Cert.Reference8Ideal.S_
    .f32 0x00000000#32) Cert.Reference8Ideal.Gen.reducesTo_S4096x1024_S1024_d0 Cert.Reference8Ideal.Gen.h_S_) Cert.Reference8Ideal.Gen.shapeCasts_S1024_S1x1024

/-- Where each window sits at each grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

theorem word_1024 : Ideal.ofBits FTy.f32 0x44800000#32 = ((1024 : ℝ) : EReal) := by
  simp [Ideal.ofBits, Ideal.ieee]; rw [← EReal.coe_mul]; norm_num

theorem word_neg_half : Ideal.ofBits FTy.f32 0xBF000000#32 = ((-(1 / 2) : ℝ) : EReal) := by
  simp [Ideal.ofBits, Ideal.ieee]; rw [← EReal.coe_mul]; norm_num

theorem square_nonneg (x : EReal) : 0 ≤ x * x := by
  induction x with
  | bot => simp
  | top => simp
  | coe r => rw [← EReal.coe_mul]; exact_mod_cast mul_self_nonneg r

/-- The mean of squares and the small constant: a positive real or infinity. -/
theorem mean_cases {n : ℕ} (x : Fin n → EReal) :
    Ideal.div (∑ k, x k * x k) (Ideal.ofBits FTy.f32 0x44800000#32) + Ideal.ofBits FTy.f32 0x358637BD#32 = ⊤
      ∨ ∃ q : ℝ, 0 < q ∧ Ideal.div (∑ k, x k * x k) (Ideal.ofBits FTy.f32 0x44800000#32) + Ideal.ofBits FTy.f32 0x358637BD#32 = (q : EReal) := by
  have h : 0 ≤ ∑ k, x k * x k := Finset.sum_nonneg fun k _ => square_nonneg (x k)
  rw [word_1024, Cert.Real.word_eps]
  induction hs : (∑ k, x k * x k) with
  | bot => rw [hs] at h; simp at h
  | top =>
    left
    rw [Ideal.div, if_neg (by exact_mod_cast (by norm_num : (1024 : ℝ) ≠ 0)), ← EReal.coe_inv, EReal.top_mul_coe_of_pos (by norm_num)]
    rfl
  | coe r =>
    right
    have hr : 0 ≤ r := by rw [hs] at h; exact_mod_cast h
    exact ⟨r / 1024 + Cert.Real.Args.eps, by have := Cert.Real.Args.eps_pos; positivity, by rw [Cert.Real.div_real _ (by norm_num), ← EReal.coe_add]⟩

theorem sum_real_mul {n : ℕ} (f : Fin n → EReal) {r : ℝ} (h : 0 ≤ r) : ∑ k, f k * (r : EReal) = (∑ k, f k) * (r : EReal) := by
  refine Finset.induction_on (Finset.univ : Finset (Fin n)) (by simp) fun a s ha ih => ?_
  rw [Finset.sum_insert ha, Finset.sum_insert ha, ih, EReal.right_distrib_of_nonneg_of_ne_top (by exact_mod_cast h) (EReal.coe_ne_top r)]

theorem twice (u : EReal) : u + u = u * ((2 : ℝ) : EReal) := by
  induction u with
  | bot => rw [EReal.bot_mul_coe_of_pos (by norm_num)]; rfl
  | top => rw [EReal.top_mul_coe_of_pos (by norm_num)]; rfl
  | coe r => rw [← EReal.coe_add, ← EReal.coe_mul]; congr 1; ring

/-- The gradient of the norm: the product taken through the mean of squares is the sum of the two equal terms of the
    square's derivative. -/
theorem norm_grad {n : ℕ} (x w : Fin n → EReal) (y z d v : EReal) (hv : v = ⊤ ∨ ∃ q : ℝ, 0 < q ∧ v = (q : EReal)) :
    Ideal.rsqrt v * (z - y * Ideal.rsqrt v * Ideal.div (∑ k, w k * (x k * Ideal.rsqrt v)) (Ideal.ofBits FTy.f32 0x44800000#32)) + d
      = d + z * Ideal.rsqrt v + y * Ideal.div ((∑ k, x k * w k) * (Ideal.ofBits FTy.f32 0xBF000000#32 * Ideal.div (Ideal.rsqrt v) v)) (Ideal.ofBits FTy.f32 0x44800000#32)
        + Ideal.div ((∑ k, x k * w k) * (Ideal.ofBits FTy.f32 0xBF000000#32 * Ideal.div (Ideal.rsqrt v) v)) (Ideal.ofBits FTy.f32 0x44800000#32) * y := by
  have hd (a : EReal) : Ideal.div a (Ideal.ofBits FTy.f32 0x44800000#32) = a * ((1024⁻¹ : ℝ) : EReal) := by
    rw [word_1024, Ideal.div, if_neg (by exact_mod_cast (by norm_num : (1024 : ℝ) ≠ 0)), ← EReal.coe_inv]
  simp only [hd, word_neg_half]
  obtain rfl | ⟨q, hq, rfl⟩ := hv
  · have h0 : Ideal.rsqrt (⊤ : EReal) = 0 := rfl
    have h1 : Ideal.div (0 : EReal) ⊤ = 0 := by simp [Ideal.div]
    rw [h0, h1]; simp
  · have hs : 0 < Real.sqrt q := Real.sqrt_pos.mpr hq
    have hr : 0 < (Real.sqrt q)⁻¹ := inv_pos.mpr hs
    rw [Cert.Real.rsqrt_real hq, Cert.Real.div_real _ hq.ne']
    generalize hρ : (Real.sqrt q)⁻¹ = ρ at hr ⊢
    have e3 : ρ / q = ρ * (ρ * ρ) := by
      rw [← hρ, ← mul_inv, Real.mul_self_sqrt hq.le]; rfl
    have eS : ∑ k, w k * (x k * (ρ : EReal)) = (∑ k, x k * w k) * (ρ : EReal) := by
      rw [← sum_real_mul _ hr.le]; exact Finset.sum_congr rfl fun k _ => by rw [← mul_assoc, mul_comm (w k)]
    rw [e3, eS]
    generalize (∑ k, x k * w k) = S
    have eL : (ρ : EReal) * (z - y * ρ * (S * ρ * ((1024⁻¹ : ℝ) : EReal))) = z * ρ + -(y * S * ((ρ * (ρ * ρ) * 1024⁻¹ : ℝ) : EReal)) := by
      rw [sub_eq_add_neg, EReal.left_distrib_of_nonneg_of_ne_top (by exact_mod_cast hr.le) (EReal.coe_ne_top ρ), mul_comm, mul_neg]
      congr 2
      push_cast
      ac_rfl
    have eR : y * (S * (((-(1 / 2) : ℝ) : EReal) * ((ρ * (ρ * ρ) : ℝ) : EReal)) * ((1024⁻¹ : ℝ) : EReal)) = -(y * S * ((ρ * (ρ * ρ) * 1024⁻¹ * (1 / 2) : ℝ) : EReal)) := by
      rw [← mul_neg, ← EReal.coe_neg, ← EReal.coe_mul, mul_assoc S, ← EReal.coe_mul, ← mul_assoc y]
      congr 2; ring
    rw [eL, mul_comm _ y, eR, add_assoc (d + z * ρ), twice, EReal.neg_mul, mul_assoc (y * S), ← EReal.coe_mul]
    have e : ρ * (ρ * ρ) * 1024⁻¹ * (1 / 2) * 2 = ρ * (ρ * ρ) * 1024⁻¹ := by ring
    rw [e]
    ac_rfl

/-- The same in the order of the terms of the two programs. -/
theorem norm_grad_at {n : ℕ} (x P D G : Fin n → EReal) (y p e g d v : EReal) (hv : v = ⊤ ∨ ∃ q : ℝ, 0 < q ∧ v = (q : EReal)) :
    Ideal.rsqrt v * ((p + e) * g - y * Ideal.rsqrt v * Ideal.div (∑ k, (P k + D k) * G k * (x k * Ideal.rsqrt v)) (Ideal.ofBits FTy.f32 0x44800000#32)) + d
      = d + (e + p) * g * Ideal.rsqrt v
        + y * ∑ _k : Fin 1, Ideal.div ((∑ k, x k * ((D k + P k) * G k)) * (Ideal.ofBits FTy.f32 0xBF000000#32 * Ideal.div (Ideal.rsqrt v) v)) (Ideal.ofBits FTy.f32 0x44800000#32)
        + (∑ _k : Fin 1, Ideal.div ((∑ k, x k * ((D k + P k) * G k)) * (Ideal.ofBits FTy.f32 0xBF000000#32 * Ideal.div (Ideal.rsqrt v) v)) (Ideal.ofBits FTy.f32 0x44800000#32)) * y := by
  simp only [Finset.univ_unique, Finset.sum_singleton, add_comm (P _), add_comm p]
  exact norm_grad x (fun k => (D k + P k) * G k) y _ d v hv

theorem swap (p e w : EReal) : (p + e) * w = w * (e + p) := by rw [mul_comm, add_comm]

theorem zero_of (t : Fin cfg0.N) (h : t.val % 8 = 0) : t.val < 1 := by
  have := lt_of_lt_of_eq t.isLt N_0; omega

theorem one_le (t : Fin cfg0.N) (h : ¬t.val % 8 = 0) : 1 ≤ t.val := by omega

theorem point_6 (c : Dev nD) (t : Fin cfg0.N) (y) :
    k0_pay1 (k0_pay3 (iblk m c 3 t)) (k0_pay4 (iblk m c 3 t)) (k0_pay7 (iblk m c 0 t) (iblk m c 1 t) (iblk m c 2 t) (iblk m c 4 t)) (k0_pay8 (iblk m c 0 t) (iblk m c 1 t) (iblk m c 2 t) (iblk m c 3 t) (iblk m c 4 t)) (iblk m c 5 t) y
      = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  pointwise [k0_pay1, k0_pay2, k0_pay3, k0_pay4, k0_pay7, k0_pay8, dx]
  refine (norm_grad_at _ _ _ _ _ _ _ _ _ _ (mean_cases _)).trans ?_
  blk_point [iblk, V, idx_val t]

theorem final_6 (c : Dev nD) : (dats m 0 c).arrAt 6 (cfgs 0).N = dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 8 = 0
  · rw [outsAt0_A m c t h (not_le.mpr (zero_of t h))]; dsimp only; frame_out; exact point_6 m c t y
  · rw [outsAt0_B m c t h (one_le t h)]; dsimp only; frame_out; exact point_6 m c t y

theorem final_7 (c : Dev nD) : (dats m 0 c).arrAt 7 (cfgs 0).N = dgain (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0) (fun t => k0_pay5 (iblk m c 0 t) (iblk m c 1 t) (iblk m c 2 t) (iblk m c 3 t))
    (fun t h j => by rw [outsAt0_A m c t h (not_le.mpr (zero_of t h))]; dsimp only; frame_out; rw [zero_add])
    (fun t h j => by rw [outsAt0_B m c t h (one_le t h)]; dsimp only; frame_out; pointwise [k0_pay6])
    (le_of_eq N_0) t0_7 rfl j, zero_add]
  pointwise [k0_pay5, k0_pay3, k0_pay4, k0_pay2, dgain]
  refine Fin.sum_mul_add_congr (S := cfg0.N) (n := 512) fun t k hl => ?_
  refine (swap _ _ _).trans ?_
  blk_point [iblk, V, idx_val t]

end Cert.Kernel8Ideal.Whole

namespace Cert

open Idealize.ShloMosaic Idealize.ShloMosaic.TcCoe Idealize.SL.Sem

theorem frame_kernel8 : @quiescent_Kernel8 Cert.Kernel8.Gen.facts := fun m ρ _ => Cert.Kernel8.Gen.frame m ρ

theorem frame_ideal8 : @quiescent_Kernel8Ideal Cert.Kernel8Ideal.Gen.facts := fun m ρ _ => Cert.Kernel8Ideal.Gen.frame m ρ

theorem frame_reference8 : @quiescent_Reference8Ideal Cert.Reference8Ideal.Gen.facts := fun m ρ _ =>
  (θ_run (Cert.Reference8Ideal.defs (F := Ideal)) _ _).mono
    (fun r h => ⟨fun c => ⟨(h c).2.2.1, (h c).2.2.2.1, (h c).2.2.2.2.1, (h c).2.2.2.2.2.1, (h c).2.2.2.2.2.2.1, (h c).2.2.2.2.2.2.2⟩, sem_eq_zero_of_no_sems rfl r.2⟩)
    (Cert.Reference8Ideal.Value.run (F := Ideal) m ρ)

theorem algebraic8 : @algebraic_Kernel8Ideal_Reference8Ideal Cert.Kernel8Ideal.Gen.facts Cert.Reference8Ideal.Gen.facts := by
  intro m g m' g' hp hm
  refine ⟨fun c => Cert.Kernel8Ideal.Whole.dx (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)), fun c => Cert.Kernel8Ideal.Whole.dgain (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)), ?_, ?_⟩
  · refine (θ_run (Cert.Kernel8Ideal.defs (F := Ideal)) _ _).mono (fun r h c => ?_) (Cert.Kernel8Ideal.Value.run_blocks (F := Ideal) m g)
    obtain ⟨e0, e1, ha⟩ := h c
    exact ⟨e0.trans (Cert.Kernel8Ideal.Whole.final_6 m c), e1.trans (Cert.Kernel8Ideal.Whole.final_7 m c), ha.1, ha.2.1, ha.2.2.1, ha.2.2.2.1, ha.2.2.2.2.1, ha.2.2.2.2.2⟩
  · refine (θ_run (Cert.Reference8Ideal.defs (F := Ideal)) _ _).mono (fun r h c => ?_) (Cert.Reference8Ideal.Value.run (F := Ideal) m' g')
    obtain ⟨e0, e1, ha⟩ := h c
    obtain ⟨h0, h1, h2, h3, h4, h5⟩ := hm c
    unfold Cert.Reference8Ideal.Value.res_main_v40 at e0
    rw [h0, h1, h2, h3, h4, h5] at e0
    rw [h0, h1, h2, h3] at e1
    exact ⟨e0, e1, ha.1, ha.2.1, ha.2.2.1, ha.2.2.2.1, ha.2.2.2.2.1, ha.2.2.2.2.2⟩

end Cert

end
-- ==== Proof.EmbedNorm.lean ====
/- The gradient of the input embedding's norm after the product with its gate's weights: the call mm_dx2. -/
module

public import proofs.«01_k».proof.Defs
public import proofs.«01_k».proof.Proof.Gen.Kernel11Ideal.Value
public import proofs.«01_k».proof.Proof.Gen.Kernel11.Frame
public import proofs.«01_k».proof.Proof.Gen.Reference11Ideal.Run
public import proofs.«01_k».proof.Proof.NormBack
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel11Ideal.Whole

open Idealize.ShloMosaic Idealize.ShloMosaic.TcCoe Idealize.SL.Sem
open Idealize.ShloMosaic.Pipeline (Dat)
open Cert.Kernel11Ideal Cert.Kernel11Ideal.Gen
open Cert.Kernel8Ideal.Whole (norm_grad mean_cases)
open scoped BigOperators

variable (m : (ℓ : Loc nD τ sig) → Buf (Elt Ideal) ℓ)

/-- the gradient of the norm, and the residual -/
abbrev dx (a0 : FVec Ideal Cert.Reference11Ideal.S4096x1024 .bf16) (a1 : FVec Ideal Cert.Reference11Ideal.S1024x1024 .bf16) (a2 : FVec Ideal Cert.Reference11Ideal.S4096x1024 .f32) (a3 : FVec Ideal Cert.Reference11Ideal.S1x1024 .f32) (a4 : FVec Ideal Cert.Reference11Ideal.S4096x1024 .f32) : FVec Ideal Cert.Reference11Ideal.S4096x1024 .f32 :=
  addf (addf (addf a4 (mulf (mulf (Host.dotGeneral Cert.Reference11Ideal.dot_S4096x1024_S1024x1024_S4096x1024_1_1_0_0_n_n none (extf .f32 a0 Cert.Reference11Ideal.Gen.bitsLt_bf16_f32) (extf .f32 a1
    Cert.Reference11Ideal.Gen.bitsLt_bf16_f32)) (broadcastInDim Cert.Reference11Ideal.S4096x1024 ![0, 1] Cert.Reference11Ideal.Gen.bcast_S1x1024_S4096x1024_0_1 a3)) (broadcastInDim
    Cert.Reference11Ideal.S4096x1024 ![0, 1] Cert.Reference11Ideal.Gen.bcast_S4096x1_S4096x1024_0_1 (Host.rsqrt (addf (Host.divf (broadcastInDim Cert.Reference11Ideal.S4096x1 ![0]
    Cert.Reference11Ideal.Gen.bcast_S4096_S4096x1_0 (Host.reduceAdd (mulf a2 a2) (constant Cert.Reference11Ideal.S_ .f32 0x00000000#32) Cert.Reference11Ideal.Gen.reducesTo_S4096x1024_S4096_d1
    Cert.Reference11Ideal.Gen.h_S_)) (broadcastInDim Cert.Reference11Ideal.S4096x1 ![] Cert.Reference11Ideal.Gen.bcast_S_S4096x1 (constant Cert.Reference11Ideal.S_ .f32 0x44800000#32)))
    (broadcastInDim Cert.Reference11Ideal.S4096x1 ![] Cert.Reference11Ideal.Gen.bcast_S_S4096x1 (constant Cert.Reference11Ideal.S_ .f32 0x358637BD#32))))))) (mulf a2 (broadcastInDim
    Cert.Reference11Ideal.S4096x1024 ![0] Cert.Reference11Ideal.Gen.bcast_S4096_S4096x1024_0 (Host.reduceAdd (Host.divf (mulf (shapeCast _ (Host.reduceAdd (mulf a2 (mulf (Host.dotGeneral
    Cert.Reference11Ideal.dot_S4096x1024_S1024x1024_S4096x1024_1_1_0_0_n_n none (extf .f32 a0 Cert.Reference11Ideal.Gen.bitsLt_bf16_f32) (extf .f32 a1 Cert.Reference11Ideal.Gen.bitsLt_bf16_f32))
    (broadcastInDim Cert.Reference11Ideal.S4096x1024 ![0, 1] Cert.Reference11Ideal.Gen.bcast_S1x1024_S4096x1024_0_1 a3))) (constant Cert.Reference11Ideal.S_ .f32 0x00000000#32)
    Cert.Reference11Ideal.Gen.reducesTo_S4096x1024_S4096_d1 Cert.Reference11Ideal.Gen.h_S_) Cert.Reference11Ideal.Gen.shapeCasts_S4096_S4096x1) (mulf (broadcastInDim Cert.Reference11Ideal.S4096x1 ![]
    Cert.Reference11Ideal.Gen.bcast_S_S4096x1 (constant Cert.Reference11Ideal.S_ .f32 0xBF000000#32)) (Host.divf (Host.rsqrt (addf (Host.divf (broadcastInDim Cert.Reference11Ideal.S4096x1 ![0]
    Cert.Reference11Ideal.Gen.bcast_S4096_S4096x1_0 (Host.reduceAdd (mulf a2 a2) (constant Cert.Reference11Ideal.S_ .f32 0x00000000#32) Cert.Reference11Ideal.Gen.reducesTo_S4096x1024_S4096_d1
    Cert.Reference11Ideal.Gen.h_S_)) (broadcastInDim Cert.Reference11Ideal.S4096x1 ![] Cert.Reference11Ideal.Gen.bcast_S_S4096x1 (constant Cert.Reference11Ideal.S_ .f32 0x44800000#32)))
    (broadcastInDim Cert.Reference11Ideal.S4096x1 ![] Cert.Reference11Ideal.Gen.bcast_S_S4096x1 (constant Cert.Reference11Ideal.S_ .f32 0x358637BD#32)))) (addf (Host.divf (broadcastInDim
    Cert.Reference11Ideal.S4096x1 ![0] Cert.Reference11Ideal.Gen.bcast_S4096_S4096x1_0 (Host.reduceAdd (mulf a2 a2) (constant Cert.Reference11Ideal.S_ .f32 0x00000000#32)
    Cert.Reference11Ideal.Gen.reducesTo_S4096x1024_S4096_d1 Cert.Reference11Ideal.Gen.h_S_)) (broadcastInDim Cert.Reference11Ideal.S4096x1 ![] Cert.Reference11Ideal.Gen.bcast_S_S4096x1 (constant
    Cert.Reference11Ideal.S_ .f32 0x44800000#32))) (broadcastInDim Cert.Reference11Ideal.S4096x1 ![] Cert.Reference11Ideal.Gen.bcast_S_S4096x1 (constant Cert.Reference11Ideal.S_ .f32
    0x358637BD#32)))))) (broadcastInDim Cert.Reference11Ideal.S4096x1 ![] Cert.Reference11Ideal.Gen.bcast_S_S4096x1 (constant Cert.Reference11Ideal.S_ .f32 0x44800000#32))) (constant
    Cert.Reference11Ideal.S_ .f32 0x00000000#32) Cert.Reference11Ideal.Gen.reducesTo_S4096x1_S4096_d1 Cert.Reference11Ideal.Gen.h_S_)))) (mulf (broadcastInDim Cert.Reference11Ideal.S4096x1024 ![0]
    Cert.Reference11Ideal.Gen.bcast_S4096_S4096x1024_0 (Host.reduceAdd (Host.divf (mulf (shapeCast _ (Host.reduceAdd (mulf a2 (mulf (Host.dotGeneral
    Cert.Reference11Ideal.dot_S4096x1024_S1024x1024_S4096x1024_1_1_0_0_n_n none (extf .f32 a0 Cert.Reference11Ideal.Gen.bitsLt_bf16_f32) (extf .f32 a1 Cert.Reference11Ideal.Gen.bitsLt_bf16_f32))
    (broadcastInDim Cert.Reference11Ideal.S4096x1024 ![0, 1] Cert.Reference11Ideal.Gen.bcast_S1x1024_S4096x1024_0_1 a3))) (constant Cert.Reference11Ideal.S_ .f32 0x00000000#32)
    Cert.Reference11Ideal.Gen.reducesTo_S4096x1024_S4096_d1 Cert.Reference11Ideal.Gen.h_S_) Cert.Reference11Ideal.Gen.shapeCasts_S4096_S4096x1) (mulf (broadcastInDim Cert.Reference11Ideal.S4096x1 ![]
    Cert.Reference11Ideal.Gen.bcast_S_S4096x1 (constant Cert.Reference11Ideal.S_ .f32 0xBF000000#32)) (Host.divf (Host.rsqrt (addf (Host.divf (broadcastInDim Cert.Reference11Ideal.S4096x1 ![0]
    Cert.Reference11Ideal.Gen.bcast_S4096_S4096x1_0 (Host.reduceAdd (mulf a2 a2) (constant Cert.Reference11Ideal.S_ .f32 0x00000000#32) Cert.Reference11Ideal.Gen.reducesTo_S4096x1024_S4096_d1
    Cert.Reference11Ideal.Gen.h_S_)) (broadcastInDim Cert.Reference11Ideal.S4096x1 ![] Cert.Reference11Ideal.Gen.bcast_S_S4096x1 (constant Cert.Reference11Ideal.S_ .f32 0x44800000#32)))
    (broadcastInDim Cert.Reference11Ideal.S4096x1 ![] Cert.Reference11Ideal.Gen.bcast_S_S4096x1 (constant Cert.Reference11Ideal.S_ .f32 0x358637BD#32)))) (addf (Host.divf (broadcastInDim
    Cert.Reference11Ideal.S4096x1 ![0] Cert.Reference11Ideal.Gen.bcast_S4096_S4096x1_0 (Host.reduceAdd (mulf a2 a2) (constant Cert.Reference11Ideal.S_ .f32 0x00000000#32)
    Cert.Reference11Ideal.Gen.reducesTo_S4096x1024_S4096_d1 Cert.Reference11Ideal.Gen.h_S_)) (broadcastInDim Cert.Reference11Ideal.S4096x1 ![] Cert.Reference11Ideal.Gen.bcast_S_S4096x1 (constant
    Cert.Reference11Ideal.S_ .f32 0x44800000#32))) (broadcastInDim Cert.Reference11Ideal.S4096x1 ![] Cert.Reference11Ideal.Gen.bcast_S_S4096x1 (constant Cert.Reference11Ideal.S_ .f32
    0x358637BD#32)))))) (broadcastInDim Cert.Reference11Ideal.S4096x1 ![] Cert.Reference11Ideal.Gen.bcast_S_S4096x1 (constant Cert.Reference11Ideal.S_ .f32 0x44800000#32))) (constant
    Cert.Reference11Ideal.S_ .f32 0x00000000#32) Cert.Reference11Ideal.Gen.reducesTo_S4096x1_S4096_d1 Cert.Reference11Ideal.Gen.h_S_)) a2)

/-- the gradient of the gain of the norm -/
abbrev dgain (a0 : FVec Ideal Cert.Reference11Ideal.S4096x1024 .bf16) (a1 : FVec Ideal Cert.Reference11Ideal.S1024x1024 .bf16) (a2 : FVec Ideal Cert.Reference11Ideal.S4096x1024 .f32) : FVec Ideal Cert.Reference11Ideal.S1x1024 .f32 :=
  shapeCast _ (Host.reduceAdd (mulf (mulf a2 (broadcastInDim Cert.Reference11Ideal.S4096x1024 ![0, 1] Cert.Reference11Ideal.Gen.bcast_S4096x1_S4096x1024_0_1 (Host.rsqrt (addf (Host.divf
    (broadcastInDim Cert.Reference11Ideal.S4096x1 ![0] Cert.Reference11Ideal.Gen.bcast_S4096_S4096x1_0 (Host.reduceAdd (mulf a2 a2) (constant Cert.Reference11Ideal.S_ .f32 0x00000000#32)
    Cert.Reference11Ideal.Gen.reducesTo_S4096x1024_S4096_d1 Cert.Reference11Ideal.Gen.h_S_)) (broadcastInDim Cert.Reference11Ideal.S4096x1 ![] Cert.Reference11Ideal.Gen.bcast_S_S4096x1 (constant
    Cert.Reference11Ideal.S_ .f32 0x44800000#32))) (broadcastInDim Cert.Reference11Ideal.S4096x1 ![] Cert.Reference11Ideal.Gen.bcast_S_S4096x1 (constant Cert.Reference11Ideal.S_ .f32
    0x358637BD#32)))))) (Host.dotGeneral Cert.Reference11Ideal.dot_S4096x1024_S1024x1024_S4096x1024_1_1_0_0_n_n none (extf .f32 a0 Cert.Reference11Ideal.Gen.bitsLt_bf16_f32) (extf .f32 a1
    Cert.Reference11Ideal.Gen.bitsLt_bf16_f32))) (constant Cert.Reference11Ideal.S_ .f32 0x00000000#32) Cert.Reference11Ideal.Gen.reducesTo_S4096x1024_S1024_d0 Cert.Reference11Ideal.Gen.h_S_)
    Cert.Reference11Ideal.Gen.shapeCasts_S1024_S1x1024

/-- Where each window sits at each grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

theorem zero_of (t : Fin cfg0.N) (h : t.val % 8 = 0) : t.val < 1 := by
  have := lt_of_lt_of_eq t.isLt N_0; omega

theorem one_le (t : Fin cfg0.N) (h : ¬t.val % 8 = 0) : 1 ≤ t.val := by omega

theorem flip (u w : EReal) : u * w = w * u := mul_comm u w

/-- The gradient of the norm in the form of the two programs. -/
theorem norm_grad_at {n : ℕ} (x w : Fin n → EReal) (y z d v : EReal) (hv : v = ⊤ ∨ ∃ q : ℝ, 0 < q ∧ v = (q : EReal)) :
    Ideal.rsqrt v * (z - y * Ideal.rsqrt v * Ideal.div (∑ k, w k * (x k * Ideal.rsqrt v)) (Ideal.ofBits FTy.f32 0x44800000#32)) + d
      = d + z * Ideal.rsqrt v
        + y * ∑ _k : Fin 1, Ideal.div ((∑ k, x k * w k) * (Ideal.ofBits FTy.f32 0xBF000000#32 * Ideal.div (Ideal.rsqrt v) v)) (Ideal.ofBits FTy.f32 0x44800000#32)
        + (∑ _k : Fin 1, Ideal.div ((∑ k, x k * w k) * (Ideal.ofBits FTy.f32 0xBF000000#32 * Ideal.div (Ideal.rsqrt v) v)) (Ideal.ofBits FTy.f32 0x44800000#32)) * y := by
  simp only [Finset.univ_unique, Finset.sum_singleton]
  exact norm_grad x w y z d v hv

theorem point_5 (c : Dev nD) (t : Fin cfg0.N) (y) :
    k0_pay1 (k0_pay7 (iblk m c 0 t) (iblk m c 1 t) (iblk m c 2 t) (iblk m c 3 t)) (iblk m c 4 t) y
      = dx (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, k0_pay2, k0_pay3, k0_pay4, k0_pay7, dx]
  refine (norm_grad_at _ _ _ _ _ _ (mean_cases _)).trans ?_
  blk_point [iblk, V, idx_val t]

theorem final_5 (c : Dev nD) : (dats m 0 c).arrAt 5 (cfgs 0).N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h (not_le.mpr (zero_of t h))]; dsimp only; frame_out; exact point_5 m c t y
  · rw [outsAt0_B m c t h (one_le t h)]; dsimp only; frame_out; exact point_5 m c t y

theorem final_6 (c : Dev nD) : (dats m 0 c).arrAt 6 (cfgs 0).N = dgain (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) (fun t => k0_pay5 (iblk m c 0 t) (iblk m c 1 t) (iblk m c 2 t))
    (fun t h j => by rw [outsAt0_A m c t h (not_le.mpr (zero_of t h))]; dsimp only; frame_out; rw [zero_add])
    (fun t h j => by rw [outsAt0_B m c t h (one_le t h)]; dsimp only; frame_out; pointwise [k0_pay6])
    (le_of_eq N_0) t0_7 rfl j, zero_add]
  pointwise [k0_pay5, k0_pay3, k0_pay4, k0_pay2, dgain]
  refine Fin.sum_mul_add_congr (S := cfg0.N) (n := 512) fun t k hl => ?_
  refine (flip _ _).trans ?_
  blk_point [iblk, V, idx_val t]

end Cert.Kernel11Ideal.Whole

namespace Cert

open Idealize.ShloMosaic Idealize.ShloMosaic.TcCoe Idealize.SL.Sem

theorem frame_kernel11 : @quiescent_Kernel11 Cert.Kernel11.Gen.facts := fun m ρ _ => Cert.Kernel11.Gen.frame m ρ

theorem frame_ideal11 : @quiescent_Kernel11Ideal Cert.Kernel11Ideal.Gen.facts := fun m ρ _ => Cert.Kernel11Ideal.Gen.frame m ρ

theorem frame_reference11 : @quiescent_Reference11Ideal Cert.Reference11Ideal.Gen.facts := fun m ρ _ =>
  (θ_run (Cert.Reference11Ideal.defs (F := Ideal)) _ _).mono
    (fun r h => ⟨fun c => ⟨(h c).2.2.1, (h c).2.2.2.1, (h c).2.2.2.2.1, (h c).2.2.2.2.2.1, (h c).2.2.2.2.2.2⟩, sem_eq_zero_of_no_sems rfl r.2⟩)
    (Cert.Reference11Ideal.Value.run (F := Ideal) m ρ)

theorem algebraic11 : @algebraic_Kernel11Ideal_Reference11Ideal Cert.Kernel11Ideal.Gen.facts Cert.Reference11Ideal.Gen.facts := by
  intro m g m' g' hp hm
  refine ⟨fun c => Cert.Kernel11Ideal.Whole.dx (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)), fun c => Cert.Kernel11Ideal.Whole.dgain (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)), ?_, ?_⟩
  · refine (θ_run (Cert.Kernel11Ideal.defs (F := Ideal)) _ _).mono (fun r h c => ?_) (Cert.Kernel11Ideal.Value.run_blocks (F := Ideal) m g)
    obtain ⟨e0, e1, ha⟩ := h c
    exact ⟨e0.trans (Cert.Kernel11Ideal.Whole.final_5 m c), e1.trans (Cert.Kernel11Ideal.Whole.final_6 m c), ha.1, ha.2.1, ha.2.2.1, ha.2.2.2.1, ha.2.2.2.2⟩
  · refine (θ_run (Cert.Reference11Ideal.defs (F := Ideal)) _ _).mono (fun r h c => ?_) (Cert.Reference11Ideal.Value.run (F := Ideal) m' g')
    obtain ⟨e0, e1, ha⟩ := h c
    obtain ⟨h0, h1, h2, h3, h4⟩ := hm c
    unfold Cert.Reference11Ideal.Value.res_main_v38 at e0
    rw [h0, h1, h2, h3, h4] at e0
    rw [h0, h1, h2] at e1
    exact ⟨e0, e1, ha.1, ha.2.1, ha.2.2.1, ha.2.2.2.1, ha.2.2.2.2⟩

end Cert

end
-- ==== Proof.Loss.lean ====
/- The loss, with the gradients of what goes into it: the call ple_loss. -/
module

public import proofs.«01_k».proof.Defs
public import proofs.«01_k».proof.Proof.Gen.Kernel12Ideal.Value
public import proofs.«01_k».proof.Proof.Gen.Kernel12.Frame
public import proofs.«01_k».proof.Proof.Gen.Reference12Ideal.Run
public import proofs.«01_k».proof.Proof.NormBack
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel12Ideal.Whole

open Idealize.ShloMosaic Idealize.ShloMosaic.TcCoe Idealize.SL.Sem
open Idealize.ShloMosaic.Pipeline (Dat)
open Cert.Kernel12Ideal Cert.Kernel12Ideal.Gen
open Cert.Kernel8Ideal.Whole (word_1024 sum_real_mul)
open scoped BigOperators

variable (m : (ℓ : Loc nD τ sig) → Buf (Elt Ideal) ℓ)

/-- the embedding's gate -/
abbrev gate (a0 : FVec Ideal Cert.Reference12Ideal.S4096x1024 .f32) (a2 : FVec Ideal Cert.Reference12Ideal.S1x1024 .f32) (a3 : FVec Ideal Cert.Reference12Ideal.S1024x1024 .bf16) : FVec Ideal Cert.Reference12Ideal.S4096x1024 .f32 :=
  (Host.divf (broadcastInDim Cert.Reference12Ideal.S4096x1024 ![] Cert.Reference12Ideal.Gen.bcast_S_S4096x1024 (constant Cert.Reference12Ideal.S_ .f32 0x3F800000#32)) (addf (broadcastInDim
    Cert.Reference12Ideal.S4096x1024 ![] Cert.Reference12Ideal.Gen.bcast_S_S4096x1024 (constant Cert.Reference12Ideal.S_ .f32 0x3F800000#32)) (Host.exp (Host.negf (Host.dotGeneral
    Cert.Reference12Ideal.dot_S4096x1024_S1024x1024_S4096x1024_1_0_0_1_n_n none (mulf (mulf a0 (broadcastInDim Cert.Reference12Ideal.S4096x1024 ![0, 1]
    Cert.Reference12Ideal.Gen.bcast_S4096x1_S4096x1024_0_1 (Host.rsqrt (addf (Host.divf (broadcastInDim Cert.Reference12Ideal.S4096x1 ![0] Cert.Reference12Ideal.Gen.bcast_S4096_S4096x1_0
    (Host.reduceAdd (mulf a0 a0) (constant Cert.Reference12Ideal.S_ .f32 0x00000000#32) Cert.Reference12Ideal.Gen.reducesTo_S4096x1024_S4096_d1 Cert.Reference12Ideal.Gen.h_S_)) (broadcastInDim
    Cert.Reference12Ideal.S4096x1 ![] Cert.Reference12Ideal.Gen.bcast_S_S4096x1 (constant Cert.Reference12Ideal.S_ .f32 0x44800000#32))) (broadcastInDim Cert.Reference12Ideal.S4096x1 ![]
    Cert.Reference12Ideal.Gen.bcast_S_S4096x1 (constant Cert.Reference12Ideal.S_ .f32 0x358637BD#32)))))) (broadcastInDim Cert.Reference12Ideal.S4096x1024 ![0, 1]
    Cert.Reference12Ideal.Gen.bcast_S1x1024_S4096x1024_0_1 a2)) (extf .f32 a3 Cert.Reference12Ideal.Gen.bitsLt_bf16_f32))))))

/-- the embedding projected -/
abbrev projected (a1 : FVec Ideal Cert.Reference12Ideal.S4096x256 .f32) (a4 : FVec Ideal Cert.Reference12Ideal.S256x1024 .bf16) : FVec Ideal Cert.Reference12Ideal.S4096x1024 .f32 :=
  (Host.dotGeneral Cert.Reference12Ideal.dot_S4096x256_S256x1024_S4096x1024_1_0_0_1_n_n none a1 (extf .f32 a4 Cert.Reference12Ideal.Gen.bitsLt_bf16_f32))

/-- what the output misses of the target -/
abbrev miss (a0 : FVec Ideal Cert.Reference12Ideal.S4096x1024 .f32) (a1 : FVec Ideal Cert.Reference12Ideal.S4096x256 .f32) (a2 : FVec Ideal Cert.Reference12Ideal.S1x1024 .f32) (a3 : FVec Ideal Cert.Reference12Ideal.S1024x1024 .bf16) (a4 : FVec Ideal Cert.Reference12Ideal.S256x1024 .bf16) (a5 : FVec Ideal Cert.Reference12Ideal.S4096x1024 .f32) : FVec Ideal Cert.Reference12Ideal.S4096x1024 .f32 :=
  (subf (addf a0 (mulf (gate a0 a2 a3) (projected a1 a4))) a5)

/-- the normalised activations -/
abbrev normed (a0 : FVec Ideal Cert.Reference12Ideal.S4096x1024 .f32) (a2 : FVec Ideal Cert.Reference12Ideal.S1x1024 .f32) : FVec Ideal Cert.Reference12Ideal.S4096x1024 .bf16 :=
  truncf .bf16 (mulf (mulf a0 (broadcastInDim Cert.Reference12Ideal.S4096x1024 ![0, 1] Cert.Reference12Ideal.Gen.bcast_S4096x1_S4096x1024_0_1 (Host.rsqrt (addf (Host.divf (broadcastInDim
    Cert.Reference12Ideal.S4096x1 ![0] Cert.Reference12Ideal.Gen.bcast_S4096_S4096x1_0 (Host.reduceAdd (mulf a0 a0) (constant Cert.Reference12Ideal.S_ .f32 0x00000000#32)
    Cert.Reference12Ideal.Gen.reducesTo_S4096x1024_S4096_d1 Cert.Reference12Ideal.Gen.h_S_)) (broadcastInDim Cert.Reference12Ideal.S4096x1 ![] Cert.Reference12Ideal.Gen.bcast_S_S4096x1 (constant
    Cert.Reference12Ideal.S_ .f32 0x44800000#32))) (broadcastInDim Cert.Reference12Ideal.S4096x1 ![] Cert.Reference12Ideal.Gen.bcast_S_S4096x1 (constant Cert.Reference12Ideal.S_ .f32
    0x358637BD#32)))))) (broadcastInDim Cert.Reference12Ideal.S4096x1024 ![0, 1] Cert.Reference12Ideal.Gen.bcast_S1x1024_S4096x1024_0_1 a2)) Cert.Reference12Ideal.Gen.bitsLt_bf16_f32

/-- the gradient of the activations and the embedding together -/
abbrev dmiss (a0 : FVec Ideal Cert.Reference12Ideal.S4096x1024 .f32) (a1 : FVec Ideal Cert.Reference12Ideal.S4096x256 .f32) (a2 : FVec Ideal Cert.Reference12Ideal.S1x1024 .f32) (a3 : FVec Ideal Cert.Reference12Ideal.S1024x1024 .bf16) (a4 : FVec Ideal Cert.Reference12Ideal.S256x1024 .bf16) (a5 : FVec Ideal Cert.Reference12Ideal.S4096x1024 .f32) : FVec Ideal Cert.Reference12Ideal.S4096x1024 .f32 :=
  mulf (broadcastInDim Cert.Reference12Ideal.S4096x1024 ![0] Cert.Reference12Ideal.Gen.bcast_S4096_S4096x1024_0 (Host.divf (broadcastInDim Cert.Reference12Ideal.S4096 ![]
    Cert.Reference12Ideal.Gen.bcast_S_S4096 (mulf (constant Cert.Reference12Ideal.S_ .f32 0x3F000000#32) (constant Cert.Reference12Ideal.S_ .f32 0x3F800000#32))) (broadcastInDim
    Cert.Reference12Ideal.S4096 ![] Cert.Reference12Ideal.Gen.bcast_S_S4096 (constant Cert.Reference12Ideal.S_ .f32 0x44800000#32)))) (mulf (broadcastInDim Cert.Reference12Ideal.S4096x1024 ![]
    Cert.Reference12Ideal.Gen.bcast_S_S4096x1024 (constant Cert.Reference12Ideal.S_ .f32 0x40000000#32)) (miss a0 a1 a2 a3 a4 a5))

/-- the gradient before the embedding's gate -/
abbrev dgate (a0 : FVec Ideal Cert.Reference12Ideal.S4096x1024 .f32) (a1 : FVec Ideal Cert.Reference12Ideal.S4096x256 .f32) (a2 : FVec Ideal Cert.Reference12Ideal.S1x1024 .f32) (a3 : FVec Ideal Cert.Reference12Ideal.S1024x1024 .bf16) (a4 : FVec Ideal Cert.Reference12Ideal.S256x1024 .bf16) (a5 : FVec Ideal Cert.Reference12Ideal.S4096x1024 .f32) : FVec Ideal Cert.Reference12Ideal.S4096x1024 .bf16 :=
  truncf .bf16 (mulf (mulf (dmiss a0 a1 a2 a3 a4 a5) (projected a1 a4)) (mulf (gate a0 a2 a3) (subf (broadcastInDim Cert.Reference12Ideal.S4096x1024 ![] Cert.Reference12Ideal.Gen.bcast_S_S4096x1024
    (constant Cert.Reference12Ideal.S_ .f32 0x3F800000#32)) (gate a0 a2 a3)))) Cert.Reference12Ideal.Gen.bitsLt_bf16_f32

/-- the gradient of the projected embedding -/
abbrev dembed (a0 : FVec Ideal Cert.Reference12Ideal.S4096x1024 .f32) (a1 : FVec Ideal Cert.Reference12Ideal.S4096x256 .f32) (a2 : FVec Ideal Cert.Reference12Ideal.S1x1024 .f32) (a3 : FVec Ideal Cert.Reference12Ideal.S1024x1024 .bf16) (a4 : FVec Ideal Cert.Reference12Ideal.S256x1024 .bf16) (a5 : FVec Ideal Cert.Reference12Ideal.S4096x1024 .f32) : FVec Ideal Cert.Reference12Ideal.S4096x1024 .bf16 :=
  truncf .bf16 (mulf (gate a0 a2 a3) (dmiss a0 a1 a2 a3 a4 a5)) Cert.Reference12Ideal.Gen.bitsLt_bf16_f32

/-- the loss of the device -/
abbrev total (a0 : FVec Ideal Cert.Reference12Ideal.S4096x1024 .f32) (a1 : FVec Ideal Cert.Reference12Ideal.S4096x256 .f32) (a2 : FVec Ideal Cert.Reference12Ideal.S1x1024 .f32) (a3 : FVec Ideal Cert.Reference12Ideal.S1024x1024 .bf16) (a4 : FVec Ideal Cert.Reference12Ideal.S256x1024 .bf16) (a5 : FVec Ideal Cert.Reference12Ideal.S4096x1024 .f32) : FVec Ideal Cert.Reference12Ideal.S8x128 .f32 :=
  broadcastInDim Cert.Reference12Ideal.S8x128 ![] Cert.Reference12Ideal.Gen.bcast_S_S8x128 (mulf (constant Cert.Reference12Ideal.S_ .f32 0x3F000000#32) (Host.reduceAdd (Host.divf (Host.reduceAdd (mulf
    (miss a0 a1 a2 a3 a4 a5) (miss a0 a1 a2 a3 a4 a5)) (constant Cert.Reference12Ideal.S_ .f32 0x00000000#32) Cert.Reference12Ideal.Gen.reducesTo_S4096x1024_S4096_d1 Cert.Reference12Ideal.Gen.h_S_)
    (broadcastInDim Cert.Reference12Ideal.S4096 ![] Cert.Reference12Ideal.Gen.bcast_S_S4096 (constant Cert.Reference12Ideal.S_ .f32 0x44800000#32))) (constant Cert.Reference12Ideal.S_ .f32
    0x00000000#32) Cert.Reference12Ideal.Gen.reducesTo_S4096_S_d0 Cert.Reference12Ideal.Gen.h_S_))

/-- Where each window sits at each grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

theorem zero_of (t : Fin cfg0.N) (h : t.val % 8 = 0) : t.val < 1 := by
  have := lt_of_lt_of_eq t.isLt N_0; omega

theorem one_le (t : Fin cfg0.N) (h : ¬t.val % 8 = 0) : 1 ≤ t.val := by omega

theorem word_half : Ideal.ofBits FTy.f32 0x3F000000#32 = ((1 / 2 : ℝ) : EReal) := by
  simp [Ideal.ofBits, Ideal.ieee]; rw [← EReal.coe_mul]; norm_num

theorem word_two : Ideal.ofBits FTy.f32 0x40000000#32 = ((2 : ℝ) : EReal) := by
  simp [Ideal.ofBits, Ideal.ieee]; rw [← EReal.coe_mul]; norm_num

theorem word_part : Ideal.ofBits FTy.f32 0x3A800000#32 = ((1 / 1024 : ℝ) : EReal) := by
  simp [Ideal.ofBits, Ideal.ieee]; rw [← EReal.coe_mul]; norm_num

/-- Half of twice a miss, over the width, is the miss over the width. -/
theorem miss_scale (e : EReal) :
    e * Ideal.ofBits FTy.f32 0x3A800000#32
      = Ideal.div (Ideal.ofBits FTy.f32 0x3F000000#32) (Ideal.ofBits FTy.f32 0x44800000#32) * (Ideal.ofBits FTy.f32 0x40000000#32 * e) := by
  rw [word_part, word_half, word_two, word_1024, Ideal.div, if_neg (by exact_mod_cast (by norm_num : (1024 : ℝ) ≠ 0)), ← EReal.coe_inv,
    ← EReal.coe_mul, ← mul_assoc, ← EReal.coe_mul, mul_comm]
  norm_num

theorem gate_scale (e p g o : EReal) :
    e * Ideal.ofBits FTy.f32 0x3A800000#32 * p * g * (o - g)
      = Ideal.div (Ideal.ofBits FTy.f32 0x3F000000#32) (Ideal.ofBits FTy.f32 0x44800000#32) * (Ideal.ofBits FTy.f32 0x40000000#32 * e) * p * (g * (o - g)) := by
  rw [miss_scale, mul_assoc _ g]

theorem embed_scale (e g : EReal) :
    e * Ideal.ofBits FTy.f32 0x3A800000#32 * g
      = g * (Ideal.div (Ideal.ofBits FTy.f32 0x3F000000#32) (Ideal.ofBits FTy.f32 0x44800000#32) * (Ideal.ofBits FTy.f32 0x40000000#32 * e)) := by
  rw [miss_scale, mul_comm]

theorem half_sum {n : ℕ} (f : Fin n → EReal) :
    ∑ t, Ideal.ofBits FTy.f32 0x3F000000#32 * f t = Ideal.ofBits FTy.f32 0x3F000000#32 * ∑ t, f t := by
  rw [word_half, mul_comm, ← sum_real_mul f (by norm_num)]
  exact Finset.sum_congr rfl fun t _ => mul_comm _ _

theorem point_6 (c : Dev nD) (t : Fin cfg0.N) (y) :
    k0_pay6 (iblk m c 0 t) (iblk m c 2 t) y
      = normed (m ((c : Thread nD τ).loc main_arg0)) (m ((c : Thread nD τ).loc main_arg2)) (((cfg0.win 6).blk t).view.emb y) := by
  pointwise [k0_pay6, normed]; blk_point [iblk, V, idx_val t]

theorem final_6 (c : Dev nD) : (dats m 0 c).arrAt 6 (cfgs 0).N = normed (m ((c : Thread nD τ).loc main_arg0)) (m ((c : Thread nD τ).loc main_arg2)) := by
  refine (dats m 0 c).arrAt_eq_of_covers 6 _ (by decide +kernel) fun t hf y => ?_
  blk_simp; rw [after0_6]
  by_cases h : t.val % 8 = 0
  · rw [outsAt0_A m c t h (not_le.mpr (zero_of t h))]; dsimp only; frame_out; exact point_6 m c t y
  · rw [outsAt0_B m c t h (one_le t h)]; dsimp only; frame_out; exact point_6 m c t y

theorem point_7 (c : Dev nD) (t : Fin cfg0.N) (y) :
    k0_pay3 (k0_pay9 (iblk m c 0 t) (iblk m c 2 t) (iblk m c 3 t) (iblk m c 1 t) (iblk m c 4 t) (iblk m c 5 t)) y
      = dmiss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay3, k0_pay6, k0_pay7, k0_pay8, k0_pay9, zero_sub, gate, projected, miss, dmiss]
  refine (miss_scale _).trans ?_
  blk_point [iblk, V, idx_val t]

theorem final_7 (c : Dev nD) : (dats m 0 c).arrAt 7 (cfgs 0).N = dmiss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  by_cases h : t.val % 8 = 0
  · rw [outsAt0_A m c t h (not_le.mpr (zero_of t h))]; dsimp only; frame_out; exact point_7 m c t y
  · rw [outsAt0_B m c t h (one_le t h)]; dsimp only; frame_out; exact point_7 m c t y

theorem point_8 (c : Dev nD) (t : Fin cfg0.N) (y) :
    k0_pay4 (k0_pay7 (iblk m c 0 t) (iblk m c 2 t) (iblk m c 3 t)) (k0_pay8 (iblk m c 1 t) (iblk m c 4 t)) (k0_pay9 (iblk m c 0 t) (iblk m c 2 t) (iblk m c 3 t) (iblk m c 1 t) (iblk m c 4 t) (iblk m c 5 t)) y
      = dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  pointwise [k0_pay3, k0_pay4, k0_pay6, k0_pay7, k0_pay8, k0_pay9, zero_sub, gate, projected, miss, dgate, dmiss]
  refine (gate_scale _ _ _ _).trans ?_
  blk_point [iblk, V, idx_val t]

theorem final_8 (c : Dev nD) : (dats m 0 c).arrAt 8 (cfgs 0).N = dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]
  by_cases h : t.val % 8 = 0
  · rw [outsAt0_A m c t h (not_le.mpr (zero_of t h))]; dsimp only; frame_out; exact point_8 m c t y
  · rw [outsAt0_B m c t h (one_le t h)]; dsimp only; frame_out; exact point_8 m c t y

theorem point_9 (c : Dev nD) (t : Fin cfg0.N) (y) :
    k0_pay5 (k0_pay7 (iblk m c 0 t) (iblk m c 2 t) (iblk m c 3 t)) (k0_pay9 (iblk m c 0 t) (iblk m c 2 t) (iblk m c 3 t) (iblk m c 1 t) (iblk m c 4 t) (iblk m c 5 t)) y
      = dembed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  pointwise [k0_pay3, k0_pay5, k0_pay6, k0_pay7, k0_pay8, k0_pay9, zero_sub, gate, projected, miss, dembed, dmiss]
  refine (embed_scale _ _).trans ?_
  blk_point [iblk, V, idx_val t]

theorem final_9 (c : Dev nD) : (dats m 0 c).arrAt 9 (cfgs 0).N = dembed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp; rw [after0_9]
  by_cases h : t.val % 8 = 0
  · rw [outsAt0_A m c t h (not_le.mpr (zero_of t h))]; dsimp only; frame_out; exact point_9 m c t y
  · rw [outsAt0_B m c t h (one_le t h)]; dsimp only; frame_out; exact point_9 m c t y

theorem final_10 (c : Dev nD) : (dats m 0 c).arrAt 10 (cfgs 0).N = total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0) (fun t => k0_pay1 (k0_pay10 (iblk m c 0 t) (iblk m c 2 t) (iblk m c 3 t) (iblk m c 1 t) (iblk m c 4 t) (iblk m c 5 t)))
    (fun t h j => by rw [outsAt0_A m c t h (not_le.mpr (zero_of t h))]; dsimp only; frame_out; rw [zero_add])
    (fun t h j => by rw [outsAt0_B m c t h (one_le t h)]; dsimp only; frame_out; pointwise [k0_pay2])
    (le_of_eq N_0) t0_7 rfl j, zero_add]
  pointwise [k0_pay1, k0_pay10, k0_pay6, k0_pay7, k0_pay8, k0_pay9, zero_sub, gate, projected, miss, total]
  refine (half_sum _).trans ?_
  refine congrArg (_ * ·) ?_
  refine Fin.sum_mul_add_congr (S := cfg0.N) (n := 512) fun t k hl => ?_
  blk_point [iblk, V, idx_val t]

end Cert.Kernel12Ideal.Whole

namespace Cert

open Idealize.ShloMosaic Idealize.ShloMosaic.TcCoe Idealize.SL.Sem

theorem frame_kernel12 : @quiescent_Kernel12 Cert.Kernel12.Gen.facts := fun m ρ _ => Cert.Kernel12.Gen.frame m ρ

theorem frame_ideal12 : @quiescent_Kernel12Ideal Cert.Kernel12Ideal.Gen.facts := fun m ρ _ => Cert.Kernel12Ideal.Gen.frame m ρ

theorem frame_reference12 : @quiescent_Reference12Ideal Cert.Reference12Ideal.Gen.facts := fun m ρ _ =>
  (θ_run (Cert.Reference12Ideal.defs (F := Ideal)) _ _).mono
    (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩, sem_eq_zero_of_no_sems rfl r.2⟩)
    (Cert.Reference12Ideal.Value.run (F := Ideal) m ρ)

theorem algebraic12 : @algebraic_Kernel12Ideal_Reference12Ideal Cert.Kernel12Ideal.Gen.facts Cert.Reference12Ideal.Gen.facts := by
  intro m g m' g' hp hm
  refine ⟨fun c => Cert.Kernel12Ideal.Whole.normed (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg2)), fun c => Cert.Kernel12Ideal.Whole.dmiss (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)), fun c => Cert.Kernel12Ideal.Whole.dgate (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)), fun c => Cert.Kernel12Ideal.Whole.dembed (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)), fun c => Cert.Kernel12Ideal.Whole.total (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)), ?_, ?_⟩
  · refine (θ_run (Cert.Kernel12Ideal.defs (F := Ideal)) _ _).mono (fun r h c => ?_) (Cert.Kernel12Ideal.Value.run_blocks (F := Ideal) m g)
    obtain ⟨e0, e1, e2, e3, e4, ha⟩ := h c
    exact ⟨e0.trans (Cert.Kernel12Ideal.Whole.final_6 m c), e1.trans (Cert.Kernel12Ideal.Whole.final_7 m c), e2.trans (Cert.Kernel12Ideal.Whole.final_8 m c), e3.trans (Cert.Kernel12Ideal.Whole.final_9 m c), e4.trans (Cert.Kernel12Ideal.Whole.final_10 m c), ha.1, ha.2.1, ha.2.2.1, ha.2.2.2.1, ha.2.2.2.2.1, ha.2.2.2.2.2⟩
  · refine (θ_run (Cert.Reference12Ideal.defs (F := Ideal)) _ _).mono (fun r h c => ?_) (Cert.Reference12Ideal.Value.run (F := Ideal) m' g')
    obtain ⟨e0, e1, e2, e3, e4, ha⟩ := h c
    obtain ⟨h0, h1, h2, h3, h4, h5⟩ := hm c
    rw [h0, h2] at e0
    rw [h0, h1, h2, h3, h4, h5] at e1
    rw [h0, h1, h2, h3, h4, h5] at e2
    rw [h0, h1, h2, h3, h4, h5] at e3
    rw [h0, h1, h2, h3, h4, h5] at e4
    exact ⟨e0, e1, e2, e3, e4, ha.1, ha.2.1, ha.2.2.1, ha.2.2.2.1, ha.2.2.2.2.1, ha.2.2.2.2.2⟩

end Cert

end
-- ==== Proof.Merge.lean ====
/- The branches through their weights, merged by the gates: the call merge_fwd. -/
module

public import proofs.«01_k».proof.Defs
public import proofs.«01_k».proof.Proof.Gen.Kernel13Ideal.Value
public import proofs.«01_k».proof.Proof.Gen.Kernel13.Frame
public import proofs.«01_k».proof.Proof.Gen.Reference13Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel13Ideal.Whole

open Idealize.ShloMosaic Idealize.ShloMosaic.TcCoe Idealize.SL.Sem
open Idealize.ShloMosaic.Pipeline (Dat)
open Cert.Kernel13Ideal Cert.Kernel13Ideal.Gen
open scoped BigOperators

variable (m : (ℓ : Loc nD τ sig) → Buf (Elt Ideal) ℓ)

/-- the two gated branches together -/
abbrev merged (a0 : FVec Ideal Cert.Reference13Ideal.S4096x512 .f32) (a1 : FVec Ideal Cert.Reference13Ideal.S4096x512 .f32) (a2 : FVec Ideal Cert.Reference13Ideal.S512x1024 .bf16) (a3 : FVec Ideal Cert.Reference13Ideal.S512x1024 .bf16) (a4 : FVec Ideal Cert.Reference13Ideal.S4096x6144 .f32) : FVec Ideal Cert.Reference13Ideal.S4096x1024 .bf16 :=
  truncf .bf16 (addf (mulf (Host.divf (broadcastInDim Cert.Reference13Ideal.S4096x1024 ![] Cert.Reference13Ideal.Gen.bcast_S_S4096x1024 (constant Cert.Reference13Ideal.S_ .f32 0x3F800000#32)) (addf
    (broadcastInDim Cert.Reference13Ideal.S4096x1024 ![] Cert.Reference13Ideal.Gen.bcast_S_S4096x1024 (constant Cert.Reference13Ideal.S_ .f32 0x3F800000#32)) (Host.exp (Host.negf (extractStridedSlice
    Cert.Reference13Ideal.S4096x1024 ![0, 4096] a4 Cert.Reference13Ideal.Gen.slices_S4096x6144_S4096x1024_0_4096))))) (Host.dotGeneral
    Cert.Reference13Ideal.dot_S4096x512_S512x1024_S4096x1024_1_0_0_1_n_n none a0 (extf .f32 a2 Cert.Reference13Ideal.Gen.bitsLt_bf16_f32))) (mulf (Host.divf (broadcastInDim
    Cert.Reference13Ideal.S4096x1024 ![] Cert.Reference13Ideal.Gen.bcast_S_S4096x1024 (constant Cert.Reference13Ideal.S_ .f32 0x3F800000#32)) (addf (broadcastInDim Cert.Reference13Ideal.S4096x1024 ![]
    Cert.Reference13Ideal.Gen.bcast_S_S4096x1024 (constant Cert.Reference13Ideal.S_ .f32 0x3F800000#32)) (Host.exp (Host.negf (extractStridedSlice Cert.Reference13Ideal.S4096x1024 ![0, 5120] a4
    Cert.Reference13Ideal.Gen.slices_S4096x6144_S4096x1024_0_5120))))) (Host.dotGeneral Cert.Reference13Ideal.dot_S4096x512_S512x1024_S4096x1024_1_0_0_1_n_n none a1 (extf .f32 a3
    Cert.Reference13Ideal.Gen.bitsLt_bf16_f32)))) Cert.Reference13Ideal.Gen.bitsLt_bf16_f32

/-- the first branch through its weights -/
abbrev first (a0 : FVec Ideal Cert.Reference13Ideal.S4096x512 .f32) (a2 : FVec Ideal Cert.Reference13Ideal.S512x1024 .bf16) : FVec Ideal Cert.Reference13Ideal.S4096x1024 .bf16 :=
  truncf .bf16 (Host.dotGeneral Cert.Reference13Ideal.dot_S4096x512_S512x1024_S4096x1024_1_0_0_1_n_n none a0 (extf .f32 a2 Cert.Reference13Ideal.Gen.bitsLt_bf16_f32))
    Cert.Reference13Ideal.Gen.bitsLt_bf16_f32

/-- the second branch through its weights -/
abbrev second (a1 : FVec Ideal Cert.Reference13Ideal.S4096x512 .f32) (a3 : FVec Ideal Cert.Reference13Ideal.S512x1024 .bf16) : FVec Ideal Cert.Reference13Ideal.S4096x1024 .bf16 :=
  truncf .bf16 (Host.dotGeneral Cert.Reference13Ideal.dot_S4096x512_S512x1024_S4096x1024_1_0_0_1_n_n none a1 (extf .f32 a3 Cert.Reference13Ideal.Gen.bitsLt_bf16_f32))
    Cert.Reference13Ideal.Gen.bitsLt_bf16_f32

/-- Where each window sits at each grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 2]
    ∧ win0_5.index t = ![t.val, 0]
    ∧ win0_6.index t = ![t.val, 0]
    ∧ win0_7.index t = ![t.val, 0] :=
  (by decide +kernel : ∀ t : Fin grid0.N, _)

theorem point_5 (c : Dev nD) (t : Fin cfg0.N) (y) :
    k0_pay3 (iblk m c 0 t) (iblk m c 2 t) (iblk m c 1 t) (iblk m c 3 t) (View.ld (iblk m c 4 t) r0_2) (View.ld (iblk m c 4 t) r0_3)  y
      = merged (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, k0_pay2, k0_pay3, zero_sub, merged]
  blk_point [iblk, V, idx_val t]

theorem final_5 (c : Dev nD) : (dats m 0 c).arrAt 5 (cfgs 0).N = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point_5 m c t y

theorem point_6 (c : Dev nD) (t : Fin cfg0.N) (y) :
    k0_pay4 (iblk m c 0 t) (iblk m c 2 t) y
      = first (m ((c : Thread nD τ).loc main_arg0)) (m ((c : Thread nD τ).loc main_arg2)) (((cfg0.win 6).blk t).view.emb y) := by
  pointwise [k0_pay1, k0_pay4, first]
  blk_point [iblk, V, idx_val t]

theorem final_6 (c : Dev nD) : (dats m 0 c).arrAt 6 (cfgs 0).N = first (m ((c : Thread nD τ).loc main_arg0)) (m ((c : Thread nD τ).loc main_arg2)) := by
  refine (dats m 0 c).arrAt_eq_of_covers 6 _ (by decide +kernel) fun t hf y => ?_
  blk_simp; rw [after0_6]; frame_out
  exact point_6 m c t y

theorem point_7 (c : Dev nD) (t : Fin cfg0.N) (y) :
    k0_pay5 (iblk m c 1 t) (iblk m c 3 t) y
      = second (m ((c : Thread nD τ).loc main_arg1)) (m ((c : Thread nD τ).loc main_arg3)) (((cfg0.win 7).blk t).view.emb y) := by
  pointwise [k0_pay2, k0_pay5, second]
  blk_point [iblk, V, idx_val t]

theorem final_7 (c : Dev nD) : (dats m 0 c).arrAt 7 (cfgs 0).N = second (m ((c : Thread nD τ).loc main_arg1)) (m ((c : Thread nD τ).loc main_arg3)) := by
  refine (dats m 0 c).arrAt_eq_of_covers 7 _ (by decide +kernel) fun t hf y => ?_
  blk_simp; rw [after0_7]; frame_out
  exact point_7 m c t y

end Cert.Kernel13Ideal.Whole

namespace Cert

open Idealize.ShloMosaic Idealize.ShloMosaic.TcCoe Idealize.SL.Sem

theorem frame_kernel13 : @quiescent_Kernel13 Cert.Kernel13.Gen.facts := fun m ρ _ => Cert.Kernel13.Gen.frame m ρ

theorem frame_ideal13 : @quiescent_Kernel13Ideal Cert.Kernel13Ideal.Gen.facts := fun m ρ _ => Cert.Kernel13Ideal.Gen.frame m ρ

theorem frame_reference13 : @quiescent_Reference13Ideal Cert.Reference13Ideal.Gen.facts := fun m ρ _ =>
  (θ_run (Cert.Reference13Ideal.defs (F := Ideal)) _ _).mono
    (fun r h => ⟨fun c => ⟨(h c).2.2.2.1, (h c).2.2.2.2.1, (h c).2.2.2.2.2.1, (h c).2.2.2.2.2.2.1, (h c).2.2.2.2.2.2.2⟩, sem_eq_zero_of_no_sems rfl r.2⟩)
    (Cert.Reference13Ideal.Value.run (F := Ideal) m ρ)

theorem algebraic13 : @algebraic_Kernel13Ideal_Reference13Ideal Cert.Kernel13Ideal.Gen.facts Cert.Reference13Ideal.Gen.facts := by
  intro m g m' g' hp hm
  refine ⟨fun c => Cert.Kernel13Ideal.Whole.merged (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)), fun c => Cert.Kernel13Ideal.Whole.first (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg2)), fun c => Cert.Kernel13Ideal.Whole.second (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg3)), ?_, ?_⟩
  · refine (θ_run (Cert.Kernel13Ideal.defs (F := Ideal)) _ _).mono (fun r h c => ?_) (Cert.Kernel13Ideal.Value.run_blocks (F := Ideal) m g)
    obtain ⟨e0, e1, e2, ha⟩ := h c
    exact ⟨e0.trans (Cert.Kernel13Ideal.Whole.final_5 m c), e1.trans (Cert.Kernel13Ideal.Whole.final_6 m c), e2.trans (Cert.Kernel13Ideal.Whole.final_7 m c), ha.1, ha.2.1, ha.2.2.1, ha.2.2.2.1, ha.2.2.2.2⟩
  · refine (θ_run (Cert.Reference13Ideal.defs (F := Ideal)) _ _).mono (fun r h c => ?_) (Cert.Reference13Ideal.Value.run (F := Ideal) m' g')
    obtain ⟨e0, e1, e2, ha⟩ := h c
    obtain ⟨h0, h1, h2, h3, h4⟩ := hm c
    rw [h0, h1, h2, h3, h4] at e0
    rw [h0, h2] at e1
    rw [h1, h3] at e2
    exact ⟨e0, e1, e2, ha.1, ha.2.1, ha.2.2.1, ha.2.2.2.1, ha.2.2.2.2⟩

end Cert

end
-- ==== Proof.OutWeight.lean ====
/- The gradient of the output weights: the call mm_dw_out. -/
module

public import proofs.«01_k».proof.Defs
public import proofs.«01_k».proof.Proof.Gen.Kernel14Ideal.Value
public import proofs.«01_k».proof.Proof.Gen.Kernel14.Frame
public import proofs.«01_k».proof.Proof.Gen.Reference14Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel14Ideal.Whole

open Idealize.ShloMosaic Idealize.ShloMosaic.TcCoe Idealize.SL.Sem
open Idealize.ShloMosaic.Pipeline (Dat)
open Cert.Kernel14Ideal Cert.Kernel14Ideal.Gen
open scoped BigOperators

variable (m : (ℓ : Loc nD τ sig) → Buf (Elt Ideal) ℓ)

/-- the gradient of the weights -/
abbrev weight (a0 : FVec Ideal Cert.Reference14Ideal.S4096x1024 .bf16) (a1 : FVec Ideal Cert.Reference14Ideal.S4096x1024 .f32) : FVec Ideal Cert.Reference14Ideal.S1024x1024 .bf16 :=
  truncf .bf16 (transpose Cert.Reference14Ideal.S1024x1024 [1, 0] (Host.dotGeneral Cert.Reference14Ideal.dot_S4096x1024_S4096x1024_S1024x1024_0_0_1_1_n_n none a1 (extf .f32 a0
    Cert.Reference14Ideal.Gen.bitsLt_bf16_f32)) Cert.Reference14Ideal.Gen.transposes_S1024x1024_S1024x1024_1_0) Cert.Reference14Ideal.Gen.bitsLt_bf16_f32

/-- Where each window sits at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · refine (mul_comm _ _).trans ?_; blk_point [iblk, V, idx_val s, hm, hd, idx_val t, ht, Fin.val_castAdd]
  · refine (mul_comm _ _).trans ?_; blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel14Ideal.Whole

namespace Cert

open Idealize.ShloMosaic Idealize.ShloMosaic.TcCoe Idealize.SL.Sem

theorem frame_kernel14 : @quiescent_Kernel14 Cert.Kernel14.Gen.facts := fun m ρ _ => Cert.Kernel14.Gen.frame m ρ

theorem frame_ideal14 : @quiescent_Kernel14Ideal Cert.Kernel14Ideal.Gen.facts := fun m ρ _ => Cert.Kernel14Ideal.Gen.frame m ρ

theorem frame_reference14 : @quiescent_Reference14Ideal Cert.Reference14Ideal.Gen.facts := fun m ρ _ =>
  (θ_run (Cert.Reference14Ideal.defs (F := Ideal)) _ _).mono
    (fun r h => ⟨fun c => ⟨(h c).2.1, (h c).2.2⟩, sem_eq_zero_of_no_sems rfl r.2⟩)
    (Cert.Reference14Ideal.Value.run (F := Ideal) m ρ)

theorem algebraic14 : @algebraic_Kernel14Ideal_Reference14Ideal Cert.Kernel14Ideal.Gen.facts Cert.Reference14Ideal.Gen.facts := by
  intro m g m' g' hp hm
  refine ⟨fun c => Cert.Kernel14Ideal.Whole.weight (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run (Cert.Kernel14Ideal.defs (F := Ideal)) _ _).mono (fun r h c => ?_) (Cert.Kernel14Ideal.Value.run_blocks (F := Ideal) m g)
    obtain ⟨e0, ha⟩ := h c
    exact ⟨e0.trans (Cert.Kernel14Ideal.Whole.final_2 m c), ha.1, ha.2⟩
  · refine (θ_run (Cert.Reference14Ideal.defs (F := Ideal)) _ _).mono (fun r h c => ?_) (Cert.Reference14Ideal.Value.run (F := Ideal) m' g')
    obtain ⟨e0, ha⟩ := h c
    obtain ⟨h0, h1⟩ := hm c
    rw [h0, h1] at e0
    exact ⟨e0, ha.1, ha.2⟩

end Cert

end
-- ==== Proof.EmbedGateWeight.lean ====
/- The gradient of the weights of the input embedding's gate: the call mm_dw_ple_gate. -/
module

public import proofs.«01_k».proof.Defs
public import proofs.«01_k».proof.Proof.Gen.Kernel15Ideal.Value
public import proofs.«01_k».proof.Proof.Gen.Kernel15.Frame
public import proofs.«01_k».proof.Proof.Gen.Reference15Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel15Ideal.Whole

open Idealize.ShloMosaic Idealize.ShloMosaic.TcCoe Idealize.SL.Sem
open Idealize.ShloMosaic.Pipeline (Dat)
open Cert.Kernel15Ideal Cert.Kernel15Ideal.Gen
open scoped BigOperators

variable (m : (ℓ : Loc nD τ sig) → Buf (Elt Ideal) ℓ)

/-- the gradient of the weights -/
abbrev weight (a0 : FVec Ideal Cert.Reference15Ideal.S4096x1024 .bf16) (a1 : FVec Ideal Cert.Reference15Ideal.S4096x1024 .bf16) : FVec Ideal Cert.Reference15Ideal.S1024x1024 .bf16 :=
  truncf .bf16 (transpose Cert.Reference15Ideal.S1024x1024 [1, 0] (Host.dotGeneral Cert.Reference15Ideal.dot_S4096x1024_S4096x1024_S1024x1024_0_0_1_1_n_n none (extf .f32 a1
    Cert.Reference15Ideal.Gen.bitsLt_bf16_f32) (extf .f32 a0 Cert.Reference15Ideal.Gen.bitsLt_bf16_f32)) Cert.Reference15Ideal.Gen.transposes_S1024x1024_S1024x1024_1_0)
    Cert.Reference15Ideal.Gen.bitsLt_bf16_f32

/-- Where each window sits at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · refine (mul_comm _ _).trans ?_; blk_point [iblk, V, idx_val s, hm, hd, idx_val t, ht, Fin.val_castAdd]
  · refine (mul_comm _ _).trans ?_; blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel15Ideal.Whole

namespace Cert

open Idealize.ShloMosaic Idealize.ShloMosaic.TcCoe Idealize.SL.Sem

theorem frame_kernel15 : @quiescent_Kernel15 Cert.Kernel15.Gen.facts := fun m ρ _ => Cert.Kernel15.Gen.frame m ρ

theorem frame_ideal15 : @quiescent_Kernel15Ideal Cert.Kernel15Ideal.Gen.facts := fun m ρ _ => Cert.Kernel15Ideal.Gen.frame m ρ

theorem frame_reference15 : @quiescent_Reference15Ideal Cert.Reference15Ideal.Gen.facts := fun m ρ _ =>
  (θ_run (Cert.Reference15Ideal.defs (F := Ideal)) _ _).mono
    (fun r h => ⟨fun c => ⟨(h c).2.1, (h c).2.2⟩, sem_eq_zero_of_no_sems rfl r.2⟩)
    (Cert.Reference15Ideal.Value.run (F := Ideal) m ρ)

theorem algebraic15 : @algebraic_Kernel15Ideal_Reference15Ideal Cert.Kernel15Ideal.Gen.facts Cert.Reference15Ideal.Gen.facts := by
  intro m g m' g' hp hm
  refine ⟨fun c => Cert.Kernel15Ideal.Whole.weight (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run (Cert.Kernel15Ideal.defs (F := Ideal)) _ _).mono (fun r h c => ?_) (Cert.Kernel15Ideal.Value.run_blocks (F := Ideal) m g)
    obtain ⟨e0, ha⟩ := h c
    exact ⟨e0.trans (Cert.Kernel15Ideal.Whole.final_2 m c), ha.1, ha.2⟩
  · refine (θ_run (Cert.Reference15Ideal.defs (F := Ideal)) _ _).mono (fun r h c => ?_) (Cert.Reference15Ideal.Value.run (F := Ideal) m' g')
    obtain ⟨e0, ha⟩ := h c
    obtain ⟨h0, h1⟩ := hm c
    rw [h0, h1] at e0
    exact ⟨e0, ha.1, ha.2⟩

end Cert

end
-- ==== Proof.EmbedWeight.lean ====
/- The gradient of the weights of the input embedding: the call mm_dw_ple_proj. -/
module

public import proofs.«01_k».proof.Defs
public import proofs.«01_k».proof.Proof.Gen.Kernel16Ideal.Value
public import proofs.«01_k».proof.Proof.Gen.Kernel16.Frame
public import proofs.«01_k».proof.Proof.Gen.Reference16Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel16Ideal.Whole

open Idealize.ShloMosaic Idealize.ShloMosaic.TcCoe Idealize.SL.Sem
open Idealize.ShloMosaic.Pipeline (Dat)
open Cert.Kernel16Ideal Cert.Kernel16Ideal.Gen
open scoped BigOperators

variable (m : (ℓ : Loc nD τ sig) → Buf (Elt Ideal) ℓ)

/-- the gradient of the weights -/
abbrev weight (a0 : FVec Ideal Cert.Reference16Ideal.S4096x256 .f32) (a1 : FVec Ideal Cert.Reference16Ideal.S4096x1024 .bf16) : FVec Ideal Cert.Reference16Ideal.S256x1024 .bf16 :=
  truncf .bf16 (transpose Cert.Reference16Ideal.S256x1024 [1, 0] (Host.dotGeneral Cert.Reference16Ideal.dot_S4096x1024_S4096x256_S1024x256_0_0_1_1_n_n none (extf .f32 a1
    Cert.Reference16Ideal.Gen.bitsLt_bf16_f32) a0) Cert.Reference16Ideal.Gen.transposes_S1024x256_S256x1024_1_0) Cert.Reference16Ideal.Gen.bitsLt_bf16_f32

/-- Where each window sits at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · refine (mul_comm _ _).trans ?_; blk_point [iblk, V, idx_val s, hm, hd, idx_val t, ht, Fin.val_castAdd]
  · refine (mul_comm _ _).trans ?_; blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel16Ideal.Whole

namespace Cert

open Idealize.ShloMosaic Idealize.ShloMosaic.TcCoe Idealize.SL.Sem

theorem frame_kernel16 : @quiescent_Kernel16 Cert.Kernel16.Gen.facts := fun m ρ _ => Cert.Kernel16.Gen.frame m ρ

theorem frame_ideal16 : @quiescent_Kernel16Ideal Cert.Kernel16Ideal.Gen.facts := fun m ρ _ => Cert.Kernel16Ideal.Gen.frame m ρ

theorem frame_reference16 : @quiescent_Reference16Ideal Cert.Reference16Ideal.Gen.facts := fun m ρ _ =>
  (θ_run (Cert.Reference16Ideal.defs (F := Ideal)) _ _).mono
    (fun r h => ⟨fun c => ⟨(h c).2.1, (h c).2.2⟩, sem_eq_zero_of_no_sems rfl r.2⟩)
    (Cert.Reference16Ideal.Value.run (F := Ideal) m ρ)

theorem algebraic16 : @algebraic_Kernel16Ideal_Reference16Ideal Cert.Kernel16Ideal.Gen.facts Cert.Reference16Ideal.Gen.facts := by
  intro m g m' g' hp hm
  refine ⟨fun c => Cert.Kernel16Ideal.Whole.weight (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run (Cert.Kernel16Ideal.defs (F := Ideal)) _ _).mono (fun r h c => ?_) (Cert.Kernel16Ideal.Value.run_blocks (F := Ideal) m g)
    obtain ⟨e0, ha⟩ := h c
    exact ⟨e0.trans (Cert.Kernel16Ideal.Whole.final_2 m c), ha.1, ha.2⟩
  · refine (θ_run (Cert.Reference16Ideal.defs (F := Ideal)) _ _).mono (fun r h c => ?_) (Cert.Reference16Ideal.Value.run (F := Ideal) m' g')
    obtain ⟨e0, ha⟩ := h c
    obtain ⟨h0, h1⟩ := hm c
    rw [h0, h1] at e0
    exact ⟨e0, ha.1, ha.2⟩

end Cert

end
-- ==== Proof.BranchWeight.lean ====
/- The gradient of the weights of a branch: the call mm_dw_branch_a. -/
module

public import proofs.«01_k».proof.Defs
public import proofs.«01_k».proof.Proof.Gen.Kernel17Ideal.Value
public import proofs.«01_k».proof.Proof.Gen.Kernel17.Frame
public import proofs.«01_k».proof.Proof.Gen.Reference17Ideal.Run
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel17Ideal.Whole

open Idealize.ShloMosaic Idealize.ShloMosaic.TcCoe Idealize.SL.Sem
open Idealize.ShloMosaic.Pipeline (Dat)
open Cert.Kernel17Ideal Cert.Kernel17Ideal.Gen
open scoped BigOperators

variable (m : (ℓ : Loc nD τ sig) → Buf (Elt Ideal) ℓ)

/-- the gradient of the weights -/
abbrev weight (a0 : FVec Ideal Cert.Reference17Ideal.S4096x512 .f32) (a1 : FVec Ideal Cert.Reference17Ideal.S4096x1024 .bf16) : FVec Ideal Cert.Reference17Ideal.S512x1024 .bf16 :=
  truncf .bf16 (transpose Cert.Reference17Ideal.S512x1024 [1, 0] (Host.dotGeneral Cert.Reference17Ideal.dot_S4096x1024_S4096x512_S1024x512_0_0_1_1_n_n none (extf .f32 a1
    Cert.Reference17Ideal.Gen.bitsLt_bf16_f32) a0) Cert.Reference17Ideal.Gen.transposes_S1024x512_S512x1024_1_0) Cert.Reference17Ideal.Gen.bitsLt_bf16_f32

/-- Where each window sits at each grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The two halves of the rows, one after the other. -/
theorem point_2 (c : Dev nD) (t s : Fin cfg0.N) (hs : s.val + 1 = t.val) (ht : t.val % 2 = 1) (y) :
    k0_pay4 (k0_pay3 (iblk m c 0 t) (iblk m c 1 t) (k0_pay2 (iblk m c 0 s) (iblk m c 1 s))) y
      = weight (m ((c : Thread nD τ).loc main_arg0)) (m ((c : Thread nD τ).loc main_arg1)) (((cfg0.win 2).blk t).view.emb y) := by
  have hm : s.val % 2 = 0 := by omega
  have hd : s.val / 2 = t.val / 2 := by omega
  pointwise [k0_pay1, k0_pay2, k0_pay3, k0_pay4, weight]
  refine Eq.trans ?_ (Fin.sum_univ_add (a := 2048) (b := 2048) _).symm
  refine congrArg₂ (fun x y : EReal => x + y) (Finset.sum_congr rfl fun k _ => ?_) (Finset.sum_congr rfl fun k _ => ?_)
  · refine (mul_comm _ _).trans ?_; blk_point [iblk, V, idx_val s, hm, hd, idx_val t, ht, Fin.val_castAdd]
  · refine (mul_comm _ _).trans ?_; blk_point [iblk, V, idx_val t, ht, Fin.val_natAdd]

theorem final_2 (c : Dev nD) : (dats m 0 c).arrAt 2 (cfgs 0).N = weight (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hs : t.val - 1 < cfg0.N := Nat.lt_of_le_of_lt (Nat.sub_le _ _) t.isLt
  have hp : (outsAt0 m c (t.val - 1) hs).2 = _ := congrArg Prod.snd (outsAt0_A m c ⟨t.val - 1, hs⟩ (show (t.val - 1) % 2 = 0 by omega) (show ¬(t.val - 1) % 2 = 1 by omega) (show ¬(t.val - 1) % 2 = 1 by omega))
  blk_simp
  rw [after0_2, outsAt0_B m c t h0 h1 h1]
  rw [hp]
  dsimp only
  frame_out
  rw [read_unread_whole]
  exact point_2 m c t ⟨t.val - 1, hs⟩ (show t.val - 1 + 1 = t.val by omega) h1 y

end Cert.Kernel17Ideal.Whole

namespace Cert

open Idealize.ShloMosaic Idealize.ShloMosaic.TcCoe Idealize.SL.Sem

theorem frame_kernel17 : @quiescent_Kernel17 Cert.Kernel17.Gen.facts := fun m ρ _ => Cert.Kernel17.Gen.frame m ρ

theorem frame_ideal17 : @quiescent_Kernel17Ideal Cert.Kernel17Ideal.Gen.facts := fun m ρ _ => Cert.Kernel17Ideal.Gen.frame m ρ

theorem frame_reference17 : @quiescent_Reference17Ideal Cert.Reference17Ideal.Gen.facts := fun m ρ _ =>
  (θ_run (Cert.Reference17Ideal.defs (F := Ideal)) _ _).mono
    (fun r h => ⟨fun c => ⟨(h c).2.1, (h c).2.2⟩, sem_eq_zero_of_no_sems rfl r.2⟩)
    (Cert.Reference17Ideal.Value.run (F := Ideal) m ρ)

theorem algebraic17 : @algebraic_Kernel17Ideal_Reference17Ideal Cert.Kernel17Ideal.Gen.facts Cert.Reference17Ideal.Gen.facts := by
  intro m g m' g' hp hm
  refine ⟨fun c => Cert.Kernel17Ideal.Whole.weight (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run (Cert.Kernel17Ideal.defs (F := Ideal)) _ _).mono (fun r h c => ?_) (Cert.Kernel17Ideal.Value.run_blocks (F := Ideal) m g)
    obtain ⟨e0, ha⟩ := h c
    exact ⟨e0.trans (Cert.Kernel17Ideal.Whole.final_2 m c), ha.1, ha.2⟩
  · refine (θ_run (Cert.Reference17Ideal.defs (F := Ideal)) _ _).mono (fun r h c => ?_) (Cert.Reference17Ideal.Value.run (F := Ideal) m' g')
    obtain ⟨e0, ha⟩ := h c
    obtain ⟨h0, h1⟩ := hm c
    rw [h0, h1] at e0
    exact ⟨e0, ha.1, ha.2⟩

end Cert

end
-- ==== Proof.InForward.lean ====
/- The product with the input weights: the call mm_z, without the gather that rides on it. -/
module

public import proofs.«01_k».proof.Defs
public import proofs.«01_k».proof.Proof.Gen.Kernel18Ideal.Value
public import proofs.«01_k».proof.Proof.Gen.Kernel18.Frame
public import proofs.«01_k».proof.Proof.Gen.Reference18Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel18Ideal.Whole

open Idealize.ShloMosaic Idealize.ShloMosaic.TcCoe Idealize.SL.Sem
open Idealize.ShloMosaic.Pipeline (Dat)
open Cert.Kernel18Ideal Cert.Kernel18Ideal.Gen
open scoped BigOperators

variable (m : (ℓ : Loc nD τ sig) → Buf (Elt Ideal) ℓ)

/-- the projections -/
abbrev product (a0 : FVec Ideal Cert.Reference18Ideal.S4096x1024 .bf16) (a1 : FVec Ideal Cert.Reference18Ideal.S6144x1024 .bf16) : FVec Ideal Cert.Reference18Ideal.S4096x6144 .f32 :=
  Host.dotGeneral Cert.Reference18Ideal.dot_S4096x1024_S1024x6144_S4096x6144_1_0_0_1_n_n none (extf .f32 a0 Cert.Reference18Ideal.Gen.bitsLt_bf16_f32) (transpose Cert.Reference18Ideal.S1024x6144 [1,
    0] (extf .f32 a1 Cert.Reference18Ideal.Gen.bitsLt_bf16_f32) Cert.Reference18Ideal.Gen.transposes_S6144x1024_S1024x6144_1_0)

/-- Where each window sits at each grid point. -/
theorem idx_val : ∀ t : Fin cfg0.N, win0_0.index t = ![t.val / 3, 0]
    ∧ win0_1.index t = ![t.val % 3, 0]
    ∧ win0_2.index t = ![t.val / 3, t.val % 3] :=
  (by decide +kernel : ∀ t : Fin grid0.N, _)

theorem point_2 (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, idx_val t]

theorem final_2 (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Kernel18Ideal.Whole

namespace Cert

open Idealize.ShloMosaic Idealize.ShloMosaic.TcCoe Idealize.SL.Sem

theorem frame_kernel18 : @quiescent_Kernel18 Cert.Kernel18.Gen.facts := fun m ρ _ => Cert.Kernel18.Gen.frame m ρ

theorem frame_ideal18 : @quiescent_Kernel18Ideal Cert.Kernel18Ideal.Gen.facts := fun m ρ _ => Cert.Kernel18Ideal.Gen.frame m ρ

theorem frame_reference18 : @quiescent_Reference18Ideal Cert.Reference18Ideal.Gen.facts := fun m ρ _ =>
  (θ_run (Cert.Reference18Ideal.defs (F := Ideal)) _ _).mono
    (fun r h => ⟨fun c => ⟨(h c).2.1, (h c).2.2⟩, sem_eq_zero_of_no_sems rfl r.2⟩)
    (Cert.Reference18Ideal.Value.run (F := Ideal) m ρ)

theorem algebraic18 : @algebraic_Kernel18Ideal_Reference18Ideal Cert.Kernel18Ideal.Gen.facts Cert.Reference18Ideal.Gen.facts := by
  intro m g m' g' hp hm
  refine ⟨fun c => Cert.Kernel18Ideal.Whole.product (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine (θ_run (Cert.Kernel18Ideal.defs (F := Ideal)) _ _).mono (fun r h c => ?_) (Cert.Kernel18Ideal.Value.run_blocks (F := Ideal) m g)
    obtain ⟨e0, ha⟩ := h c
    exact ⟨e0.trans (Cert.Kernel18Ideal.Whole.final_2 m c), ha.1, ha.2⟩
  · refine (θ_run (Cert.Reference18Ideal.defs (F := Ideal)) _ _).mono (fun r h c => ?_) (Cert.Reference18Ideal.Value.run (F := Ideal) m' g')
    obtain ⟨e0, ha⟩ := h c
    obtain ⟨h0, h1⟩ := hm c
    rw [h0, h1] at e0
    exact ⟨e0, ha.1, ha.2⟩

end Cert

end
-- ==== Proof.InBack.lean ====
/- The gradient of the step's norm after the product with the input weights: the call mm_dx, without the exchange that rides on it. -/
module

public import proofs.«01_k».proof.Defs
public import proofs.«01_k».proof.Proof.Gen.Kernel19Ideal.Value
public import proofs.«01_k».proof.Proof.Gen.Kernel19.Frame
public import proofs.«01_k».proof.Proof.Gen.Reference19Ideal.Run
public import proofs.«01_k».proof.Proof.NormBack
public import Idealize.ShloMosaic.Lib.Pipeline.ReadBack
public import Idealize.ShloMosaic.Lib.Pipeline.ValueKit
public import Idealize.ShloMosaic.Lib.Pointwise
public import Idealize.ShloMosaic.Lib.Quiescent

@[expose] public section

set_option maxRecDepth 16384

noncomputable section

namespace Cert.Kernel19Ideal.Whole

open Idealize.ShloMosaic Idealize.ShloMosaic.TcCoe Idealize.SL.Sem
open Idealize.ShloMosaic.Pipeline (Dat)
open Cert.Kernel19Ideal Cert.Kernel19Ideal.Gen
open Cert.Kernel8Ideal.Whole (norm_grad mean_cases)
open scoped BigOperators

variable (m : (ℓ : Loc nD τ sig) → Buf (Elt Ideal) ℓ)

/-- the product, which the lemmas on the norm do not look into -/
def prod (a0 : FVec Ideal Cert.Reference19Ideal.S4096x6144 .bf16) (a1 : FVec Ideal Cert.Reference19Ideal.S6144x1024 .bf16) : FVec Ideal Cert.Reference19Ideal.S4096x1024 .f32 :=
  (Host.dotGeneral Cert.Reference19Ideal.dot_S4096x6144_S1024x6144_S4096x1024_1_1_0_0_n_n none (extf .f32 a0 Cert.Reference19Ideal.Gen.bitsLt_bf16_f32) (transpose Cert.Reference19Ideal.S1024x6144 [1,
    0] (extf .f32 a1 Cert.Reference19Ideal.Gen.bitsLt_bf16_f32) Cert.Reference19Ideal.Gen.transposes_S6144x1024_S1024x6144_1_0))

/-- the gradient of the norm, and the residual -/
abbrev dx (a0 : FVec Ideal Cert.Reference19Ideal.S4096x6144 .bf16) (a1 : FVec Ideal Cert.Reference19Ideal.S6144x1024 .bf16) (a2 : FVec Ideal Cert.Reference19Ideal.S4096x1024 .f32) (a3 : FVec Ideal Cert.Reference19Ideal.S1x1024 .f32) (a4 : FVec Ideal Cert.Reference19Ideal.S4096x1024 .f32) : FVec Ideal Cert.Reference19Ideal.S4096x1024 .f32 :=
  addf (addf (addf a4 (mulf (mulf (prod a0 a1) (broadcastInDim Cert.Reference19Ideal.S4096x1024 ![0, 1] Cert.Reference19Ideal.Gen.bcast_S1x1024_S4096x1024_0_1 a3)) (broadcastInDim
    Cert.Reference19Ideal.S4096x1024 ![0, 1] Cert.Reference19Ideal.Gen.bcast_S4096x1_S4096x1024_0_1 (Host.rsqrt (addf (Host.divf (broadcastInDim Cert.Reference19Ideal.S4096x1 ![0]
    Cert.Reference19Ideal.Gen.bcast_S4096_S4096x1_0 (Host.reduceAdd (mulf a2 a2) (constant Cert.Reference19Ideal.S_ .f32 0x00000000#32) Cert.Reference19Ideal.Gen.reducesTo_S4096x1024_S4096_d1
    Cert.Reference19Ideal.Gen.h_S_)) (broadcastInDim Cert.Reference19Ideal.S4096x1 ![] Cert.Reference19Ideal.Gen.bcast_S_S4096x1 (constant Cert.Reference19Ideal.S_ .f32 0x44800000#32)))
    (broadcastInDim Cert.Reference19Ideal.S4096x1 ![] Cert.Reference19Ideal.Gen.bcast_S_S4096x1 (constant Cert.Reference19Ideal.S_ .f32 0x358637BD#32))))))) (mulf a2 (broadcastInDim
    Cert.Reference19Ideal.S4096x1024 ![0] Cert.Reference19Ideal.Gen.bcast_S4096_S4096x1024_0 (Host.reduceAdd (Host.divf (mulf (shapeCast _ (Host.reduceAdd (mulf a2 (mulf (prod a0 a1) (broadcastInDim
    Cert.Reference19Ideal.S4096x1024 ![0, 1] Cert.Reference19Ideal.Gen.bcast_S1x1024_S4096x1024_0_1 a3))) (constant Cert.Reference19Ideal.S_ .f32 0x00000000#32)
    Cert.Reference19Ideal.Gen.reducesTo_S4096x1024_S4096_d1 Cert.Reference19Ideal.Gen.h_S_) Cert.Reference19Ideal.Gen.shapeCasts_S4096_S4096x1) (mulf (broadcastInDim Cert.Reference19Ideal.S4096x1 ![]
    Cert.Reference19Ideal.Gen.bcast_S_S4096x1 (constant Cert.Reference19Ideal.S_ .f32 0xBF000000#32)) (Host.divf (Host.rsqrt (addf (Host.divf (broadcastInDim Cert.Reference19Ideal.S4096x1 ![0]
    Cert.Reference19Ideal.Gen.bcast_S4096_S4096x1_0 (Host.reduceAdd (mulf a2 a2) (constant Cert.Reference19Ideal.S_ .f32 0x00000000#32) Cert.Reference19Ideal.Gen.reducesTo_S4096x1024_S4096_d1
    Cert.Reference19Ideal.Gen.h_S_)) (broadcastInDim Cert.Reference19Ideal.S4096x1 ![] Cert.Reference19Ideal.Gen.bcast_S_S4096x1 (constant Cert.Reference19Ideal.S_ .f32 0x44800000#32)))
    (broadcastInDim Cert.Reference19Ideal.S4096x1 ![] Cert.Reference19Ideal.Gen.bcast_S_S4096x1 (constant Cert.Reference19Ideal.S_ .f32 0x358637BD#32)))) (addf (Host.divf (broadcastInDim
    Cert.Reference19Ideal.S4096x1 ![0] Cert.Reference19Ideal.Gen.bcast_S4096_S4096x1_0 (Host.reduceAdd (mulf a2 a2) (constant Cert.Reference19Ideal.S_ .f32 0x00000000#32)
    Cert.Reference19Ideal.Gen.reducesTo_S4096x1024_S4096_d1 Cert.Reference19Ideal.Gen.h_S_)) (broadcastInDim Cert.Reference19Ideal.S4096x1 ![] Cert.Reference19Ideal.Gen.bcast_S_S4096x1 (constant
    Cert.Reference19Ideal.S_ .f32 0x44800000#32))) (broadcastInDim Cert.Reference19Ideal.S4096x1 ![] Cert.Reference19Ideal.Gen.bcast_S_S4096x1 (constant Cert.Reference19Ideal.S_ .f32
    0x358637BD#32)))))) (broadcastInDim Cert.Reference19Ideal.S4096x1 ![] Cert.Reference19Ideal.Gen.bcast_S_S4096x1 (constant Cert.Reference19Ideal.S_ .f32 0x44800000#32))) (constant
    Cert.Reference19Ideal.S_ .f32 0x00000000#32) Cert.Reference19Ideal.Gen.reducesTo_S4096x1_S4096_d1 Cert.Reference19Ideal.Gen.h_S_)))) (mulf (broadcastInDim Cert.Reference19Ideal.S4096x1024 ![0]
    Cert.Reference19Ideal.Gen.bcast_S4096_S4096x1024_0 (Host.reduceAdd (Host.divf (mulf (shapeCast _ (Host.reduceAdd (mulf a2 (mulf (prod a0 a1) (broadcastInDim Cert.Reference19Ideal.S4096x1024 ![0,
    1] Cert.Reference19Ideal.Gen.bcast_S1x1024_S4096x1024_0_1 a3))) (constant Cert.Reference19Ideal.S_ .f32 0x00000000#32) Cert.Reference19Ideal.Gen.reducesTo_S4096x1024_S4096_d1
    Cert.Reference19Ideal.Gen.h_S_) Cert.Reference19Ideal.Gen.shapeCasts_S4096_S4096x1) (mulf (broadcastInDim Cert.Reference19Ideal.S4096x1 ![] Cert.Reference19Ideal.Gen.bcast_S_S4096x1 (constant
    Cert.Reference19Ideal.S_ .f32 0xBF000000#32)) (Host.divf (Host.rsqrt (addf (Host.divf (broadcastInDim Cert.Reference19Ideal.S4096x1 ![0] Cert.Reference19Ideal.Gen.bcast_S4096_S4096x1_0
    (Host.reduceAdd (mulf a2 a2) (constant Cert.Reference19Ideal.S_ .f32 0x00000000#32) Cert.Reference19Ideal.Gen.reducesTo_S4096x1024_S4096_d1 Cert.Reference19Ideal.Gen.h_S_)) (broadcastInDim
    Cert.Reference19Ideal.S4096x1 ![] Cert.Reference19Ideal.Gen.bcast_S_S4096x1 (constant Cert.Reference19Ideal.S_ .f32 0x44800000#32))) (broadcastInDim Cert.Reference19Ideal.S4096x1 ![]
    Cert.Reference19Ideal.Gen.bcast_S_S4096x1 (constant Cert.Reference19Ideal.S_ .f32 0x358637BD#32)))) (addf (Host.divf (broadcastInDim Cert.Reference19Ideal.S4096x1 ![0]
    Cert.Reference19Ideal.Gen.bcast_S4096_S4096x1_0 (Host.reduceAdd (mulf a2 a2) (constant Cert.Reference19Ideal.S_ .f32 0x00000000#32) Cert.Reference19Ideal.Gen.reducesTo_S4096x1024_S4096_d1
    Cert.Reference19Ideal.Gen.h_S_)) (broadcastInDim Cert.Reference19Ideal.S4096x1 ![] Cert.Reference19Ideal.Gen.bcast_S_S4096x1 (constant Cert.Reference19Ideal.S_ .f32 0x44800000#32)))
    (broadcastInDim Cert.Reference19Ideal.S4096x1 ![] Cert.Reference19Ideal.Gen.bcast_S_S4096x1 (constant Cert.Reference19Ideal.S_ .f32 0x358637BD#32)))))) (broadcastInDim
    Cert.Reference19Ideal.S4096x1 ![] Cert.Reference19Ideal.Gen.bcast_S_S4096x1 (constant Cert.Reference19Ideal.S_ .f32 0x44800000#32))) (constant Cert.Reference19Ideal.S_ .f32 0x00000000#32)
    Cert.Reference19Ideal.Gen.reducesTo_S4096x1_S4096_d1 Cert.Reference19Ideal.Gen.h_S_)) a2)

/-- the gradient of the gain of the norm -/
abbrev dgain (a0 : FVec Ideal Cert.Reference19Ideal.S4096x6144 .bf16) (a1 : FVec Ideal Cert.Reference19Ideal.S6144x1024 .bf16) (a2 : FVec Ideal Cert.Reference19Ideal.S4096x1024 .f32) : FVec Ideal Cert.Reference19Ideal.S1x1024 .f32 :=
  shapeCast _ (Host.reduceAdd (mulf (mulf a2 (broadcastInDim Cert.Reference19Ideal.S4096x1024 ![0, 1] Cert.Reference19Ideal.Gen.bcast_S4096x1_S4096x1024_0_1 (Host.rsqrt (addf (Host.divf
    (broadcastInDim Cert.Reference19Ideal.S4096x1 ![0] Cert.Reference19Ideal.Gen.bcast_S4096_S4096x1_0 (Host.reduceAdd (mulf a2 a2) (constant Cert.Reference19Ideal.S_ .f32 0x00000000#32)
    Cert.Reference19Ideal.Gen.reducesTo_S4096x1024_S4096_d1 Cert.Reference19Ideal.Gen.h_S_)) (broadcastInDim Cert.Reference19Ideal.S4096x1 ![] Cert.Reference19Ideal.Gen.bcast_S_S4096x1 (constant
    Cert.Reference19Ideal.S_ .f32 0x44800000#32))) (broadcastInDim Cert.Reference19Ideal.S4096x1 ![] Cert.Reference19Ideal.Gen.bcast_S_S4096x1 (constant Cert.Reference19Ideal.S_ .f32
    0x358637BD#32)))))) (prod a0 a1)) (constant Cert.Reference19Ideal.S_ .f32 0x00000000#32) Cert.Reference19Ideal.Gen.reducesTo_S4096x1024_S1024_d0 Cert.Reference19Ideal.Gen.h_S_)
    Cert.Reference19Ideal.Gen.shapeCasts_S1024_S1x1024

/-- Where each window sits at each grid point. -/
theorem idx_val : ∀ t : Fin cfg0.N, win0_0.index t = ![t.val / 2, t.val % 2]
    ∧ win0_1.index t = ![t.val % 2, 0]
    ∧ win0_2.index t = ![t.val / 2, 0]
    ∧ win0_3.index t = ![0, 0]
    ∧ win0_4.index t = ![t.val / 2, 0]
    ∧ win0_5.index t = ![t.val / 2, 0]
    ∧ win0_6.index t = ![0, 0] :=
  (by decide +kernel : ∀ t : Fin grid0.N, _)

theorem flip (u w : EReal) : u * w = w * u := mul_comm u w

/-- The gradient of the norm in the form of the two programs. -/
theorem norm_grad_at {n : ℕ} (x w : Fin n → EReal) (y z d v : EReal) (hv : v = ⊤ ∨ ∃ q : ℝ, 0 < q ∧ v = (q : EReal)) :
    Ideal.rsqrt v * (z - y * Ideal.rsqrt v * Ideal.div (∑ k, w k * (x k * Ideal.rsqrt v)) (Ideal.ofBits FTy.f32 0x44800000#32)) + d
      = d + z * Ideal.rsqrt v
        + y * ∑ _k : Fin 1, Ideal.div ((∑ k, x k * w k) * (Ideal.ofBits FTy.f32 0xBF000000#32 * Ideal.div (Ideal.rsqrt v) v)) (Ideal.ofBits FTy.f32 0x44800000#32)
        + (∑ _k : Fin 1, Ideal.div ((∑ k, x k * w k) * (Ideal.ofBits FTy.f32 0xBF000000#32 * Ideal.div (Ideal.rsqrt v) v)) (Ideal.ofBits FTy.f32 0x44800000#32)) * y := by
  simp only [Finset.univ_unique, Finset.sum_singleton]
  exact norm_grad x w y z d v hv

/-- The two halves of the columns, one after the other. -/
theorem point_prod (c : Dev nD) (t s : Fin cfg0.N) (hs : s.val + 1 = t.val) (ht : t.val % 2 = 1) :
    k0_pay3 (k0_pay1 (iblk m c 0 t) (iblk m c 1 t)) (k0_pay1 (iblk m c 0 s) (iblk m c 1 s))
      = fun y => prod (m ((c : Thread nD τ).loc main_arg0)) (m ((c : Thread nD τ).loc main_arg1)) (((cfg0.win 5).blk t).view.emb y) := by
  have hm : s.val % 2 = 0 := by omega
  have hd : s.val / 2 = t.val / 2 := by omega
  funext y
  pointwise [k0_pay1, k0_pay3, prod]
  refine Eq.trans ?_ (Fin.sum_univ_add (a := 3072) (b := 3072) _).symm
  refine congrArg₂ (fun x y : EReal => x + y) (Finset.sum_congr rfl fun k _ => ?_) (Finset.sum_congr rfl fun k _ => ?_)
  · blk_point [iblk, V, idx_val s, hm, hd, idx_val t, ht, Fin.val_castAdd]
  · blk_point [iblk, V, idx_val t, ht, Fin.val_natAdd]

theorem point_5 (c : Dev nD) (t s : Fin cfg0.N) (hs : s.val + 1 = t.val) (ht : t.val % 2 = 1) (y) :
    k0_pay8 (k0_pay1 (iblk m c 0 t) (iblk m c 1 t)) (k0_pay1 (iblk m c 0 s) (iblk m c 1 s)) (iblk m c 2 t) (iblk m c 3 t) (iblk m c 4 t) y
      = dx (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  simp only [k0_pay8, point_prod m c t s hs ht]
  pointwise [k0_pay4, k0_pay5, dx]
  refine (norm_grad_at _ _ _ _ _ _ (mean_cases _)).trans ?_
  blk_point [iblk, V, idx_val t]

theorem before_lt (t : Fin cfg0.N) : t.val - 1 < cfg0.N := Nat.lt_of_le_of_lt (Nat.sub_le _ _) t.isLt

/-- What the first half leaves. -/
theorem first_half (c : Dev nD) (t : Fin cfg0.N) (h1 : t.val % 2 = 1) :
    (outsAt0 m c (t.val - 1) (before_lt t)).1 = k0_pay1 (iblk m c 0 ⟨t.val - 1, before_lt t⟩) (iblk m c 1 ⟨t.val - 1, before_lt t⟩) := by
  refine (congrArg Prod.fst (outsAt0_A m c ⟨t.val - 1, before_lt t⟩ (show (t.val - 1) % 2 = 0 by omega) (show ¬(t.val - 1) % 2 = 1 by omega))).trans ?_
  dsimp only
  frame_out

theorem final_5 (c : Dev nD) : (dats m 0 c).arrAt 5 (cfgs 0).N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  have h0 : ¬t.val % 2 = 0 := by omega
  blk_simp
  rw [after0_5]
  by_cases h : t.val < 2
  · rw [outsAt0_B m c t h0 h1 h (not_le.mpr h), first_half m c t h1]
    dsimp only; frame_out
    exact point_5 m c t ⟨t.val - 1, before_lt t⟩ (show t.val - 1 + 1 = t.val by omega) h1 y
  · rw [outsAt0_C m c t h0 h1 h (not_lt.mp h), first_half m c t h1]
    dsimp only; frame_out
    exact point_5 m c t ⟨t.val - 1, before_lt t⟩ (show t.val - 1 + 1 = t.val by omega) h1 y

/-- The second visit of a block of rows. -/
abbrev second (i : Fin 8) : Fin cfg0.N := ⟨2 * i.val + 1, by have := N_0; have h : cfg0.N = 16 := N_0; omega⟩

/-- What a block of rows adds to the gradient of the gain. -/
abbrev part (c : Dev nD) (t : Fin cfg0.N) : FVec Ideal S1x1024 .f32 :=
  k0_pay6 (k0_pay1 (iblk m c 0 t) (iblk m c 1 t)) (k0_pay1 (iblk m c 0 ⟨t.val - 1, before_lt t⟩) (iblk m c 1 ⟨t.val - 1, before_lt t⟩)) (iblk m c 2 t)

theorem gain_first (c : Dev nD) (t : Fin cfg0.N) (h1 : t.val % 2 = 1) (h : t.val < 2) :
    (outsAt0 m c t.val t.isLt).2 = part m c t := by
  rw [outsAt0_B m c t (by omega) h1 h (not_le.mpr h), first_half m c t h1]
  dsimp only; frame_out

theorem gain_keep (c : Dev nD) (t : Fin cfg0.N) (h0 : t.val % 2 = 0) :
    (outsAt0 m c t.val t.isLt).2 = (outsAt0 m c (t.val - 1) (before_lt t)).2 := by
  rw [outsAt0_A m c t h0 (by omega)]
  rfl

theorem gain_next (c : Dev nD) (t : Fin cfg0.N) (h1 : t.val % 2 = 1) (h : 2 ≤ t.val) :
    (outsAt0 m c t.val t.isLt).2 = addf (outsAt0 m c (t.val - 1) (before_lt t)).2 (part m c t) := by
  rw [outsAt0_C m c t (by omega) h1 (not_lt.mpr h) h, first_half m c t h1]
  dsimp only; frame_out
  funext j
  pointwise [k0_pay7]

theorem final_6 (c : Dev nD) : (dats m 0 c).arrAt 6 (cfgs 0).N = dgain (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6]
  refine (Pipeline.eq_sum_fin_of_reset_step_apply_last (N := 8) (fun n h => (outsAt0 m c (second ⟨n, h⟩).val (second ⟨n, h⟩).isLt).2) 8 (fun _ => 0) (fun i => part m c (second i))
    (fun i h j => by
      rw [zero_add]
      exact congrFun (gain_first m c (second i) (show (2 * i.val + 1) % 2 = 1 by omega) (show 2 * i.val + 1 < 2 by omega)) j)
    (fun i h j => by
      refine (congrFun (gain_next m c (second i) (show (2 * i.val + 1) % 2 = 1 by omega) (show 2 ≤ 2 * i.val + 1 by omega)) j).trans ?_
      refine congrArg (fun x : EReal => x + part m c (second i) j) (congrFun (?_ : (outsAt0 m c (2 * i.val + 1 - 1) _).2 = _) j)
      refine (gain_keep m c ⟨2 * i.val + 1 - 1, before_lt (second i)⟩ (show (2 * i.val + 1 - 1) % 2 = 0 by omega)).trans ?_
      have e : 2 * i.val + 1 - 1 - 1 = 2 * (i.val - 1) + 1 := by omega
      simp only [e])
    le_rfl (7 : Fin 8) rfl j).trans ?_
  rw [zero_add]
  simp only [part, k0_pay6]
  simp only [fun i : Fin 8 => point_prod m c (second i) ⟨(second i).val - 1, before_lt (second i)⟩ (show 2 * i.val + 1 - 1 + 1 = 2 * i.val + 1 by omega) (show (2 * i.val + 1) % 2 = 1 by omega)]
  pointwise [k0_pay4, k0_pay5, dgain]
  refine Fin.sum_mul_add_congr (S := 8) (n := 512) fun t k hl => ?_
  have hd : (2 * t.val + 1) / 2 = t.val := by omega
  have hm : (2 * t.val + 1) % 2 = 1 := by omega
  refine (flip _ _).trans ?_
  blk_point [iblk, V, idx_val (second t), hd, hm]

end Cert.Kernel19Ideal.Whole

namespace Cert

open Idealize.ShloMosaic Idealize.ShloMosaic.TcCoe Idealize.SL.Sem

theorem frame_kernel19 : @quiescent_Kernel19 Cert.Kernel19.Gen.facts := fun m ρ _ => Cert.Kernel19.Gen.frame m ρ

theorem frame_ideal19 : @quiescent_Kernel19Ideal Cert.Kernel19Ideal.Gen.facts := fun m ρ _ => Cert.Kernel19Ideal.Gen.frame m ρ

theorem frame_reference19 : @quiescent_Reference19Ideal Cert.Reference19Ideal.Gen.facts := fun m ρ _ =>
  (θ_run (Cert.Reference19Ideal.defs (F := Ideal)) _ _).mono
    (fun r h => ⟨fun c => ⟨(h c).2.2.1, (h c).2.2.2.1, (h c).2.2.2.2.1, (h c).2.2.2.2.2.1, (h c).2.2.2.2.2.2⟩, sem_eq_zero_of_no_sems rfl r.2⟩)
    (Cert.Reference19Ideal.Value.run (F := Ideal) m ρ)

theorem algebraic19 : @algebraic_Kernel19Ideal_Reference19Ideal Cert.Kernel19Ideal.Gen.facts Cert.Reference19Ideal.Gen.facts := by
  intro m g m' g' hp hm
  refine ⟨fun c => Cert.Kernel19Ideal.Whole.dx (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)), fun c => Cert.Kernel19Ideal.Whole.dgain (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)), ?_, ?_⟩
  · refine (θ_run (Cert.Kernel19Ideal.defs (F := Ideal)) _ _).mono (fun r h c => ?_) (Cert.Kernel19Ideal.Value.run_blocks (F := Ideal) m g)
    obtain ⟨e0, e1, ha⟩ := h c
    exact ⟨e0.trans (Cert.Kernel19Ideal.Whole.final_5 m c), e1.trans (Cert.Kernel19Ideal.Whole.final_6 m c), ha.1, ha.2.1, ha.2.2.1, ha.2.2.2.1, ha.2.2.2.2⟩
  · refine (θ_run (Cert.Reference19Ideal.defs (F := Ideal)) _ _).mono (fun r h c => ?_) (Cert.Reference19Ideal.Value.run (F := Ideal) m' g')
    obtain ⟨e0, e1, ha⟩ := h c
    obtain ⟨h0, h1, h2, h3, h4⟩ := hm c
    unfold Cert.Reference19Ideal.Value.res_main_v39 at e0
    rw [h0, h1, h2, h3, h4] at e0
    rw [h0, h1, h2] at e1
    exact ⟨e0, e1, ha.1, ha.2.1, ha.2.2.1, ha.2.2.2.1, ha.2.2.2.2⟩

end Cert

end
-- ==== Proof.MergeBack.lean ====
/- The gradient through the merge of the branches: the call merge_bwd, without the exchange that rides on it. -/
module

public import proofs.«01_k».proof.Defs
public import proofs.«01_k».proof.Proof.Gen.Kernel20Ideal.Value
public import proofs.«01_k».proof.Proof.Gen.Kernel20.Frame
public import proofs.«01_k».proof.Proof.Gen.Reference20Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel20Ideal.Whole

open Idealize.ShloMosaic Idealize.ShloMosaic.TcCoe Idealize.SL.Sem
open Idealize.ShloMosaic.Pipeline (Dat)
open Cert.Kernel20Ideal Cert.Kernel20Ideal.Gen
open scoped BigOperators

variable (m : (ℓ : Loc nD τ sig) → Buf (Elt Ideal) ℓ)

/-- the gradient of the first branch -/
abbrev dfirst (a0 : FVec Ideal Cert.Reference20Ideal.S4096x1024 .f32) (a1 : FVec Ideal Cert.Reference20Ideal.S1024x1024 .bf16) (a6 : FVec Ideal Cert.Reference20Ideal.S4096x6144 .f32) : FVec Ideal Cert.Reference20Ideal.S4096x1024 .bf16 :=
  truncf .bf16 (mulf (Host.divf (broadcastInDim Cert.Reference20Ideal.S4096x1024 ![] Cert.Reference20Ideal.Gen.bcast_S_S4096x1024 (constant Cert.Reference20Ideal.S_ .f32 0x3F800000#32)) (addf
    (broadcastInDim Cert.Reference20Ideal.S4096x1024 ![] Cert.Reference20Ideal.Gen.bcast_S_S4096x1024 (constant Cert.Reference20Ideal.S_ .f32 0x3F800000#32)) (Host.exp (Host.negf (extractStridedSlice
    Cert.Reference20Ideal.S4096x1024 ![0, 4096] a6 Cert.Reference20Ideal.Gen.slices_S4096x6144_S4096x1024_0_4096))))) (Host.dotGeneral
    Cert.Reference20Ideal.dot_S4096x1024_S1024x1024_S4096x1024_1_1_0_0_n_n none a0 (extf .f32 a1 Cert.Reference20Ideal.Gen.bitsLt_bf16_f32))) Cert.Reference20Ideal.Gen.bitsLt_bf16_f32

/-- the gradient of the second branch -/
abbrev dsecond (a0 : FVec Ideal Cert.Reference20Ideal.S4096x1024 .f32) (a1 : FVec Ideal Cert.Reference20Ideal.S1024x1024 .bf16) (a6 : FVec Ideal Cert.Reference20Ideal.S4096x6144 .f32) : FVec Ideal Cert.Reference20Ideal.S4096x1024 .bf16 :=
  truncf .bf16 (mulf (Host.divf (broadcastInDim Cert.Reference20Ideal.S4096x1024 ![] Cert.Reference20Ideal.Gen.bcast_S_S4096x1024 (constant Cert.Reference20Ideal.S_ .f32 0x3F800000#32)) (addf
    (broadcastInDim Cert.Reference20Ideal.S4096x1024 ![] Cert.Reference20Ideal.Gen.bcast_S_S4096x1024 (constant Cert.Reference20Ideal.S_ .f32 0x3F800000#32)) (Host.exp (Host.negf (extractStridedSlice
    Cert.Reference20Ideal.S4096x1024 ![0, 5120] a6 Cert.Reference20Ideal.Gen.slices_S4096x6144_S4096x1024_0_5120))))) (Host.dotGeneral
    Cert.Reference20Ideal.dot_S4096x1024_S1024x1024_S4096x1024_1_1_0_0_n_n none a0 (extf .f32 a1 Cert.Reference20Ideal.Gen.bitsLt_bf16_f32))) Cert.Reference20Ideal.Gen.bitsLt_bf16_f32

/-- the gradient through the weights of the first branch -/
abbrev dya (a0 : FVec Ideal Cert.Reference20Ideal.S4096x1024 .f32) (a1 : FVec Ideal Cert.Reference20Ideal.S1024x1024 .bf16) (a2 : FVec Ideal Cert.Reference20Ideal.S512x1024 .bf16) (a6 : FVec Ideal Cert.Reference20Ideal.S4096x6144 .f32) : FVec Ideal Cert.Reference20Ideal.S4096x512 .f32 :=
  Host.dotGeneral Cert.Reference20Ideal.dot_S4096x1024_S512x1024_S4096x512_1_1_0_0_n_n none (mulf (Host.divf (broadcastInDim Cert.Reference20Ideal.S4096x1024 ![]
    Cert.Reference20Ideal.Gen.bcast_S_S4096x1024 (constant Cert.Reference20Ideal.S_ .f32 0x3F800000#32)) (addf (broadcastInDim Cert.Reference20Ideal.S4096x1024 ![]
    Cert.Reference20Ideal.Gen.bcast_S_S4096x1024 (constant Cert.Reference20Ideal.S_ .f32 0x3F800000#32)) (Host.exp (Host.negf (extractStridedSlice Cert.Reference20Ideal.S4096x1024 ![0, 4096] a6
    Cert.Reference20Ideal.Gen.slices_S4096x6144_S4096x1024_0_4096))))) (Host.dotGeneral Cert.Reference20Ideal.dot_S4096x1024_S1024x1024_S4096x1024_1_1_0_0_n_n none a0 (extf .f32 a1
    Cert.Reference20Ideal.Gen.bitsLt_bf16_f32))) (extf .f32 a2 Cert.Reference20Ideal.Gen.bitsLt_bf16_f32)

/-- the gradient through the weights of the second branch -/
abbrev dyb (a0 : FVec Ideal Cert.Reference20Ideal.S4096x1024 .f32) (a1 : FVec Ideal Cert.Reference20Ideal.S1024x1024 .bf16) (a3 : FVec Ideal Cert.Reference20Ideal.S512x1024 .bf16) (a6 : FVec Ideal Cert.Reference20Ideal.S4096x6144 .f32) : FVec Ideal Cert.Reference20Ideal.S4096x512 .f32 :=
  Host.dotGeneral Cert.Reference20Ideal.dot_S4096x1024_S512x1024_S4096x512_1_1_0_0_n_n none (mulf (Host.divf (broadcastInDim Cert.Reference20Ideal.S4096x1024 ![]
    Cert.Reference20Ideal.Gen.bcast_S_S4096x1024 (constant Cert.Reference20Ideal.S_ .f32 0x3F800000#32)) (addf (broadcastInDim Cert.Reference20Ideal.S4096x1024 ![]
    Cert.Reference20Ideal.Gen.bcast_S_S4096x1024 (constant Cert.Reference20Ideal.S_ .f32 0x3F800000#32)) (Host.exp (Host.negf (extractStridedSlice Cert.Reference20Ideal.S4096x1024 ![0, 5120] a6
    Cert.Reference20Ideal.Gen.slices_S4096x6144_S4096x1024_0_5120))))) (Host.dotGeneral Cert.Reference20Ideal.dot_S4096x1024_S1024x1024_S4096x1024_1_1_0_0_n_n none a0 (extf .f32 a1
    Cert.Reference20Ideal.Gen.bitsLt_bf16_f32))) (extf .f32 a3 Cert.Reference20Ideal.Gen.bitsLt_bf16_f32)

/-- Where each window sits at each grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 2]
    ∧ win0_7.index t = ![t.val, 0]
    ∧ win0_8.index t = ![t.val, 0]
    ∧ win0_9.index t = ![t.val, 2]
    ∧ win0_10.index t = ![t.val, 0]
    ∧ win0_11.index t = ![t.val, 0] :=
  (by decide +kernel : ∀ t : Fin grid0.N, _)

theorem point_7 (c : Dev nD) (t : Fin cfg0.N) (y) :
    k0_pay7 (iblk m c 0 t) (iblk m c 1 t) (View.ld (iblk m c 6 t) r0_2)  y
      = dfirst (m ((c : Thread nD τ).loc main_arg0)) (m ((c : Thread nD τ).loc main_arg1)) (m ((c : Thread nD τ).loc main_arg6)) (((cfg0.win 7).blk t).view.emb y) := by
  pointwise [k0_pay2, k0_pay3, k0_pay4, k0_pay5, k0_pay6, k0_pay7, k0_pay8, zero_sub, dfirst]
  blk_point [iblk, V, idx_val t]

theorem final_7 (c : Dev nD) : (dats m 0 c).arrAt 7 (cfgs 0).N = dfirst (m ((c : Thread nD τ).loc main_arg0)) (m ((c : Thread nD τ).loc main_arg1)) (m ((c : Thread nD τ).loc main_arg6)) := by
  refine (dats m 0 c).arrAt_eq_of_covers 7 _ (by decide +kernel) fun t hf y => ?_
  blk_simp; rw [after0_7]; frame_out
  exact point_7 m c t y

theorem point_8 (c : Dev nD) (t : Fin cfg0.N) (y) :
    k0_pay8 (iblk m c 0 t) (iblk m c 1 t) (View.ld (iblk m c 6 t) r0_3)  y
      = dsecond (m ((c : Thread nD τ).loc main_arg0)) (m ((c : Thread nD τ).loc main_arg1)) (m ((c : Thread nD τ).loc main_arg6)) (((cfg0.win 8).blk t).view.emb y) := by
  pointwise [k0_pay2, k0_pay3, k0_pay4, k0_pay5, k0_pay6, k0_pay7, k0_pay8, zero_sub, dsecond]
  blk_point [iblk, V, idx_val t]

theorem final_8 (c : Dev nD) : (dats m 0 c).arrAt 8 (cfgs 0).N = dsecond (m ((c : Thread nD τ).loc main_arg0)) (m ((c : Thread nD τ).loc main_arg1)) (m ((c : Thread nD τ).loc main_arg6)) := by
  refine (dats m 0 c).arrAt_eq_of_covers 8 _ (by decide +kernel) fun t hf y => ?_
  blk_simp; rw [after0_8]; frame_out
  exact point_8 m c t y

theorem point_10 (c : Dev nD) (t : Fin cfg0.N) (y) :
    k0_pay2 (k0_pay7 (iblk m c 0 t) (iblk m c 1 t) (View.ld (iblk m c 6 t) r0_2)) (iblk m c 2 t)  y
      = dya (m ((c : Thread nD τ).loc main_arg0)) (m ((c : Thread nD τ).loc main_arg1)) (m ((c : Thread nD τ).loc main_arg2)) (m ((c : Thread nD τ).loc main_arg6)) (((cfg0.win 10).blk t).view.emb y) := by
  pointwise [k0_pay2, k0_pay3, k0_pay4, k0_pay5, k0_pay6, k0_pay7, k0_pay8, zero_sub, dya]
  blk_point [iblk, V, idx_val t]

theorem final_10 (c : Dev nD) : (dats m 0 c).arrAt 10 (cfgs 0).N = dya (m ((c : Thread nD τ).loc main_arg0)) (m ((c : Thread nD τ).loc main_arg1)) (m ((c : Thread nD τ).loc main_arg2)) (m ((c : Thread nD τ).loc main_arg6)) := by
  refine (dats m 0 c).arrAt_eq_of_covers 10 _ (by decide +kernel) fun t hf y => ?_
  blk_simp; rw [after0_10]; frame_out
  exact point_10 m c t y

theorem point_11 (c : Dev nD) (t : Fin cfg0.N) (y) :
    k0_pay3 (k0_pay8 (iblk m c 0 t) (iblk m c 1 t) (View.ld (iblk m c 6 t) r0_3)) (iblk m c 3 t)  y
      = dyb (m ((c : Thread nD τ).loc main_arg0)) (m ((c : Thread nD τ).loc main_arg1)) (m ((c : Thread nD τ).loc main_arg3)) (m ((c : Thread nD τ).loc main_arg6)) (((cfg0.win 11).blk t).view.emb y) := by
  pointwise [k0_pay2, k0_pay3, k0_pay4, k0_pay5, k0_pay6, k0_pay7, k0_pay8, zero_sub, dyb]
  blk_point [iblk, V, idx_val t]

theorem final_11 (c : Dev nD) : (dats m 0 c).arrAt 11 (cfgs 0).N = dyb (m ((c : Thread nD τ).loc main_arg0)) (m ((c : Thread nD τ).loc main_arg1)) (m ((c : Thread nD τ).loc main_arg3)) (m ((c : Thread nD τ).loc main_arg6)) := by
  refine (dats m 0 c).arrAt_eq_of_covers 11 _ (by decide +kernel) fun t hf y => ?_
  blk_simp; rw [after0_11]; frame_out
  exact point_11 m c t y

end Cert.Kernel20Ideal.Whole

namespace Cert

open Idealize.ShloMosaic Idealize.ShloMosaic.TcCoe Idealize.SL.Sem

theorem frame_kernel20 : @quiescent_Kernel20 Cert.Kernel20.Gen.facts := fun m ρ _ => Cert.Kernel20.Gen.frame m ρ

theorem frame_ideal20 : @quiescent_Kernel20Ideal Cert.Kernel20Ideal.Gen.facts := fun m ρ _ => Cert.Kernel20Ideal.Gen.frame m ρ

theorem frame_reference20 : @quiescent_Reference20Ideal Cert.Reference20Ideal.Gen.facts := fun m ρ _ =>
  (θ_run (Cert.Reference20Ideal.defs (F := Ideal)) _ _).mono
    (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩, sem_eq_zero_of_no_sems rfl r.2⟩)
    (Cert.Reference20Ideal.Value.run (F := Ideal) m ρ)

theorem algebraic20 : @algebraic_Kernel20Ideal_Reference20Ideal Cert.Kernel20Ideal.Gen.facts Cert.Reference20Ideal.Gen.facts := by
  intro m g m' g' hp hm
  refine ⟨fun c => Cert.Kernel20Ideal.Whole.dfirst (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg6)), fun c => Cert.Kernel20Ideal.Whole.dsecond (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg6)), fun c => Cert.Kernel20Ideal.Whole.dya (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg6)), fun c => Cert.Kernel20Ideal.Whole.dyb (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg6)), ?_, ?_⟩
  · refine (θ_run (Cert.Kernel20Ideal.defs (F := Ideal)) _ _).mono (fun r h c => ?_) (Cert.Kernel20Ideal.Value.run_blocks (F := Ideal) m g)
    obtain ⟨e0, e1, _, e2, e3, ha⟩ := h c
    exact ⟨e0.trans (Cert.Kernel20Ideal.Whole.final_7 m c), e1.trans (Cert.Kernel20Ideal.Whole.final_8 m c), e2.trans (Cert.Kernel20Ideal.Whole.final_10 m c), e3.trans (Cert.Kernel20Ideal.Whole.final_11 m c), ha.1, ha.2.1, ha.2.2.1, ha.2.2.2.1, ha.2.2.2.2.1, ha.2.2.2.2.2.1, ha.2.2.2.2.2.2⟩
  · refine (θ_run (Cert.Reference20Ideal.defs (F := Ideal)) _ _).mono (fun r h c => ?_) (Cert.Reference20Ideal.Value.run (F := Ideal) m' g')
    obtain ⟨e0, e1, e2, e3, ha⟩ := h c
    obtain ⟨h0, h1, h2, h3, h4, h5, h6⟩ := hm c
    rw [h0, h1, h6] at e0
    rw [h0, h1, h6] at e1
    rw [h0, h1, h2, h6] at e2
    rw [h0, h1, h3, h6] at e3
    exact ⟨e0, e1, e2, e3, ha.1, ha.2.1, ha.2.2.1, ha.2.2.2.1, ha.2.2.2.2.1, ha.2.2.2.2.2.1, ha.2.2.2.2.2.2⟩

end Cert

end
-- ==== Proof.lean ====
module

public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Pre_finite2
public import proofs.«01_k».proof.Defs
public import proofs.«01_k».proof.Proof.Frames
public import proofs.«01_k».proof.Proof.RefFrame
public import proofs.«01_k».proof.Proof.Algebraic
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.BackGate
public import proofs.«01_k».proof.Proof.Down
public import proofs.«01_k».proof.Proof.GateForward
public import proofs.«01_k».proof.Proof.OutNorm
public import proofs.«01_k».proof.Proof.GateBack
public import proofs.«01_k».proof.Proof.GateWeight
public import proofs.«01_k».proof.Proof.DownWeight
public import proofs.«01_k».proof.Proof.InWeight
public import proofs.«01_k».proof.Proof.NormBack
public import proofs.«01_k».proof.Proof.EmbedNorm
public import proofs.«01_k».proof.Proof.Loss
public import proofs.«01_k».proof.Proof.Merge
public import proofs.«01_k».proof.Proof.OutWeight
public import proofs.«01_k».proof.Proof.EmbedGateWeight
public import proofs.«01_k».proof.Proof.EmbedWeight
public import proofs.«01_k».proof.Proof.BranchWeight
public import proofs.«01_k».proof.Proof.InForward
public import proofs.«01_k».proof.Proof.InBack
public import proofs.«01_k».proof.Proof.MergeBack
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Pre_tame.Gen.facts, Cert.Pre_finite2.Gen.facts, Cert.frame_kernel,
  Cert.frame_ideal, Cert.frame_ideal_tame, Cert.frame_reference, Cert.frame_reference_tame, Cert.frame_kernel2,
  Cert.frame_ideal2, Cert.frame_ideal2_finite, Cert.frame_reference2, Cert.frame_reference2_finite,
  Cert.frame_kernel3, Cert.frame_ideal3, Cert.frame_reference3, Cert.frame_kernel4, Cert.frame_ideal4,
  Cert.frame_reference4, Cert.frame_kernel5, Cert.frame_ideal5, Cert.frame_reference5, Cert.frame_kernel6,
  Cert.frame_ideal6, Cert.frame_reference6, Cert.frame_kernel7, Cert.frame_ideal7, Cert.frame_reference7,
  Cert.frame_kernel8, Cert.frame_ideal8, Cert.frame_reference8, Cert.frame_kernel9, Cert.frame_ideal9,
  Cert.frame_reference9, Cert.frame_kernel10, Cert.frame_ideal10, Cert.frame_reference10, Cert.frame_kernel11,
  Cert.frame_ideal11, Cert.frame_reference11, Cert.frame_kernel12, Cert.frame_ideal12, Cert.frame_reference12,
  Cert.frame_kernel13, Cert.frame_ideal13, Cert.frame_reference13, Cert.frame_kernel14, Cert.frame_ideal14,
  Cert.frame_reference14, Cert.frame_kernel15, Cert.frame_ideal15, Cert.frame_reference15, Cert.frame_kernel16,
  Cert.frame_ideal16, Cert.frame_reference16, Cert.frame_kernel17, Cert.frame_ideal17, Cert.frame_reference17,
  Cert.frame_kernel18, Cert.frame_ideal18, Cert.frame_reference18, Cert.frame_kernel19, Cert.frame_ideal19,
  Cert.frame_reference19, Cert.frame_kernel20, Cert.frame_ideal20, Cert.frame_reference20, trivial, Cert.algebraic,
  trivial, Cert.algebraic2, trivial, Cert.algebraic3, trivial, Cert.algebraic4, trivial, Cert.algebraic5, trivial,
  Cert.algebraic6, trivial, Cert.algebraic7, trivial, Cert.algebraic8, trivial, Cert.algebraic9, trivial,
  Cert.algebraic10, trivial, Cert.algebraic11, trivial, Cert.algebraic12, trivial, Cert.algebraic13, trivial,
  Cert.algebraic14, trivial, Cert.algebraic15, trivial, Cert.algebraic16, trivial, Cert.algebraic17, trivial,
  Cert.algebraic18, trivial, Cert.algebraic19, trivial, Cert.algebraic20⟩

end Cert.Proof

end
